-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def preserves_Mixer_MixerIdeal : Prop :=
  True

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)) →
    ∃ (v0 : (c : Dev Cert.MixerIdeal.nD) → Buf (Elt Ideal) ((c.tc : Thread Cert.MixerIdeal.nD Cert.MixerIdeal.τ).loc Cert.MixerIdeal.main_v6_0)) (v1 : (c : Dev Cert.MixerIdeal.nD) → Buf (Elt Ideal) ((c.tc : Thread Cert.MixerIdeal.nD Cert.MixerIdeal.τ).loc Cert.MixerIdeal.main_v6_1)) (v2 : (c : Dev Cert.MixerIdeal.nD) → Buf (Elt Ideal) ((c.tc : Thread Cert.MixerIdeal.nD Cert.MixerIdeal.τ).loc Cert.MixerIdeal.main_v6_2)) (v3 : (c : Dev Cert.MixerIdeal.nD) → Buf (Elt Ideal) ((c.tc : Thread Cert.MixerIdeal.nD Cert.MixerIdeal.τ).loc Cert.MixerIdeal.main_v6_3)) (v4 : (c : Dev Cert.MixerIdeal.nD) → Buf (Elt Ideal) ((c.tc : Thread Cert.MixerIdeal.nD Cert.MixerIdeal.τ).loc Cert.MixerIdeal.main_v6_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v6_0) = v0 c
          ∧ r.2.mem ((c.tc : Thread Cert.MixerIdeal.nD Cert.MixerIdeal.τ).loc Cert.MixerIdeal.main_v6_1) = v1 c
          ∧ r.2.mem ((c.tc : Thread Cert.MixerIdeal.nD Cert.MixerIdeal.τ).loc Cert.MixerIdeal.main_v6_2) = v2 c
          ∧ r.2.mem ((c.tc : Thread Cert.MixerIdeal.nD Cert.MixerIdeal.τ).loc Cert.MixerIdeal.main_v6_3) = v3 c
          ∧ r.2.mem ((c.tc : Thread Cert.MixerIdeal.nD Cert.MixerIdeal.τ).loc Cert.MixerIdeal.main_v6_4) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v227) = v0 c
          ∧ r.2.mem ((c.tc : Thread Cert.MixerRefIdeal.nD Cert.MixerRefIdeal.τ).loc Cert.MixerRefIdeal.main_v231) = v1 c
          ∧ r.2.mem ((c.tc : Thread Cert.MixerRefIdeal.nD Cert.MixerRefIdeal.τ).loc Cert.MixerRefIdeal.main_v235) = v2 c
          ∧ r.2.mem ((c.tc : Thread Cert.MixerRefIdeal.nD Cert.MixerRefIdeal.τ).loc Cert.MixerRefIdeal.main_v240) = v3 c
          ∧ r.2.mem ((c.tc : Thread Cert.MixerRefIdeal.nD Cert.MixerRefIdeal.τ).loc Cert.MixerRefIdeal.main_v245) = v4 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v36) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v20) = v0 c
          ∧ r.2.mem ((c.tc : Thread Cert.MemKvRefIdeal.nD Cert.MemKvRefIdeal.τ).loc Cert.MemKvRefIdeal.main_v21) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_v21) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def Claim : Prop :=
  ∃ (hMixer : Cert.Mixer.Facts) (hMixerIdeal : Cert.MixerIdeal.Facts) (hMixerRefIdeal : Cert.MixerRefIdeal.Facts) (hMlp : Cert.Mlp.Facts) (hMlpIdeal : Cert.MlpIdeal.Facts) (hMlpRefIdeal : Cert.MlpRefIdeal.Facts) (hMemKv : Cert.MemKv.Facts) (hMemKvIdeal : Cert.MemKvIdeal.Facts) (hMemKvRefIdeal : Cert.MemKvRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Mixer_MixerIdeal
    ∧ algebraic_MixerIdeal_MixerRefIdeal_pre_finite (hMixerIdeal := hMixerIdeal) (hMixerRefIdeal := hMixerRefIdeal) (hPre_finite := hPre_finite)
    ∧ preserves_Mlp_MlpIdeal
    ∧ algebraic_MlpIdeal_MlpRefIdeal (hMlpIdeal := hMlpIdeal) (hMlpRefIdeal := hMlpRefIdeal)
    ∧ preserves_MemKv_MemKvIdeal
    ∧ algebraic_MemKvIdeal_MemKvRefIdeal (hMemKvIdeal := hMemKvIdeal) (hMemKvRefIdeal := hMemKvRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
-- ==== Pre_finite.lean ====
abbrev S2x8 : Shape := ⟨2, ![2, 8]⟩
abbrev S512x3328 : Shape := ⟨2, ![512, 3328]⟩
abbrev S2x128x15x512 : Shape := ⟨4, ![2, 128, 15, 512]⟩
abbrev S2x128x2x512 : Shape := ⟨4, ![2, 128, 2, 512]⟩
abbrev S2x128x128x2x64 : Shape := ⟨5, ![2, 128, 128, 2, 64]⟩
abbrev S2x128x256x4x128 : Shape := ⟨5, ![2, 128, 256, 4, 128]⟩
abbrev S2x4x128x128 : Shape := ⟨4, ![2, 4, 128, 128]⟩
abbrev S2x512 : Shape := ⟨2, ![2, 512]⟩
abbrev S2x3x512 : Shape := ⟨3, ![2, 3, 512]⟩
abbrev S1x8 : Shape := ⟨2, ![1, 8]⟩
abbrev S8 : Shape := ⟨1, ![8]⟩
abbrev S_ : Shape := ⟨0, ![]⟩
abbrev S512x640 : Shape := ⟨2, ![512, 640]⟩
abbrev S512x512 : Shape := ⟨2, ![512, 512]⟩
abbrev S1x128x128x2x64 : Shape := ⟨5, ![1, 128, 128, 2, 64]⟩
abbrev S128x128x2x64 : Shape := ⟨4, ![128, 128, 2, 64]⟩
abbrev S1x128x256x4x128 : Shape := ⟨5, ![1, 128, 256, 4, 128]⟩
abbrev S128x256x4x128 : Shape := ⟨4, ![128, 256, 4, 128]⟩

class Facts : Prop where
  slices_S2x8_S1x8_0_0 : S2x8.Slices ![0, 0] S1x8
  shapeCasts_S1x8_S8 : S1x8.ShapeCasts S8
  bcast_S_S8 : S_.BroadcastsInDim S8 (![] : Fin 0 → Fin S8.rank)
  slices_S512x3328_S512x640_0_2048 : S512x3328.Slices ![0, 2048] S512x640
  bcast_S_S512x640 : S_.BroadcastsInDim S512x640 (![] : Fin 0 → Fin S512x640.rank)
  slices_S512x3328_S512x512_0_2816 : S512x3328.Slices ![0, 2816] S512x512
  bcast_S_S512x512 : S_.BroadcastsInDim S512x512 (![] : Fin 0 → Fin S512x512.rank)
  slices_S2x128x128x2x64_S1x128x128x2x64_0_0_0_0_0 : S2x128x128x2x64.Slices ![0, 0, 0, 0, 0] S1x128x128x2x64
  shapeCasts_S1x128x128x2x64_S128x128x2x64 : S1x128x128x2x64.ShapeCasts S128x128x2x64
  bcast_S_S128x128x2x64 : S_.BroadcastsInDim S128x128x2x64 (![] : Fin 0 → Fin S128x128x2x64.rank)
  slices_S2x128x256x4x128_S1x128x256x4x128_0_0_0_0_0 : S2x128x256x4x128.Slices ![0, 0, 0, 0, 0] S1x128x256x4x128
  shapeCasts_S1x128x256x4x128_S128x256x4x128 : S1x128x256x4x128.ShapeCasts S128x256x4x128
  bcast_S_S128x256x4x128 : S_.BroadcastsInDim S128x256x4x128 (![] : Fin 0 → Fin S128x256x4x128.rank)

variable [Facts]

def fn_part1 {F : FTy → Type} [FloatOps F] (main_v4 : IVec S8 1) (main_v8 : IVec S512x640 1) (main_v12 : IVec S512x512 1) (main_v17 : IVec S128x128x2x64 1) (main_v19 : FVec F S128x256x4x128 .f32) : IVec S8 1 × IVec S512x640 1 × IVec S512x512 1 × IVec S128x128x2x64 1 × IVec S128x256x4x128 1 :=
  let main_v20 : FVec F S128x256x4x128 .f32 := Host.absf main_v19
  let main_cst_3 : FVec F S_ .f32 := constant S_ .f32 0x7F800000#32
  let main_v21 : FVec F S128x256x4x128 .f32 := broadcastInDim S128x256x4x128 ![] bcast_S_S128x256x4x128 main_cst_3
  let main_v22 : IVec S128x256x4x128 1 := cmpf .olt main_v20 main_v21
  (main_v4, main_v8, main_v12, main_v17, main_v22)

def fn {F : FTy → Type} [FloatOps F] (main_arg0 : FVec F S2x8 .f32) (main_arg1 : FVec F S512x3328 .f32) (main_arg2 : FVec F S2x128x15x512 .f32) (main_arg3 : FVec F S2x128x2x512 .f32) (main_arg4 : FVec F S2x128x128x2x64 .f32) (main_arg5 : FVec F S2x128x128x2x64 .f32) (main_arg6 : FVec F S2x128x256x4x128 .f32) (main_arg7 : FVec F S2x128x256x4x128 .f32) (main_arg8 : FVec F S2x4x128x128 .f32) (main_arg9 : FVec F S2x512 .f32) (main_arg10 : FVec F S2x3x512 .f32) : IVec S8 1 × IVec S512x640 1 × IVec S512x512 1 × IVec S128x128x2x64 1 × IVec S128x256x4x128 1 :=
  let main_v0 : FVec F S1x8 .f32 := (extractStridedSlice S1x8 ![0, 0] · slices_S2x8_S1x8_0_0) main_arg0
  let main_v1 : FVec F S8 .f32 := shapeCast S8 main_v0 shapeCasts_S1x8_S8
  let main_v2 : FVec F S8 .f32 := Host.absf main_v1
  let main_cst : FVec F S_ .f32 := constant S_ .f32 0x7F800000#32
  let main_v3 : FVec F S8 .f32 := broadcastInDim S8 ![] bcast_S_S8 main_cst
  let main_v4 : IVec S8 1 := cmpf .olt main_v2 main_v3
  let main_v5 : FVec F S512x640 .f32 := (extractStridedSlice S512x640 ![0, 2048] · slices_S512x3328_S512x640_0_2048) main_arg1
  let main_v6 : FVec F S512x640 .f32 := Host.absf main_v5
  let main_cst_0 : FVec F S_ .f32 := constant S_ .f32 0x7F800000#32
  let main_v7 : FVec F S512x640 .f32 := broadcastInDim S512x640 ![] bcast_S_S512x640 main_cst_0
  let main_v8 : IVec S512x640 1 := cmpf .olt main_v6 main_v7
  let main_v9 : FVec F S512x512 .f32 := (extractStridedSlice S512x512 ![0, 2816] · slices_S512x3328_S512x512_0_2816) main_arg1
  let main_v10 : FVec F S512x512 .f32 := Host.absf main_v9
  let main_cst_1 : FVec F S_ .f32 := constant S_ .f32 0x7F800000#32
  let main_v11 : FVec F S512x512 .f32 := broadcastInDim S512x512 ![] bcast_S_S512x512 main_cst_1
  let main_v12 : IVec S512x512 1 := cmpf .olt main_v10 main_v11
  let main_v13 : FVec F S1x128x128x2x64 .f32 := (extractStridedSlice S1x128x128x2x64 ![0, 0, 0, 0, 0] · slices_S2x128x128x2x64_S1x128x128x2x64_0_0_0_0_0) main_arg4
  let main_v14 : FVec F S128x128x2x64 .f32 := shapeCast S128x128x2x64 main_v13 shapeCasts_S1x128x128x2x64_S128x128x2x64
  let main_v15 : FVec F S128x128x2x64 .f32 := Host.absf main_v14
  let main_cst_2 : FVec F S_ .f32 := constant S_ .f32 0x7F800000#32
  let main_v16 : FVec F S128x128x2x64 .f32 := broadcastInDim S128x128x2x64 ![] bcast_S_S128x128x2x64 main_cst_2
  let main_v17 : IVec S128x128x2x64 1 := cmpf .olt main_v15 main_v16
  let main_v18 : FVec F S1x128x256x4x128 .f32 := (extractStridedSlice S1x128x256x4x128 ![0, 0, 0, 0, 0] · slices_S2x128x256x4x128_S1x128x256x4x128_0_0_0_0_0) main_arg6
  let main_v19 : FVec F S128x256x4x128 .f32 := shapeCast S128x256x4x128 main_v18 shapeCasts_S1x128x256x4x128_S128x256x4x128
  fn_part1 (F := F) main_v4 main_v8 main_v12 main_v17 main_v19
-- ==== Mixer.lean ====
abbrev S2x8 : Shape := ⟨2, ![2, 8]⟩
abbrev S512x3328 : Shape := ⟨2, ![512, 3328]⟩
abbrev S2x128x15x512 : Shape := ⟨4, ![2, 128, 15, 512]⟩
abbrev S2x128x2x512 : Shape := ⟨4, ![2, 128, 2, 512]⟩
abbrev S2x128x128x2x64 : Shape := ⟨5, ![2, 128, 128, 2, 64]⟩
abbrev S2x128x256x4x128 : Shape := ⟨5, ![2, 128, 256, 4, 128]⟩
abbrev S2x4x128x128 : Shape := ⟨4, ![2, 4, 128, 128]⟩
abbrev S2x512 : Shape := ⟨2, ![2, 512]⟩
abbrev S2x3x512 : Shape := ⟨3, ![2, 3, 512]⟩
abbrev S2x1x512 : Shape := ⟨3, ![2, 1, 512]⟩
abbrev S2x128x128x128 : Shape := ⟨4, ![2, 128, 128, 128]⟩
abbrev S2x128x1024x128 : Shape := ⟨4, ![2, 128, 1024, 128]⟩
abbrev S512x2048 : Shape := ⟨2, ![512, 2048]⟩
abbrev S32x3328 : Shape := ⟨2, ![32, 3328]⟩
abbrev S1x8x15x512 : Shape := ⟨4, ![1, 8, 15, 512]⟩
abbrev S1x8x2x512 : Shape := ⟨4, ![1, 8, 2, 512]⟩
abbrev S1x8x128x128 : Shape := ⟨4, ![1, 8, 128, 128]⟩
abbrev S1x8x1024x128 : Shape := ⟨4, ![1, 8, 1024, 128]⟩
abbrev S1x4x128x128 : Shape := ⟨4, ![1, 4, 128, 128]⟩
abbrev S1x1x512 : Shape := ⟨3, ![1, 1, 512]⟩
abbrev S1x3x512 : Shape := ⟨3, ![1, 3, 512]⟩
abbrev S32x2048 : Shape := ⟨2, ![32, 2048]⟩
abbrev S2x8x15x512 : Shape := ⟨4, ![2, 8, 15, 512]⟩
abbrev S2x8x2x512 : Shape := ⟨4, ![2, 8, 2, 512]⟩
abbrev S2x8x128x128 : Shape := ⟨4, ![2, 8, 128, 128]⟩
abbrev S8x24x512 : Shape := ⟨3, ![8, 24, 512]⟩
abbrev S8x16x512 : Shape := ⟨3, ![8, 16, 512]⟩
abbrev S8x256x128 : Shape := ⟨3, ![8, 256, 128]⟩
abbrev S8x32x128 : Shape := ⟨3, ![8, 32, 128]⟩
abbrev S8x16x128 : Shape := ⟨3, ![8, 16, 128]⟩
abbrev S8x15x512 : Shape := ⟨3, ![8, 15, 512]⟩
abbrev S8x2x512 : Shape := ⟨3, ![8, 2, 512]⟩
abbrev S8x128x128 : Shape := ⟨3, ![8, 128, 128]⟩
abbrev S4x128 : Shape := ⟨2, ![4, 128]⟩
abbrev S1x1x15x512 : Shape := ⟨4, ![1, 1, 15, 512]⟩
abbrev S15x512 : Shape := ⟨2, ![15, 512]⟩
abbrev S1x24x512 : Shape := ⟨3, ![1, 24, 512]⟩
abbrev S24x512 : Shape := ⟨2, ![24, 512]⟩
abbrev S4x512 : Shape := ⟨2, ![4, 512]⟩
abbrev S1x15x512 : Shape := ⟨3, ![1, 15, 512]⟩
abbrev S1x1x2x512 : Shape := ⟨4, ![1, 1, 2, 512]⟩
abbrev S1x16x512 : Shape := ⟨3, ![1, 16, 512]⟩
abbrev S16x512 : Shape := ⟨2, ![16, 512]⟩
abbrev S1x512 : Shape := ⟨2, ![1, 512]⟩
abbrev S1x2x512 : Shape := ⟨3, ![1, 2, 512]⟩
abbrev S1x1x128x128 : Shape := ⟨4, ![1, 1, 128, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S1x4x128 : Shape := ⟨3, ![1, 4, 128]⟩
abbrev S32x128 : Shape := ⟨2, ![32, 128]⟩
abbrev S1x1x128 : Shape := ⟨3, ![1, 1, 128]⟩
abbrev S1x128 : Shape := ⟨2, ![1, 128]⟩
abbrev S1x32x128 : Shape := ⟨3, ![1, 32, 128]⟩
abbrev S32x256 : Shape := ⟨2, ![32, 256]⟩
abbrev S256x256 : Shape := ⟨2, ![256, 256]⟩
abbrev S1x16x128 : Shape := ⟨3, ![1, 16, 128]⟩
abbrev S16x128 : Shape := ⟨2, ![16, 128]⟩
abbrev S1x1x1024x128 : Shape := ⟨4, ![1, 1, 1024, 128]⟩
abbrev S1024x128 : Shape := ⟨2, ![1024, 128]⟩
abbrev S16x1024 : Shape := ⟨2, ![16, 1024]⟩
abbrev S128x1024 : Shape := ⟨2, ![128, 1024]⟩
abbrev S256x1 : Shape := ⟨2, ![256, 1]⟩
abbrev S1x1 : Shape := ⟨2, ![1, 1]⟩
abbrev S256 : Shape := ⟨1, ![256]⟩
abbrev S128 : Shape := ⟨1, ![128]⟩
abbrev S128x1 : Shape := ⟨2, ![128, 1]⟩

abbrev nBuf : Space → Nat
  | .hbm => 22
  | .vmem => 33
  | .smem => 1
  | _ => 0

abbrev bufTy : (tb : Table) → Fin (tcTables nBuf tb) → BufTy
  | .hbm, ⟨0, _⟩ => ⟨S2x8, .f32⟩
  | .hbm, ⟨1, _⟩ => ⟨S512x3328, .f32⟩
  | .hbm, ⟨2, _⟩ => ⟨S2x128x15x512, .f32⟩
  | .hbm, ⟨3, _⟩ => ⟨S2x128x2x512, .f32⟩
  | .hbm, ⟨4, _⟩ => ⟨S2x128x128x2x64, .f32⟩
  | .hbm, ⟨5, _⟩ => ⟨S2x128x128x2x64, .f32⟩
  | .hbm, ⟨6, _⟩ => ⟨S2x128x256x4x128, .f32⟩
  | .hbm, ⟨7, _⟩ => ⟨S2x128x256x4x128, .f32⟩
  | .hbm, ⟨8, _⟩ => ⟨S2x4x128x128, .f32⟩
  | .hbm, ⟨9, _⟩ => ⟨S2x512, .f32⟩
  | .hbm, ⟨10, _⟩ => ⟨S2x3x512, .f32⟩
  | .hbm, ⟨11, _⟩ => ⟨S2x4x128x128, .bf16⟩
  | .hbm, ⟨12, _⟩ => ⟨S2x1x512, .f32⟩
  | .hbm, ⟨13, _⟩ => ⟨S2x128x128x128, .f32⟩
  | .hbm, ⟨14, _⟩ => ⟨S2x128x128x128, .f32⟩
  | .hbm, ⟨15, _⟩ => ⟨S2x128x1024x128, .f32⟩
  | .hbm, ⟨16, _⟩ => ⟨S2x128x1024x128, .f32⟩
  | .hbm, ⟨17, _⟩ => ⟨S512x2048, .f32⟩
  | .hbm, ⟨18, _⟩ => ⟨S2x128x15x512, .f32⟩
  | .hbm, ⟨19, _⟩ => ⟨S2x128x2x512, .f32⟩
  | .hbm, ⟨20, _⟩ => ⟨S2x128x128x128, .f32⟩
  | .hbm, ⟨21, _⟩ => ⟨S2x128x128x128, .f32⟩
  | .local _ .vmem, ⟨0, _⟩ => ⟨S32x3328, .f32⟩
  | .local _ .vmem, ⟨1, _⟩ => ⟨S32x3328, .f32⟩
  | .local _ .vmem, ⟨2, _⟩ => ⟨S1x8x15x512, .f32⟩
  | .local _ .vmem, ⟨3, _⟩ => ⟨S1x8x15x512, .f32⟩
  | .local _ .vmem, ⟨4, _⟩ => ⟨S1x8x2x512, .f32⟩
  | .local _ .vmem, ⟨5, _⟩ => ⟨S1x8x2x512, .f32⟩
  | .local _ .vmem, ⟨6, _⟩ => ⟨S1x8x128x128, .f32⟩
  | .local _ .vmem, ⟨7, _⟩ => ⟨S1x8x128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x1024x128, .f32⟩
  | .local _ .vmem, ⟨11, _⟩ => ⟨S1x8x1024x128, .f32⟩
  | .local _ .vmem, ⟨12, _⟩ => ⟨S1x8x1024x128, .f32⟩
  | .local _ .vmem, ⟨13, _⟩ => ⟨S1x8x1024x128, .f32⟩
  | .local _ .vmem, ⟨14, _⟩ => ⟨S1x4x128x128, .bf16⟩
  | .local _ .vmem, ⟨15, _⟩ => ⟨S1x1x512, .f32⟩
  | .local _ .vmem, ⟨16, _⟩ => ⟨S1x3x512, .f32⟩
  | .local _ .vmem, ⟨17, _⟩ => ⟨S32x2048, .f32⟩
  | .local _ .vmem, ⟨18, _⟩ => ⟨S32x2048, .f32⟩
  | .local _ .vmem, ⟨19, _⟩ => ⟨S2x8x15x512, .f32⟩
  | .local _ .vmem, ⟨20, _⟩ => ⟨S2x8x15x512, .f32⟩
  | .local _ .vmem, ⟨21, _⟩ => ⟨S2x8x2x512, .f32⟩
  | .local _ .vmem, ⟨22, _⟩ => ⟨S2x8x2x512, .f32⟩
  | .local _ .vmem, ⟨23, _⟩ => ⟨S2x8x128x128, .f32⟩
  | .local _ .vmem, ⟨24, _⟩ => ⟨S2x8x128x128, .f32⟩
  | .local _ .vmem, ⟨25, _⟩ => ⟨S2x8x128x128, .f32⟩
  | .local _ .vmem, ⟨26, _⟩ => ⟨S2x8x128x128, .f32⟩
  | .local _ .vmem, ⟨27, _⟩ => ⟨S8x24x512, .f32⟩
  | .local _ .vmem, ⟨28, _⟩ => ⟨S8x16x512, .f32⟩
  | .local _ .vmem, ⟨29, _⟩ => ⟨S8x256x128, .f32⟩
  | .local _ .vmem, ⟨30, _⟩ => ⟨S8x256x128, .f32⟩
  | .local _ .vmem, ⟨31, _⟩ => ⟨S8x32x128, .f32⟩
  | .local _ .vmem, ⟨32, _⟩ => ⟨S8x16x128, .f32⟩
  | .local _ .smem, ⟨0, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x15x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x15x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixerRefIdeal.lean ====
abbrev S2x8 : Shape := ⟨2, ![2, 8]⟩
abbrev S512x3328 : Shape := ⟨2, ![512, 3328]⟩
abbrev S2x128x15x512 : Shape := ⟨4, ![2, 128, 15, 512]⟩
abbrev S2x128x2x512 : Shape := ⟨4, ![2, 128, 2, 512]⟩
abbrev S2x128x128x2x64 : Shape := ⟨5, ![2, 128, 128, 2, 64]⟩
abbrev S2x128x256x4x128 : Shape := ⟨5, ![2, 128, 256, 4, 128]⟩
abbrev S2x4x128x128 : Shape := ⟨4, ![2, 4, 128, 128]⟩
abbrev S2x512 : Shape := ⟨2, ![2, 512]⟩
abbrev S2x3x512 : Shape := ⟨3, ![2, 3, 512]⟩
abbrev S128x4x3328 : Shape := ⟨3, ![128, 4, 3328]⟩
abbrev S128x4x512 : Shape := ⟨3, ![128, 4, 512]⟩
abbrev S128x4x128 : Shape := ⟨3, ![128, 4, 128]⟩
abbrev S1x128x15x512 : Shape := ⟨4, ![1, 128, 15, 512]⟩
abbrev S128x15x512 : Shape := ⟨3, ![128, 15, 512]⟩
abbrev S128x19x512 : Shape := ⟨3, ![128, 19, 512]⟩
abbrev S4 : Shape := ⟨1, ![4]⟩
abbrev S_ : Shape := ⟨0, ![]⟩
abbrev S1x4x1 : Shape := ⟨3, ![1, 4, 1]⟩
abbrev S128x4x4x128 : Shape := ⟨4, ![128, 4, 4, 128]⟩
abbrev S1x4x128x128 : Shape := ⟨4, ![1, 4, 128, 128]⟩
abbrev S4x128x128 : Shape := ⟨3, ![4, 128, 128]⟩
abbrev S4x128x128x4 : Shape := ⟨4, ![4, 128, 128, 4]⟩
abbrev S1x512 : Shape := ⟨2, ![1, 512]⟩
abbrev S512 : Shape := ⟨1, ![512]⟩
abbrev S1x1x512 : Shape := ⟨3, ![1, 1, 512]⟩
abbrev S1x128x2x512 : Shape := ⟨4, ![1, 128, 2, 512]⟩
abbrev S128x2x512 : Shape := ⟨3, ![128, 2, 512]⟩
abbrev S128x6x512 : Shape := ⟨3, ![128, 6, 512]⟩
abbrev S128x4x2x4x64 : Shape := ⟨5, ![128, 4, 2, 4, 64]⟩
abbrev S1x128x128x2x64 : Shape := ⟨5, ![1, 128, 128, 2, 64]⟩
abbrev S128x128x2x64 : Shape := ⟨4, ![128, 128, 2, 64]⟩
abbrev S128x4x2x64 : Shape := ⟨4, ![128, 4, 2, 64]⟩
abbrev S128x132x2x64 : Shape := ⟨4, ![128, 132, 2, 64]⟩
abbrev S4x1 : Shape := ⟨2, ![4, 1]⟩
abbrev S132 : Shape := ⟨1, ![132]⟩
abbrev S1x132 : Shape := ⟨2, ![1, 132]⟩
abbrev S4x132 : Shape := ⟨2, ![4, 132]⟩
abbrev S128x2x132x4x4 : Shape := ⟨5, ![128, 2, 132, 4, 4]⟩
abbrev S128x2x4x4x132 : Shape := ⟨5, ![128, 2, 4, 4, 132]⟩
abbrev S1x8 : Shape := ⟨2, ![1, 8]⟩
abbrev S8 : Shape := ⟨1, ![8]⟩
abbrev S2x4 : Shape := ⟨2, ![2, 4]⟩
abbrev S1x2x4x1x1 : Shape := ⟨5, ![1, 2, 4, 1, 1]⟩
abbrev S1x1x1x4x132 : Shape := ⟨5, ![1, 1, 1, 4, 132]⟩
abbrev S128x2x4x4 : Shape := ⟨4, ![128, 2, 4, 4]⟩
abbrev S128x2x4x4x1 : Shape := ⟨5, ![128, 2, 4, 4, 1]⟩
abbrev S128x2x64x4x4 : Shape := ⟨5, ![128, 2, 64, 4, 4]⟩
abbrev S1x128x256x4x128 : Shape := ⟨5, ![1, 128, 256, 4, 128]⟩
abbrev S128x256x4x128 : Shape := ⟨4, ![128, 256, 4, 128]⟩
abbrev S128x4x4x256 : Shape := ⟨4, ![128, 4, 4, 256]⟩
abbrev S128x4x4 : Shape := ⟨3, ![128, 4, 4]⟩
abbrev S128x4x4x1 : Shape := ⟨4, ![128, 4, 4, 1]⟩
abbrev S128x4x128x4 : Shape := ⟨4, ![128, 4, 128, 4]⟩
abbrev S128x4x2048 : Shape := ⟨3, ![128, 4, 2048]⟩
abbrev S512x2048 : Shape := ⟨2, ![512, 2048]⟩
abbrev S128x128x128 : Shape := ⟨3, ![128, 128, 128]⟩
abbrev S1x128x128x128 : Shape := ⟨4, ![1, 128, 128, 128]⟩
abbrev S2x128x128x128 : Shape := ⟨4, ![2, 128, 128, 128]⟩

abbrev nBuf : Space → Nat
  | .hbm => 288
  | .vmem => 0
  | .smem => 0
  | _ => 0

abbrev hbmTy0_0 (i : Nat) : BufTy := match i % 128 with
  | 0 => ⟨S2x8, .f32⟩
  | 1 => ⟨S512x3328, .f32⟩
  | 2 => ⟨S2x128x15x512, .f32⟩
  | 3 => ⟨S2x128x2x512, .f32⟩
  | 4 => ⟨S2x128x128x2x64, .f32⟩
  | 5 => ⟨S2x128x128x2x64, .f32⟩
  | 6 => ⟨S2x128x256x4x128, .f32⟩
  | 7 => ⟨S2x128x256x4x128, .f32⟩
  | 8 => ⟨S2x4x128x128, .f32⟩
  | 9 => ⟨S2x512, .f32⟩
  | 10 => ⟨S2x3x512, .f32⟩
  | 11 => ⟨S128x4x3328, .f32⟩
  | 12 => ⟨S128x4x512, .f32⟩
  | 13 => ⟨S128x4x512, .f32⟩
  | 14 => ⟨S128x4x512, .f32⟩
  | 15 => ⟨S128x4x512, .f32⟩
  | 16 => ⟨S128x4x512, .f32⟩
  | 17 => ⟨S128x4x128, .f32⟩
  | 18 => ⟨S128x4x128, .f32⟩
  | 19 => ⟨S128x4x512, .f32⟩
  | 20 => ⟨S1x128x15x512, .f32⟩
  | 21 => ⟨S128x15x512, .f32⟩
  | 22 => ⟨S128x19x512, .f32⟩
  | 23 => ⟨S4, .i32⟩
  | 24 => ⟨S_, .i32⟩
  | 25 => ⟨S4, .i32⟩
  | 26 => ⟨S4, .i32⟩
  | 27 => ⟨S128x4x128, .f32⟩
  | 28 => ⟨S_, .f32⟩
  | 29 => ⟨S128x4x128, .f32⟩
  | 30 => ⟨S128x4x128, .f32⟩
  | 31 => ⟨S128x4x128, .f32⟩
  | 32 => ⟨S128x4x128, .f32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .f32⟩
  | 40 => ⟨S1x4x1, .f32⟩
  | 41 => ⟨S128x4x128, .f32⟩
  | 42 => ⟨S128x4x128, .f32⟩
  | 43 => ⟨S128x4x128, .f32⟩
  | 44 => ⟨S_, .f32⟩
  | 45 => ⟨S128x4x128, .f32⟩
  | 46 => ⟨S128x4x128, .f32⟩
  | 47 => ⟨S128x4x128, .f32⟩
  | 48 => ⟨S128x4x128, .f32⟩
  | 49 => ⟨S128x4x128, .f32⟩
  | 50 => ⟨S128x4x128, .f32⟩
  | 51 => ⟨S128x4x128, .f32⟩
  | 52 => ⟨S128x4x128, .f32⟩
  | 53 => ⟨S_, .i32⟩
  | 54 => ⟨S4, .i32⟩
  | 55 => ⟨S4, .i32⟩
  | 56 => ⟨S_, .i32⟩
  | 57 => ⟨S4, .i32⟩
  | 58 => ⟨S4, .i32⟩
  | 59 => ⟨S4, .f32⟩
  | 60 => ⟨S1x4x1, .f32⟩
  | 61 => ⟨S128x4x128, .f32⟩
  | 62 => ⟨S128x4x128, .f32⟩
  | 63 => ⟨S128x4x128, .f32⟩
  | 64 => ⟨S_, .f32⟩
  | 65 => ⟨S128x4x128, .f32⟩
  | 66 => ⟨S128x4x128, .f32⟩
  | 67 => ⟨S128x4x128, .f32⟩
  | 68 => ⟨S128x4x128, .f32⟩
  | 69 => ⟨S128x4x128, .f32⟩
  | 70 => ⟨S128x4x128, .f32⟩
  | 71 => ⟨S128x4x128, .f32⟩
  | 72 => ⟨S128x4x128, .f32⟩
  | 73 => ⟨S128x4x128, .f32⟩
  | 74 => ⟨S128x4x128, .f32⟩
  | 75 => ⟨S128x4x128, .f32⟩
  | 76 => ⟨S128x4x128, .f32⟩
  | 77 => ⟨S128x4x128, .f32⟩
  | 78 => ⟨S128x4x128, .f32⟩
  | 79 => ⟨S128x4x128, .f32⟩
  | 80 => ⟨S128x4x128, .f32⟩
  | 81 => ⟨S_, .i32⟩
  | 82 => ⟨S4, .i32⟩
  | 83 => ⟨S4, .i32⟩
  | 84 => ⟨S_, .i32⟩
  | 85 => ⟨S4, .i32⟩
  | 86 => ⟨S4, .i32⟩
  | 87 => ⟨S4, .f32⟩
  | 88 => ⟨S1x4x1, .f32⟩
  | 89 => ⟨S128x4x128, .f32⟩
  | 90 => ⟨S128x4x128, .f32⟩
  | 91 => ⟨S128x4x128, .f32⟩
  | 92 => ⟨S_, .f32⟩
  | 93 => ⟨S128x4x128, .f32⟩
  | 94 => ⟨S128x4x128, .f32⟩
  | 95 => ⟨S128x4x128, .f32⟩
  | 96 => ⟨S128x4x128, .f32⟩
  | 97 => ⟨S128x4x128, .f32⟩
  | 98 => ⟨S128x4x128, .f32⟩
  | 99 => ⟨S128x4x128, .f32⟩
  | 100 => ⟨S128x4x128, .f32⟩
  | 101 => ⟨S128x4x128, .f32⟩
  | 102 => ⟨S128x4x128, .f32⟩
  | 103 => ⟨S128x4x128, .f32⟩
  | 104 => ⟨S128x4x128, .f32⟩
  | 105 => ⟨S128x4x128, .f32⟩
  | 106 => ⟨S128x4x128, .f32⟩
  | 107 => ⟨S128x4x128, .f32⟩
  | 108 => ⟨S128x4x128, .f32⟩
  | 109 => ⟨S128x4x128, .f32⟩
  | 110 => ⟨S128x4x128, .f32⟩
  | 111 => ⟨S128x4x128, .f32⟩
  | 112 => ⟨S128x4x128, .f32⟩
  | 113 => ⟨S128x4x128, .f32⟩
  | 114 => ⟨S128x4x128, .f32⟩
  | 115 => ⟨S128x4x128, .f32⟩
  | 116 => ⟨S128x4x128, .f32⟩
  | 117 => ⟨S128x4x128, .f32⟩
  | 118 => ⟨S128x4x128, .f32⟩
  | 119 => ⟨S128x4x128, .f32⟩
  | 120 => ⟨S128x4x128, .f32⟩
  | 121 => ⟨S128x4x128, .f32⟩
  | 122 => ⟨S128x4x128, .f32⟩
  | 123 => ⟨S128x4x128, .f32⟩
  | 124 => ⟨S128x4x128, .f32⟩
  | 125 => ⟨S_, .i32⟩
  | 126 => ⟨S4, .i32⟩
  | 127 => ⟨S4, .i32⟩
  | _ => ⟨S2x8, .f32⟩

abbrev hbmTy0_1 (i : Nat) : BufTy := match i % 128 with
  | 0 => ⟨S_, .i32⟩
  | 1 => ⟨S4, .i32⟩
  | 2 => ⟨S4, .i32⟩
  | 3 => ⟨S4, .f32⟩
  | 4 => ⟨S1x4x1, .f32⟩
  | 5 => ⟨S128x4x128, .f32⟩
  | 6 => ⟨S128x4x128, .f32⟩
  | 7 => ⟨S128x4x512, .f32⟩
  | 8 => ⟨S128x4x512, .f32⟩
  | 9 => ⟨S128x4x4x128, .f32⟩
  | 10 => ⟨S1x4x128x128, .f32⟩
  | 11 => ⟨S4x128x128, .f32⟩
  | 12 => ⟨S4x128x128x4, .f32⟩
  | 13 => ⟨S128x4x4x128, .f32⟩
  | 14 => ⟨S128x4x512, .f32⟩
  | 15 => ⟨S1x512, .f32⟩
  | 16 => ⟨S512, .f32⟩
  | 17 => ⟨S1x1x512, .f32⟩
  | 18 => ⟨S128x4x512, .f32⟩
  | 19 => ⟨S128x4x512, .f32⟩
  | 20 => ⟨S128x15x512, .f32⟩
  | 21 => ⟨S1x128x2x512, .f32⟩
  | 22 => ⟨S128x2x512, .f32⟩
  | 23 => ⟨S128x4x512, .f32⟩
  | 24 => ⟨S128x6x512, .f32⟩
  | 25 => ⟨S1x1x512, .f32⟩
  | 26 => ⟨S512, .f32⟩
  | 27 => ⟨S128x4x512, .f32⟩
  | 28 => ⟨S1x1x512, .f32⟩
  | 29 => ⟨S128x4x512, .f32⟩
  | 30 => ⟨S128x4x512, .f32⟩
  | 31 => ⟨S1x1x512, .f32⟩
  | 32 => ⟨S512, .f32⟩
  | 33 => ⟨S128x4x512, .f32⟩
  | 34 => ⟨S1x1x512, .f32⟩
  | 35 => ⟨S128x4x512, .f32⟩
  | 36 => ⟨S128x4x512, .f32⟩
  | 37 => ⟨S128x4x512, .f32⟩
  | 38 => ⟨S1x1x512, .f32⟩
  | 39 => ⟨S512, .f32⟩
  | 40 => ⟨S128x4x512, .f32⟩
  | 41 => ⟨S1x1x512, .f32⟩
  | 42 => ⟨S128x4x512, .f32⟩
  | 43 => ⟨S128x4x512, .f32⟩
  | 44 => ⟨S128x4x512, .f32⟩
  | 45 => ⟨S128x4x512, .f32⟩
  | 46 => ⟨S128x2x512, .f32⟩
  | 47 => ⟨S128x4x2x4x64, .f32⟩
  | 48 => ⟨S1x128x128x2x64, .f32⟩
  | 49 => ⟨S128x128x2x64, .f32⟩
  | 50 => ⟨S128x4x2x64, .f32⟩
  | 51 => ⟨S128x132x2x64, .f32⟩
  | 52 => ⟨S1x128x128x2x64, .f32⟩
  | 53 => ⟨S128x128x2x64, .f32⟩
  | 54 => ⟨S128x4x2x64, .f32⟩
  | 55 => ⟨S128x132x2x64, .f32⟩
  | 56 => ⟨S4, .i32⟩
  | 57 => ⟨S4x1, .i32⟩
  | 58 => ⟨S_, .i32⟩
  | 59 => ⟨S4x1, .i32⟩
  | 60 => ⟨S4x1, .i32⟩
  | 61 => ⟨S132, .i32⟩
  | 62 => ⟨S1x132, .i32⟩
  | 63 => ⟨S4x132, .i32⟩
  | 64 => ⟨S4x132, .i32⟩
  | 65 => ⟨S4x132, .i32⟩
  | 66 => ⟨S_, .i32⟩
  | 67 => ⟨S4x132, .i32⟩
  | 68 => ⟨S4x132, .i1⟩
  | 69 => ⟨S_, .i32⟩
  | 70 => ⟨S4x132, .i32⟩
  | 71 => ⟨S4x132, .i1⟩
  | 72 => ⟨S4x132, .i1⟩
  | 73 => ⟨S128x2x132x4x4, .f32⟩
  | 74 => ⟨S128x2x4x4x132, .f32⟩
  | 75 => ⟨S_, .f32⟩
  | 76 => ⟨S128x2x4x4x132, .f32⟩
  | 77 => ⟨S128x2x4x4x132, .f32⟩
  | 78 => ⟨S1x8, .f32⟩
  | 79 => ⟨S8, .f32⟩
  | 80 => ⟨S2x4, .f32⟩
  | 81 => ⟨S1x2x4x1x1, .f32⟩
  | 82 => ⟨S1x1x1x4x132, .i1⟩
  | 83 => ⟨S_, .f32⟩
  | 84 => ⟨S_, .f32⟩
  | 85 => ⟨S128x2x4x4x132, .i1⟩
  | 86 => ⟨S128x2x4x4x132, .f32⟩
  | 87 => ⟨S128x2x4x4x132, .f32⟩
  | 88 => ⟨S_, .f32⟩
  | 89 => ⟨S128x2x4x4, .f32⟩
  | 90 => ⟨S128x2x4x4x1, .f32⟩
  | 91 => ⟨S128x2x4x4x1, .f32⟩
  | 92 => ⟨S128x2x4x4x1, .f32⟩
  | 93 => ⟨S128x2x4x4x132, .f32⟩
  | 94 => ⟨S128x2x4x4x132, .f32⟩
  | 95 => ⟨S128x2x4x4x132, .f32⟩
  | 96 => ⟨S_, .f32⟩
  | 97 => ⟨S128x2x4x4, .f32⟩
  | 98 => ⟨S128x2x4x4x1, .f32⟩
  | 99 => ⟨S128x2x4x4x1, .f32⟩
  | 100 => ⟨S128x2x4x4x1, .f32⟩
  | 101 => ⟨S128x2x4x4x1, .f32⟩
  | 102 => ⟨S128x2x4x4x1, .f32⟩
  | 103 => ⟨S128x2x4x4x132, .f32⟩
  | 104 => ⟨S128x2x4x4x132, .f32⟩
  | 105 => ⟨S128x2x64x4x4, .f32⟩
  | 106 => ⟨S128x4x2x4x64, .f32⟩
  | 107 => ⟨S128x4x512, .f32⟩
  | 108 => ⟨S128x128x2x64, .f32⟩
  | 109 => ⟨S128x128x2x64, .f32⟩
  | 110 => ⟨S128x4x4x128, .f32⟩
  | 111 => ⟨S1x128x256x4x128, .f32⟩
  | 112 => ⟨S128x256x4x128, .f32⟩
  | 113 => ⟨S128x4x4x256, .f32⟩
  | 114 => ⟨S_, .f32⟩
  | 115 => ⟨S128x4x4x256, .f32⟩
  | 116 => ⟨S128x4x4x256, .f32⟩
  | 117 => ⟨S_, .f32⟩
  | 118 => ⟨S128x4x4, .f32⟩
  | 119 => ⟨S_, .f32⟩
  | 120 => ⟨S128x4x4, .f32⟩
  | 121 => ⟨S128x4x4, .f32⟩
  | 122 => ⟨S128x4x4x1, .f32⟩
  | 123 => ⟨S128x4x4x256, .f32⟩
  | 124 => ⟨S128x4x4x256, .f32⟩
  | 125 => ⟨S128x4x4x256, .f32⟩
  | 126 => ⟨S_, .f32⟩
  | 127 => ⟨S128x4x4, .f32⟩
  | _ => ⟨S2x8, .f32⟩

abbrev hbmTy0_2 (i : Nat) : BufTy := match i % 128 with
  | 0 => ⟨S128x4x4x1, .f32⟩
  | 1 => ⟨S128x4x4x256, .f32⟩
  | 2 => ⟨S128x4x4x256, .f32⟩
  | 3 => ⟨S1x128x256x4x128, .f32⟩
  | 4 => ⟨S128x256x4x128, .f32⟩
  | 5 => ⟨S128x4x128x4, .f32⟩
  | 6 => ⟨S128x4x4x128, .f32⟩
  | 7 => ⟨S128x4x512, .f32⟩
  | 8 => ⟨S128x4x2048, .f32⟩
  | 9 => ⟨S512x2048, .f32⟩
  | 10 => ⟨S_, .f32⟩
  | 11 => ⟨S128x15x512, .f32⟩
  | 12 => ⟨S1x128x15x512, .f32⟩
  | 13 => ⟨S1x128x15x512, .f32⟩
  | 14 => ⟨S2x128x15x512, .f32⟩
  | 15 => ⟨S_, .f32⟩
  | 16 => ⟨S128x2x512, .f32⟩
  | 17 => ⟨S1x128x2x512, .f32⟩
  | 18 => ⟨S1x128x2x512, .f32⟩
  | 19 => ⟨S2x128x2x512, .f32⟩
  | 20 => ⟨S128x128x128, .f32⟩
  | 21 => ⟨S_, .f32⟩
  | 22 => ⟨S128x128x128, .f32⟩
  | 23 => ⟨S1x128x128x128, .f32⟩
  | 24 => ⟨S1x128x128x128, .f32⟩
  | 25 => ⟨S2x128x128x128, .f32⟩
  | 26 => ⟨S128x128x128, .f32⟩
  | 27 => ⟨S_, .f32⟩
  | 28 => ⟨S128x128x128, .f32⟩
  | 29 => ⟨S1x128x128x128, .f32⟩
  | 30 => ⟨S1x128x128x128, .f32⟩
  | 31 => ⟨S2x128x128x128, .f32⟩
  | _ => ⟨S2x8, .f32⟩

abbrev hbmTy (i : Nat) : BufTy := match i / 128 with
  | 0 => hbmTy0_0 i
  | 1 => hbmTy0_1 i
  | 2 => hbmTy0_2 i
  | _ => ⟨S2x8, .f32⟩

abbrev bufTy : (tb : Table) → Fin (tcTables nBuf tb) → BufTy
  | .hbm, ⟨i, _⟩ => hbmTy i
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_6 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_c_9 : Ref sig .tc := ⟨.hbm, 125, rfl⟩
abbrev main_v103 : Ref sig .tc := ⟨.hbm, 126, rfl⟩
abbrev main_v104 : Ref sig .tc := ⟨.hbm, 127, rfl⟩
abbrev main_c_10 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_c_11 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_c_12 : Ref sig .tc := ⟨.hbm, 194, rfl⟩
abbrev main_v169 : Ref sig .tc := ⟨.hbm, 195, rfl⟩
abbrev main_v170 : Ref sig .tc := ⟨.hbm, 196, rfl⟩
abbrev main_c_13 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_cst_14 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_cst_15 : Ref sig .tc := ⟨.hbm, 211, rfl⟩
abbrev main_call0_v0 : Ref sig .tc := ⟨.hbm, 212, rfl⟩
abbrev main_call0_v1 : Ref sig .tc := ⟨.hbm, 213, rfl⟩
abbrev main_call0_v2 : Ref sig .tc := ⟨.hbm, 214, rfl⟩
abbrev main_v183 : Ref sig .tc := ⟨.hbm, 215, rfl⟩
abbrev main_cst_16 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_17 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_cst_18 : Ref sig .tc := ⟨.hbm, 242, rfl⟩
abbrev main_v208 : Ref sig .tc := ⟨.hbm, 243, rfl⟩
abbrev main_v209 : Ref sig .tc := ⟨.hbm, 244, rfl⟩
abbrev main_cst_19 : Ref sig .tc := ⟨.hbm, 245, rfl⟩
abbrev main_v210 : Ref sig .tc := ⟨.hbm, 246, rfl⟩
abbrev main_cst_20 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_cst_21 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_cst_22 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_cst_23 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_cst_24 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_cst_25 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩

abbrev nD : Nat := 1
abbrev τ : Topo := Topo.v7x

variable {F : FTy → Type} [FloatOps F]
-- ==== Mlp.lean ====
abbrev S16384x2048 : Shape := ⟨2, ![16384, 2048]⟩
abbrev S2x2048 : Shape := ⟨2, ![2, 2048]⟩
abbrev S2048x8192 : Shape := ⟨2, ![2048, 8192]⟩
abbrev S8192x2048 : Shape := ⟨2, ![8192, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x1024 : Shape := ⟨2, ![2048, 1024]⟩
abbrev S1x2048 : Shape := ⟨2, ![1, 2048]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2048x8192, .bf16⟩
  | .hbm, ⟨3, _⟩ => ⟨S8192x2048, .bf16⟩
  | .hbm, ⟨4, _⟩ => ⟨S2x2048, .f32⟩
  | .hbm, ⟨5, _⟩ => ⟨S2x1x2048, .f32⟩
  | .hbm, ⟨6, _⟩ => ⟨S2x1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2x2048 : Shape := ⟨2, ![2, 2048]⟩
abbrev S2048x8192 : Shape := ⟨2, ![2048, 8192]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2048x8192, .bf16⟩
  | .hbm, ⟨3, _⟩ => ⟨S8192x2048, .bf16⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S8192x2048, .f32⟩
  | .hbm, ⟨30, _⟩ => ⟨S16384x2048, .f32⟩
  | .hbm, ⟨31, _⟩ => ⟨S1x2048, .f32⟩
  | .hbm, ⟨32, _⟩ => ⟨S2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MemKv.lean ====
abbrev S8x256x2048 : Shape := ⟨3, ![8, 256, 2048]⟩
abbrev S2x2048 : Shape := ⟨2, ![2, 2048]⟩
abbrev S2x2048x1024 : Shape := ⟨3, ![2, 2048, 1024]⟩
abbrev S2048x2048 : Shape := ⟨2, ![2048, 2048]⟩
abbrev S2x1x2048 : Shape := ⟨3, ![2, 1, 2048]⟩
abbrev S2048x512 : Shape := ⟨2, ![2048, 512]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S2x2048, .f32⟩
  | .hbm, ⟨2, _⟩ => ⟨S2x2048x1024, .f32⟩
  | .hbm, ⟨3, _⟩ => ⟨S2048x2048, .f32⟩
  | .hbm, ⟨4, _⟩ => ⟨S2x1x2048, .f32⟩
  | .hbm, ⟨5, _⟩ => ⟨S2048x512, .f32⟩
  | .hbm, ⟨6, _⟩ => ⟨S2048x512, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x2048 : Shape := ⟨3, ![8, 256, 2048]⟩
abbrev S2x2048 : Shape := ⟨2, ![2, 2048]⟩
abbrev S2x2048x1024 : Shape := ⟨3, ![2, 2048, 1024]⟩
abbrev S1x2048 : Shape := ⟨2, ![1, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S8x256x1024 : Shape := ⟨3, ![8, 256, 1024]⟩
abbrev S8x256x512 : Shape := ⟨3, ![8, 256, 512]⟩
abbrev S2048x512 : Shape := ⟨2, ![2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2x2048, .f32⟩
  | .hbm, ⟨2, _⟩ => ⟨S2x2048x1024, .f32⟩
  | .hbm, ⟨3, _⟩ => ⟨S1x2048, .f32⟩
  | .hbm, ⟨4, _⟩ => ⟨S2048, .f32⟩
  | .hbm, ⟨5, _⟩ => ⟨S8x256x2048, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x2048, .f32⟩
  | .hbm, ⟨17, _⟩ => ⟨S8x256x2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S1x2048x1024, .f32⟩
  | .hbm, ⟨22, _⟩ => ⟨S2048x1024, .f32⟩
  | .hbm, ⟨23, _⟩ => ⟨S8x256x1024, .f32⟩
  | .hbm, ⟨24, _⟩ => ⟨S8x256x512, .f32⟩
  | .hbm, ⟨25, _⟩ => ⟨S8x256x512, .f32⟩
  | .hbm, ⟨26, _⟩ => ⟨S2048x512, .f32⟩
  | .hbm, ⟨27, _⟩ => ⟨S2048x512, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== InProj.lean ====
abbrev S512x2048 : Shape := ⟨2, ![512, 2048]⟩
abbrev S2x2048 : Shape := ⟨2, ![2, 2048]⟩
abbrev S2x2048x3328 : Shape := ⟨3, ![2, 2048, 3328]⟩
abbrev S2x1x2048 : Shape := ⟨3, ![2, 1, 2048]⟩
abbrev S512x3328 : Shape := ⟨2, ![512, 3328]⟩
abbrev S2048x3328 : Shape := ⟨2, ![2048, 3328]⟩
abbrev S1x1x2048 : Shape := ⟨3, ![1, 1, 2048]⟩
abbrev S1x2048x256 : Shape := ⟨3, ![1, 2048, 256]⟩
abbrev S512x256 : Shape := ⟨2, ![512, 256]⟩
abbrev S2048x256 : Shape := ⟨2, ![2048, 256]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x3328, .f32⟩
  | .hbm, ⟨3, _⟩ => ⟨S2x1x2048, .f32⟩
  | .hbm, ⟨4, _⟩ => ⟨S512x3328, .f32⟩
  | .hbm, ⟨5, _⟩ => ⟨S2048x3328, .bf16⟩
  | .local _ .vmem, ⟨0, _⟩ => ⟨S512x2048, .f32⟩
  | .local _ .vmem, ⟨1, _⟩ => ⟨S1x1x2048, .f32⟩
  | .local _ .vmem, ⟨2, _⟩ => ⟨S1x2048x256, .f32⟩
  | .local _ .vmem, ⟨3, _⟩ => ⟨S1x2048x256, .f32⟩
  | .local _ .vmem, ⟨4, _⟩ => ⟨S512x256, .f32⟩
  | .local _ .vmem, ⟨5, _⟩ => ⟨S512x256, .f32⟩
  | .local _ .vmem, ⟨6, _⟩ => ⟨S2048x256, .bf16⟩
  | .local _ .vmem, ⟨7, _⟩ => ⟨S2048x256, .bf16⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S512x2048 : Shape := ⟨2, ![512, 2048]⟩
abbrev S2x2048 : Shape := ⟨2, ![2, 2048]⟩
abbrev S2x2048x3328 : Shape := ⟨3, ![2, 2048, 3328]⟩
abbrev S1x2048 : Shape := ⟨2, ![1, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048x3328 : Shape := ⟨3, ![1, 2048, 3328]⟩
abbrev S2048x3328 : Shape := ⟨2, ![2048, 3328]⟩
abbrev S512x3328 : Shape := ⟨2, ![512, 3328]⟩

abbrev nBuf : Space → Nat
  | .hbm => 27
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x3328, .f32⟩
  | .hbm, ⟨3, _⟩ => ⟨S1x2048, .f32⟩
  | .hbm, ⟨4, _⟩ => ⟨S2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S1x2048x3328, .f32⟩
  | .hbm, ⟨22, _⟩ => ⟨S2048x3328, .f32⟩
  | .hbm, ⟨23, _⟩ => ⟨S512x3328, .f32⟩
  | .hbm, ⟨24, _⟩ => ⟨S1x2048x3328, .f32⟩
  | .hbm, ⟨25, _⟩ => ⟨S2048x3328, .f32⟩
  | .hbm, ⟨26, _⟩ => ⟨S2048x3328, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutProj.lean ====
abbrev S512x2048 : Shape := ⟨2, ![512, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S2048x2048 : Shape := ⟨2, ![2048, 2048]⟩
abbrev S512x512 : Shape := ⟨2, ![512, 512]⟩
abbrev S1x512x2048 : Shape := ⟨3, ![1, 512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2x2048x2048, .f32⟩
  | .hbm, ⟨2, _⟩ => ⟨S2x2048, .f32⟩
  | .hbm, ⟨3, _⟩ => ⟨S512x2048, .f32⟩
  | .hbm, ⟨4, _⟩ => ⟨S2x1x2048, .f32⟩
  | .hbm, ⟨5, _⟩ => ⟨S512x2048, .f32⟩
  | .hbm, ⟨6, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg0 : BitVec 32 := BitVec.ofNat 32 (i 0).val
  let c0_i32_7 : BitVec 32 := 0#32
  let v10 : BitVec 1 := Scalar.cmpi .sgt arg0 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S512x2048 : Shape := ⟨2, ![512, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S512 : Shape := ⟨1, ![512]⟩
abbrev S512x1 : Shape := ⟨2, ![512, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x2048x2048, .f32⟩
  | .hbm, ⟨2, _⟩ => ⟨S2x2048, .f32⟩
  | .hbm, ⟨3, _⟩ => ⟨S512x2048, .f32⟩
  | .hbm, ⟨4, _⟩ => ⟨S1x2048x2048, .f32⟩
  | .hbm, ⟨5, _⟩ => ⟨S2048x2048, .f32⟩
  | .hbm, ⟨6, _⟩ => ⟨S512x2048, .f32⟩
  | .hbm, ⟨7, _⟩ => ⟨S1x2048, .f32⟩
  | .hbm, ⟨8, _⟩ => ⟨S2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S1x2048x2048, .f32⟩
  | .hbm, ⟨27, _⟩ => ⟨S2048x2048, .f32⟩
  | .hbm, ⟨28, _⟩ => ⟨S2048x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.InProjTie.lean ====
/-
  The sample's projection: the kernel's call against the reference.

  The kernel walks 13 tiles of 256 columns.  At the first it normalises all the rows into a scratch, which the other
  tiles keep; every tile multiplies the scratch by its columns, and writes the columns themselves to the second result.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjRefIdeal.Tie

open Cert.InProjRefIdeal Cert.InProjRefIdeal.Gen

/-- The reference's normalised rows. -/
def hn (X : FVec Ideal S512x2048 .f32) (G : FVec Ideal S2x2048 .f32) : FVec Ideal S512x2048 .f32 :=
  mulf (mulf X (broadcastInDim S512x2048 ![0, 1] bcast_S512x1_S512x2048_0_1 (Host.rsqrt (addf (Host.divf (broadcastInDim S512x1 ![0] bcast_S512_S512x1_0 (Host.reduceAdd (mulf X X) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 (shapeCast _ (extractStridedSlice S1x2048 ![0, 0] G slices_S2x2048_S1x2048_0_0) shapeCasts_S1x2048_S2048)))

/-- The first layer's weights. -/
def w0 (W : FVec Ideal S2x2048x3328 .f32) : FVec Ideal S2048x3328 .f32 :=
  shapeCast _ (extractStridedSlice S1x2048x3328 ![0, 0, 0] W slices_S2x2048x3328_S1x2048x3328_0_0_0) shapeCasts_S1x2048x3328_S2048x3328

/-- The reference's projection. -/
def proj (X : FVec Ideal S512x2048 .f32) (G : FVec Ideal S2x2048 .f32) (W : FVec Ideal S2x2048x3328 .f32) : FVec Ideal S512x3328 .f32 :=
  Host.dotGeneral dot_S512x2048_S2048x3328_S512x3328_1_0_0_1_n_n none (hn X G) (w0 W)

/-- The reference's cast of the weights. -/
def wcast (W : FVec Ideal S2x2048x3328 .f32) : FVec Ideal S2048x3328 .bf16 := truncf .bf16 (w0 W) bitsLt_bf16_f32

/-- The reference's normalised rows at an index. -/
theorem hn_at (X : FVec Ideal S512x2048 .f32) (G : FVec Ideal S2x2048 .f32) (r : Fin 512) (x : Fin 2048) :
    hn X G (ix2 r x) = X (ix2 r x)
        * Ideal.rsqrt (Ideal.div (∑ x : Fin 2048, X (ix2 r x) * X (ix2 r x)) (Ideal.ofBits FTy.f32 1157627904#32)
              + Ideal.ofBits FTy.f32 897988541#32)
        * G (ix2 0 x) := by
  pointwise [hn]

/-- The reference's projection at an index. -/
theorem proj_at (X : FVec Ideal S512x2048 .f32) (G : FVec Ideal S2x2048 .f32) (W : FVec Ideal S2x2048x3328 .f32) (r : Fin 512) (l : Fin 3328) :
    proj X G W (ix2 r l) = ∑ x : Fin 2048, hn X G (ix2 r x) * W (ix3 0 x l) := by
  pointwise [proj, w0]

/-- The reference's cast at an index. -/
theorem wcast_at (W : FVec Ideal S2x2048x3328 .f32) (x : Fin 2048) (l : Fin 3328) : wcast W (ix2 x l) = W (ix3 0 x l) := by
  pointwise [wcast, w0]

end Cert.InProjRefIdeal.Tie

namespace Cert.InProjIdeal.Tie

open Cert.InProjIdeal Cert.InProjIdeal.Gen

variable (m : (ℓ : Loc nD τ sig) → Buf (Elt Ideal) ℓ)

/-- The block that each window has at grid point `t`. -/
theorem idx : ∀ t : Fin cfg0.N, win0_0.index t = ![0, 0] ∧ win0_1.index t = ![0, 0, 0]
    ∧ win0_2.index t = ![0, 0, t.val] ∧ win0_3.index t = ![0, t.val] ∧ win0_4.index t = ![0, t.val] :=
  (by decide +kernel : ∀ t : Fin grid0.N, _)

/-- The body's normalised rows at an index. -/
theorem pay1_at (v0 : Vec Ideal S512x2048 .f32) (v2 : Vec Ideal S1x1x2048 .f32) (r : Fin 512) (x : Fin 2048) :
    k0_pay1 v0 v2 (ix2 r x) = v0 (ix2 r x)
        * Ideal.rsqrt (Ideal.div (∑ x : Fin 2048, v0 (ix2 r x) * v0 (ix2 r x)) (Ideal.ofBits FTy.f32 1157627904#32)
              + Ideal.ofBits FTy.f32 897988541#32)
        * v2 (ix3 0 0 x) := by
  pointwise [k0_pay1]

/-- The tile of weights that is written back, at an index. -/
theorem pay2_at (w : Vec Ideal S1x2048x256 .f32) (x : Fin 2048) (l : Fin 256) : k0_pay2 w (ix2 x l) = w (ix3 0 x l) := by
  pointwise [k0_pay2]

/-- The tile of the projection at an index. -/
theorem pay3_at (w : Vec Ideal S1x2048x256 .f32) (h : Vec Ideal S512x2048 .bf16) (r : Fin 512) (l : Fin 256) :
    k0_pay3 w h (ix2 r l) = ∑ x : Fin 2048, h (ix2 r x) * w (ix3 0 x l) := by
  pointwise [k0_pay3, k0_pay2]

/-- The rows are the input's. -/
theorem rows_read (c : Dev nD) (t : Fin cfg0.N) (r : Fin 512) (x : Fin 2048) :
    (show Vec Ideal S512x2048 .f32 from iblk m c 0 t) (ix2 r x)
      = (show FVec Ideal S512x2048 .f32 from m ((c : Thread nD τ).loc main_arg0)) (ix2 r x) := by
  blk_ext! [iblk, V, idx t]

/-- The normalisation's weights are the first layer's row. -/
theorem gain_read (c : Dev nD) (t : Fin cfg0.N) (x : Fin 2048) :
    (show Vec Ideal S1x1x2048 .f32 from iblk m c 1 t) (ix3 0 0 x)
      = (show FVec Ideal S2x2048 .f32 from m ((c : Thread nD τ).loc main_arg1)) (ix2 0 x) := by
  blk_ext! [iblk, V, idx t]

/-- The tile of weights at point `t` is columns `256·t …` of the first layer's matrix. -/
theorem weight_read (c : Dev nD) (t : Fin cfg0.N) (ht : t.val < 13) (x : Fin 2048) (l : Fin 256) :
    (show Vec Ideal S1x2048x256 .f32 from iblk m c 2 t) (ix3 0 x l)
      = (show FVec Ideal S2x2048x3328 .f32 from m ((c : Thread nD τ).loc main_arg2)) (ix3 0 x ⟨t.val * 256 + l.val, by omega⟩) := by
  blk_ext! [iblk, V, idx t]

/-- The scratch holds the reference's normalised rows at every point. -/
theorem scratch (c : Dev nD) (t : Fin cfg0.N) (r : Fin 512) (x : Fin 2048) :
    (outsAt0 m c t.val t.isLt).2.2 (ix2 r x) = Cert.InProjRefIdeal.Tie.hn (m ((c : Thread nD τ).loc main_arg0)) (m ((c : Thread nD τ).loc main_arg1)) (ix2 r x) := by
  have h := Pipeline.eq_of_write_hold_apply (fun n h => (outsAt0 m c n h).2.2) 13
    (fun t => k0_pay1 (F := Ideal) (iblk m c 0 t) (iblk m c 1 t))
    (fun t h i => by rw [outsAt0_A m c t h]; frame_out) (fun t h i => by rw [outsAt0_B m c t h]; rfl) t (ix2 r x)
  refine h.trans ((pay1_at _ _ r x).trans (Eq.trans ?_ (Cert.InProjRefIdeal.Tie.hn_at _ _ _ x).symm))
  simp only [rows_read m c, gain_read m c]

/-- What a point leaves in the projection's block. -/
theorem block3 (c : Dev nD) (t : Fin cfg0.N) :
    (outsAt0 m c t.val t.isLt).1 = k0_pay3 (F := Ideal) (iblk m c 2 t) (outsAt0 m c t.val t.isLt).2.2 := by
  by_cases h : t.val % 13 = 0
  · rw [outsAt0_A m c t h]; frame_out
  · rw [outsAt0_B m c t h]; frame_out; rw [read_unread_whole]; rfl

/-- What a point leaves in the cast's block. -/
theorem block4 (c : Dev nD) (t : Fin cfg0.N) : (outsAt0 m c t.val t.isLt).2.1 = k0_pay2 (F := Ideal) (iblk m c 2 t) := by
  by_cases h : t.val % 13 = 0
  · rw [outsAt0_A m c t h]; frame_out
  · rw [outsAt0_B m c t h]; frame_out

/-- The projection's array after the run is the reference's. -/
theorem proj_final (c : Dev nD) : (dats m 0 c).arrAt 3 cfg0.N = Cert.InProjRefIdeal.Tie.proj (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 13 := lt_of_lt_of_eq t.isLt N_0
  have h0 : (y 0).val < 512 := (y 0).isLt
  have h1 : (y 1).val < 256 := (y 1).isLt
  blk_simp
  rw [after0_3, block3 m c t]
  refine Eq.trans (b := k0_pay3 (F := Ideal) (iblk m c 2 t) (outsAt0 m c t.val t.isLt).2.2 (ix2 ⟨(y 0).val, h0⟩ ⟨(y 1).val, h1⟩)) ?_ ?_
  · refine congrArg _ ?_
    blk_ext
  refine Eq.trans (b := Cert.InProjRefIdeal.Tie.proj (m ((c : Thread nD τ).loc main_arg0)) (m ((c : Thread nD τ).loc main_arg1)) (m ((c : Thread nD τ).loc main_arg2)) (ix2 ⟨(y 0).val, h0⟩ ⟨t.val * 256 + (y 1).val, by omega⟩)) ?_ ?_
  · refine (pay3_at _ _ _ _).trans (Eq.trans ?_ (Cert.InProjRefIdeal.Tie.proj_at _ _ _ _ _).symm)
    simp only [scratch m c t, weight_read m c t ht]
  · refine congrArg _ ?_
    blk_ext [idx t]

/-- The cast's array after the run is the reference's. -/
theorem wcast_final (c : Dev nD) : (dats m 0 c).arrAt 4 cfg0.N = Cert.InProjRefIdeal.Tie.wcast (m ((c : Thread nD τ).loc main_arg2)) := by
  refine (dats m 0 c).arrAt_eq_of_covers 4 _ (by decide +kernel) fun t _ y => ?_
  have ht : t.val < 13 := lt_of_lt_of_eq t.isLt N_0
  have h0 : (y 0).val < 2048 := (y 0).isLt
  have h1 : (y 1).val < 256 := (y 1).isLt
  blk_simp
  rw [after0_4, block4 m c t]
  refine Eq.trans (b := k0_pay2 (F := Ideal) (iblk m c 2 t) (ix2 ⟨(y 0).val, h0⟩ ⟨(y 1).val, h1⟩)) ?_ ?_
  · refine congrArg _ ?_
    blk_ext
  refine Eq.trans (b := Cert.InProjRefIdeal.Tie.wcast (m ((c : Thread nD τ).loc main_arg2)) (ix2 ⟨(y 0).val, h0⟩ ⟨t.val * 256 + (y 1).val, by omega⟩)) ?_ ?_
  · exact (pay2_at _ _ _).trans ((weight_read m c t ht _ _).trans (Cert.InProjRefIdeal.Tie.wcast_at _ _ _).symm)
  · refine congrArg _ ?_
    blk_ext [idx t]

end Cert.InProjIdeal.Tie

end
-- ==== Proof.OutProjTie.lean ====
/-
  The sample's out-projection: the kernel's call against the reference.

  The kernel walks 4 tiles of 512 of the mix's columns and adds their parts of the product into the output block; at
  the last tile the block is normalised and the input added.  Every tile of the weights is written to the second result.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjRefIdeal.Tie

open Cert.OutProjRefIdeal Cert.OutProjRefIdeal.Gen

/-- The first layer's weights. -/
def w0 (W : FVec Ideal S2x2048x2048 .f32) : FVec Ideal S2048x2048 .f32 :=
  shapeCast _ (extractStridedSlice S1x2048x2048 ![0, 0, 0] W slices_S2x2048x2048_S1x2048x2048_0_0_0) shapeCasts_S1x2048x2048_S2048x2048

/-- The reference's product. -/
def prod (M : FVec Ideal S512x2048 .f32) (W : FVec Ideal S2x2048x2048 .f32) : FVec Ideal S512x2048 .f32 :=
  Host.dotGeneral dot_S512x2048_S2048x2048_S512x2048_1_0_0_1_n_n none M (w0 W)

/-- The reference's result: the input plus the normalised product. -/
def out (M : FVec Ideal S512x2048 .f32) (W : FVec Ideal S2x2048x2048 .f32) (G : FVec Ideal S2x2048 .f32) (X : FVec Ideal S512x2048 .f32) : FVec Ideal S512x2048 .f32 :=
  addf X (mulf (mulf (prod M W) (broadcastInDim S512x2048 ![0, 1] bcast_S512x1_S512x2048_0_1 (Host.rsqrt (addf (Host.divf (broadcastInDim S512x1 ![0] bcast_S512_S512x1_0 (Host.reduceAdd (mulf (prod M W) (prod M W)) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 (shapeCast _ (extractStridedSlice S1x2048 ![0, 0] G slices_S2x2048_S1x2048_0_0) shapeCasts_S1x2048_S2048))))

/-- The reference's cast of the weights. -/
def wcast (W : FVec Ideal S2x2048x2048 .f32) : FVec Ideal S2048x2048 .bf16 := truncf .bf16 (w0 W) bitsLt_bf16_f32

/-- The reference's product at an index. -/
theorem prod_at (M : FVec Ideal S512x2048 .f32) (W : FVec Ideal S2x2048x2048 .f32) (r : Fin 512) (l : Fin 2048) :
    prod M W (ix2 r l) = ∑ x : Fin 2048, M (ix2 r x) * W (ix3 0 x l) := by
  pointwise [prod, w0]

/-- The reference's result at an index. -/
theorem out_at (M : FVec Ideal S512x2048 .f32) (W : FVec Ideal S2x2048x2048 .f32) (G : FVec Ideal S2x2048 .f32) (X : FVec Ideal S512x2048 .f32) (r : Fin 512) (l : Fin 2048) :
    out M W G X (ix2 r l) = X (ix2 r l) + prod M W (ix2 r l)
        * Ideal.rsqrt (Ideal.div (∑ x : Fin 2048, prod M W (ix2 r x) * prod M W (ix2 r x)) (Ideal.ofBits FTy.f32 1157627904#32)
              + Ideal.ofBits FTy.f32 897988541#32)
        * G (ix2 0 l) := by
  pointwise [out]

/-- The reference's cast at an index. -/
theorem wcast_at (W : FVec Ideal S2x2048x2048 .f32) (x l : Fin 2048) : wcast W (ix2 x l) = W (ix3 0 x l) := by
  pointwise [wcast, w0]

end Cert.OutProjRefIdeal.Tie

namespace Cert.OutProjIdeal.Tie

open Cert.OutProjIdeal Cert.OutProjIdeal.Gen

variable (m : (ℓ : Loc nD τ sig) → Buf (Elt Ideal) ℓ)

/-- The block that each window has at grid point `t`. -/
theorem idx : ∀ t : Fin cfg0.N, win0_0.index t = ![0, t.val] ∧ win0_1.index t = ![0, t.val, 0]
    ∧ win0_2.index t = ![0, 0, 0] ∧ win0_3.index t = ![0, 0] ∧ win0_4.index t = ![0, 0] ∧ win0_5.index t = ![t.val, 0] :=
  (by decide +kernel : ∀ t : Fin grid0.N, _)

/-- The tile of weights that is written back, at an index. -/
theorem pay1_at (w : Vec Ideal S1x512x2048 .f32) (x : Fin 512) (l : Fin 2048) : k0_pay1 w (ix2 x l) = w (ix3 0 x l) := by
  pointwise [k0_pay1]

/-- One tile's part of the product at an index. -/
theorem pay2_at (w : Vec Ideal S1x512x2048 .f32) (a : Vec Ideal S512x512 .f32) (r : Fin 512) (l : Fin 2048) :
    k0_pay2 w a (ix2 r l) = ∑ k : Fin 512, a (ix2 r k) * w (ix3 0 k l) := by
  pointwise [k0_pay2, k0_pay1]

/-- A later tile adds its part to what the block holds. -/
theorem pay3_at (w : Vec Ideal S1x512x2048 .f32) (a : Vec Ideal S512x512 .f32) (acc : Vec Ideal S512x2048 .f32) (r : Fin 512) (l : Fin 2048) :
    k0_pay3 w a acc (ix2 r l) = acc (ix2 r l) + k0_pay2 w a (ix2 r l) := by
  pointwise [k0_pay3, k0_pay2]

/-- The block that is written back: the input plus the normalised sum. -/
theorem pay4_at (v acc : Vec Ideal S512x2048 .f32) (g : Vec Ideal S1x1x2048 .f32) (r : Fin 512) (l : Fin 2048) :
    k0_pay4 v acc g (ix2 r l) = v (ix2 r l) + acc (ix2 r l)
        * Ideal.rsqrt (Ideal.div (∑ x : Fin 2048, acc (ix2 r x) * acc (ix2 r x)) (Ideal.ofBits FTy.f32 1157627904#32)
              + Ideal.ofBits FTy.f32 897988541#32)
        * g (ix3 0 0 l) := by
  pointwise [k0_pay4]

/-- The tile of the mix at point `t` is its columns `512·t …`. -/
theorem mix_read (c : Dev nD) (t : Fin cfg0.N) (ht : t.val < 4) (r k : Fin 512) :
    (show Vec Ideal S512x512 .f32 from iblk m c 0 t) (ix2 r k)
      = (show FVec Ideal S512x2048 .f32 from m ((c : Thread nD τ).loc main_arg0)) (ix2 r ⟨t.val * 512 + k.val, by omega⟩) := by
  blk_ext! [iblk, V, idx t]

/-- The tile of weights at point `t` is rows `512·t …` of the first layer's matrix. -/
theorem weight_read (c : Dev nD) (t : Fin cfg0.N) (ht : t.val < 4) (k : Fin 512) (l : Fin 2048) :
    (show Vec Ideal S1x512x2048 .f32 from iblk m c 1 t) (ix3 0 k l)
      = (show FVec Ideal S2x2048x2048 .f32 from m ((c : Thread nD τ).loc main_arg1)) (ix3 0 ⟨t.val * 512 + k.val, by omega⟩ l) := by
  blk_ext! [iblk, V, idx t]

/-- The normalisation's weights are the first layer's row. -/
theorem gain_read (c : Dev nD) (t : Fin cfg0.N) (x : Fin 2048) :
    (show Vec Ideal S1x1x2048 .f32 from iblk m c 2 t) (ix3 0 0 x)
      = (show FVec Ideal S2x2048 .f32 from m ((c : Thread nD τ).loc main_arg2)) (ix2 0 x) := by
  blk_ext! [iblk, V, idx t]

/-- The rows that are added are the input's. -/
theorem rows_read (c : Dev nD) (t : Fin cfg0.N) (r : Fin 512) (x : Fin 2048) :
    (show Vec Ideal S512x2048 .f32 from iblk m c 3 t) (ix2 r x)
      = (show FVec Ideal S512x2048 .f32 from m ((c : Thread nD τ).loc main_arg3)) (ix2 r x) := by
  blk_ext! [iblk, V, idx t]

/-- The running sum after point `n`: what the block holds, and at the last tile the sum before it is normalised. -/
def run (c : Dev nD) (n : ℕ) (hn : n < cfg0.N) : Vec Ideal S512x2048 .f32 :=
  if n % 4 = 3 then k0_pay3 (F := Ideal) (iblk m c 1 ⟨n, hn⟩) (iblk m c 0 ⟨n, hn⟩)
    (outsAt0 m c (n - 1) (Nat.lt_of_le_of_lt (Nat.sub_le _ _) hn)).1
  else (outsAt0 m c n hn).1

theorem run_reset (c : Dev nD) (t : Fin cfg0.N) (ht : t.val < 4) (h : t.val % 4 = 0) :
    run m c t.val t.isLt = k0_pay2 (F := Ideal) (iblk m c 1 t) (iblk m c 0 t) := by
  unfold run
  rw [if_neg (by omega), outsAt0_A m c t h (by omega) (by omega)]; frame_out

theorem run_step (c : Dev nD) (t : Fin cfg0.N) (h : ¬t.val % 4 = 0) (r : Fin 512) (l : Fin 2048) :
    run m c t.val t.isLt (ix2 r l)
      = run m c (t.val - 1) (Nat.lt_of_le_of_lt (Nat.sub_le _ _) t.isLt) (ix2 r l)
        + k0_pay2 (F := Ideal) (iblk m c 1 t) (iblk m c 0 t) (ix2 r l) := by
  unfold run
  rw [if_neg (c := (t.val - 1) % 4 = 3) (by omega)]
  by_cases h3 : t.val % 4 = 3
  · rw [if_pos h3]; exact pay3_at _ _ _ r l
  · rw [if_neg h3, outsAt0_B m c t h (by omega) h3]
    refine Eq.trans ?_ (pay3_at _ _ _ r l)
    refine congrFun ?_ _
    frame_out

/-- At the last tile the block that is written back is the normalised running sum with the input added. -/
theorem block_last (c : Dev nD) (t : Fin cfg0.N) (h : t.val % 4 = 3) :
    (outsAt0 m c t.val t.isLt).1 = k0_pay4 (F := Ideal) (iblk m c 3 t) (run m c t.val t.isLt) (iblk m c 2 t) := by
  unfold run
  rw [if_pos h, outsAt0_C m c t (by omega) (by omega) h]; frame_out

/-- At the last tile the running sum is the reference's product. -/
theorem run_last (c : Dev nD) (t : Fin cfg0.N) (ht : t.val < 4) (h : t.val % 4 = 3) (r : Fin 512) (l : Fin 2048) :
    run m c t.val t.isLt (ix2 r l) = Cert.OutProjRefIdeal.Tie.prod (m ((c : Thread nD τ).loc main_arg0)) (m ((c : Thread nD τ).loc main_arg1)) (ix2 r l) := by
  have hs := Pipeline.eq_sum_fin_of_reset_step_apply_of_flush (fun n hn (i : Fin 512 × Fin 2048) => run m c n hn (ix2 i.1 i.2)) 4 (fun _ => (0 : EReal))
    (fun t i => k0_pay2 (F := Ideal) (iblk m c 1 t) (iblk m c 0 t) (ix2 i.1 i.2))
    (fun t h i => by rw [run_reset m c t (lt_of_lt_of_eq t.isLt N_0) h, zero_add]) (fun t h i => run_step m c t h i.1 i.2) t h (r, l)
  refine hs.trans ((zero_add _).trans ?_)
  refine Eq.trans ?_ (Cert.OutProjRefIdeal.Tie.prod_at _ _ r l).symm
  refine (Finset.sum_congr rfl fun s _ => (pay2_at _ _ r l).trans (Finset.sum_congr rfl fun k _ => congr (congrArg HMul.hMul
    (mix_read m c ⟨4 * (t.val / 4) + s.val, _⟩ (by show 4 * (t.val / 4) + s.val < 4; omega) r k)) (weight_read m c ⟨4 * (t.val / 4) + s.val, _⟩ (by show 4 * (t.val / 4) + s.val < 4; omega) k l))).trans ?_
  refine Fin.sum_mul_add_congr fun s k hl => ?_
  have e : 4 * (t.val / 4) + s.val = s.val := by omega
  simp only [e]

/-- The result's array after the run is the reference's. -/
theorem final (c : Dev nD) : (dats m 0 c).arrAt 4 cfg0.N = Cert.OutProjRefIdeal.Tie.out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 4 := lt_of_lt_of_eq t.isLt N_0
  have h3 : t.val % 4 = 3 := (flush0_4 t).mp hf
  have h0 : (y 0).val < 512 := (y 0).isLt
  have h1 : (y 1).val < 2048 := (y 1).isLt
  blk_simp
  rw [after0_4, block_last m c t h3]
  refine Eq.trans (b := k0_pay4 (F := Ideal) (iblk m c 3 t) (run m c t.val t.isLt) (iblk m c 2 t) (ix2 ⟨(y 0).val, h0⟩ ⟨(y 1).val, h1⟩)) ?_ ?_
  · refine congrArg _ ?_
    blk_ext
  refine Eq.trans (b := Cert.OutProjRefIdeal.Tie.out (m ((c : Thread nD τ).loc main_arg0)) (m ((c : Thread nD τ).loc main_arg1)) (m ((c : Thread nD τ).loc main_arg2)) (m ((c : Thread nD τ).loc main_arg3)) (ix2 ⟨(y 0).val, h0⟩ ⟨(y 1).val, h1⟩)) ?_ ?_
  · refine (pay4_at _ _ _ _ _).trans (Eq.trans ?_ (Cert.OutProjRefIdeal.Tie.out_at _ _ _ _ _ _).symm)
    simp only [rows_read m c t, gain_read m c t, run_last m c t ht h3]
  · refine congrArg _ ?_
    blk_ext [idx t]

/-- What a point leaves in the cast's block. -/
theorem block5 (c : Dev nD) (t : Fin cfg0.N) (ht : t.val < 4) : (outsAt0 m c t.val t.isLt).2 = k0_pay1 (F := Ideal) (iblk m c 1 t) := by
  by_cases h : t.val % 4 = 0
  · rw [outsAt0_A m c t h (by omega) (by omega)]; frame_out
  · by_cases h3 : t.val % 4 = 3
    · rw [outsAt0_C m c t h (by omega) h3]; frame_out
    · rw [outsAt0_B m c t h (by omega) h3]; frame_out

/-- The cast's array after the run is the reference's. -/
theorem wcast_final (c : Dev nD) : (dats m 0 c).arrAt 5 cfg0.N = Cert.OutProjRefIdeal.Tie.wcast (m ((c : Thread nD τ).loc main_arg1)) := by
  refine (dats m 0 c).arrAt_eq_of_covers 5 _ (by decide +kernel) fun t _ y => ?_
  have ht : t.val < 4 := lt_of_lt_of_eq t.isLt N_0
  have h0 : (y 0).val < 512 := (y 0).isLt
  have h1 : (y 1).val < 2048 := (y 1).isLt
  blk_simp
  rw [after0_5, block5 m c t ht]
  refine Eq.trans (b := k0_pay1 (F := Ideal) (iblk m c 1 t) (ix2 ⟨(y 0).val, h0⟩ ⟨(y 1).val, h1⟩)) ?_ ?_
  · refine congrArg _ ?_
    blk_ext
  refine Eq.trans (b := Cert.OutProjRefIdeal.Tie.wcast (m ((c : Thread nD τ).loc main_arg1)) (ix2 ⟨t.val * 512 + (y 0).val, by omega⟩ ⟨(y 1).val, h1⟩)) ?_ ?_
  · exact (pay1_at _ _ _).trans ((weight_read m c t ht _ _).trans (Cert.OutProjRefIdeal.Tie.wcast_at _ _ _).symm)
  · refine congrArg _ ?_
    blk_ext [idx t]

end Cert.OutProjIdeal.Tie

end
-- ==== Proof.MemKvTie.lean ====
/-
  The memory's keys and values: the kernel's projection call against the reference.

  The kernel normalises a block of 1024 memory rows and multiplies it by the projection; the left half of the columns
  is written to the keys and the right half to the values.  Read at an index, the normalised row times the weight
  column is the reference's own expression, with the row numbered 256·batch + position.
-/
module

public import proofs.«01_k».proof.Proof.Gen.MemKvIdeal.Value
public import proofs.«01_k».proof.Proof.Gen.MemKvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKvRefIdeal.Tie

open Cert.MemKvRefIdeal Cert.MemKvRefIdeal.Gen

/-- The reference's projection of the normalised memory: keys and values side by side, batch by batch. -/
def proj (X : FVec Ideal S8x256x2048 .f32) (G : FVec Ideal S2x2048 .f32) (W : FVec Ideal S2x2048x1024 .f32) :
    FVec Ideal S8x256x1024 .f32 :=
  Host.dotGeneral dot_S8x256x2048_S2048x1024_S8x256x1024_2_0_01_1_n_n none (mulf (mulf X (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf X X) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 (shapeCast _ (extractStridedSlice S1x2048 ![0, 0] G slices_S2x2048_S1x2048_0_0) shapeCasts_S1x2048_S2048)))) (shapeCast _ (extractStridedSlice S1x2048x1024 ![0, 0, 0] W slices_S2x2048x1024_S1x2048x1024_0_0_0) shapeCasts_S1x2048x1024_S2048x1024)

/-- The reference's keys of the memory, one row per batch and position. -/
def keys (X : FVec Ideal S8x256x2048 .f32) (G : FVec Ideal S2x2048 .f32) (W : FVec Ideal S2x2048x1024 .f32) :
    FVec Ideal S2048x512 .f32 :=
  shapeCast _ (extractStridedSlice S8x256x512 ![0, 0, 0] (proj X G W) slices_S8x256x1024_S8x256x512_0_0_0) shapeCasts_S8x256x512_S2048x512

/-- The reference's values of the memory. -/
def vals (X : FVec Ideal S8x256x2048 .f32) (G : FVec Ideal S2x2048 .f32) (W : FVec Ideal S2x2048x1024 .f32) :
    FVec Ideal S2048x512 .f32 :=
  shapeCast _ (extractStridedSlice S8x256x512 ![0, 0, 512] (proj X G W) slices_S8x256x1024_S8x256x512_0_0_512) shapeCasts_S8x256x512_S2048x512

/-- The reference's projection at an index: the normalised row times the weight column. -/
theorem proj_at (X : FVec Ideal S8x256x2048 .f32) (G : FVec Ideal S2x2048 .f32) (W : FVec Ideal S2x2048x1024 .f32)
    (b : Fin 8) (s : Fin 256) (l : Fin 1024) :
    proj X G W (ix3 b s l)
      = ∑ x : Fin 2048, X (ix3 b s x)
          * Ideal.rsqrt (Ideal.div (∑ x : Fin 2048, X (ix3 b s x) * X (ix3 b s x)) (Ideal.ofBits FTy.f32 1157627904#32)
              + Ideal.ofBits FTy.f32 897988541#32)
          * G (ix2 0 x) * W (ix3 0 x l) := by
  pointwise [proj]

/-- The reference's keys are the left half of its projection, rows numbered through the batches. -/
theorem keys_at (X : FVec Ideal S8x256x2048 .f32) (G : FVec Ideal S2x2048 .f32) (W : FVec Ideal S2x2048x1024 .f32)
    (r : Fin 2048) (l : Fin 512) :
    keys X G W (ix2 r l) = proj X G W (ix3 ⟨r.val / 256, by omega⟩ ⟨r.val % 256, by omega⟩ ⟨l.val, by omega⟩) := by
  pointwise [keys]

/-- The reference's values are the right half of its projection, rows numbered through the batches. -/
theorem vals_at (X : FVec Ideal S8x256x2048 .f32) (G : FVec Ideal S2x2048 .f32) (W : FVec Ideal S2x2048x1024 .f32)
    (r : Fin 2048) (l : Fin 512) :
    vals X G W (ix2 r l) = proj X G W (ix3 ⟨r.val / 256, by omega⟩ ⟨r.val % 256, by omega⟩ ⟨512 + l.val, by omega⟩) := by
  pointwise [vals]

end Cert.MemKvRefIdeal.Tie

namespace Cert.MemKvIdeal.Tie

open Cert.MemKvIdeal Cert.MemKvIdeal.Gen

variable (m : (ℓ : Loc nD τ sig) → Buf (Elt Ideal) ℓ)

/-- The block that each window has at grid point `t`. -/
theorem idx : ∀ t : Fin cfg0.N, win0_0.index t = ![t.val, 0] ∧ win0_1.index t = ![0, 0, 0]
    ∧ win0_2.index t = ![0, 0, 0] ∧ win0_3.index t = ![t.val, 0] ∧ win0_4.index t = ![t.val, 0] :=
  (by decide +kernel : ∀ t : Fin grid0.N, _)

/-- The body's projection at an index: the normalised row times the weight column. -/
theorem pay1_at (v0 : Vec Ideal S1024x2048 .f32) (v2 : Vec Ideal S1x1x2048 .f32) (v17 : Vec Ideal S1x2048x1024 .f32)
    (r : Fin 1024) (l : Fin 1024) :
    k0_pay1 v0 v2 v17 (ix2 r l)
      = ∑ x : Fin 2048, v0 (ix2 r x)
          * Ideal.rsqrt (Ideal.div (∑ x : Fin 2048, v0 (ix2 r x) * v0 (ix2 r x)) (Ideal.ofBits FTy.f32 1157627904#32)
              + Ideal.ofBits FTy.f32 897988541#32)
          * v2 (ix3 0 0 x) * v17 (ix3 0 x l) := by
  pointwise [k0_pay1]

/-- The block of memory rows at point `t` is rows `1024·t …` of the memory, batch by batch. -/
theorem rows_read (c : Dev nD) (t : Fin cfg0.N) (ht : t.val < 2) (r : Fin 1024) (x : Fin 2048) :
    (show Vec Ideal S1024x2048 .f32 from iblk m c 0 t) (ix2 r x)
      = (show FVec Ideal S8x256x2048 .f32 from m ((c : Thread nD τ).loc main_arg0))
          (ix3 ⟨(t.val * 1024 + r.val) / 256, by omega⟩ ⟨(t.val * 1024 + r.val) % 256, by omega⟩ x) := by
  blk_ext! [iblk, V, idx t]

/-- The block of the normalisation's weights is the first layer's row. -/
theorem gain_read (c : Dev nD) (t : Fin cfg0.N) (x : Fin 2048) :
    (show Vec Ideal S1x1x2048 .f32 from iblk m c 1 t) (ix3 0 0 x)
      = (show FVec Ideal S2x2048 .f32 from m ((c : Thread nD τ).loc main_arg1)) (ix2 0 x) := by
  blk_ext! [iblk, V, idx t]

/-- The block of the projection's weights is the first layer's matrix. -/
theorem weight_read (c : Dev nD) (t : Fin cfg0.N) (x : Fin 2048) (l : Fin 1024) :
    (show Vec Ideal S1x2048x1024 .f32 from iblk m c 2 t) (ix3 0 x l)
      = (show FVec Ideal S2x2048x1024 .f32 from m ((c : Thread nD τ).loc main_arg2)) (ix3 0 x l) := by
  blk_ext! [iblk, V, idx t]

/-- The body's projection of its block, at row `r` and column `l`, is the reference's at that row of the memory. -/
theorem proj_point (c : Dev nD) (t : Fin cfg0.N) (ht : t.val < 2) (r : Fin 1024) (l : Fin 1024) :
    k0_pay1 (show Vec Ideal S1024x2048 .f32 from iblk m c 0 t) (show Vec Ideal S1x1x2048 .f32 from iblk m c 1 t)
        (show Vec Ideal S1x2048x1024 .f32 from iblk m c 2 t) (ix2 r l)
      = Cert.MemKvRefIdeal.Tie.proj (m ((c : Thread nD τ).loc main_arg0)) (m ((c : Thread nD τ).loc main_arg1))
          (m ((c : Thread nD τ).loc main_arg2))
          (ix3 ⟨(t.val * 1024 + r.val) / 256, by omega⟩ ⟨(t.val * 1024 + r.val) % 256, by omega⟩ l) := by
  refine (pay1_at _ _ _ r l).trans (Eq.trans ?_ (Cert.MemKvRefIdeal.Tie.proj_at _ _ _ _ _ l).symm)
  simp only [rows_read m c t ht, gain_read m c t, weight_read m c t]

/-- The keys that the body stores are columns of its projection. -/
theorem pay2_at (v0 : Vec Ideal S1024x2048 .f32) (v2 : Vec Ideal S1x1x2048 .f32) (v17 : Vec Ideal S1x2048x1024 .f32)
    (r : Fin 1024) (l : Fin 512) :
    k0_pay2 v0 v2 v17 (ix2 r l) = k0_pay1 v0 v2 v17 (ix2 r ⟨l.val, by omega⟩) := by
  pointwise [k0_pay2]

/-- The keys' array after the run is the reference's. -/
theorem keys_final (c : Dev nD) : (dats m 0 c).arrAt 3 cfg0.N
    = Cert.MemKvRefIdeal.Tie.keys (m ((c : Thread nD τ).loc main_arg0)) (m ((c : Thread nD τ).loc main_arg1))
        (m ((c : Thread nD τ).loc main_arg2)) := by
  refine (dats m 0 c).arrAt_eq_of_covers 3 _ (by decide +kernel) fun t _ y => ?_
  have ht : t.val < 2 := lt_of_lt_of_eq t.isLt N_0
  have h0 : (y 0).val < 1024 := (y 0).isLt
  have h1 : (y 1).val < 512 := (y 1).isLt
  blk_simp
  rw [after0_3]; frame_out
  refine Eq.trans (b := k0_pay2 (F := Ideal) (iblk m c 0 t) (iblk m c 1 t) (iblk m c 2 t) (ix2 ⟨(y 0).val, h0⟩ ⟨(y 1).val, h1⟩)) ?_ ?_
  · refine congrArg _ ?_
    blk_ext
  refine Eq.trans (b := Cert.MemKvRefIdeal.Tie.keys (m ((c : Thread nD τ).loc main_arg0)) (m ((c : Thread nD τ).loc main_arg1))
    (m ((c : Thread nD τ).loc main_arg2)) (ix2 ⟨t.val * 1024 + (y 0).val, by omega⟩ ⟨(y 1).val, h1⟩)) ?_ ?_
  · rw [pay2_at, Cert.MemKvRefIdeal.Tie.keys_at]
    exact proj_point m c t ht _ _
  · refine congrArg _ ?_
    blk_ext [idx t]

/-- The values that the body stores are columns of its projection. -/
theorem pay3_at (v0 : Vec Ideal S1024x2048 .f32) (v2 : Vec Ideal S1x1x2048 .f32) (v17 : Vec Ideal S1x2048x1024 .f32)
    (r : Fin 1024) (l : Fin 512) :
    k0_pay3 v0 v2 v17 (ix2 r l) = k0_pay1 v0 v2 v17 (ix2 r ⟨512 + l.val, by omega⟩) := by
  pointwise [k0_pay3]

/-- The values' array after the run is the reference's. -/
theorem vals_final (c : Dev nD) : (dats m 0 c).arrAt 4 cfg0.N
    = Cert.MemKvRefIdeal.Tie.vals (m ((c : Thread nD τ).loc main_arg0)) (m ((c : Thread nD τ).loc main_arg1))
        (m ((c : Thread nD τ).loc main_arg2)) := by
  refine (dats m 0 c).arrAt_eq_of_covers 4 _ (by decide +kernel) fun t _ y => ?_
  have ht : t.val < 2 := lt_of_lt_of_eq t.isLt N_0
  have h0 : (y 0).val < 1024 := (y 0).isLt
  have h1 : (y 1).val < 512 := (y 1).isLt
  blk_simp
  rw [after0_4]; frame_out
  refine Eq.trans (b := k0_pay3 (F := Ideal) (iblk m c 0 t) (iblk m c 1 t) (iblk m c 2 t) (ix2 ⟨(y 0).val, h0⟩ ⟨(y 1).val, h1⟩)) ?_ ?_
  · refine congrArg _ ?_
    blk_ext
  refine Eq.trans (b := Cert.MemKvRefIdeal.Tie.vals (m ((c : Thread nD τ).loc main_arg0)) (m ((c : Thread nD τ).loc main_arg1))
    (m ((c : Thread nD τ).loc main_arg2)) (ix2 ⟨t.val * 1024 + (y 0).val, by omega⟩ ⟨(y 1).val, h1⟩)) ?_ ?_
  · rw [pay3_at, Cert.MemKvRefIdeal.Tie.vals_at]
    exact proj_point m c t ht _ _
  · refine congrArg _ ?_
    blk_ext [idx t]

end Cert.MemKvIdeal.Tie

end
-- ==== Proof.MlpTie.lean ====
/-
  The prompt's feed-forward network: the kernel's call against the reference.

  The kernel walks 16 blocks of 1024 rows, and for each block 8 tiles of the hidden dimension.  At the first tile it
  normalises its rows into a scratch, which it keeps for the other tiles; every tile adds its part of the second
  product into the output block, and at the last tile the block is normalised and the input added.  The sum of the
  eight parts is the reference's sum over the whole hidden dimension.
-/
module

public import proofs.«01_k».proof.Proof.Gen.MlpIdeal.Value
public import proofs.«01_k».proof.Proof.Gen.MlpRefIdeal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpRefIdeal.Tie

open Cert.MlpRefIdeal Cert.MlpRefIdeal.Gen

/-- The reference's normalised rows. -/
def hn (X : FVec Ideal S16384x2048 .f32) (G : FVec Ideal S2x2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] G slices_S2x2048_S1x2048_0_0) shapeCasts_S1x2048_S2048)))

/-- The reference's first product. -/
def up (X : FVec Ideal S16384x2048 .f32) (G : FVec Ideal S2x2048 .f32) (U : FVec Ideal S2048x8192 .bf16) : FVec Ideal S16384x8192 .f32 :=
  Host.dotGeneral dot_S16384x2048_S2048x8192_S16384x8192_1_0_0_1_n_n none (hn X G) (extf .f32 U bitsLt_bf16_f32)

/-- The reference's second product, of the squared positive part of the first. -/
def ff (X : FVec Ideal S16384x2048 .f32) (G : FVec Ideal S2x2048 .f32) (U : FVec Ideal S2048x8192 .bf16) (D : FVec Ideal S8192x2048 .bf16) : FVec Ideal S16384x2048 .f32 :=
  Host.dotGeneral dot_S16384x8192_S8192x2048_S16384x2048_1_0_0_1_n_n none (mulf (maximumf (up X G U) (broadcastInDim S16384x8192 ![] bcast_S_S16384x8192 (constant S_ .f32 0x00000000#32))) (maximumf (up X G U) (broadcastInDim S16384x8192 ![] bcast_S_S16384x8192 (constant S_ .f32 0x00000000#32)))) (extf .f32 D bitsLt_bf16_f32)

/-- The reference's result: the input plus the normalised second product. -/
def out (X : FVec Ideal S16384x2048 .f32) (G : FVec Ideal S2x2048 .f32) (U : FVec Ideal S2048x8192 .bf16) (D : FVec Ideal S8192x2048 .bf16) (P : FVec Ideal S2x2048 .f32) : FVec Ideal S16384x2048 .f32 :=
  addf X (mulf (mulf (ff X G U D) (broadcastInDim S16384x2048 ![0, 1] bcast_S16384x1_S16384x2048_0_1 (Host.rsqrt (addf (Host.divf (broadcastInDim S16384x1 ![0] bcast_S16384_S16384x1_0 (Host.reduceAdd (mulf (ff X G U D) (ff X G U D)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] P slices_S2x2048_S1x2048_0_0) shapeCasts_S1x2048_S2048))))

/-- The reference's normalised rows at an index. -/
theorem hn_at (X : FVec Ideal S16384x2048 .f32) (G : FVec Ideal S2x2048 .f32) (R : Fin 16384) (x : Fin 2048) :
    hn X G (ix2 R x) = X (ix2 R x)
        * Ideal.rsqrt (Ideal.div (∑ x : Fin 2048, X (ix2 R x) * X (ix2 R x)) (Ideal.ofBits FTy.f32 1157627904#32)
              + Ideal.ofBits FTy.f32 897988541#32)
        * G (ix2 0 x) := by
  pointwise [hn]

/-- The reference's second product at an index. -/
theorem ff_at (X : FVec Ideal S16384x2048 .f32) (G : FVec Ideal S2x2048 .f32) (U : FVec Ideal S2048x8192 .bf16) (D : FVec Ideal S8192x2048 .bf16) (R : Fin 16384) (l : Fin 2048) :
    ff X G U D (ix2 R l) = ∑ k : Fin 8192,
      max (∑ x : Fin 2048, hn X G (ix2 R x) * U (ix2 x k)) (Ideal.ofBits FTy.f32 0#32)
        * max (∑ x : Fin 2048, hn X G (ix2 R x) * U (ix2 x k)) (Ideal.ofBits FTy.f32 0#32) * D (ix2 k l) := by
  pointwise [ff, up]

/-- The reference's result at an index. -/
theorem out_at (X : FVec Ideal S16384x2048 .f32) (G : FVec Ideal S2x2048 .f32) (U : FVec Ideal S2048x8192 .bf16) (D : FVec Ideal S8192x2048 .bf16) (P : FVec Ideal S2x2048 .f32) (R : Fin 16384) (l : Fin 2048) :
    out X G U D P (ix2 R l) = X (ix2 R l) + ff X G U D (ix2 R l)
        * Ideal.rsqrt (Ideal.div (∑ x : Fin 2048, ff X G U D (ix2 R x) * ff X G U D (ix2 R x))
              (Ideal.ofBits FTy.f32 1157627904#32) + Ideal.ofBits FTy.f32 897988541#32)
        * P (ix2 0 l) := by
  pointwise [out]

end Cert.MlpRefIdeal.Tie

namespace Cert.MlpIdeal.Tie

open Cert.MlpIdeal Cert.MlpIdeal.Gen

variable (m : (ℓ : Loc nD τ sig) → Buf (Elt Ideal) ℓ)

/-- The block that each window has at grid point `t`. -/
theorem idx : ∀ t : Fin cfg0.N, win0_0.index t = ![t.val / 8, 0] ∧ win0_1.index t = ![0, 0, 0]
    ∧ win0_2.index t = ![0, t.val % 8] ∧ win0_3.index t = ![t.val % 8, 0] ∧ win0_4.index t = ![0, 0, 0]
    ∧ win0_5.index t = ![t.val / 8, 0] :=
  (by decide +kernel : ∀ t : Fin grid0.N, _)

/-- The body's normalised rows at an index. -/
theorem pay1_at (v0 : Vec Ideal S1024x2048 .f32) (v2 : Vec Ideal S1x1x2048 .f32) (r : Fin 1024) (x : Fin 2048) :
    k0_pay1 v0 v2 (ix2 r x) = v0 (ix2 r x)
          * Ideal.rsqrt (Ideal.div (∑ x : Fin 2048, v0 (ix2 r x) * v0 (ix2 r x)) (Ideal.ofBits FTy.f32 1157627904#32)
              + Ideal.ofBits FTy.f32 897988541#32)
          * v2 (ix3 0 0 x) := by
  pointwise [k0_pay1]

/-- One tile's part of the second product at an index. -/
theorem pay2_at (u : Vec Ideal S2048x1024 .bf16) (d : Vec Ideal S1024x2048 .bf16) (h : Vec Ideal S1024x2048 .bf16)
    (r : Fin 1024) (l : Fin 2048) :
    k0_pay2 u d h (ix2 r l) = ∑ k : Fin 1024,
      max (∑ x : Fin 2048, h (ix2 r x) * u (ix2 x k)) (Ideal.ofBits FTy.f32 0#32)
        * max (∑ x : Fin 2048, h (ix2 r x) * u (ix2 x k)) (Ideal.ofBits FTy.f32 0#32) * d (ix2 k l) := by
  pointwise [k0_pay2]

/-- A middle tile adds its part to what the block holds. -/
theorem pay3_at (u : Vec Ideal S2048x1024 .bf16) (d : Vec Ideal S1024x2048 .bf16) (h : Vec Ideal S1024x2048 .bf16)
    (acc : Vec Ideal S1024x2048 .f32) (r : Fin 1024) (l : Fin 2048) :
    k0_pay3 u d h acc (ix2 r l) = acc (ix2 r l) + k0_pay2 u d h (ix2 r l) := by
  pointwise [k0_pay3, k0_pay2]

/-- The last tile adds its part to what the block holds. -/
theorem pay4_at (u : Vec Ideal S2048x1024 .bf16) (d : Vec Ideal S1024x2048 .bf16) (h : Vec Ideal S1024x2048 .bf16)
    (acc : Vec Ideal S1024x2048 .f32) (r : Fin 1024) (l : Fin 2048) :
    k0_pay4 u d h acc (ix2 r l) = acc (ix2 r l) + k0_pay2 u d h (ix2 r l) := by
  pointwise [k0_pay4, k0_pay2]

/-- The block that is written back: the input plus the normalised sum. -/
theorem pay5_at (v : Vec Ideal S1024x2048 .f32) (acc : Vec Ideal S1024x2048 .f32) (g : Vec Ideal S1x1x2048 .f32)
    (r : Fin 1024) (l : Fin 2048) :
    k0_pay5 v acc g (ix2 r l) = v (ix2 r l) + acc (ix2 r l)
        * Ideal.rsqrt (Ideal.div (∑ x : Fin 2048, acc (ix2 r x) * acc (ix2 r x))
              (Ideal.ofBits FTy.f32 1157627904#32) + Ideal.ofBits FTy.f32 897988541#32)
        * g (ix3 0 0 l) := by
  pointwise [k0_pay5]

/-- The block of rows at point `t` is rows `1024·(t/8) …` of the input. -/
theorem rows_read (c : Dev nD) (t : Fin cfg0.N) (ht : t.val < 128) (r : Fin 1024) (x : Fin 2048) :
    (show Vec Ideal S1024x2048 .f32 from iblk m c 0 t) (ix2 r x)
      = (show FVec Ideal S16384x2048 .f32 from m ((c : Thread nD τ).loc main_arg0))
          (ix2 ⟨t.val / 8 * 1024 + r.val, by omega⟩ x) := by
  blk_ext! [iblk, V, idx t]

/-- The first normalisation's weights are the first layer's row. -/
theorem pre_read (c : Dev nD) (t : Fin cfg0.N) (x : Fin 2048) :
    (show Vec Ideal S1x1x2048 .f32 from iblk m c 1 t) (ix3 0 0 x)
      = (show FVec Ideal S2x2048 .f32 from m ((c : Thread nD τ).loc main_arg1)) (ix2 0 x) := by
  blk_ext! [iblk, V, idx t]

/-- The first matrix's tile at point `t` is its columns `1024·(t%8) …`. -/
theorem up_read (c : Dev nD) (t : Fin cfg0.N) (x : Fin 2048) (k : Fin 1024) :
    (show Vec Ideal S2048x1024 .bf16 from iblk m c 2 t) (ix2 x k)
      = (show FVec Ideal S2048x8192 .bf16 from m ((c : Thread nD τ).loc main_arg2))
          (ix2 x ⟨t.val % 8 * 1024 + k.val, by omega⟩) := by
  blk_ext! [iblk, V, idx t]

/-- The second matrix's tile at point `t` is its rows `1024·(t%8) …`. -/
theorem down_read (c : Dev nD) (t : Fin cfg0.N) (k : Fin 1024) (l : Fin 2048) :
    (show Vec Ideal S1024x2048 .bf16 from iblk m c 3 t) (ix2 k l)
      = (show FVec Ideal S8192x2048 .bf16 from m ((c : Thread nD τ).loc main_arg3))
          (ix2 ⟨t.val % 8 * 1024 + k.val, by omega⟩ l) := by
  blk_ext! [iblk, V, idx t]

/-- The second normalisation's weights are the first layer's row. -/
theorem post_read (c : Dev nD) (t : Fin cfg0.N) (x : Fin 2048) :
    (show Vec Ideal S1x1x2048 .f32 from iblk m c 4 t) (ix3 0 0 x)
      = (show FVec Ideal S2x2048 .f32 from m ((c : Thread nD τ).loc main_arg4)) (ix2 0 x) := by
  blk_ext! [iblk, V, idx t]

/-- The normalised rows of the block at point `t` are the reference's. -/
theorem norm_point (c : Dev nD) (t : Fin cfg0.N) (ht : t.val < 128) (r : Fin 1024) (x : Fin 2048) :
    k0_pay1 (F := Ideal) (iblk m c 0 t) (iblk m c 1 t) (ix2 r x)
      = Cert.MlpRefIdeal.Tie.hn (m ((c : Thread nD τ).loc main_arg0)) (m ((c : Thread nD τ).loc main_arg1))
          (ix2 ⟨t.val / 8 * 1024 + r.val, by omega⟩ x) := by
  refine (pay1_at _ _ r x).trans (Eq.trans ?_ (Cert.MlpRefIdeal.Tie.hn_at _ _ _ x).symm)
  simp only [rows_read m c t ht, pre_read m c t]

/-- What the scratch holds after the first tile of a block. -/
theorem scratch_reset (c : Dev nD) (t : Fin cfg0.N) (h : t.val % 8 = 0) :
    (outsAt0 m c t.val t.isLt).2 = k0_pay1 (F := Ideal) (iblk m c 0 t) (iblk m c 1 t) := by
  rw [outsAt0_A m c t h (by omega) (by omega)]; frame_out

/-- The other tiles leave the scratch as it is. -/
theorem scratch_step (c : Dev nD) (t : Fin cfg0.N) (h : ¬t.val % 8 = 0) :
    (outsAt0 m c t.val t.isLt).2
      = (outsAt0 m c (t.val - 1) (Nat.lt_of_le_of_lt (Nat.sub_le _ _) t.isLt)).2 := by
  by_cases h7 : t.val % 8 = 7
  · rw [outsAt0_C m c t h (by omega) h7]; rfl
  · rw [outsAt0_B m c t h (by omega) h7]; rfl

/-- The scratch holds the reference's normalised rows at every point. -/
theorem scratch (c : Dev nD) (t : Fin cfg0.N) (ht : t.val < 128) (r : Fin 1024) (x : Fin 2048) :
    (outsAt0 m c t.val t.isLt).2 (ix2 r x)
      = Cert.MlpRefIdeal.Tie.hn (m ((c : Thread nD τ).loc main_arg0)) (m ((c : Thread nD τ).loc main_arg1))
          (ix2 ⟨t.val / 8 * 1024 + r.val, by omega⟩ x) := by
  have h := Pipeline.eq_of_write_hold_apply (fun n h => (outsAt0 m c n h).2) 8
    (fun t => k0_pay1 (F := Ideal) (iblk m c 0 t) (iblk m c 1 t))
    (fun t h i => congrFun (scratch_reset m c t h) i) (fun t h i => congrFun (scratch_step m c t h) i) t (ix2 r x)
  refine h.trans ((norm_point m c _ (by show 8 * (t.val / 8) < 128; omega) r x).trans ?_)
  refine congrArg _ (congrArg (fun a => ix2 a x) (Fin.ext ?_))
  show 8 * (t.val / 8) / 8 * 1024 + r.val = t.val / 8 * 1024 + r.val
  omega

/-- The part of the second product that point `t` adds. -/
def part (c : Dev nD) (t : Fin cfg0.N) : Vec Ideal S1024x2048 .f32 :=
  k0_pay2 (F := Ideal) (iblk m c 2 t) (iblk m c 3 t) (outsAt0 m c t.val t.isLt).2

/-- The block's running sum after point `n`: what the block holds, and at the last tile the sum before it is normalised. -/
def run (c : Dev nD) (n : ℕ) (hn : n < cfg0.N) : Vec Ideal S1024x2048 .f32 :=
  if n % 8 = 7 then k0_pay4 (F := Ideal) (iblk m c 2 ⟨n, hn⟩) (iblk m c 3 ⟨n, hn⟩) (outsAt0 m c n hn).2
    (outsAt0 m c (n - 1) (Nat.lt_of_le_of_lt (Nat.sub_le _ _) hn)).1
  else (outsAt0 m c n hn).1

theorem run_reset (c : Dev nD) (t : Fin cfg0.N) (h : t.val % 8 = 0) :
    run m c t.val t.isLt = part m c t := by
  unfold run part
  rw [if_neg (by omega), scratch_reset m c t h, outsAt0_A m c t h (by omega) (by omega)]; frame_out

theorem run_step (c : Dev nD) (t : Fin cfg0.N) (h : ¬t.val % 8 = 0) (r : Fin 1024) (l : Fin 2048) :
    run m c t.val t.isLt (ix2 r l)
      = run m c (t.val - 1) (Nat.lt_of_le_of_lt (Nat.sub_le _ _) t.isLt) (ix2 r l) + part m c t (ix2 r l) := by
  unfold run part
  rw [if_neg (c := (t.val - 1) % 8 = 7) (by omega)]
  by_cases h7 : t.val % 8 = 7
  · rw [if_pos h7]; exact pay4_at _ _ _ _ r l
  · rw [if_neg h7, scratch_step m c t h, outsAt0_B m c t h (by omega) h7]
    refine Eq.trans ?_ (pay3_at _ _ _ _ r l)
    refine congrFun ?_ _
    frame_out
    rw [read_unread_whole]

/-- At the last tile the block that is written back is the normalised running sum with the input added. -/
theorem block_last (c : Dev nD) (t : Fin cfg0.N) (h : t.val % 8 = 7) :
    (outsAt0 m c t.val t.isLt).1 = k0_pay5 (F := Ideal) (iblk m c 0 t) (run m c t.val t.isLt) (iblk m c 4 t) := by
  unfold run
  rw [if_pos h, scratch_step m c t (by omega), outsAt0_C m c t (by omega) (by omega) h]; frame_out
  rw [read_unread_whole]

/-- The part that point `t` adds, as the reference's sum over one tile of the hidden dimension. -/
theorem part_at (c : Dev nD) (t : Fin cfg0.N) (ht : t.val < 128) (r : Fin 1024) (l : Fin 2048) :
    part m c t (ix2 r l) = ∑ k : Fin 1024,
      max (∑ x : Fin 2048, Cert.MlpRefIdeal.Tie.hn (m ((c : Thread nD τ).loc main_arg0)) (m ((c : Thread nD τ).loc main_arg1))
            (ix2 ⟨t.val / 8 * 1024 + r.val, by omega⟩ x)
          * (show FVec Ideal S2048x8192 .bf16 from m ((c : Thread nD τ).loc main_arg2))
              (ix2 x ⟨t.val % 8 * 1024 + k.val, by omega⟩)) (Ideal.ofBits FTy.f32 0#32)
        * max (∑ x : Fin 2048, Cert.MlpRefIdeal.Tie.hn (m ((c : Thread nD τ).loc main_arg0)) (m ((c : Thread nD τ).loc main_arg1))
            (ix2 ⟨t.val / 8 * 1024 + r.val, by omega⟩ x)
          * (show FVec Ideal S2048x8192 .bf16 from m ((c : Thread nD τ).loc main_arg2))
              (ix2 x ⟨t.val % 8 * 1024 + k.val, by omega⟩)) (Ideal.ofBits FTy.f32 0#32)
        * (show FVec Ideal S8192x2048 .bf16 from m ((c : Thread nD τ).loc main_arg3))
              (ix2 ⟨t.val % 8 * 1024 + k.val, by omega⟩ l) := by
  refine (pay2_at _ _ _ r l).trans ?_
  simp only [scratch m c t ht, up_read m c t, down_read m c t]

/-- At the last tile the running sum is the reference's second product. -/
theorem run_last (c : Dev nD) (t : Fin cfg0.N) (ht : t.val < 128) (h : t.val % 8 = 7) (r : Fin 1024) (l : Fin 2048) :
    run m c t.val t.isLt (ix2 r l)
      = Cert.MlpRefIdeal.Tie.ff (m ((c : Thread nD τ).loc main_arg0)) (m ((c : Thread nD τ).loc main_arg1))
          (m ((c : Thread nD τ).loc main_arg2)) (m ((c : Thread nD τ).loc main_arg3))
          (ix2 ⟨t.val / 8 * 1024 + r.val, by omega⟩ l) := by
  have hs := Pipeline.eq_sum_fin_of_reset_step_apply_of_flush (fun n hn (i : Fin 1024 × Fin 2048) => run m c n hn (ix2 i.1 i.2)) 8 (fun _ => (0 : EReal))
    (fun t i => part m c t (ix2 i.1 i.2))
    (fun t h i => by rw [run_reset m c t h, zero_add]) (fun t h i => run_step m c t h i.1 i.2) t h (r, l)
  refine hs.trans ((zero_add _).trans ?_)
  refine Eq.trans ?_ (Cert.MlpRefIdeal.Tie.ff_at _ _ _ _ _ l).symm
  refine (Finset.sum_congr rfl fun s _ => part_at m c ⟨8 * (t.val / 8) + s.val, _⟩ (by show 8 * (t.val / 8) + s.val < 128; omega) r l).trans ?_
  refine Fin.sum_mul_add_congr fun s k hl => ?_
  have e1 : (8 * (t.val / 8) + s.val) / 8 = t.val / 8 := by omega
  have e2 : (8 * (t.val / 8) + s.val) % 8 = s.val := by omega
  simp only [e1, e2]

/-- The result's array after the run is the reference's. -/
theorem final (c : Dev nD) : (dats m 0 c).arrAt 5 cfg0.N
    = Cert.MlpRefIdeal.Tie.out (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 128 := lt_of_lt_of_eq t.isLt N_0
  have h7 : t.val % 8 = 7 := (flush0_5 t).mp hf
  have h0 : (y 0).val < 1024 := (y 0).isLt
  have h1 : (y 1).val < 2048 := (y 1).isLt
  blk_simp
  rw [after0_5, block_last m c t h7]
  refine Eq.trans (b := k0_pay5 (F := Ideal) (iblk m c 0 t) (run m c t.val t.isLt) (iblk m c 4 t) (ix2 ⟨(y 0).val, h0⟩ ⟨(y 1).val, h1⟩)) ?_ ?_
  · refine congrArg _ ?_
    blk_ext
  refine Eq.trans (b := Cert.MlpRefIdeal.Tie.out (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val / 8 * 1024 + (y 0).val, by omega⟩ ⟨(y 1).val, h1⟩)) ?_ ?_
  · refine (pay5_at _ _ _ _ _).trans (Eq.trans ?_ (Cert.MlpRefIdeal.Tie.out_at _ _ _ _ _ _ _).symm)
    simp only [rows_read m c t ht, post_read m c t, run_last m c t ht h7]
  · refine congrArg _ ?_
    blk_ext [idx t]

end Cert.MlpIdeal.Tie

end
-- ==== Proof.MixerBase.lean ====
module

public import proofs.«01_k».proof.Proof.Gen.MixerIdeal.Value
public import Idealize.ShloMosaic.Lib.Pipeline.ValueKit
public import Idealize.ShloMosaic.Lib.WholeRead
public import Idealize.ShloMosaic.Lib.Pipeline.ReadBack

@[expose] public section

set_option maxRecDepth 16384

noncomputable section

open Idealize.ShloMosaic Idealize.ShloMosaic.TcCoe Idealize.SL.Sem

namespace Cert.MixerIdeal.Tie

open Idealize.ShloMosaic.Pipeline (Dat)

/-- Two indices of rank three are equal when their coordinates are. -/
theorem eq3 {d : Fin 3 → Nat} {x y : Shape.Idx ⟨3, d⟩} (h0 : (x 0).val = (y 0).val) (h1 : (x 1).val = (y 1).val)
    (h2 : (x 2).val = (y 2).val) : x = y :=
  funext fun i => Fin.ext (by fin_cases i <;> assumption)

/-- Two indices of rank two are equal when their coordinates are. -/
theorem eq2 {d : Fin 2 → Nat} {x y : Shape.Idx ⟨2, d⟩} (h0 : (x 0).val = (y 0).val) (h1 : (x 1).val = (y 1).val) : x = y :=
  funext fun i => Fin.ext (by fin_cases i <;> assumption)

/-- An index of rank two is made of its coordinates. -/
theorem ix2_cases {a b : Nat} (x : Shape.Idx ⟨2, ![a, b]⟩) : ∃ (i : Fin a) (j : Fin b), x = ix2 i j :=
  ⟨x 0, x 1, eq2 rfl rfl⟩

/-- An index of rank three is made of its coordinates. -/
theorem ix3_cases {a b d : Nat} (x : Shape.Idx ⟨3, ![a, b, d]⟩) : ∃ (i : Fin a) (j : Fin b) (k : Fin d), x = ix3 i j k :=
  ⟨x 0, x 1, x 2, eq3 rfl rfl rfl⟩

/-- An index of rank four is made of its coordinates. -/
theorem ix4_cases {a b d e : Nat} (x : Shape.Idx ⟨4, ![a, b, d, e]⟩) : ∃ (i : Fin a) (j : Fin b) (k : Fin d) (l : Fin e), x = ix4 i j k l :=
  ⟨x 0, x 1, x 2, x 3, funext fun i => by fin_cases i <;> rfl⟩

/-- Choosing by `l < 64`. -/
theorem sel_low (l : Fin 128) (a b : EReal) :
    Scalar.select (IntOp.cmpi CmpIPredicate.slt (BitVec.ofNat 32 l.val) 64#32) a b = if l.val < 64 then a else b := by
  rw [(by decide +kernel : ∀ l : Fin 128, IntOp.cmpi CmpIPredicate.slt (BitVec.ofNat 32 l.val) 64#32 = if l.val < 64 then 1#1 else 0#1) l]
  split <;> rfl

/-- A store through a page lifted by a leading axis of one, read back at a point: the payload there. -/
theorem pay_page {A R C o1 o2 o3 : Nat} (i2 : ∀ a, (![o1, o2, o3] : Fin 3 → Nat) a + (![1, R, C] : Fin 3 → Nat) a ≤ (⟨3, ![A, R, C]⟩ : Shape).size a)
    (h0 : (![1, A, R, C] : Fin 4 → Nat) 0 = 1) (hs : ∀ i : Fin 3, (![1, A, R, C] : Fin 4 → Nat) i.succ = (⟨3, ![A, R, C]⟩ : Shape).size i)
    (hR : ((Rect.unit (s := ⟨3, ![A, R, C]⟩) ![o1, o2, o3] ![1, R, C] i2).consLift ![1, A, R, C] h0 hs).shape.numel
      = (Rect.unit (s := ⟨3, ![A, R, C]⟩) ![o1, o2, o3] ![1, R, C] i2).shape.numel)
    (pay : Shape.Idx ⟨3, ![1, R, C]⟩ → Elt Ideal .f32) (i : Fin 1) (j : Fin 1) (t : Fin R) (l : Fin C) :
    Rect.payAlong hR pay (ix4 i j t l : Shape.Idx ⟨4, ![1, 1, R, C]⟩) = pay (ix3 j t l) :=
  Rect.payAlong_consLift _ _ _ _ pay hR (ix4 i j t l : Shape.Idx ⟨4, ![1, 1, R, C]⟩) (ix3 j t l : Shape.Idx ⟨3, ![1, R, C]⟩)
    (fun i => match i with | ⟨0, _⟩ => rfl | ⟨1, _⟩ => rfl | ⟨2, _⟩ => rfl)

/-- A store of a page of the first layer of a kept state agrees with `E` when its payload does. -/
theorem state_piece {A R C b : Nat} (i1 : ∀ a, (![0, 0, 0, 0] : Fin 4 → Nat) a + (![1, A, R, C] : Fin 4 → Nat) a ≤ (⟨4, ![2, A, R, C]⟩ : Shape).size a)
    (i2 : ∀ a, (![b, 0, 0] : Fin 3 → Nat) a + (![1, R, C] : Fin 3 → Nat) a ≤ (⟨3, ![A, R, C]⟩ : Shape).size a)
    (h0 : (![1, A, R, C] : Fin 4 → Nat) 0 = 1) (hs : ∀ i : Fin 3, (![1, A, R, C] : Fin 4 → Nat) i.succ = (⟨3, ![A, R, C]⟩ : Shape).size i)
    (h1 : ∀ a, (Rect.unit (s := ⟨4, ![2, A, R, C]⟩) ![0, 0, 0, 0] ![1, A, R, C] i1).stride a = 1)
    (hR : ((Rect.unit (s := ⟨3, ![A, R, C]⟩) ![b, 0, 0] ![1, R, C] i2).consLift ![1, A, R, C] h0 hs).shape.numel
      = (Rect.unit (s := ⟨3, ![A, R, C]⟩) ![b, 0, 0] ![1, R, C] i2).shape.numel)
    (pay : Shape.Idx ⟨3, ![1, R, C]⟩ → Elt Ideal .f32) (E : Fin 2 → Fin A → Fin R → Fin C → EReal)
    (hE : ∀ (t : Fin R) (l : Fin C) (hb : b < A), pay (ix3 (0 : Fin 1) t l) = E 0 ⟨b, hb⟩ t l) :
    ∀ x, (⟨(Rect.unit (s := ⟨4, ![2, A, R, C]⟩) ![0, 0, 0, 0] ![1, A, R, C] i1).within
        ((Rect.unit (s := ⟨3, ![A, R, C]⟩) ![b, 0, 0] ![1, R, C] i2).consLift ![1, A, R, C] h0 hs) h1, Rect.payAlong hR pay⟩
          : View.Piece (Elt Ideal) ⟨4, ![2, A, R, C]⟩ .f32).2 x
      = (fun y : Shape.Idx ⟨4, ![2, A, R, C]⟩ => E (y 0) (y 1) (y 2) (y 3))
        (((Rect.unit (s := ⟨4, ![2, A, R, C]⟩) ![0, 0, 0, 0] ![1, A, R, C] i1).within
          ((Rect.unit (s := ⟨3, ![A, R, C]⟩) ![b, 0, 0] ![1, R, C] i2).consLift ![1, A, R, C] h0 hs) h1).emb x) := by
  intro x
  obtain ⟨i, j, t, l, rfl⟩ := ix4_cases (a := 1) (b := 1) (d := R) (e := C) x
  obtain rfl : i = 0 := Subsingleton.elim _ _
  obtain rfl : j = 0 := Subsingleton.elim _ _
  have hb : b < A := by have := i2 0; exact Nat.lt_of_succ_le this
  refine (pay_page i2 h0 hs hR pay 0 0 t l).trans ((hE t l hb).trans ?_)
  refine congr (congr (congr (congrArg E ?_) ?_) ?_) ?_ <;> refine Fin.ext ?_
  · rfl
  · show b = 0 + b + 1 * 0; omega
  · show t.val = 0 + 0 + 1 * t.val; omega
  · show l.val = 0 + 0 + 1 * l.val; omega

section pages

variable {B R C h r0 b : Nat}

/-- A squeezed store into page `b`, rows `r0 .. r0 + h`: its value is found at the indices of that band. -/
theorem canon_hit (i1 : ∀ a, (![b, 0, 0] : Fin 3 → Nat) a + (![1, R, C] : Fin 3 → Nat) a ≤ (⟨3, ![B, R, C]⟩ : Shape).size a)
    (i2 : ∀ a, (![r0, 0] : Fin 2 → Nat) a + (![h, C] : Fin 2 → Nat) a ≤ (⟨2, ![R, C]⟩ : Shape).size a)
    (h0 : (![1, R, C] : Fin 3 → Nat) 0 = 1) (hs : ∀ i : Fin 2, (![1, R, C] : Fin 3 → Nat) i.succ = (![R, C] : Fin 2 → Nat) i)
    (h1 : ∀ a, (Rect.unit (s := ⟨3, ![B, R, C]⟩) ![b, 0, 0] ![1, R, C] i1).stride a = 1)
    (hR : ((Rect.unit (s := ⟨2, ![R, C]⟩) ![r0, 0] ![h, C] i2).consLift ![1, R, C] h0 hs).shape.numel
      = (Rect.unit (s := ⟨2, ![R, C]⟩) ![r0, 0] ![h, C] i2).shape.numel)
    (pay : Shape.Idx ⟨2, ![h, C]⟩ → Elt Ideal .f32) (L : List (View.Piece (Elt Ideal) ⟨3, ![B, R, C]⟩ .f32))
    (k : Fin B) (r : Fin R) (c : Fin C) (hk : k.val = b) (hr : r0 ≤ r.val) (hr' : r.val - r0 < h) :
    View.canon (⟨(Rect.unit (s := ⟨3, ![B, R, C]⟩) ![b, 0, 0] ![1, R, C] i1).within
        ((Rect.unit (s := ⟨2, ![R, C]⟩) ![r0, 0] ![h, C] i2).consLift ![1, R, C] h0 hs) h1, Rect.payAlong hR pay⟩ :: L) (ix3 k r c)
      = pay (ix2 ⟨r.val - r0, hr'⟩ c) := by
  have e : (ix3 k r c : Shape.Idx ⟨3, ![B, R, C]⟩) = ((Rect.unit (s := ⟨3, ![B, R, C]⟩) ![b, 0, 0] ![1, R, C] i1).within
        ((Rect.unit (s := ⟨2, ![R, C]⟩) ![r0, 0] ![h, C] i2).consLift ![1, R, C] h0 hs) h1).emb
        (ix3 (⟨0, Nat.one_pos⟩ : Fin 1) (⟨r.val - r0, hr'⟩ : Fin h) c : Shape.Idx ⟨3, ![1, h, C]⟩) := by
    refine eq3 ?_ ?_ ?_
    · show k.val = b + 0 + 1 * 0; omega
    · show r.val = 0 + r0 + 1 * (r.val - r0); omega
    · show c.val = 0 + 0 + 1 * c.val; omega
  rw [e]
  refine (View.canon_cons_emb _ _ _ _).trans ?_
  exact Rect.payAlong_consLift _ _ _ _ _ _ _ _ (fun i => by fin_cases i <;> rfl)

/-- and off that band, the earlier stores count. -/
theorem canon_miss (i1 : ∀ a, (![b, 0, 0] : Fin 3 → Nat) a + (![1, R, C] : Fin 3 → Nat) a ≤ (⟨3, ![B, R, C]⟩ : Shape).size a)
    (i2 : ∀ a, (![r0, 0] : Fin 2 → Nat) a + (![h, C] : Fin 2 → Nat) a ≤ (⟨2, ![R, C]⟩ : Shape).size a)
    (h0 : (![1, R, C] : Fin 3 → Nat) 0 = 1) (hs : ∀ i : Fin 2, (![1, R, C] : Fin 3 → Nat) i.succ = (![R, C] : Fin 2 → Nat) i)
    (h1 : ∀ a, (Rect.unit (s := ⟨3, ![B, R, C]⟩) ![b, 0, 0] ![1, R, C] i1).stride a = 1)
    (hR : ((Rect.unit (s := ⟨2, ![R, C]⟩) ![r0, 0] ![h, C] i2).consLift ![1, R, C] h0 hs).shape.numel
      = (Rect.unit (s := ⟨2, ![R, C]⟩) ![r0, 0] ![h, C] i2).shape.numel)
    (pay : Shape.Idx ⟨2, ![h, C]⟩ → Elt Ideal .f32) (L : List (View.Piece (Elt Ideal) ⟨3, ![B, R, C]⟩ .f32))
    (k : Fin B) (r : Fin R) (c : Fin C) (hk : k.val ≠ b ∨ r.val < r0 ∨ r0 + h ≤ r.val) :
    View.canon (⟨(Rect.unit (s := ⟨3, ![B, R, C]⟩) ![b, 0, 0] ![1, R, C] i1).within
        ((Rect.unit (s := ⟨2, ![R, C]⟩) ![r0, 0] ![h, C] i2).consLift ![1, R, C] h0 hs) h1, Rect.payAlong hR pay⟩ :: L) (ix3 k r c)
      = View.canon L (ix3 k r c) := by
  refine View.canon_cons_of_not_mem _ _ fun hm => ?_
  have h0' := (LoadRect.mem_set _ |>.mp hm) 0
  have h1' := (LoadRect.mem_set _ |>.mp hm) 1
  obtain ⟨j, hj, e⟩ := h0'
  obtain ⟨j', hj', e'⟩ := h1'
  change j < 1 at hj
  change k.val = b + 0 + 1 * j at e
  change j' < h at hj'
  change r.val = 0 + r0 + 1 * j' at e'
  omega

/-- A squeezed load of page `b` of a buffer held as a list of stores, at rows `r0 ..` and columns `c0 ..`. -/
theorem load_page {sig : RefSig} {κ : Kind} {sp : Space} (v : View sig κ sp ⟨3, ![B, R, C]⟩ .f32) (L : List (View.Piece (Elt Ideal) ⟨3, ![B, R, C]⟩ .f32)) {c0 w : Nat}
    (i1 : ∀ a, (![b, 0, 0] : Fin 3 → Nat) a + (![1, R, C] : Fin 3 → Nat) a ≤ (⟨3, ![B, R, C]⟩ : Shape).size a)
    (i2 : ∀ a, (![r0, c0] : Fin 2 → Nat) a + (![h, w] : Fin 2 → Nat) a ≤ (⟨2, ![R, C]⟩ : Shape).size a)
    (h0 : (![1, R, C] : Fin 3 → Nat) 0 = 1) (hs : ∀ i : Fin 2, (![1, R, C] : Fin 3 → Nat) i.succ = (![R, C] : Fin 2 → Nat) i)
    (h1 : ∀ a, (Rect.unit (s := ⟨3, ![B, R, C]⟩) ![b, 0, 0] ![1, R, C] i1).stride a = 1)
    (hR : (Rect.unit (s := ⟨2, ![R, C]⟩) ![r0, c0] ![h, w] i2).toLoadRect.shape.numel
      = ((Rect.unit (s := ⟨3, ![B, R, C]⟩) ![b, 0, 0] ![1, R, C] i1).withinL
        ((Rect.unit (s := ⟨2, ![R, C]⟩) ![r0, c0] ![h, w] i2).toLoadRect.consLift ![1, R, C] h0 hs) h1).shape.numel) (r : Fin h) (c : Fin w) :
    LoadRect.valAlong (lr := (Rect.unit (s := ⟨2, ![R, C]⟩) ![r0, c0] ![h, w] i2).toLoadRect) hR (v.readCov L ((Rect.unit (s := ⟨3, ![B, R, C]⟩) ![b, 0, 0] ![1, R, C] i1).withinL
        ((Rect.unit (s := ⟨2, ![R, C]⟩) ![r0, c0] ![h, w] i2).toLoadRect.consLift ![1, R, C] h0 hs) h1)) (ix2 r c)
      = View.canon L (ix3 ⟨b, i1 0⟩ ⟨r0 + r.val, lt_of_lt_of_le (Nat.add_lt_add_left r.isLt _) (i2 0)⟩
          ⟨c0 + c.val, lt_of_lt_of_le (Nat.add_lt_add_left c.isLt _) (i2 1)⟩) := by
  rw [View.readCov_eq_canon']
  refine congrArg (View.canon L) ?_
  have e : Shape.reshapeEquiv hR (ix2 r c) = (ix3 (⟨0, Nat.one_pos⟩ : Fin 1) r c : Shape.Idx ⟨3, ![1, h, w]⟩) :=
    (Shape.reshapeEquiv_cons_one (d := ![h, w]) hR (ix2 r c)).trans (eq3 rfl rfl rfl)
  rw [e]
  refine eq3 ?_ ?_ ?_
  · show b + 0 + 1 * 0 = b; omega
  · show 0 + r0 + 1 * r.val = r0 + r.val; omega
  · show 0 + c0 + 1 * c.val = c0 + c.val; omega

end pages

/-- A load from a whole buffer of rank 2, read at an index: the buffer's value at that index moved by the load's offsets. -/
theorem ld2 {sg : RefSig} {κ : Kind} {sp : Space} {et : EltTy} {D0 D1 h0 h1 o0 o1 : Nat} (m : Memref sg κ sp ⟨2, ![D0, D1]⟩ et) (hm : m.IsWhole)
    (X : Shape.Idx ⟨2, ![D0, D1]⟩ → Elt Ideal et)
    (inb : ∀ a, (![o0, o1] : Fin 2 → Nat) a + (![h0, h1] : Fin 2 → Nat) a ≤ (⟨2, ![D0, D1]⟩ : Shape).size a) (i : Fin h0) (j : Fin h1) :
    View.readAt (Elt Ideal) m.view (Rect.unit (s := ⟨2, ![D0, D1]⟩) ![o0, o1] ![h0, h1] inb).toLoadRect (hm.unread X) (ix2 i j)
      = X (ix2 ⟨o0 + i.val, lt_of_lt_of_le (Nat.add_lt_add_left i.isLt _) (inb 0)⟩ ⟨o1 + j.val, lt_of_lt_of_le (Nat.add_lt_add_left j.isLt _) (inb 1)⟩) :=
  (hm.readAt_unread X _ _).trans (congrArg X (funext fun a => Fin.ext (by
    fin_cases a <;> [(show o0 + 1 * i.val = o0 + i.val; omega); (show o1 + 1 * j.val = o1 + j.val; omega)])))

/-- A load from a whole buffer of rank 3, read at an index: the buffer's value at that index moved by the load's offsets. -/
theorem ld3 {sg : RefSig} {κ : Kind} {sp : Space} {et : EltTy} {D0 D1 D2 h0 h1 h2 o0 o1 o2 : Nat} (m : Memref sg κ sp ⟨3, ![D0, D1, D2]⟩ et) (hm : m.IsWhole)
    (X : Shape.Idx ⟨3, ![D0, D1, D2]⟩ → Elt Ideal et)
    (inb : ∀ a, (![o0, o1, o2] : Fin 3 → Nat) a + (![h0, h1, h2] : Fin 3 → Nat) a ≤ (⟨3, ![D0, D1, D2]⟩ : Shape).size a) (i : Fin h0) (j : Fin h1) (k : Fin h2) :
    View.readAt (Elt Ideal) m.view (Rect.unit (s := ⟨3, ![D0, D1, D2]⟩) ![o0, o1, o2] ![h0, h1, h2] inb).toLoadRect (hm.unread X) (ix3 i j k)
      = X (ix3 ⟨o0 + i.val, lt_of_lt_of_le (Nat.add_lt_add_left i.isLt _) (inb 0)⟩ ⟨o1 + j.val, lt_of_lt_of_le (Nat.add_lt_add_left j.isLt _) (inb 1)⟩ ⟨o2 + k.val, lt_of_lt_of_le (Nat.add_lt_add_left k.isLt _) (inb 2)⟩) :=
  (hm.readAt_unread X _ _).trans (congrArg X (funext fun a => Fin.ext (by
    fin_cases a <;> [(show o0 + 1 * i.val = o0 + i.val; omega); (show o1 + 1 * j.val = o1 + j.val; omega); (show o2 + 1 * k.val = o2 + k.val; omega)])))

/-- A load from a whole buffer of rank 4, read at an index: the buffer's value at that index moved by the load's offsets. -/
theorem ld4 {sg : RefSig} {κ : Kind} {sp : Space} {et : EltTy} {D0 D1 D2 D3 h0 h1 h2 h3 o0 o1 o2 o3 : Nat} (m : Memref sg κ sp ⟨4, ![D0, D1, D2, D3]⟩ et) (hm : m.IsWhole)
    (X : Shape.Idx ⟨4, ![D0, D1, D2, D3]⟩ → Elt Ideal et)
    (inb : ∀ a, (![o0, o1, o2, o3] : Fin 4 → Nat) a + (![h0, h1, h2, h3] : Fin 4 → Nat) a ≤ (⟨4, ![D0, D1, D2, D3]⟩ : Shape).size a) (i : Fin h0) (j : Fin h1) (k : Fin h2) (l : Fin h3) :
    View.readAt (Elt Ideal) m.view (Rect.unit (s := ⟨4, ![D0, D1, D2, D3]⟩) ![o0, o1, o2, o3] ![h0, h1, h2, h3] inb).toLoadRect (hm.unread X) (ix4 i j k l)
      = X (ix4 ⟨o0 + i.val, lt_of_lt_of_le (Nat.add_lt_add_left i.isLt _) (inb 0)⟩ ⟨o1 + j.val, lt_of_lt_of_le (Nat.add_lt_add_left j.isLt _) (inb 1)⟩ ⟨o2 + k.val, lt_of_lt_of_le (Nat.add_lt_add_left k.isLt _) (inb 2)⟩ ⟨o3 + l.val, lt_of_lt_of_le (Nat.add_lt_add_left l.isLt _) (inb 3)⟩) :=
  (hm.readAt_unread X _ _).trans (congrArg X (funext fun a => Fin.ext (by
    fin_cases a <;> [(show o0 + 1 * i.val = o0 + i.val; omega); (show o1 + 1 * j.val = o1 + j.val; omega); (show o2 + 1 * k.val = o2 + k.val; omega); (show o3 + 1 * l.val = o3 + l.val; omega)])))

/-- A plain load of a buffer held as a list of stores: page `b`. -/
theorem load_plain {sg : RefSig} {κ : Kind} {sp : Space} {B R C b h w o1 o2 : Nat} (v : View sg κ sp ⟨3, ![B, R, C]⟩ .f32) (L : List (View.Piece (Elt Ideal) ⟨3, ![B, R, C]⟩ .f32))
    (inb : ∀ a, (![b, o1, o2] : Fin 3 → Nat) a + (![1, h, w] : Fin 3 → Nat) a ≤ (⟨3, ![B, R, C]⟩ : Shape).size a) (i : Fin 1) (r : Fin h) (c : Fin w) :
    v.readCov L (Rect.unit (s := ⟨3, ![B, R, C]⟩) ![b, o1, o2] ![1, h, w] inb).toLoadRect (ix3 i r c)
      = View.canon L (ix3 ⟨b, inb 0⟩ ⟨o1 + r.val, lt_of_lt_of_le (Nat.add_lt_add_left r.isLt _) (inb 1)⟩
          ⟨o2 + c.val, lt_of_lt_of_le (Nat.add_lt_add_left c.isLt _) (inb 2)⟩) := by
  rw [View.readCov_eq_canon']
  refine congrArg (View.canon L) (eq3 ?_ ?_ ?_)
  · show b + 1 * i.val = b; omega
  · show o1 + 1 * r.val = o1 + r.val; omega
  · show o2 + 1 * c.val = o2 + c.val; omega

end Cert.MixerIdeal.Tie

end
-- ==== Proof.MixerBuf.lean ====
/-
  What the sample mixers' buffers hold when they are read: for every sequence of the block its kept state or cache
  behind its new rows, and its queries, spread over the lanes of their key head.
-/
module

public import proofs.«01_k».proof.Proof.MixerBase

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) {arg2 : Memref sig .tc .vmem S32x3328 .f32} (harg2 : arg2.IsWhole)
  {arg3 : Memref sig .tc .vmem S1x8x15x512 .f32} (harg3 : arg3.IsWhole) {arg4 : Memref sig .tc .vmem S1x8x2x512 .f32} (harg4 : arg4.IsWhole)
  {arg5 : Memref sig .tc .vmem S1x8x128x128 .f32} (harg5 : arg5.IsWhole) {arg6 : Memref sig .tc .vmem S1x8x128x128 .f32} (harg6 : arg6.IsWhole)
  (x1 : Vec Ideal S32x3328 .f32) (x2 : Vec Ideal S1x8x15x512 .f32) (x3 : Vec Ideal S1x8x2x512 .f32)
  (x4 x5 : Vec Ideal S1x8x128x128 .f32)

/-- The pooled rows of sequence `b`: fifteen kept rows (from row 1) and then the four new ones. -/
def UE (x1 : Vec Ideal S32x3328 .f32) (x2 : Vec Ideal S1x8x15x512 .f32) (b : Fin 8) (r : Fin 24) (k : Fin 512) : EReal :=
  if 16 ≤ r.val then x1 (ix2 (⟨4 * b.val + (r.val - 16) % 4, by omega⟩ : Fin 32) (⟨k.val, by omega⟩ : Fin 3328))
  else x2 (ix4 (0 : Fin 1) b (⟨(r.val - 1) % 15, by omega⟩ : Fin 15) k)

/-- The convolution's rows of sequence `b`: two kept rows (from row 6) and then the four gated new ones. -/
def CE (x1 : Vec Ideal S32x3328 .f32) (x3 : Vec Ideal S1x8x2x512 .f32) (b : Fin 8) (r : Fin 16) (k : Fin 512) : EReal :=
  if 8 ≤ r.val then x1 (ix2 (⟨4 * b.val + (r.val - 8) % 4, by omega⟩ : Fin 32) (⟨1536 + k.val, by omega⟩ : Fin 3328))
    * x1 (ix2 (⟨4 * b.val + (r.val - 8) % 4, by omega⟩ : Fin 32) (⟨512 + k.val, by omega⟩ : Fin 3328))
  else x3 (ix4 (0 : Fin 1) b (⟨(r.val - 6) % 2, by omega⟩ : Fin 2) k)

/-- The keys of sequence `b`: the cache's 128 and then the four new ones. -/
def KE (x1 : Vec Ideal S32x3328 .f32) (x4 : Vec Ideal S1x8x128x128 .f32) (b : Fin 8) (r : Fin 256) (k : Fin 128) : EReal :=
  if h : r.val < 128 then x4 (ix4 (0 : Fin 1) b (⟨r.val, h⟩ : Fin 128) k)
  else x1 (ix2 (⟨4 * b.val + (r.val - 128) % 4, by omega⟩ : Fin 32) (⟨2560 + k.val, by omega⟩ : Fin 3328))

/-- The values of sequence `b`, likewise. -/
def VE (x1 : Vec Ideal S32x3328 .f32) (x5 : Vec Ideal S1x8x128x128 .f32) (b : Fin 8) (r : Fin 256) (k : Fin 128) : EReal :=
  if h : r.val < 128 then x5 (ix4 (0 : Fin 1) b (⟨r.val, h⟩ : Fin 128) k)
  else x1 (ix2 (⟨4 * b.val + (r.val - 128) % 4, by omega⟩ : Fin 32) (⟨2688 + k.val, by omega⟩ : Fin 3328))

/-- Sequence 0: the kept rows and the new ones. -/
theorem UE0 (r : Fin 24) (k : Fin 512) (hl : 1 ≤ r.val) (hh : r.val < 20) :
    View.canon (sl.HS0_3 c arg2 harg2 arg3 harg3 x1 x2) (ix3 (⟨0, by omega⟩ : Fin 8) r k) = UE x1 x2 ⟨0, by omega⟩ r k := by
  unfold sl.HS0_3 UE
  by_cases h : 16 ≤ r.val
  · refine (canon_hit (B := 8) (R := 24) (C := 512) (h := 4) (r0 := 16) (b := 0) _ _ _ _ _ _ _ _ (⟨0, by omega⟩ : Fin 8) r k rfl h (by omega)).trans ?_
    rw [if_pos h]
    pointwise [k0_pay17, k0_pay16, k0_pay11]
    simp only [ld2, ld4]
    blk_ext
  · refine (canon_miss (B := 8) (R := 24) (C := 512) (h := 4) (r0 := 16) (b := 0) _ _ _ _ _ _ _ _ (⟨0, by omega⟩ : Fin 8) r k (by omega)).trans ?_
    refine (canon_hit (B := 8) (R := 24) (C := 512) (h := 15) (r0 := 1) (b := 0) _ _ _ _ _ _ _ _ (⟨0, by omega⟩ : Fin 8) r k rfl hl (by omega)).trans ?_
    rw [if_neg h]
    pointwise [k0_pay17, k0_pay16, k0_pay11]
    simp only [ld2, ld4]
    blk_ext

/-- Sequence 1: the kept rows and the new ones. -/
theorem UE1 (r : Fin 24) (k : Fin 512) (hl : 1 ≤ r.val) (hh : r.val < 20) :
    View.canon (sl.HS0_5 c arg2 harg2 arg3 harg3 x1 x2) (ix3 (⟨1, by omega⟩ : Fin 8) r k) = UE x1 x2 ⟨1, by omega⟩ r k := by
  unfold sl.HS0_5 UE
  by_cases h : 16 ≤ r.val
  · refine (canon_hit (B := 8) (R := 24) (C := 512) (h := 4) (r0 := 16) (b := 1) _ _ _ _ _ _ _ _ (⟨1, by omega⟩ : Fin 8) r k rfl h (by omega)).trans ?_
    rw [if_pos h]
    pointwise [k0_pay59, sl.r_19, sl.v381, sl.v376]
    simp only [ld2, ld4]
    blk_ext
  · refine (canon_miss (B := 8) (R := 24) (C := 512) (h := 4) (r0 := 16) (b := 1) _ _ _ _ _ _ _ _ (⟨1, by omega⟩ : Fin 8) r k (by omega)).trans ?_
    refine (canon_hit (B := 8) (R := 24) (C := 512) (h := 15) (r0 := 1) (b := 1) _ _ _ _ _ _ _ _ (⟨1, by omega⟩ : Fin 8) r k rfl hl (by omega)).trans ?_
    rw [if_neg h]
    pointwise [k0_pay59, sl.r_19, sl.v381, sl.v376]
    simp only [ld2, ld4]
    blk_ext

/-- Sequence 2: the kept rows and the new ones. -/
theorem UE2 (r : Fin 24) (k : Fin 512) (hl : 1 ≤ r.val) (hh : r.val < 20) :
    View.canon (sl.HS0_7 c arg2 harg2 arg3 harg3 x1 x2) (ix3 (⟨2, by omega⟩ : Fin 8) r k) = UE x1 x2 ⟨2, by omega⟩ r k := by
  unfold sl.HS0_7 UE
  by_cases h : 16 ≤ r.val
  · refine (canon_hit (B := 8) (R := 24) (C := 512) (h := 4) (r0 := 16) (b := 2) _ _ _ _ _ _ _ _ (⟨2, by omega⟩ : Fin 8) r k rfl h (by omega)).trans ?_
    rw [if_pos h]
    pointwise [k0_pay101, k0_pay100, sl.r_39]
    simp only [ld2, ld4]
    blk_ext
  · refine (canon_miss (B := 8) (R := 24) (C := 512) (h := 4) (r0 := 16) (b := 2) _ _ _ _ _ _ _ _ (⟨2, by omega⟩ : Fin 8) r k (by omega)).trans ?_
    refine (canon_hit (B := 8) (R := 24) (C := 512) (h := 15) (r0 := 1) (b := 2) _ _ _ _ _ _ _ _ (⟨2, by omega⟩ : Fin 8) r k rfl hl (by omega)).trans ?_
    rw [if_neg h]
    pointwise [k0_pay101, k0_pay100, sl.r_39]
    simp only [ld2, ld4]
    blk_ext

/-- Sequence 3: the kept rows and the new ones. -/
theorem UE3 (r : Fin 24) (k : Fin 512) (hl : 1 ≤ r.val) (hh : r.val < 20) :
    View.canon (sl.HS0_9 c arg2 harg2 arg3 harg3 x1 x2) (ix3 (⟨3, by omega⟩ : Fin 8) r k) = UE x1 x2 ⟨3, by omega⟩ r k := by
  unfold sl.HS0_9 UE
  by_cases h : 16 ≤ r.val
  · refine (canon_hit (B := 8) (R := 24) (C := 512) (h := 4) (r0 := 16) (b := 3) _ _ _ _ _ _ _ _ (⟨3, by omega⟩ : Fin 8) r k rfl h (by omega)).trans ?_
    rw [if_pos h]
    pointwise [k0_pay141, k0_pay140]
    simp only [ld2, ld4]
    blk_ext
  · refine (canon_miss (B := 8) (R := 24) (C := 512) (h := 4) (r0 := 16) (b := 3) _ _ _ _ _ _ _ _ (⟨3, by omega⟩ : Fin 8) r k (by omega)).trans ?_
    refine (canon_hit (B := 8) (R := 24) (C := 512) (h := 15) (r0 := 1) (b := 3) _ _ _ _ _ _ _ _ (⟨3, by omega⟩ : Fin 8) r k rfl hl (by omega)).trans ?_
    rw [if_neg h]
    pointwise [k0_pay141, k0_pay140]
    simp only [ld2, ld4]
    blk_ext

/-- Sequence 4: the kept rows and the new ones. -/
theorem UE4 (r : Fin 24) (k : Fin 512) (hl : 1 ≤ r.val) (hh : r.val < 20) :
    View.canon (sl.HS0_11 c arg2 harg2 arg3 harg3 x1 x2) (ix3 (⟨4, by omega⟩ : Fin 8) r k) = UE x1 x2 ⟨4, by omega⟩ r k := by
  unfold sl.HS0_11 sl.HS0_10 UE
  by_cases h : 16 ≤ r.val
  · refine (canon_hit (B := 8) (R := 24) (C := 512) (h := 4) (r0 := 16) (b := 4) _ _ _ _ _ _ _ _ (⟨4, by omega⟩ : Fin 8) r k rfl h (by omega)).trans ?_
    rw [if_pos h]
    pointwise [sl.v1407, sl.v1401, sl.v1396]
    simp only [ld2, ld4]
    blk_ext
  · refine (canon_miss (B := 8) (R := 24) (C := 512) (h := 4) (r0 := 16) (b := 4) _ _ _ _ _ _ _ _ (⟨4, by omega⟩ : Fin 8) r k (by omega)).trans ?_
    refine (canon_hit (B := 8) (R := 24) (C := 512) (h := 15) (r0 := 1) (b := 4) _ _ _ _ _ _ _ _ (⟨4, by omega⟩ : Fin 8) r k rfl hl (by omega)).trans ?_
    rw [if_neg h]
    pointwise [sl.v1407, sl.v1401, sl.v1396]
    simp only [ld2, ld4]
    blk_ext

/-- Sequence 5: the kept rows and the new ones. -/
theorem UE5 (r : Fin 24) (k : Fin 512) (hl : 1 ≤ r.val) (hh : r.val < 20) :
    View.canon (sl.HS0_13 c arg2 harg2 arg3 harg3 x1 x2) (ix3 (⟨5, by omega⟩ : Fin 8) r k) = UE x1 x2 ⟨5, by omega⟩ r k := by
  unfold sl.HS0_13 UE
  by_cases h : 16 ≤ r.val
  · refine (canon_hit (B := 8) (R := 24) (C := 512) (h := 4) (r0 := 16) (b := 5) _ _ _ _ _ _ _ _ (⟨5, by omega⟩ : Fin 8) r k rfl h (by omega)).trans ?_
    rw [if_pos h]
    pointwise [k0_pay225, k0_pay224, sl.v1736]
    simp only [ld2, ld4]
    blk_ext
  · refine (canon_miss (B := 8) (R := 24) (C := 512) (h := 4) (r0 := 16) (b := 5) _ _ _ _ _ _ _ _ (⟨5, by omega⟩ : Fin 8) r k (by omega)).trans ?_
    refine (canon_hit (B := 8) (R := 24) (C := 512) (h := 15) (r0 := 1) (b := 5) _ _ _ _ _ _ _ _ (⟨5, by omega⟩ : Fin 8) r k rfl hl (by omega)).trans ?_
    rw [if_neg h]
    pointwise [k0_pay225, k0_pay224, sl.v1736]
    simp only [ld2, ld4]
    blk_ext

/-- Sequence 6: the kept rows and the new ones. -/
theorem UE6 (r : Fin 24) (k : Fin 512) (hl : 1 ≤ r.val) (hh : r.val < 20) :
    View.canon (sl.HS0_15 c arg2 harg2 arg3 harg3 x1 x2) (ix3 (⟨6, by omega⟩ : Fin 8) r k) = UE x1 x2 ⟨6, by omega⟩ r k := by
  unfold sl.HS0_15 UE
  by_cases h : 16 ≤ r.val
  · refine (canon_hit (B := 8) (R := 24) (C := 512) (h := 4) (r0 := 16) (b := 6) _ _ _ _ _ _ _ _ (⟨6, by omega⟩ : Fin 8) r k rfl h (by omega)).trans ?_
    rw [if_pos h]
    pointwise [k0_pay265, k0_pay264]
    simp only [ld2, ld4]
    blk_ext
  · refine (canon_miss (B := 8) (R := 24) (C := 512) (h := 4) (r0 := 16) (b := 6) _ _ _ _ _ _ _ _ (⟨6, by omega⟩ : Fin 8) r k (by omega)).trans ?_
    refine (canon_hit (B := 8) (R := 24) (C := 512) (h := 15) (r0 := 1) (b := 6) _ _ _ _ _ _ _ _ (⟨6, by omega⟩ : Fin 8) r k rfl hl (by omega)).trans ?_
    rw [if_neg h]
    pointwise [k0_pay265, k0_pay264]
    simp only [ld2, ld4]
    blk_ext

/-- Sequence 7: the kept rows and the new ones. -/
theorem UE7 (r : Fin 24) (k : Fin 512) (hl : 1 ≤ r.val) (hh : r.val < 20) :
    View.canon (sl.HS0_17 c arg2 harg2 arg3 harg3 x1 x2) (ix3 (⟨7, by omega⟩ : Fin 8) r k) = UE x1 x2 ⟨7, by omega⟩ r k := by
  unfold sl.HS0_17 sl.HS0_16 UE
  by_cases h : 16 ≤ r.val
  · refine (canon_hit (B := 8) (R := 24) (C := 512) (h := 4) (r0 := 16) (b := 7) _ _ _ _ _ _ _ _ (⟨7, by omega⟩ : Fin 8) r k rfl h (by omega)).trans ?_
    rw [if_pos h]
    pointwise [sl.v2427, sl.v2421, sl.v2416]
    simp only [ld2, ld4]
    blk_ext
  · refine (canon_miss (B := 8) (R := 24) (C := 512) (h := 4) (r0 := 16) (b := 7) _ _ _ _ _ _ _ _ (⟨7, by omega⟩ : Fin 8) r k (by omega)).trans ?_
    refine (canon_hit (B := 8) (R := 24) (C := 512) (h := 15) (r0 := 1) (b := 7) _ _ _ _ _ _ _ _ (⟨7, by omega⟩ : Fin 8) r k rfl hl (by omega)).trans ?_
    rw [if_neg h]
    pointwise [sl.v2427, sl.v2421, sl.v2416]
    simp only [ld2, ld4]
    blk_ext

/-- Sequence 0: the kept rows and the new ones. -/
theorem CE0 (r : Fin 16) (k : Fin 512) (hl : 6 ≤ r.val) (hh : r.val < 12) :
    View.canon (sl.HS1_3 c arg2 harg2 arg4 harg4 x1 x3) (ix3 (⟨0, by omega⟩ : Fin 8) r k) = CE x1 x3 ⟨0, by omega⟩ r k := by
  unfold sl.HS1_3 CE
  by_cases h : 8 ≤ r.val
  · refine (canon_hit (B := 8) (R := 16) (C := 512) (h := 4) (r0 := 8) (b := 0) _ _ _ _ _ _ _ _ (⟨0, by omega⟩ : Fin 8) r k rfl h (by omega)).trans ?_
    rw [if_pos h]
    pointwise [k0_pay32, sl.r_14, k0_pay30, k0_pay12, k0_pay31]
    simp only [ld2, ld4]
    congr 1 <;> blk_ext
  · refine (canon_miss (B := 8) (R := 16) (C := 512) (h := 4) (r0 := 8) (b := 0) _ _ _ _ _ _ _ _ (⟨0, by omega⟩ : Fin 8) r k (by omega)).trans ?_
    refine (canon_hit (B := 8) (R := 16) (C := 512) (h := 2) (r0 := 6) (b := 0) _ _ _ _ _ _ _ _ (⟨0, by omega⟩ : Fin 8) r k rfl hl (by omega)).trans ?_
    rw [if_neg h]
    pointwise [k0_pay32, sl.r_14, k0_pay30, k0_pay12, k0_pay31]
    simp only [ld2, ld4]
    blk_ext

/-- Sequence 1: the kept rows and the new ones. -/
theorem CE1 (r : Fin 16) (k : Fin 512) (hl : 6 ≤ r.val) (hh : r.val < 12) :
    View.canon (sl.HS1_5 c arg2 harg2 arg4 harg4 x1 x3) (ix3 (⟨1, by omega⟩ : Fin 8) r k) = CE x1 x3 ⟨1, by omega⟩ r k := by
  unfold sl.HS1_5 CE
  by_cases h : 8 ≤ r.val
  · refine (canon_hit (B := 8) (R := 16) (C := 512) (h := 4) (r0 := 8) (b := 1) _ _ _ _ _ _ _ _ (⟨1, by omega⟩ : Fin 8) r k rfl h (by omega)).trans ?_
    rw [if_pos h]
    pointwise [k0_pay71, k0_pay70, sl.r_31, k0_pay69]
    simp only [ld2, ld4]
    congr 1 <;> blk_ext
  · refine (canon_miss (B := 8) (R := 16) (C := 512) (h := 4) (r0 := 8) (b := 1) _ _ _ _ _ _ _ _ (⟨1, by omega⟩ : Fin 8) r k (by omega)).trans ?_
    refine (canon_hit (B := 8) (R := 16) (C := 512) (h := 2) (r0 := 6) (b := 1) _ _ _ _ _ _ _ _ (⟨1, by omega⟩ : Fin 8) r k rfl hl (by omega)).trans ?_
    rw [if_neg h]
    pointwise [k0_pay71, k0_pay70, sl.r_31, k0_pay69]
    simp only [ld2, ld4]
    blk_ext

/-- Sequence 2: the kept rows and the new ones. -/
theorem CE2 (r : Fin 16) (k : Fin 512) (hl : 6 ≤ r.val) (hh : r.val < 12) :
    View.canon (sl.HS1_7 c arg2 harg2 arg4 harg4 x1 x3) (ix3 (⟨2, by omega⟩ : Fin 8) r k) = CE x1 x3 ⟨2, by omega⟩ r k := by
  unfold sl.HS1_7 CE
  by_cases h : 8 ≤ r.val
  · refine (canon_hit (B := 8) (R := 16) (C := 512) (h := 4) (r0 := 8) (b := 2) _ _ _ _ _ _ _ _ (⟨2, by omega⟩ : Fin 8) r k rfl h (by omega)).trans ?_
    rw [if_pos h]
    pointwise [k0_pay112, k0_pay111]
    simp only [ld2, ld4]
    congr 1 <;> blk_ext
  · refine (canon_miss (B := 8) (R := 16) (C := 512) (h := 4) (r0 := 8) (b := 2) _ _ _ _ _ _ _ _ (⟨2, by omega⟩ : Fin 8) r k (by omega)).trans ?_
    refine (canon_hit (B := 8) (R := 16) (C := 512) (h := 2) (r0 := 6) (b := 2) _ _ _ _ _ _ _ _ (⟨2, by omega⟩ : Fin 8) r k rfl hl (by omega)).trans ?_
    rw [if_neg h]
    pointwise [k0_pay112, k0_pay111]
    simp only [ld2, ld4]
    blk_ext

/-- Sequence 3: the kept rows and the new ones. -/
theorem CE3 (r : Fin 16) (k : Fin 512) (hl : 6 ≤ r.val) (hh : r.val < 12) :
    View.canon (sl.HS1_9 c arg2 harg2 arg4 harg4 x1 x3) (ix3 (⟨3, by omega⟩ : Fin 8) r k) = CE x1 x3 ⟨3, by omega⟩ r k := by
  unfold sl.HS1_9 CE
  by_cases h : 8 ≤ r.val
  · refine (canon_hit (B := 8) (R := 16) (C := 512) (h := 4) (r0 := 8) (b := 3) _ _ _ _ _ _ _ _ (⟨3, by omega⟩ : Fin 8) r k rfl h (by omega)).trans ?_
    rw [if_pos h]
    pointwise [k0_pay154, k0_pay153]
    simp only [ld2, ld4]
    congr 1 <;> blk_ext
  · refine (canon_miss (B := 8) (R := 16) (C := 512) (h := 4) (r0 := 8) (b := 3) _ _ _ _ _ _ _ _ (⟨3, by omega⟩ : Fin 8) r k (by omega)).trans ?_
    refine (canon_hit (B := 8) (R := 16) (C := 512) (h := 2) (r0 := 6) (b := 3) _ _ _ _ _ _ _ _ (⟨3, by omega⟩ : Fin 8) r k rfl hl (by omega)).trans ?_
    rw [if_neg h]
    pointwise [k0_pay154, k0_pay153]
    simp only [ld2, ld4]
    blk_ext

/-- Sequence 4: the kept rows and the new ones. -/
theorem CE4 (r : Fin 16) (k : Fin 512) (hl : 6 ≤ r.val) (hh : r.val < 12) :
    View.canon (sl.HS1_11 c arg2 harg2 arg4 harg4 x1 x3) (ix3 (⟨4, by omega⟩ : Fin 8) r k) = CE x1 x3 ⟨4, by omega⟩ r k := by
  unfold sl.HS1_11 CE
  by_cases h : 8 ≤ r.val
  · refine (canon_hit (B := 8) (R := 16) (C := 512) (h := 4) (r0 := 8) (b := 4) _ _ _ _ _ _ _ _ (⟨4, by omega⟩ : Fin 8) r k rfl h (by omega)).trans ?_
    rw [if_pos h]
    pointwise [k0_pay192, sl.r_88, k0_pay191]
    simp only [ld2, ld4]
    congr 1 <;> blk_ext
  · refine (canon_miss (B := 8) (R := 16) (C := 512) (h := 4) (r0 := 8) (b := 4) _ _ _ _ _ _ _ _ (⟨4, by omega⟩ : Fin 8) r k (by omega)).trans ?_
    refine (canon_hit (B := 8) (R := 16) (C := 512) (h := 2) (r0 := 6) (b := 4) _ _ _ _ _ _ _ _ (⟨4, by omega⟩ : Fin 8) r k rfl hl (by omega)).trans ?_
    rw [if_neg h]
    pointwise [k0_pay192, sl.r_88, k0_pay191]
    simp only [ld2, ld4]
    blk_ext

/-- Sequence 5: the kept rows and the new ones. -/
theorem CE5 (r : Fin 16) (k : Fin 512) (hl : 6 ≤ r.val) (hh : r.val < 12) :
    View.canon (sl.HS1_13 c arg2 harg2 arg4 harg4 x1 x3) (ix3 (⟨5, by omega⟩ : Fin 8) r k) = CE x1 x3 ⟨5, by omega⟩ r k := by
  unfold sl.HS1_13 CE
  by_cases h : 8 ≤ r.val
  · refine (canon_hit (B := 8) (R := 16) (C := 512) (h := 4) (r0 := 8) (b := 5) _ _ _ _ _ _ _ _ (⟨5, by omega⟩ : Fin 8) r k rfl h (by omega)).trans ?_
    rw [if_pos h]
    pointwise [k0_pay235, k0_pay234]
    simp only [ld2, ld4]
    congr 1 <;> blk_ext
  · refine (canon_miss (B := 8) (R := 16) (C := 512) (h := 4) (r0 := 8) (b := 5) _ _ _ _ _ _ _ _ (⟨5, by omega⟩ : Fin 8) r k (by omega)).trans ?_
    refine (canon_hit (B := 8) (R := 16) (C := 512) (h := 2) (r0 := 6) (b := 5) _ _ _ _ _ _ _ _ (⟨5, by omega⟩ : Fin 8) r k rfl hl (by omega)).trans ?_
    rw [if_neg h]
    pointwise [k0_pay235, k0_pay234]
    simp only [ld2, ld4]
    blk_ext

/-- Sequence 6: the kept rows and the new ones. -/
theorem CE6 (r : Fin 16) (k : Fin 512) (hl : 6 ≤ r.val) (hh : r.val < 12) :
    View.canon (sl.HS1_15 c arg2 harg2 arg4 harg4 x1 x3) (ix3 (⟨6, by omega⟩ : Fin 8) r k) = CE x1 x3 ⟨6, by omega⟩ r k := by
  unfold sl.HS1_15 CE
  by_cases h : 8 ≤ r.val
  · refine (canon_hit (B := 8) (R := 16) (C := 512) (h := 4) (r0 := 8) (b := 6) _ _ _ _ _ _ _ _ (⟨6, by omega⟩ : Fin 8) r k rfl h (by omega)).trans ?_
    rw [if_pos h]
    pointwise [k0_pay278, k0_pay277]
    simp only [ld2, ld4]
    congr 1 <;> blk_ext
  · refine (canon_miss (B := 8) (R := 16) (C := 512) (h := 4) (r0 := 8) (b := 6) _ _ _ _ _ _ _ _ (⟨6, by omega⟩ : Fin 8) r k (by omega)).trans ?_
    refine (canon_hit (B := 8) (R := 16) (C := 512) (h := 2) (r0 := 6) (b := 6) _ _ _ _ _ _ _ _ (⟨6, by omega⟩ : Fin 8) r k rfl hl (by omega)).trans ?_
    rw [if_neg h]
    pointwise [k0_pay278, k0_pay277]
    simp only [ld2, ld4]
    blk_ext

/-- Sequence 7: the kept rows and the new ones. -/
theorem CE7 (r : Fin 16) (k : Fin 512) (hl : 6 ≤ r.val) (hh : r.val < 12) :
    View.canon (sl.HS1_17 c arg2 harg2 arg4 harg4 x1 x3) (ix3 (⟨7, by omega⟩ : Fin 8) r k) = CE x1 x3 ⟨7, by omega⟩ r k := by
  unfold sl.HS1_17 CE
  by_cases h : 8 ≤ r.val
  · refine (canon_hit (B := 8) (R := 16) (C := 512) (h := 4) (r0 := 8) (b := 7) _ _ _ _ _ _ _ _ (⟨7, by omega⟩ : Fin 8) r k rfl h (by omega)).trans ?_
    rw [if_pos h]
    pointwise [k0_pay324, sl.r_150, k0_pay322, k0_pay323]
    simp only [ld2, ld4]
    congr 1 <;> blk_ext
  · refine (canon_miss (B := 8) (R := 16) (C := 512) (h := 4) (r0 := 8) (b := 7) _ _ _ _ _ _ _ _ (⟨7, by omega⟩ : Fin 8) r k (by omega)).trans ?_
    refine (canon_hit (B := 8) (R := 16) (C := 512) (h := 2) (r0 := 6) (b := 7) _ _ _ _ _ _ _ _ (⟨7, by omega⟩ : Fin 8) r k rfl hl (by omega)).trans ?_
    rw [if_neg h]
    pointwise [k0_pay324, sl.r_150, k0_pay322, k0_pay323]
    simp only [ld2, ld4]
    blk_ext

/-- Sequence 0: the cached keys and the new ones. -/
theorem KE0 (r : Fin 256) (k : Fin 128) (hl : 0 ≤ r.val) (hh : r.val < 132) :
    View.canon (sl.HS2_3 c arg2 harg2 arg5 harg5 x1 x4) (ix3 (⟨0, by omega⟩ : Fin 8) r k) = KE x1 x4 ⟨0, by omega⟩ r k := by
  unfold sl.HS2_3 sl.HS2_2 KE
  by_cases h : 128 ≤ r.val
  · refine (canon_hit (B := 8) (R := 256) (C := 128) (h := 4) (r0 := 128) (b := 0) _ _ _ _ _ _ _ _ (⟨0, by omega⟩ : Fin 8) r k rfl h (by omega)).trans ?_
    rw [dif_neg (by omega)]
    pointwise [sl.v280, sl.r_16, sl.v267, sl.v262]
    simp only [ld2, ld4]
    blk_ext
  · refine (canon_miss (B := 8) (R := 256) (C := 128) (h := 4) (r0 := 128) (b := 0) _ _ _ _ _ _ _ _ (⟨0, by omega⟩ : Fin 8) r k (by omega)).trans ?_
    refine (canon_hit (B := 8) (R := 256) (C := 128) (h := 128) (r0 := 0) (b := 0) _ _ _ _ _ _ _ _ (⟨0, by omega⟩ : Fin 8) r k rfl hl (by omega)).trans ?_
    rw [dif_pos (by omega)]
    pointwise [sl.v280, sl.r_16, sl.v267, sl.v262]
    simp only [ld2, ld4]
    blk_ext

/-- Sequence 1: the cached keys and the new ones. -/
theorem KE1 (r : Fin 256) (k : Fin 128) (hl : 0 ≤ r.val) (hh : r.val < 132) :
    View.canon (sl.HS2_5 c arg2 harg2 arg5 harg5 x1 x4) (ix3 (⟨1, by omega⟩ : Fin 8) r k) = KE x1 x4 ⟨1, by omega⟩ r k := by
  unfold sl.HS2_5 sl.HS2_4 KE
  by_cases h : 128 ≤ r.val
  · refine (canon_hit (B := 8) (R := 256) (C := 128) (h := 4) (r0 := 128) (b := 1) _ _ _ _ _ _ _ _ (⟨1, by omega⟩ : Fin 8) r k rfl h (by omega)).trans ?_
    rw [dif_neg (by omega)]
    pointwise [sl.v620, k0_pay75]
    simp only [ld2, ld4]
    blk_ext
  · refine (canon_miss (B := 8) (R := 256) (C := 128) (h := 4) (r0 := 128) (b := 1) _ _ _ _ _ _ _ _ (⟨1, by omega⟩ : Fin 8) r k (by omega)).trans ?_
    refine (canon_hit (B := 8) (R := 256) (C := 128) (h := 128) (r0 := 0) (b := 1) _ _ _ _ _ _ _ _ (⟨1, by omega⟩ : Fin 8) r k rfl hl (by omega)).trans ?_
    rw [dif_pos (by omega)]
    pointwise [sl.v620, k0_pay75]
    simp only [ld2, ld4]
    blk_ext

/-- Sequence 2: the cached keys and the new ones. -/
theorem KE2 (r : Fin 256) (k : Fin 128) (hl : 0 ≤ r.val) (hh : r.val < 132) :
    View.canon (sl.HS2_7 c arg2 harg2 arg5 harg5 x1 x4) (ix3 (⟨2, by omega⟩ : Fin 8) r k) = KE x1 x4 ⟨2, by omega⟩ r k := by
  unfold sl.HS2_7 sl.HS2_6 KE
  by_cases h : 128 ≤ r.val
  · refine (canon_hit (B := 8) (R := 256) (C := 128) (h := 4) (r0 := 128) (b := 2) _ _ _ _ _ _ _ _ (⟨2, by omega⟩ : Fin 8) r k rfl h (by omega)).trans ?_
    rw [dif_neg (by omega)]
    pointwise [sl.v960, sl.v947, sl.v942]
    simp only [ld2, ld4]
    blk_ext
  · refine (canon_miss (B := 8) (R := 256) (C := 128) (h := 4) (r0 := 128) (b := 2) _ _ _ _ _ _ _ _ (⟨2, by omega⟩ : Fin 8) r k (by omega)).trans ?_
    refine (canon_hit (B := 8) (R := 256) (C := 128) (h := 128) (r0 := 0) (b := 2) _ _ _ _ _ _ _ _ (⟨2, by omega⟩ : Fin 8) r k rfl hl (by omega)).trans ?_
    rw [dif_pos (by omega)]
    pointwise [sl.v960, sl.v947, sl.v942]
    simp only [ld2, ld4]
    blk_ext

/-- Sequence 3: the cached keys and the new ones. -/
theorem KE3 (r : Fin 256) (k : Fin 128) (hl : 0 ≤ r.val) (hh : r.val < 132) :
    View.canon (sl.HS2_9 c arg2 harg2 arg5 harg5 x1 x4) (ix3 (⟨3, by omega⟩ : Fin 8) r k) = KE x1 x4 ⟨3, by omega⟩ r k := by
  unfold sl.HS2_9 sl.HS2_8 KE
  by_cases h : 128 ≤ r.val
  · refine (canon_hit (B := 8) (R := 256) (C := 128) (h := 4) (r0 := 128) (b := 3) _ _ _ _ _ _ _ _ (⟨3, by omega⟩ : Fin 8) r k rfl h (by omega)).trans ?_
    rw [dif_neg (by omega)]
    pointwise [sl.v1300, sl.v1287, sl.v1282]
    simp only [ld2, ld4]
    blk_ext
  · refine (canon_miss (B := 8) (R := 256) (C := 128) (h := 4) (r0 := 128) (b := 3) _ _ _ _ _ _ _ _ (⟨3, by omega⟩ : Fin 8) r k (by omega)).trans ?_
    refine (canon_hit (B := 8) (R := 256) (C := 128) (h := 128) (r0 := 0) (b := 3) _ _ _ _ _ _ _ _ (⟨3, by omega⟩ : Fin 8) r k rfl hl (by omega)).trans ?_
    rw [dif_pos (by omega)]
    pointwise [sl.v1300, sl.v1287, sl.v1282]
    simp only [ld2, ld4]
    blk_ext

/-- Sequence 4: the cached keys and the new ones. -/
theorem KE4 (r : Fin 256) (k : Fin 128) (hl : 0 ≤ r.val) (hh : r.val < 132) :
    View.canon (sl.HS2_11 c arg2 harg2 arg5 harg5 x1 x4) (ix3 (⟨4, by omega⟩ : Fin 8) r k) = KE x1 x4 ⟨4, by omega⟩ r k := by
  unfold sl.HS2_11 sl.HS2_10 KE
  by_cases h : 128 ≤ r.val
  · refine (canon_hit (B := 8) (R := 256) (C := 128) (h := 4) (r0 := 128) (b := 4) _ _ _ _ _ _ _ _ (⟨4, by omega⟩ : Fin 8) r k rfl h (by omega)).trans ?_
    rw [dif_neg (by omega)]
    pointwise [sl.v1640, k0_pay197]
    simp only [ld2, ld4]
    blk_ext
  · refine (canon_miss (B := 8) (R := 256) (C := 128) (h := 4) (r0 := 128) (b := 4) _ _ _ _ _ _ _ _ (⟨4, by omega⟩ : Fin 8) r k (by omega)).trans ?_
    refine (canon_hit (B := 8) (R := 256) (C := 128) (h := 128) (r0 := 0) (b := 4) _ _ _ _ _ _ _ _ (⟨4, by omega⟩ : Fin 8) r k rfl hl (by omega)).trans ?_
    rw [dif_pos (by omega)]
    pointwise [sl.v1640, k0_pay197]
    simp only [ld2, ld4]
    blk_ext

/-- Sequence 5: the cached keys and the new ones. -/
theorem KE5 (r : Fin 256) (k : Fin 128) (hl : 0 ≤ r.val) (hh : r.val < 132) :
    View.canon (sl.HS2_13 c arg2 harg2 arg5 harg5 x1 x4) (ix3 (⟨5, by omega⟩ : Fin 8) r k) = KE x1 x4 ⟨5, by omega⟩ r k := by
  unfold sl.HS2_13 sl.HS2_12 KE
  by_cases h : 128 ≤ r.val
  · refine (canon_hit (B := 8) (R := 256) (C := 128) (h := 4) (r0 := 128) (b := 5) _ _ _ _ _ _ _ _ (⟨5, by omega⟩ : Fin 8) r k rfl h (by omega)).trans ?_
    rw [dif_neg (by omega)]
    pointwise [sl.v1980, sl.v1967, sl.r_112, k0_pay240]
    simp only [ld2, ld4]
    blk_ext
  · refine (canon_miss (B := 8) (R := 256) (C := 128) (h := 4) (r0 := 128) (b := 5) _ _ _ _ _ _ _ _ (⟨5, by omega⟩ : Fin 8) r k (by omega)).trans ?_
    refine (canon_hit (B := 8) (R := 256) (C := 128) (h := 128) (r0 := 0) (b := 5) _ _ _ _ _ _ _ _ (⟨5, by omega⟩ : Fin 8) r k rfl hl (by omega)).trans ?_
    rw [dif_pos (by omega)]
    pointwise [sl.v1980, sl.v1967, sl.r_112, k0_pay240]
    simp only [ld2, ld4]
    blk_ext

/-- Sequence 6: the cached keys and the new ones. -/
theorem KE6 (r : Fin 256) (k : Fin 128) (hl : 0 ≤ r.val) (hh : r.val < 132) :
    View.canon (sl.HS2_15 c arg2 harg2 arg5 harg5 x1 x4) (ix3 (⟨6, by omega⟩ : Fin 8) r k) = KE x1 x4 ⟨6, by omega⟩ r k := by
  unfold sl.HS2_15 sl.HS2_14 KE
  by_cases h : 128 ≤ r.val
  · refine (canon_hit (B := 8) (R := 256) (C := 128) (h := 4) (r0 := 128) (b := 6) _ _ _ _ _ _ _ _ (⟨6, by omega⟩ : Fin 8) r k rfl h (by omega)).trans ?_
    rw [dif_neg (by omega)]
    pointwise [sl.v2320, sl.v2307, sl.v2302]
    simp only [ld2, ld4]
    blk_ext
  · refine (canon_miss (B := 8) (R := 256) (C := 128) (h := 4) (r0 := 128) (b := 6) _ _ _ _ _ _ _ _ (⟨6, by omega⟩ : Fin 8) r k (by omega)).trans ?_
    refine (canon_hit (B := 8) (R := 256) (C := 128) (h := 128) (r0 := 0) (b := 6) _ _ _ _ _ _ _ _ (⟨6, by omega⟩ : Fin 8) r k rfl hl (by omega)).trans ?_
    rw [dif_pos (by omega)]
    pointwise [sl.v2320, sl.v2307, sl.v2302]
    simp only [ld2, ld4]
    blk_ext

/-- Sequence 7: the cached keys and the new ones. -/
theorem KE7 (r : Fin 256) (k : Fin 128) (hl : 0 ≤ r.val) (hh : r.val < 132) :
    View.canon (sl.HS2_17 c arg2 harg2 arg5 harg5 x1 x4) (ix3 (⟨7, by omega⟩ : Fin 8) r k) = KE x1 x4 ⟨7, by omega⟩ r k := by
  unfold sl.HS2_17 sl.HS2_16 KE
  by_cases h : 128 ≤ r.val
  · refine (canon_hit (B := 8) (R := 256) (C := 128) (h := 4) (r0 := 128) (b := 7) _ _ _ _ _ _ _ _ (⟨7, by omega⟩ : Fin 8) r k rfl h (by omega)).trans ?_
    rw [dif_neg (by omega)]
    pointwise [sl.v2660, sl.r_151, sl.v2647, sl.v2642]
    simp only [ld2, ld4]
    blk_ext
  · refine (canon_miss (B := 8) (R := 256) (C := 128) (h := 4) (r0 := 128) (b := 7) _ _ _ _ _ _ _ _ (⟨7, by omega⟩ : Fin 8) r k (by omega)).trans ?_
    refine (canon_hit (B := 8) (R := 256) (C := 128) (h := 128) (r0 := 0) (b := 7) _ _ _ _ _ _ _ _ (⟨7, by omega⟩ : Fin 8) r k rfl hl (by omega)).trans ?_
    rw [dif_pos (by omega)]
    pointwise [sl.v2660, sl.r_151, sl.v2647, sl.v2642]
    simp only [ld2, ld4]
    blk_ext

/-- The stores of sequence 1 leave the others' pages alone. -/
theorem KE_keep1 (p : Fin 8) (r : Fin 256) (k : Fin 128) (hp : p.val ≠ 1) :
    View.canon (sl.HS2_5 c arg2 harg2 arg5 harg5 x1 x4) (ix3 p r k) = View.canon (sl.HS2_3 c arg2 harg2 arg5 harg5 x1 x4) (ix3 p r k) := by
  unfold sl.HS2_5 sl.HS2_4
  exact (canon_miss (B := 8) (R := 256) (C := 128) (h := 4) (r0 := 128) (b := 1) _ _ _ _ _ _ _ _ p r k (.inl hp)).trans (canon_miss (B := 8) (R := 256) (C := 128) (h := 128) (r0 := 0) (b := 1) _ _ _ _ _ _ _ _ p r k (.inl hp))

/-- The stores of sequence 2 leave the others' pages alone. -/
theorem KE_keep2 (p : Fin 8) (r : Fin 256) (k : Fin 128) (hp : p.val ≠ 2) :
    View.canon (sl.HS2_7 c arg2 harg2 arg5 harg5 x1 x4) (ix3 p r k) = View.canon (sl.HS2_5 c arg2 harg2 arg5 harg5 x1 x4) (ix3 p r k) := by
  unfold sl.HS2_7 sl.HS2_6
  exact (canon_miss (B := 8) (R := 256) (C := 128) (h := 4) (r0 := 128) (b := 2) _ _ _ _ _ _ _ _ p r k (.inl hp)).trans (canon_miss (B := 8) (R := 256) (C := 128) (h := 128) (r0 := 0) (b := 2) _ _ _ _ _ _ _ _ p r k (.inl hp))

/-- The stores of sequence 3 leave the others' pages alone. -/
theorem KE_keep3 (p : Fin 8) (r : Fin 256) (k : Fin 128) (hp : p.val ≠ 3) :
    View.canon (sl.HS2_9 c arg2 harg2 arg5 harg5 x1 x4) (ix3 p r k) = View.canon (sl.HS2_7 c arg2 harg2 arg5 harg5 x1 x4) (ix3 p r k) := by
  unfold sl.HS2_9 sl.HS2_8
  exact (canon_miss (B := 8) (R := 256) (C := 128) (h := 4) (r0 := 128) (b := 3) _ _ _ _ _ _ _ _ p r k (.inl hp)).trans (canon_miss (B := 8) (R := 256) (C := 128) (h := 128) (r0 := 0) (b := 3) _ _ _ _ _ _ _ _ p r k (.inl hp))

/-- The stores of sequence 4 leave the others' pages alone. -/
theorem KE_keep4 (p : Fin 8) (r : Fin 256) (k : Fin 128) (hp : p.val ≠ 4) :
    View.canon (sl.HS2_11 c arg2 harg2 arg5 harg5 x1 x4) (ix3 p r k) = View.canon (sl.HS2_9 c arg2 harg2 arg5 harg5 x1 x4) (ix3 p r k) := by
  unfold sl.HS2_11 sl.HS2_10
  exact (canon_miss (B := 8) (R := 256) (C := 128) (h := 4) (r0 := 128) (b := 4) _ _ _ _ _ _ _ _ p r k (.inl hp)).trans (canon_miss (B := 8) (R := 256) (C := 128) (h := 128) (r0 := 0) (b := 4) _ _ _ _ _ _ _ _ p r k (.inl hp))

/-- The stores of sequence 5 leave the others' pages alone. -/
theorem KE_keep5 (p : Fin 8) (r : Fin 256) (k : Fin 128) (hp : p.val ≠ 5) :
    View.canon (sl.HS2_13 c arg2 harg2 arg5 harg5 x1 x4) (ix3 p r k) = View.canon (sl.HS2_11 c arg2 harg2 arg5 harg5 x1 x4) (ix3 p r k) := by
  unfold sl.HS2_13 sl.HS2_12
  exact (canon_miss (B := 8) (R := 256) (C := 128) (h := 4) (r0 := 128) (b := 5) _ _ _ _ _ _ _ _ p r k (.inl hp)).trans (canon_miss (B := 8) (R := 256) (C := 128) (h := 128) (r0 := 0) (b := 5) _ _ _ _ _ _ _ _ p r k (.inl hp))

/-- The stores of sequence 6 leave the others' pages alone. -/
theorem KE_keep6 (p : Fin 8) (r : Fin 256) (k : Fin 128) (hp : p.val ≠ 6) :
    View.canon (sl.HS2_15 c arg2 harg2 arg5 harg5 x1 x4) (ix3 p r k) = View.canon (sl.HS2_13 c arg2 harg2 arg5 harg5 x1 x4) (ix3 p r k) := by
  unfold sl.HS2_15 sl.HS2_14
  exact (canon_miss (B := 8) (R := 256) (C := 128) (h := 4) (r0 := 128) (b := 6) _ _ _ _ _ _ _ _ p r k (.inl hp)).trans (canon_miss (B := 8) (R := 256) (C := 128) (h := 128) (r0 := 0) (b := 6) _ _ _ _ _ _ _ _ p r k (.inl hp))

/-- The stores of sequence 7 leave the others' pages alone. -/
theorem KE_keep7 (p : Fin 8) (r : Fin 256) (k : Fin 128) (hp : p.val ≠ 7) :
    View.canon (sl.HS2_17 c arg2 harg2 arg5 harg5 x1 x4) (ix3 p r k) = View.canon (sl.HS2_15 c arg2 harg2 arg5 harg5 x1 x4) (ix3 p r k) := by
  unfold sl.HS2_17 sl.HS2_16
  exact (canon_miss (B := 8) (R := 256) (C := 128) (h := 4) (r0 := 128) (b := 7) _ _ _ _ _ _ _ _ p r k (.inl hp)).trans (canon_miss (B := 8) (R := 256) (C := 128) (h := 128) (r0 := 0) (b := 7) _ _ _ _ _ _ _ _ p r k (.inl hp))

/-- Sequence 0 once all are stored: the cached keys and the new ones. -/
theorem KE_all0 (r : Fin 256) (k : Fin 128) (hl : 0 ≤ r.val) (hh : r.val < 132) :
    View.canon (sl.HS2_17 c arg2 harg2 arg5 harg5 x1 x4) (ix3 (⟨0, by omega⟩ : Fin 8) r k) = KE x1 x4 ⟨0, by omega⟩ r k :=
  ((KE_keep7 c harg2 harg5 x1 x4 ⟨0, by omega⟩ r k (by show 0 ≠ 7; omega)).trans ((KE_keep6 c harg2 harg5 x1 x4 ⟨0, by omega⟩ r k (by show 0 ≠ 6; omega)).trans ((KE_keep5 c harg2 harg5 x1 x4 ⟨0, by omega⟩ r k (by show 0 ≠ 5; omega)).trans ((KE_keep4 c harg2 harg5 x1 x4 ⟨0, by omega⟩ r k (by show 0 ≠ 4; omega)).trans ((KE_keep3 c harg2 harg5 x1 x4 ⟨0, by omega⟩ r k (by show 0 ≠ 3; omega)).trans ((KE_keep2 c harg2 harg5 x1 x4 ⟨0, by omega⟩ r k (by show 0 ≠ 2; omega)).trans ((KE_keep1 c harg2 harg5 x1 x4 ⟨0, by omega⟩ r k (by show 0 ≠ 1; omega)).trans (KE0 c harg2 harg5 x1 x4 r k hl hh))))))))

/-- Sequence 1 once all are stored: the cached keys and the new ones. -/
theorem KE_all1 (r : Fin 256) (k : Fin 128) (hl : 0 ≤ r.val) (hh : r.val < 132) :
    View.canon (sl.HS2_17 c arg2 harg2 arg5 harg5 x1 x4) (ix3 (⟨1, by omega⟩ : Fin 8) r k) = KE x1 x4 ⟨1, by omega⟩ r k :=
  ((KE_keep7 c harg2 harg5 x1 x4 ⟨1, by omega⟩ r k (by show 1 ≠ 7; omega)).trans ((KE_keep6 c harg2 harg5 x1 x4 ⟨1, by omega⟩ r k (by show 1 ≠ 6; omega)).trans ((KE_keep5 c harg2 harg5 x1 x4 ⟨1, by omega⟩ r k (by show 1 ≠ 5; omega)).trans ((KE_keep4 c harg2 harg5 x1 x4 ⟨1, by omega⟩ r k (by show 1 ≠ 4; omega)).trans ((KE_keep3 c harg2 harg5 x1 x4 ⟨1, by omega⟩ r k (by show 1 ≠ 3; omega)).trans ((KE_keep2 c harg2 harg5 x1 x4 ⟨1, by omega⟩ r k (by show 1 ≠ 2; omega)).trans (KE1 c harg2 harg5 x1 x4 r k hl hh)))))))

/-- Sequence 2 once all are stored: the cached keys and the new ones. -/
theorem KE_all2 (r : Fin 256) (k : Fin 128) (hl : 0 ≤ r.val) (hh : r.val < 132) :
    View.canon (sl.HS2_17 c arg2 harg2 arg5 harg5 x1 x4) (ix3 (⟨2, by omega⟩ : Fin 8) r k) = KE x1 x4 ⟨2, by omega⟩ r k :=
  ((KE_keep7 c harg2 harg5 x1 x4 ⟨2, by omega⟩ r k (by show 2 ≠ 7; omega)).trans ((KE_keep6 c harg2 harg5 x1 x4 ⟨2, by omega⟩ r k (by show 2 ≠ 6; omega)).trans ((KE_keep5 c harg2 harg5 x1 x4 ⟨2, by omega⟩ r k (by show 2 ≠ 5; omega)).trans ((KE_keep4 c harg2 harg5 x1 x4 ⟨2, by omega⟩ r k (by show 2 ≠ 4; omega)).trans ((KE_keep3 c harg2 harg5 x1 x4 ⟨2, by omega⟩ r k (by show 2 ≠ 3; omega)).trans (KE2 c harg2 harg5 x1 x4 r k hl hh))))))

/-- Sequence 3 once all are stored: the cached keys and the new ones. -/
theorem KE_all3 (r : Fin 256) (k : Fin 128) (hl : 0 ≤ r.val) (hh : r.val < 132) :
    View.canon (sl.HS2_17 c arg2 harg2 arg5 harg5 x1 x4) (ix3 (⟨3, by omega⟩ : Fin 8) r k) = KE x1 x4 ⟨3, by omega⟩ r k :=
  ((KE_keep7 c harg2 harg5 x1 x4 ⟨3, by omega⟩ r k (by show 3 ≠ 7; omega)).trans ((KE_keep6 c harg2 harg5 x1 x4 ⟨3, by omega⟩ r k (by show 3 ≠ 6; omega)).trans ((KE_keep5 c harg2 harg5 x1 x4 ⟨3, by omega⟩ r k (by show 3 ≠ 5; omega)).trans ((KE_keep4 c harg2 harg5 x1 x4 ⟨3, by omega⟩ r k (by show 3 ≠ 4; omega)).trans (KE3 c harg2 harg5 x1 x4 r k hl hh)))))

/-- Sequence 4 once all are stored: the cached keys and the new ones. -/
theorem KE_all4 (r : Fin 256) (k : Fin 128) (hl : 0 ≤ r.val) (hh : r.val < 132) :
    View.canon (sl.HS2_17 c arg2 harg2 arg5 harg5 x1 x4) (ix3 (⟨4, by omega⟩ : Fin 8) r k) = KE x1 x4 ⟨4, by omega⟩ r k :=
  ((KE_keep7 c harg2 harg5 x1 x4 ⟨4, by omega⟩ r k (by show 4 ≠ 7; omega)).trans ((KE_keep6 c harg2 harg5 x1 x4 ⟨4, by omega⟩ r k (by show 4 ≠ 6; omega)).trans ((KE_keep5 c harg2 harg5 x1 x4 ⟨4, by omega⟩ r k (by show 4 ≠ 5; omega)).trans (KE4 c harg2 harg5 x1 x4 r k hl hh))))

/-- Sequence 5 once all are stored: the cached keys and the new ones. -/
theorem KE_all5 (r : Fin 256) (k : Fin 128) (hl : 0 ≤ r.val) (hh : r.val < 132) :
    View.canon (sl.HS2_17 c arg2 harg2 arg5 harg5 x1 x4) (ix3 (⟨5, by omega⟩ : Fin 8) r k) = KE x1 x4 ⟨5, by omega⟩ r k :=
  ((KE_keep7 c harg2 harg5 x1 x4 ⟨5, by omega⟩ r k (by show 5 ≠ 7; omega)).trans ((KE_keep6 c harg2 harg5 x1 x4 ⟨5, by omega⟩ r k (by show 5 ≠ 6; omega)).trans (KE5 c harg2 harg5 x1 x4 r k hl hh)))

/-- Sequence 6 once all are stored: the cached keys and the new ones. -/
theorem KE_all6 (r : Fin 256) (k : Fin 128) (hl : 0 ≤ r.val) (hh : r.val < 132) :
    View.canon (sl.HS2_17 c arg2 harg2 arg5 harg5 x1 x4) (ix3 (⟨6, by omega⟩ : Fin 8) r k) = KE x1 x4 ⟨6, by omega⟩ r k :=
  ((KE_keep7 c harg2 harg5 x1 x4 ⟨6, by omega⟩ r k (by show 6 ≠ 7; omega)).trans (KE6 c harg2 harg5 x1 x4 r k hl hh))

/-- Sequence 7 once all are stored: the cached keys and the new ones. -/
theorem KE_all7 (r : Fin 256) (k : Fin 128) (hl : 0 ≤ r.val) (hh : r.val < 132) :
    View.canon (sl.HS2_17 c arg2 harg2 arg5 harg5 x1 x4) (ix3 (⟨7, by omega⟩ : Fin 8) r k) = KE x1 x4 ⟨7, by omega⟩ r k :=
  (KE7 c harg2 harg5 x1 x4 r k hl hh)

/-- Sequence 0: the cached values and the new ones. -/
theorem VE0 (r : Fin 256) (k : Fin 128) (hl : 0 ≤ r.val) (hh : r.val < 132) :
    View.canon (sl.HS3_3 c arg2 harg2 arg6 harg6 x1 x5) (ix3 (⟨0, by omega⟩ : Fin 8) r k) = VE x1 x5 ⟨0, by omega⟩ r k := by
  unfold sl.HS3_3 sl.HS3_2 VE
  by_cases h : 128 ≤ r.val
  · refine (canon_hit (B := 8) (R := 256) (C := 128) (h := 4) (r0 := 128) (b := 0) _ _ _ _ _ _ _ _ (⟨0, by omega⟩ : Fin 8) r k rfl h (by omega)).trans ?_
    rw [dif_neg (by omega)]
    pointwise [sl.v286, sl.v274, sl.v269]
    simp only [ld2, ld4]
    blk_ext
  · refine (canon_miss (B := 8) (R := 256) (C := 128) (h := 4) (r0 := 128) (b := 0) _ _ _ _ _ _ _ _ (⟨0, by omega⟩ : Fin 8) r k (by omega)).trans ?_
    refine (canon_hit (B := 8) (R := 256) (C := 128) (h := 128) (r0 := 0) (b := 0) _ _ _ _ _ _ _ _ (⟨0, by omega⟩ : Fin 8) r k rfl hl (by omega)).trans ?_
    rw [dif_pos (by omega)]
    pointwise [sl.v286, sl.v274, sl.v269]
    simp only [ld2, ld4]
    blk_ext

/-- Sequence 1: the cached values and the new ones. -/
theorem VE1 (r : Fin 256) (k : Fin 128) (hl : 0 ≤ r.val) (hh : r.val < 132) :
    View.canon (sl.HS3_5 c arg2 harg2 arg6 harg6 x1 x5) (ix3 (⟨1, by omega⟩ : Fin 8) r k) = VE x1 x5 ⟨1, by omega⟩ r k := by
  unfold sl.HS3_5 sl.HS3_4 VE
  by_cases h : 128 ≤ r.val
  · refine (canon_hit (B := 8) (R := 256) (C := 128) (h := 4) (r0 := 128) (b := 1) _ _ _ _ _ _ _ _ (⟨1, by omega⟩ : Fin 8) r k rfl h (by omega)).trans ?_
    rw [dif_neg (by omega)]
    pointwise [sl.v626, sl.v614, sl.v609]
    simp only [ld2, ld4]
    blk_ext
  · refine (canon_miss (B := 8) (R := 256) (C := 128) (h := 4) (r0 := 128) (b := 1) _ _ _ _ _ _ _ _ (⟨1, by omega⟩ : Fin 8) r k (by omega)).trans ?_
    refine (canon_hit (B := 8) (R := 256) (C := 128) (h := 128) (r0 := 0) (b := 1) _ _ _ _ _ _ _ _ (⟨1, by omega⟩ : Fin 8) r k rfl hl (by omega)).trans ?_
    rw [dif_pos (by omega)]
    pointwise [sl.v626, sl.v614, sl.v609]
    simp only [ld2, ld4]
    blk_ext

/-- Sequence 2: the cached values and the new ones. -/
theorem VE2 (r : Fin 256) (k : Fin 128) (hl : 0 ≤ r.val) (hh : r.val < 132) :
    View.canon (sl.HS3_7 c arg2 harg2 arg6 harg6 x1 x5) (ix3 (⟨2, by omega⟩ : Fin 8) r k) = VE x1 x5 ⟨2, by omega⟩ r k := by
  unfold sl.HS3_7 sl.HS3_6 VE
  by_cases h : 128 ≤ r.val
  · refine (canon_hit (B := 8) (R := 256) (C := 128) (h := 4) (r0 := 128) (b := 2) _ _ _ _ _ _ _ _ (⟨2, by omega⟩ : Fin 8) r k rfl h (by omega)).trans ?_
    rw [dif_neg (by omega)]
    pointwise [sl.v966, sl.v954, sl.v949]
    simp only [ld2, ld4]
    blk_ext
  · refine (canon_miss (B := 8) (R := 256) (C := 128) (h := 4) (r0 := 128) (b := 2) _ _ _ _ _ _ _ _ (⟨2, by omega⟩ : Fin 8) r k (by omega)).trans ?_
    refine (canon_hit (B := 8) (R := 256) (C := 128) (h := 128) (r0 := 0) (b := 2) _ _ _ _ _ _ _ _ (⟨2, by omega⟩ : Fin 8) r k rfl hl (by omega)).trans ?_
    rw [dif_pos (by omega)]
    pointwise [sl.v966, sl.v954, sl.v949]
    simp only [ld2, ld4]
    blk_ext

/-- Sequence 3: the cached values and the new ones. -/
theorem VE3 (r : Fin 256) (k : Fin 128) (hl : 0 ≤ r.val) (hh : r.val < 132) :
    View.canon (sl.HS3_9 c arg2 harg2 arg6 harg6 x1 x5) (ix3 (⟨3, by omega⟩ : Fin 8) r k) = VE x1 x5 ⟨3, by omega⟩ r k := by
  unfold sl.HS3_9 sl.HS3_8 VE
  by_cases h : 128 ≤ r.val
  · refine (canon_hit (B := 8) (R := 256) (C := 128) (h := 4) (r0 := 128) (b := 3) _ _ _ _ _ _ _ _ (⟨3, by omega⟩ : Fin 8) r k rfl h (by omega)).trans ?_
    rw [dif_neg (by omega)]
    pointwise [sl.v1306, sl.v1294, sl.v1289]
    simp only [ld2, ld4]
    blk_ext
  · refine (canon_miss (B := 8) (R := 256) (C := 128) (h := 4) (r0 := 128) (b := 3) _ _ _ _ _ _ _ _ (⟨3, by omega⟩ : Fin 8) r k (by omega)).trans ?_
    refine (canon_hit (B := 8) (R := 256) (C := 128) (h := 128) (r0 := 0) (b := 3) _ _ _ _ _ _ _ _ (⟨3, by omega⟩ : Fin 8) r k rfl hl (by omega)).trans ?_
    rw [dif_pos (by omega)]
    pointwise [sl.v1306, sl.v1294, sl.v1289]
    simp only [ld2, ld4]
    blk_ext

/-- Sequence 4: the cached values and the new ones. -/
theorem VE4 (r : Fin 256) (k : Fin 128) (hl : 0 ≤ r.val) (hh : r.val < 132) :
    View.canon (sl.HS3_11 c arg2 harg2 arg6 harg6 x1 x5) (ix3 (⟨4, by omega⟩ : Fin 8) r k) = VE x1 x5 ⟨4, by omega⟩ r k := by
  unfold sl.HS3_11 sl.HS3_10 VE
  by_cases h : 128 ≤ r.val
  · refine (canon_hit (B := 8) (R := 256) (C := 128) (h := 4) (r0 := 128) (b := 4) _ _ _ _ _ _ _ _ (⟨4, by omega⟩ : Fin 8) r k rfl h (by omega)).trans ?_
    rw [dif_neg (by omega)]
    pointwise [sl.v1646, sl.v1634, sl.r_92, k0_pay198]
    simp only [ld2, ld4]
    blk_ext
  · refine (canon_miss (B := 8) (R := 256) (C := 128) (h := 4) (r0 := 128) (b := 4) _ _ _ _ _ _ _ _ (⟨4, by omega⟩ : Fin 8) r k (by omega)).trans ?_
    refine (canon_hit (B := 8) (R := 256) (C := 128) (h := 128) (r0 := 0) (b := 4) _ _ _ _ _ _ _ _ (⟨4, by omega⟩ : Fin 8) r k rfl hl (by omega)).trans ?_
    rw [dif_pos (by omega)]
    pointwise [sl.v1646, sl.v1634, sl.r_92, k0_pay198]
    simp only [ld2, ld4]
    blk_ext

/-- Sequence 5: the cached values and the new ones. -/
theorem VE5 (r : Fin 256) (k : Fin 128) (hl : 0 ≤ r.val) (hh : r.val < 132) :
    View.canon (sl.HS3_13 c arg2 harg2 arg6 harg6 x1 x5) (ix3 (⟨5, by omega⟩ : Fin 8) r k) = VE x1 x5 ⟨5, by omega⟩ r k := by
  unfold sl.HS3_13 sl.HS3_12 VE
  by_cases h : 128 ≤ r.val
  · refine (canon_hit (B := 8) (R := 256) (C := 128) (h := 4) (r0 := 128) (b := 5) _ _ _ _ _ _ _ _ (⟨5, by omega⟩ : Fin 8) r k rfl h (by omega)).trans ?_
    rw [dif_neg (by omega)]
    pointwise [sl.v1986, sl.v1974, sl.v1969]
    simp only [ld2, ld4]
    blk_ext
  · refine (canon_miss (B := 8) (R := 256) (C := 128) (h := 4) (r0 := 128) (b := 5) _ _ _ _ _ _ _ _ (⟨5, by omega⟩ : Fin 8) r k (by omega)).trans ?_
    refine (canon_hit (B := 8) (R := 256) (C := 128) (h := 128) (r0 := 0) (b := 5) _ _ _ _ _ _ _ _ (⟨5, by omega⟩ : Fin 8) r k rfl hl (by omega)).trans ?_
    rw [dif_pos (by omega)]
    pointwise [sl.v1986, sl.v1974, sl.v1969]
    simp only [ld2, ld4]
    blk_ext

/-- Sequence 6: the cached values and the new ones. -/
theorem VE6 (r : Fin 256) (k : Fin 128) (hl : 0 ≤ r.val) (hh : r.val < 132) :
    View.canon (sl.HS3_15 c arg2 harg2 arg6 harg6 x1 x5) (ix3 (⟨6, by omega⟩ : Fin 8) r k) = VE x1 x5 ⟨6, by omega⟩ r k := by
  unfold sl.HS3_15 VE
  by_cases h : 128 ≤ r.val
  · refine (canon_hit (B := 8) (R := 256) (C := 128) (h := 4) (r0 := 128) (b := 6) _ _ _ _ _ _ _ _ (⟨6, by omega⟩ : Fin 8) r k rfl h (by omega)).trans ?_
    rw [dif_neg (by omega)]
    pointwise [k0_pay285, sl.r_131, sl.v2314, sl.v2309]
    simp only [ld2, ld4]
    blk_ext
  · refine (canon_miss (B := 8) (R := 256) (C := 128) (h := 4) (r0 := 128) (b := 6) _ _ _ _ _ _ _ _ (⟨6, by omega⟩ : Fin 8) r k (by omega)).trans ?_
    refine (canon_hit (B := 8) (R := 256) (C := 128) (h := 128) (r0 := 0) (b := 6) _ _ _ _ _ _ _ _ (⟨6, by omega⟩ : Fin 8) r k rfl hl (by omega)).trans ?_
    rw [dif_pos (by omega)]
    pointwise [k0_pay285, sl.r_131, sl.v2314, sl.v2309]
    simp only [ld2, ld4]
    blk_ext

/-- Sequence 7: the cached values and the new ones. -/
theorem VE7 (r : Fin 256) (k : Fin 128) (hl : 0 ≤ r.val) (hh : r.val < 132) :
    View.canon (sl.HS3_17 c arg2 harg2 arg6 harg6 x1 x5) (ix3 (⟨7, by omega⟩ : Fin 8) r k) = VE x1 x5 ⟨7, by omega⟩ r k := by
  unfold sl.HS3_17 sl.HS3_16 VE
  by_cases h : 128 ≤ r.val
  · refine (canon_hit (B := 8) (R := 256) (C := 128) (h := 4) (r0 := 128) (b := 7) _ _ _ _ _ _ _ _ (⟨7, by omega⟩ : Fin 8) r k rfl h (by omega)).trans ?_
    rw [dif_neg (by omega)]
    pointwise [sl.v2666, sl.v2654, sl.v2649]
    simp only [ld2, ld4]
    blk_ext
  · refine (canon_miss (B := 8) (R := 256) (C := 128) (h := 4) (r0 := 128) (b := 7) _ _ _ _ _ _ _ _ (⟨7, by omega⟩ : Fin 8) r k (by omega)).trans ?_
    refine (canon_hit (B := 8) (R := 256) (C := 128) (h := 128) (r0 := 0) (b := 7) _ _ _ _ _ _ _ _ (⟨7, by omega⟩ : Fin 8) r k rfl hl (by omega)).trans ?_
    rw [dif_pos (by omega)]
    pointwise [sl.v2666, sl.v2654, sl.v2649]
    simp only [ld2, ld4]
    blk_ext

/-- The stores of sequence 1 leave the others' pages alone. -/
theorem VE_keep1 (p : Fin 8) (r : Fin 256) (k : Fin 128) (hp : p.val ≠ 1) :
    View.canon (sl.HS3_5 c arg2 harg2 arg6 harg6 x1 x5) (ix3 p r k) = View.canon (sl.HS3_3 c arg2 harg2 arg6 harg6 x1 x5) (ix3 p r k) := by
  unfold sl.HS3_5 sl.HS3_4
  exact (canon_miss (B := 8) (R := 256) (C := 128) (h := 4) (r0 := 128) (b := 1) _ _ _ _ _ _ _ _ p r k (.inl hp)).trans (canon_miss (B := 8) (R := 256) (C := 128) (h := 128) (r0 := 0) (b := 1) _ _ _ _ _ _ _ _ p r k (.inl hp))

/-- The stores of sequence 2 leave the others' pages alone. -/
theorem VE_keep2 (p : Fin 8) (r : Fin 256) (k : Fin 128) (hp : p.val ≠ 2) :
    View.canon (sl.HS3_7 c arg2 harg2 arg6 harg6 x1 x5) (ix3 p r k) = View.canon (sl.HS3_5 c arg2 harg2 arg6 harg6 x1 x5) (ix3 p r k) := by
  unfold sl.HS3_7 sl.HS3_6
  exact (canon_miss (B := 8) (R := 256) (C := 128) (h := 4) (r0 := 128) (b := 2) _ _ _ _ _ _ _ _ p r k (.inl hp)).trans (canon_miss (B := 8) (R := 256) (C := 128) (h := 128) (r0 := 0) (b := 2) _ _ _ _ _ _ _ _ p r k (.inl hp))

/-- The stores of sequence 3 leave the others' pages alone. -/
theorem VE_keep3 (p : Fin 8) (r : Fin 256) (k : Fin 128) (hp : p.val ≠ 3) :
    View.canon (sl.HS3_9 c arg2 harg2 arg6 harg6 x1 x5) (ix3 p r k) = View.canon (sl.HS3_7 c arg2 harg2 arg6 harg6 x1 x5) (ix3 p r k) := by
  unfold sl.HS3_9 sl.HS3_8
  exact (canon_miss (B := 8) (R := 256) (C := 128) (h := 4) (r0 := 128) (b := 3) _ _ _ _ _ _ _ _ p r k (.inl hp)).trans (canon_miss (B := 8) (R := 256) (C := 128) (h := 128) (r0 := 0) (b := 3) _ _ _ _ _ _ _ _ p r k (.inl hp))

/-- The stores of sequence 4 leave the others' pages alone. -/
theorem VE_keep4 (p : Fin 8) (r : Fin 256) (k : Fin 128) (hp : p.val ≠ 4) :
    View.canon (sl.HS3_11 c arg2 harg2 arg6 harg6 x1 x5) (ix3 p r k) = View.canon (sl.HS3_9 c arg2 harg2 arg6 harg6 x1 x5) (ix3 p r k) := by
  unfold sl.HS3_11 sl.HS3_10
  exact (canon_miss (B := 8) (R := 256) (C := 128) (h := 4) (r0 := 128) (b := 4) _ _ _ _ _ _ _ _ p r k (.inl hp)).trans (canon_miss (B := 8) (R := 256) (C := 128) (h := 128) (r0 := 0) (b := 4) _ _ _ _ _ _ _ _ p r k (.inl hp))

/-- The stores of sequence 5 leave the others' pages alone. -/
theorem VE_keep5 (p : Fin 8) (r : Fin 256) (k : Fin 128) (hp : p.val ≠ 5) :
    View.canon (sl.HS3_13 c arg2 harg2 arg6 harg6 x1 x5) (ix3 p r k) = View.canon (sl.HS3_11 c arg2 harg2 arg6 harg6 x1 x5) (ix3 p r k) := by
  unfold sl.HS3_13 sl.HS3_12
  exact (canon_miss (B := 8) (R := 256) (C := 128) (h := 4) (r0 := 128) (b := 5) _ _ _ _ _ _ _ _ p r k (.inl hp)).trans (canon_miss (B := 8) (R := 256) (C := 128) (h := 128) (r0 := 0) (b := 5) _ _ _ _ _ _ _ _ p r k (.inl hp))

/-- The stores of sequence 6 leave the others' pages alone. -/
theorem VE_keep6 (p : Fin 8) (r : Fin 256) (k : Fin 128) (hp : p.val ≠ 6) :
    View.canon (sl.HS3_15 c arg2 harg2 arg6 harg6 x1 x5) (ix3 p r k) = View.canon (sl.HS3_13 c arg2 harg2 arg6 harg6 x1 x5) (ix3 p r k) := by
  unfold sl.HS3_15
  exact (canon_miss (B := 8) (R := 256) (C := 128) (h := 4) (r0 := 128) (b := 6) _ _ _ _ _ _ _ _ p r k (.inl hp)).trans (canon_miss (B := 8) (R := 256) (C := 128) (h := 128) (r0 := 0) (b := 6) _ _ _ _ _ _ _ _ p r k (.inl hp))

/-- The stores of sequence 7 leave the others' pages alone. -/
theorem VE_keep7 (p : Fin 8) (r : Fin 256) (k : Fin 128) (hp : p.val ≠ 7) :
    View.canon (sl.HS3_17 c arg2 harg2 arg6 harg6 x1 x5) (ix3 p r k) = View.canon (sl.HS3_15 c arg2 harg2 arg6 harg6 x1 x5) (ix3 p r k) := by
  unfold sl.HS3_17 sl.HS3_16
  exact (canon_miss (B := 8) (R := 256) (C := 128) (h := 4) (r0 := 128) (b := 7) _ _ _ _ _ _ _ _ p r k (.inl hp)).trans (canon_miss (B := 8) (R := 256) (C := 128) (h := 128) (r0 := 0) (b := 7) _ _ _ _ _ _ _ _ p r k (.inl hp))

/-- Sequence 0 once all are stored: the cached values and the new ones. -/
theorem VE_all0 (r : Fin 256) (k : Fin 128) (hl : 0 ≤ r.val) (hh : r.val < 132) :
    View.canon (sl.HS3_17 c arg2 harg2 arg6 harg6 x1 x5) (ix3 (⟨0, by omega⟩ : Fin 8) r k) = VE x1 x5 ⟨0, by omega⟩ r k :=
  ((VE_keep7 c harg2 harg6 x1 x5 ⟨0, by omega⟩ r k (by show 0 ≠ 7; omega)).trans ((VE_keep6 c harg2 harg6 x1 x5 ⟨0, by omega⟩ r k (by show 0 ≠ 6; omega)).trans ((VE_keep5 c harg2 harg6 x1 x5 ⟨0, by omega⟩ r k (by show 0 ≠ 5; omega)).trans ((VE_keep4 c harg2 harg6 x1 x5 ⟨0, by omega⟩ r k (by show 0 ≠ 4; omega)).trans ((VE_keep3 c harg2 harg6 x1 x5 ⟨0, by omega⟩ r k (by show 0 ≠ 3; omega)).trans ((VE_keep2 c harg2 harg6 x1 x5 ⟨0, by omega⟩ r k (by show 0 ≠ 2; omega)).trans ((VE_keep1 c harg2 harg6 x1 x5 ⟨0, by omega⟩ r k (by show 0 ≠ 1; omega)).trans (VE0 c harg2 harg6 x1 x5 r k hl hh))))))))

/-- Sequence 1 once all are stored: the cached values and the new ones. -/
theorem VE_all1 (r : Fin 256) (k : Fin 128) (hl : 0 ≤ r.val) (hh : r.val < 132) :
    View.canon (sl.HS3_17 c arg2 harg2 arg6 harg6 x1 x5) (ix3 (⟨1, by omega⟩ : Fin 8) r k) = VE x1 x5 ⟨1, by omega⟩ r k :=
  ((VE_keep7 c harg2 harg6 x1 x5 ⟨1, by omega⟩ r k (by show 1 ≠ 7; omega)).trans ((VE_keep6 c harg2 harg6 x1 x5 ⟨1, by omega⟩ r k (by show 1 ≠ 6; omega)).trans ((VE_keep5 c harg2 harg6 x1 x5 ⟨1, by omega⟩ r k (by show 1 ≠ 5; omega)).trans ((VE_keep4 c harg2 harg6 x1 x5 ⟨1, by omega⟩ r k (by show 1 ≠ 4; omega)).trans ((VE_keep3 c harg2 harg6 x1 x5 ⟨1, by omega⟩ r k (by show 1 ≠ 3; omega)).trans ((VE_keep2 c harg2 harg6 x1 x5 ⟨1, by omega⟩ r k (by show 1 ≠ 2; omega)).trans (VE1 c harg2 harg6 x1 x5 r k hl hh)))))))

/-- Sequence 2 once all are stored: the cached values and the new ones. -/
theorem VE_all2 (r : Fin 256) (k : Fin 128) (hl : 0 ≤ r.val) (hh : r.val < 132) :
    View.canon (sl.HS3_17 c arg2 harg2 arg6 harg6 x1 x5) (ix3 (⟨2, by omega⟩ : Fin 8) r k) = VE x1 x5 ⟨2, by omega⟩ r k :=
  ((VE_keep7 c harg2 harg6 x1 x5 ⟨2, by omega⟩ r k (by show 2 ≠ 7; omega)).trans ((VE_keep6 c harg2 harg6 x1 x5 ⟨2, by omega⟩ r k (by show 2 ≠ 6; omega)).trans ((VE_keep5 c harg2 harg6 x1 x5 ⟨2, by omega⟩ r k (by show 2 ≠ 5; omega)).trans ((VE_keep4 c harg2 harg6 x1 x5 ⟨2, by omega⟩ r k (by show 2 ≠ 4; omega)).trans ((VE_keep3 c harg2 harg6 x1 x5 ⟨2, by omega⟩ r k (by show 2 ≠ 3; omega)).trans (VE2 c harg2 harg6 x1 x5 r k hl hh))))))

/-- Sequence 3 once all are stored: the cached values and the new ones. -/
theorem VE_all3 (r : Fin 256) (k : Fin 128) (hl : 0 ≤ r.val) (hh : r.val < 132) :
    View.canon (sl.HS3_17 c arg2 harg2 arg6 harg6 x1 x5) (ix3 (⟨3, by omega⟩ : Fin 8) r k) = VE x1 x5 ⟨3, by omega⟩ r k :=
  ((VE_keep7 c harg2 harg6 x1 x5 ⟨3, by omega⟩ r k (by show 3 ≠ 7; omega)).trans ((VE_keep6 c harg2 harg6 x1 x5 ⟨3, by omega⟩ r k (by show 3 ≠ 6; omega)).trans ((VE_keep5 c harg2 harg6 x1 x5 ⟨3, by omega⟩ r k (by show 3 ≠ 5; omega)).trans ((VE_keep4 c harg2 harg6 x1 x5 ⟨3, by omega⟩ r k (by show 3 ≠ 4; omega)).trans (VE3 c harg2 harg6 x1 x5 r k hl hh)))))

/-- Sequence 4 once all are stored: the cached values and the new ones. -/
theorem VE_all4 (r : Fin 256) (k : Fin 128) (hl : 0 ≤ r.val) (hh : r.val < 132) :
    View.canon (sl.HS3_17 c arg2 harg2 arg6 harg6 x1 x5) (ix3 (⟨4, by omega⟩ : Fin 8) r k) = VE x1 x5 ⟨4, by omega⟩ r k :=
  ((VE_keep7 c harg2 harg6 x1 x5 ⟨4, by omega⟩ r k (by show 4 ≠ 7; omega)).trans ((VE_keep6 c harg2 harg6 x1 x5 ⟨4, by omega⟩ r k (by show 4 ≠ 6; omega)).trans ((VE_keep5 c harg2 harg6 x1 x5 ⟨4, by omega⟩ r k (by show 4 ≠ 5; omega)).trans (VE4 c harg2 harg6 x1 x5 r k hl hh))))

/-- Sequence 5 once all are stored: the cached values and the new ones. -/
theorem VE_all5 (r : Fin 256) (k : Fin 128) (hl : 0 ≤ r.val) (hh : r.val < 132) :
    View.canon (sl.HS3_17 c arg2 harg2 arg6 harg6 x1 x5) (ix3 (⟨5, by omega⟩ : Fin 8) r k) = VE x1 x5 ⟨5, by omega⟩ r k :=
  ((VE_keep7 c harg2 harg6 x1 x5 ⟨5, by omega⟩ r k (by show 5 ≠ 7; omega)).trans ((VE_keep6 c harg2 harg6 x1 x5 ⟨5, by omega⟩ r k (by show 5 ≠ 6; omega)).trans (VE5 c harg2 harg6 x1 x5 r k hl hh)))

/-- Sequence 6 once all are stored: the cached values and the new ones. -/
theorem VE_all6 (r : Fin 256) (k : Fin 128) (hl : 0 ≤ r.val) (hh : r.val < 132) :
    View.canon (sl.HS3_17 c arg2 harg2 arg6 harg6 x1 x5) (ix3 (⟨6, by omega⟩ : Fin 8) r k) = VE x1 x5 ⟨6, by omega⟩ r k :=
  ((VE_keep7 c harg2 harg6 x1 x5 ⟨6, by omega⟩ r k (by show 6 ≠ 7; omega)).trans (VE6 c harg2 harg6 x1 x5 r k hl hh))

/-- Sequence 7 once all are stored: the cached values and the new ones. -/
theorem VE_all7 (r : Fin 256) (k : Fin 128) (hl : 0 ≤ r.val) (hh : r.val < 132) :
    View.canon (sl.HS3_17 c arg2 harg2 arg6 harg6 x1 x5) (ix3 (⟨7, by omega⟩ : Fin 8) r k) = VE x1 x5 ⟨7, by omega⟩ r k :=
  (VE7 c harg2 harg6 x1 x5 r k hl hh)

end Cert.MixerIdeal.Tie

end
-- ==== Proof.MixerPool.lean ====
/-
  The pooled window means of the sample mixers, read at an index: the sum of the last rows over their number, minus
  the row itself; and their products with the grouped weights.
-/
module

public import proofs.«01_k».proof.Proof.MixerBuf

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

/-- Equal terms have equal sums. -/
theorem ca {α : Type} [HAdd α α α] {a b c d : α} (h : a = b) (k : c = d) : a + c = b + d := h ▸ k ▸ rfl

variable (c : Dev nD) (i : grid0.Coords) (arg2 : Memref sig .tc .vmem S32x3328 .f32) (harg2 : arg2.IsWhole) (arg3 : Memref sig .tc .vmem S1x8x15x512 .f32) (harg3 : arg3.IsWhole) (arg9 : Memref sig .tc .vmem S1x4x128x128 .bf16) (harg9 : arg9.IsWhole) (arg10 : Memref sig .tc .vmem S1x1x512 .f32) (harg10 : arg10.IsWhole) (arg17 : Memref sig .tc .vmem S8x24x512 .f32) (x1 : Vec Ideal S32x3328 .f32) (x2 : Vec Ideal S1x8x15x512 .f32) (x8 : Vec Ideal S1x4x128x128 .bf16) (x9 : Vec Ideal S1x1x512 .f32)
/-- A load of four rows of page 0 of the pooled buffer. -/
theorem uload0 (r0 c0 : Nat) (h1' : 1 ≤ r0) (h2' : r0 + 4 ≤ 20) (h3' : c0 + 128 ≤ 512) {κ : Kind} {μ : Space} (v : View sig κ μ S8x24x512 .f32) (i1 : ∀ a, (![0, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![0, 0, 0] S1x24x512.size i1).stride a = 1) (hR : (Rect.unit (s := S24x512) ![r0, c0] S4x128.size i2).toLoadRect.shape.numel
      = ((Rect.unit (s := S8x24x512) ![0, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_3 c arg2 harg2 arg3 harg3 x1 x2) ((Rect.unit (s := S8x24x512) ![0, 0, 0] S1x24x512.size i1).withinL
      ((Rect.unit (s := S24x512) ![r0, c0] S4x128.size i2).toLoadRect.consLift ![1, 24, 512] h0 hs) h1)) (ix2 t l)
      = UE x1 x2 (⟨0, by omega⟩ : Fin 8) (⟨r0 + t.val, by omega⟩ : Fin 24) (⟨c0 + l.val, by omega⟩ : Fin 512) :=
  (load_page (B := 8) (R := 24) (C := 512) (b := 0) (r0 := r0) (c0 := c0) (h := 4) (w := 128) v _ i1 i2 h0 hs h1 hR t l).trans
    (UE0 c harg2 harg3 x1 x2 _ _ (by (try dsimp only); omega) (by (try dsimp only); omega))

/-- A load of four rows of page 1 of the pooled buffer. -/
theorem uload1 (r0 c0 : Nat) (h1' : 1 ≤ r0) (h2' : r0 + 4 ≤ 20) (h3' : c0 + 128 ≤ 512) {κ : Kind} {μ : Space} (v : View sig κ μ S8x24x512 .f32) (i1 : ∀ a, (![1, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![1, 0, 0] S1x24x512.size i1).stride a = 1) (hR : (Rect.unit (s := S24x512) ![r0, c0] S4x128.size i2).toLoadRect.shape.numel
      = ((Rect.unit (s := S8x24x512) ![1, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_5 c arg2 harg2 arg3 harg3 x1 x2) ((Rect.unit (s := S8x24x512) ![1, 0, 0] S1x24x512.size i1).withinL
      ((Rect.unit (s := S24x512) ![r0, c0] S4x128.size i2).toLoadRect.consLift ![1, 24, 512] h0 hs) h1)) (ix2 t l)
      = UE x1 x2 (⟨1, by omega⟩ : Fin 8) (⟨r0 + t.val, by omega⟩ : Fin 24) (⟨c0 + l.val, by omega⟩ : Fin 512) :=
  (load_page (B := 8) (R := 24) (C := 512) (b := 1) (r0 := r0) (c0 := c0) (h := 4) (w := 128) v _ i1 i2 h0 hs h1 hR t l).trans
    (UE1 c harg2 harg3 x1 x2 _ _ (by (try dsimp only); omega) (by (try dsimp only); omega))

/-- A load of four rows of page 2 of the pooled buffer. -/
theorem uload2 (r0 c0 : Nat) (h1' : 1 ≤ r0) (h2' : r0 + 4 ≤ 20) (h3' : c0 + 128 ≤ 512) {κ : Kind} {μ : Space} (v : View sig κ μ S8x24x512 .f32) (i1 : ∀ a, (![2, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![2, 0, 0] S1x24x512.size i1).stride a = 1) (hR : (Rect.unit (s := S24x512) ![r0, c0] S4x128.size i2).toLoadRect.shape.numel
      = ((Rect.unit (s := S8x24x512) ![2, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_7 c arg2 harg2 arg3 harg3 x1 x2) ((Rect.unit (s := S8x24x512) ![2, 0, 0] S1x24x512.size i1).withinL
      ((Rect.unit (s := S24x512) ![r0, c0] S4x128.size i2).toLoadRect.consLift ![1, 24, 512] h0 hs) h1)) (ix2 t l)
      = UE x1 x2 (⟨2, by omega⟩ : Fin 8) (⟨r0 + t.val, by omega⟩ : Fin 24) (⟨c0 + l.val, by omega⟩ : Fin 512) :=
  (load_page (B := 8) (R := 24) (C := 512) (b := 2) (r0 := r0) (c0 := c0) (h := 4) (w := 128) v _ i1 i2 h0 hs h1 hR t l).trans
    (UE2 c harg2 harg3 x1 x2 _ _ (by (try dsimp only); omega) (by (try dsimp only); omega))

/-- A load of four rows of page 3 of the pooled buffer. -/
theorem uload3 (r0 c0 : Nat) (h1' : 1 ≤ r0) (h2' : r0 + 4 ≤ 20) (h3' : c0 + 128 ≤ 512) {κ : Kind} {μ : Space} (v : View sig κ μ S8x24x512 .f32) (i1 : ∀ a, (![3, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![3, 0, 0] S1x24x512.size i1).stride a = 1) (hR : (Rect.unit (s := S24x512) ![r0, c0] S4x128.size i2).toLoadRect.shape.numel
      = ((Rect.unit (s := S8x24x512) ![3, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_9 c arg2 harg2 arg3 harg3 x1 x2) ((Rect.unit (s := S8x24x512) ![3, 0, 0] S1x24x512.size i1).withinL
      ((Rect.unit (s := S24x512) ![r0, c0] S4x128.size i2).toLoadRect.consLift ![1, 24, 512] h0 hs) h1)) (ix2 t l)
      = UE x1 x2 (⟨3, by omega⟩ : Fin 8) (⟨r0 + t.val, by omega⟩ : Fin 24) (⟨c0 + l.val, by omega⟩ : Fin 512) :=
  (load_page (B := 8) (R := 24) (C := 512) (b := 3) (r0 := r0) (c0 := c0) (h := 4) (w := 128) v _ i1 i2 h0 hs h1 hR t l).trans
    (UE3 c harg2 harg3 x1 x2 _ _ (by (try dsimp only); omega) (by (try dsimp only); omega))

/-- A load of four rows of page 4 of the pooled buffer. -/
theorem uload4 (r0 c0 : Nat) (h1' : 1 ≤ r0) (h2' : r0 + 4 ≤ 20) (h3' : c0 + 128 ≤ 512) {κ : Kind} {μ : Space} (v : View sig κ μ S8x24x512 .f32) (i1 : ∀ a, (![4, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![4, 0, 0] S1x24x512.size i1).stride a = 1) (hR : (Rect.unit (s := S24x512) ![r0, c0] S4x128.size i2).toLoadRect.shape.numel
      = ((Rect.unit (s := S8x24x512) ![4, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_11 c arg2 harg2 arg3 harg3 x1 x2) ((Rect.unit (s := S8x24x512) ![4, 0, 0] S1x24x512.size i1).withinL
      ((Rect.unit (s := S24x512) ![r0, c0] S4x128.size i2).toLoadRect.consLift ![1, 24, 512] h0 hs) h1)) (ix2 t l)
      = UE x1 x2 (⟨4, by omega⟩ : Fin 8) (⟨r0 + t.val, by omega⟩ : Fin 24) (⟨c0 + l.val, by omega⟩ : Fin 512) :=
  (load_page (B := 8) (R := 24) (C := 512) (b := 4) (r0 := r0) (c0 := c0) (h := 4) (w := 128) v _ i1 i2 h0 hs h1 hR t l).trans
    (UE4 c harg2 harg3 x1 x2 _ _ (by (try dsimp only); omega) (by (try dsimp only); omega))

/-- A load of four rows of page 5 of the pooled buffer. -/
theorem uload5 (r0 c0 : Nat) (h1' : 1 ≤ r0) (h2' : r0 + 4 ≤ 20) (h3' : c0 + 128 ≤ 512) {κ : Kind} {μ : Space} (v : View sig κ μ S8x24x512 .f32) (i1 : ∀ a, (![5, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![5, 0, 0] S1x24x512.size i1).stride a = 1) (hR : (Rect.unit (s := S24x512) ![r0, c0] S4x128.size i2).toLoadRect.shape.numel
      = ((Rect.unit (s := S8x24x512) ![5, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_13 c arg2 harg2 arg3 harg3 x1 x2) ((Rect.unit (s := S8x24x512) ![5, 0, 0] S1x24x512.size i1).withinL
      ((Rect.unit (s := S24x512) ![r0, c0] S4x128.size i2).toLoadRect.consLift ![1, 24, 512] h0 hs) h1)) (ix2 t l)
      = UE x1 x2 (⟨5, by omega⟩ : Fin 8) (⟨r0 + t.val, by omega⟩ : Fin 24) (⟨c0 + l.val, by omega⟩ : Fin 512) :=
  (load_page (B := 8) (R := 24) (C := 512) (b := 5) (r0 := r0) (c0 := c0) (h := 4) (w := 128) v _ i1 i2 h0 hs h1 hR t l).trans
    (UE5 c harg2 harg3 x1 x2 _ _ (by (try dsimp only); omega) (by (try dsimp only); omega))

/-- A load of four rows of page 6 of the pooled buffer. -/
theorem uload6 (r0 c0 : Nat) (h1' : 1 ≤ r0) (h2' : r0 + 4 ≤ 20) (h3' : c0 + 128 ≤ 512) {κ : Kind} {μ : Space} (v : View sig κ μ S8x24x512 .f32) (i1 : ∀ a, (![6, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![6, 0, 0] S1x24x512.size i1).stride a = 1) (hR : (Rect.unit (s := S24x512) ![r0, c0] S4x128.size i2).toLoadRect.shape.numel
      = ((Rect.unit (s := S8x24x512) ![6, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_15 c arg2 harg2 arg3 harg3 x1 x2) ((Rect.unit (s := S8x24x512) ![6, 0, 0] S1x24x512.size i1).withinL
      ((Rect.unit (s := S24x512) ![r0, c0] S4x128.size i2).toLoadRect.consLift ![1, 24, 512] h0 hs) h1)) (ix2 t l)
      = UE x1 x2 (⟨6, by omega⟩ : Fin 8) (⟨r0 + t.val, by omega⟩ : Fin 24) (⟨c0 + l.val, by omega⟩ : Fin 512) :=
  (load_page (B := 8) (R := 24) (C := 512) (b := 6) (r0 := r0) (c0 := c0) (h := 4) (w := 128) v _ i1 i2 h0 hs h1 hR t l).trans
    (UE6 c harg2 harg3 x1 x2 _ _ (by (try dsimp only); omega) (by (try dsimp only); omega))

/-- A load of four rows of page 7 of the pooled buffer. -/
theorem uload7 (r0 c0 : Nat) (h1' : 1 ≤ r0) (h2' : r0 + 4 ≤ 20) (h3' : c0 + 128 ≤ 512) {κ : Kind} {μ : Space} (v : View sig κ μ S8x24x512 .f32) (i1 : ∀ a, (![7, 0, 0] : Fin 3 → Nat) a + S1x24x512.size a ≤ S8x24x512.size a)
    (i2 : ∀ a, (![r0, c0] : Fin 2 → Nat) a + S4x128.size a ≤ S24x512.size a) (h0 : (![1, 24, 512] : Fin 3 → Nat) 0 = 1)
    (hs : ∀ i : Fin 2, (![1, 24, 512] : Fin 3 → Nat) i.succ = S24x512.size i)
    (h1 : ∀ a, (Rect.unit (s := S8x24x512) ![7, 0, 0] S1x24x512.size i1).stride a = 1) (hR : (Rect.unit (s := S24x512) ![r0, c0] S4x128.size i2).toLoadRect.shape.numel
      = ((Rect.unit (s := S8x24x512) ![7, 0, 0] S1x24x512.size i1).withinL
        ((Rect.unit (s := S24x512) ![r0, c0] S4x128.size i2).toLoadRect.consLift ![1, 24, 512] h0 hs) h1).shape.numel) (t : Fin 4) (l : Fin 128) :
    LoadRect.valAlong (lr := (Rect.unit (s := S24x512) ![r0, c0] S4x128.size i2).toLoadRect) hR (v.readCov (sl.HS0_17 c arg2 harg2 arg3 harg3 x1 x2) ((Rect.unit (s := S8x24x512) ![7, 0, 0] S1x24x512.size i1).withinL
      ((Rect.unit (s := S24x512) ![r0, c0] S4x128.size i2).toLoadRect.consLift ![1, 24, 512] h0 hs) h1)) (ix2 t l)
      = UE x1 x2 (⟨7, by omega⟩ : Fin 8) (⟨r0 + t.val, by omega⟩ : Fin 24) (⟨c0 + l.val, by omega⟩ : Fin 512) :=
  (load_page (B := 8) (R := 24) (C := 512) (b := 7) (r0 := r0) (c0 := c0) (h := 4) (w := 128) v _ i1 i2 h0 hs h1 hR t l).trans
    (UE7 c harg2 harg3 x1 x2 _ _ (by (try dsimp only); omega) (by (try dsimp only); omega))

/-- After 8192 tokens every window of 2 is full. -/
theorem cnt0 (t : Fin 4) : FloatOps.sitofp (F := Ideal) FTy.f32 (IntOp.minsi (IntOp.addi (IntOp.addi (8192#32) (BitVec.ofNat 32 t.val)) 1#32) 2#32)
    = FloatOps.sitofp (F := Ideal) .f32 (2#32) :=
  congrArg _ ((by decide +kernel : ∀ t : Fin 4, IntOp.minsi (IntOp.addi (IntOp.addi (8192#32) (BitVec.ofNat 32 t.val)) 1#32) 2#32 = 2#32) t)

/-- The mean of the last 2 rows at a token, minus the token's own row. -/
def PD0 (x1 : Vec Ideal S32x3328 .f32) (x2 : Vec Ideal S1x8x15x512 .f32) (b : Fin 8) (t : Fin 4) (k : Fin 128) : EReal :=
  Ideal.div (UE x1 x2 b (⟨16 + t.val, by omega⟩ : Fin 24) (⟨0 + k.val, by omega⟩ : Fin 512) + UE x1 x2 b (⟨15 + t.val, by omega⟩ : Fin 24) (⟨0 + k.val, by omega⟩ : Fin 512)) (FloatOps.sitofp (F := Ideal) .f32 (2#32)) - UE x1 x2 b (⟨16 + t.val, by omega⟩ : Fin 24) (⟨0 + k.val, by omega⟩ : Fin 512)

/-- The differences of sequence 0, group 0. -/
theorem D0_0 (t : Fin 4) (k : Fin 128) :
    sl.r_1 c arg2 harg2 arg3 harg3 arg17 x1 x2 (ix2 t k) = PD0 x1 x2 (⟨0, by omega⟩ : Fin 8) t k := by
  pointwise [sl.r_1, k0_pay18, sl.r, sl.v53, sl.v50]
  exact congr (congrArg HSub.hSub (congr (congrArg Ideal.div (ca (uload0 c arg2 harg2 arg3 harg3 x1 x2 16 0 (by omega) (by omega) (by omega) _ _ _ _ _ _ _ t k) (uload0 c arg2 harg2 arg3 harg3 x1 x2 15 0 (by omega) (by omega) (by omega) _ _ _ _ _ _ _ t k))) (cnt0 t))) (uload0 c arg2 harg2 arg3 harg3 x1 x2 16 0 (by omega) (by omega) (by omega) _ _ _ _ _ _ _ t k)

/-- The differences of sequence 1, group 0. -/
theorem D0_1 (t : Fin 4) (k : Fin 128) :
    sl.r_20 c arg2 harg2 arg3 harg3 arg17 x1 x2 (ix2 t k) = PD0 x1 x2 (⟨1, by omega⟩ : Fin 8) t k := by
  pointwise [sl.r_20, k0_pay60, sl.v390, sl.v393]
  exact congr (congrArg HSub.hSub (congr (congrArg Ideal.div (ca (uload1 c arg2 harg2 arg3 harg3 x1 x2 16 0 (by omega) (by omega) (by omega) _ _ _ _ _ _ _ t k) (uload1 c arg2 harg2 arg3 harg3 x1 x2 15 0 (by omega) (by omega) (by omega) _ _ _ _ _ _ _ t k))) (cnt0 t))) (uload1 c arg2 harg2 arg3 harg3 x1 x2 16 0 (by omega) (by omega) (by omega) _ _ _ _ _ _ _ t k)

/-- The differences of sequence 2, group 0. -/
theorem D0_2 (t : Fin 4) (k : Fin 128) :
    sl.r_40 c arg2 harg2 arg3 harg3 arg17 x1 x2 (ix2 t k) = PD0 x1 x2 (⟨2, by omega⟩ : Fin 8) t k := by
  pointwise [sl.r_40, k0_pay102, sl.v730, sl.v733]
  exact congr (congrArg HSub.hSub (congr (congrArg Ideal.div (ca (uload2 c arg2 harg2 arg3 harg3 x1 x2 16 0 (by omega) (by omega) (by omega) _ _ _ _ _ _ _ t k) (uload2 c arg2 harg2 arg3 harg3 x1 x2 15 0 (by omega) (by omega) (by omega) _ _ _ _ _ _ _ t k))) (cnt0 t))) (uload2 c arg2 harg2 arg3 harg3 x1 x2 16 0 (by omega) (by omega) (by omega) _ _ _ _ _ _ _ t k)

/-- The differences of sequence 3, group 0. -/
theorem D0_3 (t : Fin 4) (k : Fin 128) :
    sl.r_60 c arg2 harg2 arg3 harg3 arg17 x1 x2 (ix2 t k) = PD0 x1 x2 (⟨3, by omega⟩ : Fin 8) t k := by
  pointwise [sl.r_60, k0_pay143, sl.r_58, sl.r_59, sl.v1070, k0_pay142, sl.v1073]
  exact congr (congrArg HSub.hSub (congr (congrArg Ideal.div (ca (uload3 c arg2 harg2 arg3 harg3 x1 x2 16 0 (by omega) (by omega) (by omega) _ _ _ _ _ _ _ t k) (uload3 c arg2 harg2 arg3 harg3 x1 x2 15 0 (by omega) (by omega) (by omega) _ _ _ _ _ _ _ t k))) (cnt0 t))) (uload3 c arg2 harg2 arg3 harg3 x1 x2 16 0 (by omega) (by omega) (by omega) _ _ _ _ _ _ _ t k)

/-- The differences of sequence 4, group 0. -/
theorem D0_4 (t : Fin 4) (k : Fin 128) :
    sl.r_76 c arg2 harg2 arg3 harg3 arg17 x1 x2 (ix2 t k) = PD0 x1 x2 (⟨4, by omega⟩ : Fin 8) t k := by
  pointwise [sl.r_76, k0_pay181, sl.v1410, sl.v1413]
  exact congr (congrArg HSub.hSub (congr (congrArg Ideal.div (ca (uload4 c arg2 harg2 arg3 harg3 x1 x2 16 0 (by omega) (by omega) (by omega) _ _ _ _ _ _ _ t k) (uload4 c arg2 harg2 arg3 harg3 x1 x2 15 0 (by omega) (by omega) (by omega) _ _ _ _ _ _ _ t k))) (cnt0 t))) (uload4 c arg2 harg2 arg3 harg3 x1 x2 16 0 (by omega) (by omega) (by omega) _ _ _ _ _ _ _ t k)

/-- The differences of sequence 5, group 0. -/
theorem D0_5 (t : Fin 4) (k : Fin 128) :
    sl.r_97 c arg2 harg2 arg3 harg3 arg17 x1 x2 (ix2 t k) = PD0 x1 x2 (⟨5, by omega⟩ : Fin 8) t k := by
  pointwise [sl.r_97, k0_pay226, sl.v1750, sl.v1753]
  exact congr (congrArg HSub.hSub (congr (congrArg Ideal.div (ca (uload5 c arg2 harg2 arg3 harg3 x1 x2 16 0 (by omega) (by omega) (by omega) _ _ _ _ _ _ _ t k) (uload5 c arg2 harg2 arg3 harg3 x1 x2 15 0 (by omega) (by omega) (by omega) _ _ _ _ _ _ _ t k))) (cnt0 t))) (uload5 c arg2 harg2 arg3 harg3 x1 x2 16 0 (by omega) (by omega) (by omega) _ _ _ _ _ _ _ t k)

/-- The differences of sequence 6, group 0. -/
theorem D0_6 (t : Fin 4) (k : Fin 128) :
    sl.r_118 c arg2 harg2 arg3 harg3 arg17 x1 x2 (ix2 t k) = PD0 x1 x2 (⟨6, by omega⟩ : Fin 8) t k := by
  pointwise [sl.r_118, k0_pay269, sl.r_116, sl.r_117, k0_pay267, k0_pay268, sl.v2090, k0_pay266, sl.v2093]
  exact congr (congrArg HSub.hSub (congr (congrArg Ideal.div (ca (uload6 c arg2 harg2 arg3 harg3 x1 x2 16 0 (by omega) (by omega) (by omega) _ _ _ _ _ _ _ t k) (uload6 c arg2 harg2 arg3 harg3 x1 x2 15 0 (by omega) (by omega) (by omega) _ _ _ _ _ _ _ t k))) (cnt0 t))) (uload6 c arg2 harg2 arg3 harg3 x1 x2 16 0 (by omega) (by omega) (by omega) _ _ _ _ _ _ _ t k)

/-- The differences of sequence 7, group 0. -/
theorem D0_7 (t : Fin 4) (k : Fin 128) :
    sl.r_137 c arg2 harg2 arg3 harg3 arg17 x1 x2 (ix2 t k) = PD0 x1 x2 (⟨7, by omega⟩ : Fin 8) t k := by
  pointwise [sl.r_137, k0_pay310, sl.r_136, sl.v2433, sl.v2430]
  exact congr (congrArg HSub.hSub (congr (congrArg Ideal.div (ca (uload7 c arg2 harg2 arg3 harg3 x1 x2 16 0 (by omega) (by omega) (by omega) _ _ _ _ _ _ _ t k) (uload7 c arg2 harg2 arg3 harg3 x1 x2 15 0 (by omega) (by omega) (by omega) _ _ _ _ _ _ _ t k))) (cnt0 t))) (uload7 c arg2 harg2 arg3 harg3 x1 x2 16 0 (by omega) (by omega) (by omega) _ _ _ _ _ _ _ t k)

/-- After 8192 tokens every window of 4 is full. -/
theorem cnt1 (t : Fin 4) : FloatOps.sitofp (F := Ideal) FTy.f32 (IntOp.minsi (IntOp.addi (IntOp.addi (8192#32) (BitVec.ofNat 32 t.val)) 1#32) 4#32)
    = FloatOps.sitofp (F := Ideal) .f32 (4#32) :=
  congrArg _ ((by decide +kernel : ∀ t : Fin 4, IntOp.minsi (IntOp.addi (IntOp.addi (8192#32) (BitVec.ofNat 32 t.val)) 1#32) 4#32 = 4#32) t)

/-- The mean of the last 4 rows at a token, minus the token's own row. -/
def PD1 (x1 : Vec Ideal S32x3328 .f32) (x2 : Vec Ideal S1x8x15x512 .f32) (b : Fin 8) (t : Fin 4) (k : Fin 128) : EReal :=
  Ideal.div (UE x1 x2 b (⟨16 + t.val, by omega⟩ : Fin 24) (⟨128 + k.val, by omega⟩ : Fin 512) + UE x1 x2 b (⟨15 + t.val, by omega⟩ : Fin 24) (⟨128 + k.val, by omega⟩ : Fin 512) + UE x1 x2 b (⟨14 + t.val, by omega⟩ : Fin 24) (⟨128 + k.val, by omega⟩ : Fin 512) + UE x1 x2 b (⟨13 + t.val, by omega⟩ : Fin 24) (⟨128 + k.val, by omega⟩ : Fin 512)) (FloatOps.sitofp (F := Ideal) .f32 (4#32)) - UE x1 x2 b (⟨16 + t.val, by omega⟩ : Fin 24) (⟨128 + k.val, by omega⟩ : Fin 512)

/-- The differences of sequence 0, group 1. -/
theorem D1_0 (t : Fin 4) (k : Fin 128) :
    sl.r_4 c arg2 harg2 arg3 harg3 arg17 x1 x2 (ix2 t k) = PD1 x1 x2 (⟨0, by omega⟩ : Fin 8) t k := by
  pointwise [sl.r_4, k0_pay21, sl.r_2, sl.r_3, sl.v80, k0_pay20, sl.v67, k0_pay19, sl.v70, sl.v74, sl.v78]
  exact congr (congrArg HSub.hSub (congr (congrArg Ideal.div (ca (ca (ca (uload0 c arg2 harg2 arg3 harg3 x1 x2 16 128 (by omega) (by omega) (by omega) _ _ _ _ _ _ _ t k) (uload0 c arg2 harg2 arg3 harg3 x1 x2 15 128 (by omega) (by omega) (by omega) _ _ _ _ _ _ _ t k)) (uload0 c arg2 harg2 arg3 harg3 x1 x2 14 128 (by omega) (by omega) (by omega) _ _ _ _ _ _ _ t k)) (uload0 c arg2 harg2 arg3 harg3 x1 x2 13 128 (by omega) (by omega) (by omega) _ _ _ _ _ _ _ t k))) (cnt1 t))) (uload0 c arg2 harg2 arg3 harg3 x1 x2 16 128 (by omega) (by omega) (by omega) _ _ _ _ _ _ _ t k)

/-- The differences of sequence 1, group 1. -/
theorem D1_1 (t : Fin 4) (k : Fin 128) :
    sl.r_23 c arg2 harg2 arg3 harg3 arg17 x1 x2 (ix2 t k) = PD1 x1 x2 (⟨1, by omega⟩ : Fin 8) t k := by
  pointwise [sl.r_23, k0_pay62, sl.r_21, sl.r_22, sl.v414, sl.v418, sl.v407, k0_pay61, sl.v410]
  exact congr (congrArg HSub.hSub (congr (congrArg Ideal.div (ca (ca (ca (uload1 c arg2 harg2 arg3 harg3 x1 x2 16 128 (by omega) (by omega) (by omega) _ _ _ _ _ _ _ t k) (uload1 c arg2 harg2 arg3 harg3 x1 x2 15 128 (by omega) (by omega) (by omega) _ _ _ _ _ _ _ t k)) (uload1 c arg2 harg2 arg3 harg3 x1 x2 14 128 (by omega) (by omega) (by omega) _ _ _ _ _ _ _ t k)) (uload1 c arg2 harg2 arg3 harg3 x1 x2 13 128 (by omega) (by omega) (by omega) _ _ _ _ _ _ _ t k))) (cnt1 t))) (uload1 c arg2 harg2 arg3 harg3 x1 x2 16 128 (by omega) (by omega) (by omega) _ _ _ _ _ _ _ t k)

/-- The differences of sequence 2, group 1. -/
theorem D1_2 (t : Fin 4) (k : Fin 128) :
    sl.r_41 c arg2 harg2 arg3 harg3 arg17 x1 x2 (ix2 t k) = PD1 x1 x2 (⟨2, by omega⟩ : Fin 8) t k := by
  pointwise [sl.r_41, k0_pay103, sl.v747, sl.v750, sl.v754, sl.v758]
  exact congr (congrArg HSub.hSub (congr (congrArg Ideal.div (ca (ca (ca (uload2 c arg2 harg2 arg3 harg3 x1 x2 16 128 (by omega) (by omega) (by omega) _ _ _ _ _ _ _ t k) (uload2 c arg2 harg2 arg3 harg3 x1 x2 15 128 (by omega) (by omega) (by omega) _ _ _ _ _ _ _ t k)) (uload2 c arg2 harg2 arg3 harg3 x1 x2 14 128 (by omega) (by omega) (by omega) _ _ _ _ _ _ _ t k)) (uload2 c arg2 harg2 arg3 harg3 x1 x2 13 128 (by omega) (by omega) (by omega) _ _ _ _ _ _ _ t k))) (cnt1 t))) (uload2 c arg2 harg2 arg3 harg3 x1 x2 16 128 (by omega) (by omega) (by omega) _ _ _ _ _ _ _ t k)

/-- The differences of sequence 3, group 1. -/
theorem D1_3 (t : Fin 4) (k : Fin 128) :
    sl.r_63 c arg2 harg2 arg3 harg3 arg17 x1 x2 (ix2 t k) = PD1 x1 x2 (⟨3, by omega⟩ : Fin 8) t k := by
  pointwise [sl.r_63, k0_pay145, sl.r_61, sl.r_62, sl.v1087, k0_pay144, sl.v1090, sl.v1094, sl.v1098]
  exact congr (congrArg HSub.hSub (congr (congrArg Ideal.div (ca (ca (ca (uload3 c arg2 harg2 arg3 harg3 x1 x2 16 128 (by omega) (by omega) (by omega) _ _ _ _ _ _ _ t k) (uload3 c arg2 harg2 arg3 harg3 x1 x2 15 128 (by omega) (by omega) (by omega) _ _ _ _ _ _ _ t k)) (uload3 c arg2 harg2 arg3 harg3 x1 x2 14 128 (by omega) (by omega) (by omega) _ _ _ _ _ _ _ t k)) (uload3 c arg2 harg2 arg3 harg3 x1 x2 13 128 (by omega) (by omega) (by omega) _ _ _ _ _ _ _ t k))) (cnt1 t))) (uload3 c arg2 harg2 arg3 harg3 x1 x2 16 128 (by omega) (by omega) (by omega) _ _ _ _ _ _ _ t k)

/-- The differences of sequence 4, group 1. -/
theorem D1_4 (t : Fin 4) (k : Fin 128) :
    sl.r_79 c arg2 harg2 arg3 harg3 arg17 x1 x2 (ix2 t k) = PD1 x1 x2 (⟨4, by omega⟩ : Fin 8) t k := by
  pointwise [sl.r_79, k0_pay183, sl.r_77, sl.r_78, sl.v1438, sl.v1427, k0_pay182, sl.v1430, sl.v1434]
  exact congr (congrArg HSub.hSub (congr (congrArg Ideal.div (ca (ca (ca (uload4 c arg2 harg2 arg3 harg3 x1 x2 16 128 (by omega) (by omega) (by omega) _ _ _ _ _ _ _ t k) (uload4 c arg2 harg2 arg3 harg3 x1 x2 15 128 (by omega) (by omega) (by omega) _ _ _ _ _ _ _ t k)) (uload4 c arg2 harg2 arg3 harg3 x1 x2 14 128 (by omega) (by omega) (by omega) _ _ _ _ _ _ _ t k)) (uload4 c arg2 harg2 arg3 harg3 x1 x2 13 128 (by omega) (by omega) (by omega) _ _ _ _ _ _ _ t k))) (cnt1 t))) (uload4 c arg2 harg2 arg3 harg3 x1 x2 16 128 (by omega) (by omega) (by omega) _ _ _ _ _ _ _ t k)

/-- The differences of sequence 5, group 1. -/
theorem D1_5 (t : Fin 4) (k : Fin 128) :
    sl.r_99 c arg2 harg2 arg3 harg3 arg17 x1 x2 (ix2 t k) = PD1 x1 x2 (⟨5, by omega⟩ : Fin 8) t k := by
  pointwise [sl.r_99, k0_pay227, sl.r_98, sl.v1770, sl.v1774, sl.v1778, sl.v1767]
  exact congr (congrArg HSub.hSub (congr (congrArg Ideal.div (ca (ca (ca (uload5 c arg2 harg2 arg3 harg3 x1 x2 16 128 (by omega) (by omega) (by omega) _ _ _ _ _ _ _ t k) (uload5 c arg2 harg2 arg3 harg3 x1 x2 15 128 (by omega) (by omega) (by omega) _ _ _ _ _ _ _ t k)) (uload5 c arg2 harg2 arg3 harg3 x1 x2 14 128 (by omega) (by omega) (by omega) _ _ _ _ _ _ _ t k)) (uload5 c arg2 harg2 arg3 harg3 x1 x2 13 128 (by omega) (by omega) (by omega) _ _ _ _ _ _ _ t k))) (cnt1 t))) (uload5 c arg2 harg2 arg3 harg3 x1 x2 16 128 (by omega) (by omega) (by omega) _ _ _ _ _ _ _ t k)

/-- The differences of sequence 6, group 1. -/
theorem D1_6 (t : Fin 4) (k : Fin 128) :
    sl.r_119 c arg2 harg2 arg3 harg3 arg17 x1 x2 (ix2 t k) = PD1 x1 x2 (⟨6, by omega⟩ : Fin 8) t k := by
  pointwise [sl.r_119, k0_pay270, sl.v2107, sl.v2110, sl.v2114, sl.v2118]
  exact congr (congrArg HSub.hSub (congr (congrArg Ideal.div (ca (ca (ca (uload6 c arg2 harg2 arg3 harg3 x1 x2 16 128 (by omega) (by omega) (by omega) _ _ _ _ _ _ _ t k) (uload6 c arg2 harg2 arg3 harg3 x1 x2 15 128 (by omega) (by omega) (by omega) _ _ _ _ _ _ _ t k)) (uload6 c arg2 harg2 arg3 harg3 x1 x2 14 128 (by omega) (by omega) (by omega) _ _ _ _ _ _ _ t k)) (uload6 c arg2 harg2 arg3 harg3 x1 x2 13 128 (by omega) (by omega) (by omega) _ _ _ _ _ _ _ t k))) (cnt1 t))) (uload6 c arg2 harg2 arg3 harg3 x1 x2 16 128 (by omega) (by omega) (by omega) _ _ _ _ _ _ _ t k)

/-- The differences of sequence 7, group 1. -/
theorem D1_7 (t : Fin 4) (k : Fin 128) :
    sl.r_140 c arg2 harg2 arg3 harg3 arg17 x1 x2 (ix2 t k) = PD1 x1 x2 (⟨7, by omega⟩ : Fin 8) t k := by
  pointwise [sl.r_140, k0_pay313, sl.r_138, sl.r_139, k0_pay312, sl.v2447, k0_pay311, sl.v2450, sl.v2454, sl.v2458]
  exact congr (congrArg HSub.hSub (congr (congrArg Ideal.div (ca (ca (ca (uload7 c arg2 harg2 arg3 harg3 x1 x2 16 128 (by omega) (by omega) (by omega) _ _ _ _ _ _ _ t k) (uload7 c arg2 harg2 arg3 harg3 x1 x2 15 128 (by omega) (by omega) (by omega) _ _ _ _ _ _ _ t k)) (uload7 c arg2 harg2 arg3 harg3 x1 x2 14 128 (by omega) (by omega) (by omega) _ _ _ _ _ _ _ t k)) (uload7 c arg2 harg2 arg3 harg3 x1 x2 13 128 (by omega) (by omega) (by omega) _ _ _ _ _ _ _ t k))) (cnt1 t))) (uload7 c arg2 harg2 arg3 harg3 x1 x2 16 128 (by omega) (by omega) (by omega) _ _ _ _ _ _ _ t k)

/-- After 8192 tokens every window of 8 is full. -/
theorem cnt2 (t : Fin 4) : FloatOps.sitofp (F := Ideal) FTy.f32 (IntOp.minsi (IntOp.addi (IntOp.addi (8192#32) (BitVec.ofNat 32 t.val)) 1#32) 8#32)
    = FloatOps.sitofp (F := Ideal) .f32 (8#32) :=
  congrArg _ ((by decide +kernel : ∀ t : Fin 4, IntOp.minsi (IntOp.addi (IntOp.addi (8192#32) (BitVec.ofNat 32 t.val)) 1#32) 8#32 = 8#32) t)

/-- The mean of the last 8 rows at a token, minus the token's own row. -/
def PD2 (x1 : Vec Ideal S32x3328 .f32) (x2 : Vec Ideal S1x8x15x512 .f32) (b : Fin 8) (t : Fin 4) (k : Fin 128) : EReal :=
  Ideal.div (UE x1 x2 b (⟨16 + t.val, by omega⟩ : Fin 24) (⟨256 + k.val, by omega⟩ : Fin 512) + UE x1 x2 b (⟨15 + t.val, by omega⟩ : Fin 24) (⟨256 + k.val, by omega⟩ : Fin 512) + UE x1 x2 b (⟨14 + t.val, by omega⟩ : Fin 24) (⟨256 + k.val, by omega⟩ : Fin 512) + UE x1 x2 b (⟨13 + t.val, by omega⟩ : Fin 24) (⟨256 + k.val, by omega⟩ : Fin 512) + UE x1 x2 b (⟨12 + t.val, by omega⟩ : Fin 24) (⟨256 + k.val, by omega⟩ : Fin 512) + UE x1 x2 b (⟨11 + t.val, by omega⟩ : Fin 24) (⟨256 + k.val, by omega⟩ : Fin 512) + UE x1 x2 b (⟨10 + t.val, by omega⟩ : Fin 24) (⟨256 + k.val, by omega⟩ : Fin 512) + UE x1 x2 b (⟨9 + t.val, by omega⟩ : Fin 24) (⟨256 + k.val, by omega⟩ : Fin 512)) (FloatOps.sitofp (F := Ideal) .f32 (8#32)) - UE x1 x2 b (⟨16 + t.val, by omega⟩ : Fin 24) (⟨256 + k.val, by omega⟩ : Fin 512)

/-- The differences of sequence 0, group 2. -/
theorem D2_0 (t : Fin 4) (k : Fin 128) :
    sl.r_7 c arg2 harg2 arg3 harg3 arg17 x1 x2 (ix2 t k) = PD2 x1 x2 (⟨0, by omega⟩ : Fin 8) t k := by
  pointwise [sl.r_7, k0_pay23, sl.r_5, sl.r_6, sl.v111, sl.v115, sl.v119, sl.v92, k0_pay22, sl.v95, sl.v99, sl.v103, sl.v107]
  exact congr (congrArg HSub.hSub (congr (congrArg Ideal.div (ca (ca (ca (ca (ca (ca (ca (uload0 c arg2 harg2 arg3 harg3 x1 x2 16 256 (by omega) (by omega) (by omega) _ _ _ _ _ _ _ t k) (uload0 c arg2 harg2 arg3 harg3 x1 x2 15 256 (by omega) (by omega) (by omega) _ _ _ _ _ _ _ t k)) (uload0 c arg2 harg2 arg3 harg3 x1 x2 14 256 (by omega) (by omega) (by omega) _ _ _ _ _ _ _ t k)) (uload0 c arg2 harg2 arg3 harg3 x1 x2 13 256 (by omega) (by omega) (by omega) _ _ _ _ _ _ _ t k)) (uload0 c arg2 harg2 arg3 harg3 x1 x2 12 256 (by omega) (by omega) (by omega) _ _ _ _ _ _ _ t k)) (uload0 c arg2 harg2 arg3 harg3 x1 x2 11 256 (by omega) (by omega) (by omega) _ _ _ _ _ _ _ t k)) (uload0 c arg2 harg2 arg3 harg3 x1 x2 10 256 (by omega) (by omega) (by omega) _ _ _ _ _ _ _ t k)) (uload0 c arg2 harg2 arg3 harg3 x1 x2 9 256 (by omega) (by omega) (by omega) _ _ _ _ _ _ _ t k))) (cnt2 t))) (uload0 c arg2 harg2 arg3 harg3 x1 x2 16 256 (by omega) (by omega) (by omega) _ _ _ _ _ _ _ t k)

/-- The differences of sequence 1, group 2. -/
theorem D2_1 (t : Fin 4) (k : Fin 128) :
    sl.r_26 c arg2 harg2 arg3 harg3 arg17 x1 x2 (ix2 t k) = PD2 x1 x2 (⟨1, by omega⟩ : Fin 8) t k := by
  pointwise [sl.r_26, k0_pay64, sl.r_24, sl.r_25, sl.v443, sl.v447, sl.v451, sl.v455, sl.v459, sl.v432, k0_pay63, sl.v435, sl.v439]
  exact congr (congrArg HSub.hSub (congr (congrArg Ideal.div (ca (ca (ca (ca (ca (ca (ca (uload1 c arg2 harg2 arg3 harg3 x1 x2 16 256 (by omega) (by omega) (by omega) _ _ _ _ _ _ _ t k) (uload1 c arg2 harg2 arg3 harg3 x1 x2 15 256 (by omega) (by omega) (by omega) _ _ _ _ _ _ _ t k)) (uload1 c arg2 harg2 arg3 harg3 x1 x2 14 256 (by omega) (by omega) (by omega) _ _ _ _ _ _ _ t k)) (uload1 c arg2 harg2 arg3 harg3 x1 x2 13 256 (by omega) (by omega) (by omega) _ _ _ _ _ _ _ t k)) (uload1 c arg2 harg2 arg3 harg3 x1 x2 12 256 (by omega) (by omega) (by omega) _ _ _ _ _ _ _ t k)) (uload1 c arg2 harg2 arg3 harg3 x1 x2 11 256 (by omega) (by omega) (by omega) _ _ _ _ _ _ _ t k)) (uload1 c arg2 harg2 arg3 harg3 x1 x2 10 256 (by omega) (by omega) (by omega) _ _ _ _ _ _ _ t k)) (uload1 c arg2 harg2 arg3 harg3 x1 x2 9 256 (by omega) (by omega) (by omega) _ _ _ _ _ _ _ t k))) (cnt2 t))) (uload1 c arg2 harg2 arg3 harg3 x1 x2 16 256 (by omega) (by omega) (by omega) _ _ _ _ _ _ _ t k)

/-- The differences of sequence 2, group 2. -/
theorem D2_2 (t : Fin 4) (k : Fin 128) :
    sl.r_45 c arg2 harg2 arg3 harg3 arg17 x1 x2 (ix2 t k) = PD2 x1 x2 (⟨2, by omega⟩ : Fin 8) t k := by
  pointwise [sl.r_45, k0_pay106, sl.r_42, sl.r_44, k0_pay105, sl.v772, k0_pay104, sl.r_43, sl.v779, sl.v783, sl.v787, sl.v791, sl.v795, sl.v799, sl.v775]
  exact congr (congrArg HSub.hSub (congr (congrArg Ideal.div (ca (ca (ca (ca (ca (ca (ca (uload2 c arg2 harg2 arg3 harg3 x1 x2 16 256 (by omega) (by omega) (by omega) _ _ _ _ _ _ _ t k) (uload2 c arg2 harg2 arg3 harg3 x1 x2 15 256 (by omega) (by omega) (by omega) _ _ _ _ _ _ _ t k)) (uload2 c arg2 harg2 arg3 harg3 x1 x2 14 256 (by omega) (by omega) (by omega) _ _ _ _ _ _ _ t k)) (uload2 c arg2 harg2 arg3 harg3 x1 x2 13 256 (by omega) (by omega) (by omega) _ _ _ _ _ _ _ t k)) (uload2 c arg2 harg2 arg3 harg3 x1 x2 12 256 (by omega) (by omega) (by omega) _ _ _ _ _ _ _ t k)) (uload2 c arg2 harg2 arg3 harg3 x1 x2 11 256 (by omega) (by omega) (by omega) _ _ _ _ _ _ _ t k)) (uload2 c arg2 harg2 arg3 harg3 x1 x2 10 256 (by omega) (by omega) (by omega) _ _ _ _ _ _ _ t k)) (uload2 c arg2 harg2 arg3 harg3 x1 x2 9 256 (by omega) (by omega) (by omega) _ _ _ _ _ _ _ t k))) (cnt2 t))) (uload2 c arg2 harg2 arg3 harg3 x1 x2 16 256 (by omega) (by omega) (by omega) _ _ _ _ _ _ _ t k)

/-- The differences of sequence 3, group 2. -/
theorem D2_3 (t : Fin 4) (k : Fin 128) :
    sl.r_66 c arg2 harg2 arg3 harg3 arg17 x1 x2 (ix2 t k) = PD2 x1 x2 (⟨3, by omega⟩ : Fin 8) t k := by
  pointwise [sl.r_66, k0_pay147, sl.r_64, sl.r_65, sl.v1135, sl.v1139, sl.v1112, k0_pay146, sl.v1115, sl.v1119, sl.v1123, sl.v1127, sl.v1131]
  exact congr (congrArg HSub.hSub (congr (congrArg Ideal.div (ca (ca (ca (ca (ca (ca (ca (uload3 c arg2 harg2 arg3 harg3 x1 x2 16 256 (by omega) (by omega) (by omega) _ _ _ _ _ _ _ t k) (uload3 c arg2 harg2 arg3 harg3 x1 x2 15 256 (by omega) (by omega) (by omega) _ _ _ _ _ _ _ t k)) (uload3 c arg2 harg2 arg3 harg3 x1 x2 14 256 (by omega) (by omega) (by omega) _ _ _ _ _ _ _ t k)) (uload3 c arg2 harg2 arg3 harg3 x1 x2 13 256 (by omega) (by omega) (by omega) _ _ _ _ _ _ _ t k)) (uload3 c arg2 harg2 arg3 harg3 x1 x2 12 256 (by omega) (by omega) (by omega) _ _ _ _ _ _ _ t k)) (uload3 c arg2 harg2 arg3 harg3 x1 x2 11 256 (by omega) (by omega) (by omega) _ _ _ _ _ _ _ t k)) (uload3 c arg2 harg2 arg3 harg3 x1 x2 10 256 (by omega) (by omega) (by omega) _ _ _ _ _ _ _ t k)) (uload3 c arg2 harg2 arg3 harg3 x1 x2 9 256 (by omega) (by omega) (by omega) _ _ _ _ _ _ _ t k))) (cnt2 t))) (uload3 c arg2 harg2 arg3 harg3 x1 x2 16 256 (by omega) (by omega) (by omega) _ _ _ _ _ _ _ t k)

/-- The differences of sequence 4, group 2. -/
theorem D2_4 (t : Fin 4) (k : Fin 128) :
    sl.r_82 c arg2 harg2 arg3 harg3 arg17 x1 x2 (ix2 t k) = PD2 x1 x2 (⟨4, by omega⟩ : Fin 8) t k := by
  pointwise [sl.r_82, k0_pay185, sl.r_80, sl.r_81, sl.v1467, sl.v1471, sl.v1475, sl.v1479, sl.v1452, k0_pay184, sl.v1455, sl.v1459, sl.v1463]
  exact congr (congrArg HSub.hSub (congr (congrArg Ideal.div (ca (ca (ca (ca (ca (ca (ca (uload4 c arg2 harg2 arg3 harg3 x1 x2 16 256 (by omega) (by omega) (by omega) _ _ _ _ _ _ _ t k) (uload4 c arg2 harg2 arg3 harg3 x1 x2 15 256 (by omega) (by omega) (by omega) _ _ _ _ _ _ _ t k)) (uload4 c arg2 harg2 arg3 harg3 x1 x2 14 256 (by omega) (by omega) (by omega) _ _ _ _ _ _ _ t k)) (uload4 c arg2 harg2 arg3 harg3 x1 x2 13 256 (by omega) (by omega) (by omega) _ _ _ _ _ _ _ t k)) (uload4 c arg2 harg2 arg3 harg3 x1 x2 12 256 (by omega) (by omega) (by omega) _ _ _ _ _ _ _ t k)) (uload4 c arg2 harg2 arg3 harg3 x1 x2 11 256 (by omega) (by omega) (by omega) _ _ _ _ _ _ _ t k)) (uload4 c arg2 harg2 arg3 harg3 x1 x2 10 256 (by omega) (by omega) (by omega) _ _ _ _ _ _ _ t k)) (uload4 c arg2 harg2 arg3 harg3 x1 x2 9 256 (by omega) (by omega) (by omega) _ _ _ _ _ _ _ t k))) (cnt2 t))) (uload4 c arg2 harg2 arg3 harg3 x1 x2 16 256 (by omega) (by omega) (by omega) _ _ _ _ _ _ _ t k)

/-- The differences of sequence 5, group 2. -/
theorem D2_5 (t : Fin 4) (k : Fin 128) :
    sl.r_103 c arg2 harg2 arg3 harg3 arg17 x1 x2 (ix2 t k) = PD2 x1 x2 (⟨5, by omega⟩ : Fin 8) t k := by
  pointwise [sl.r_103, k0_pay229, sl.r_100, sl.r_101, sl.r_102, sl.v1803, sl.v1807, sl.v1811, sl.v1815, sl.v1819, sl.v1792, k0_pay228, sl.v1795, sl.v1799]
  exact congr (congrArg HSub.hSub (congr (congrArg Ideal.div (ca (ca (ca (ca (ca (ca (ca (uload5 c arg2 harg2 arg3 harg3 x1 x2 16 256 (by omega) (by omega) (by omega) _ _ _ _ _ _ _ t k) (uload5 c arg2 harg2 arg3 harg3 x1 x2 15 256 (by omega) (by omega) (by omega) _ _ _ _ _ _ _ t k)) (uload5 c arg2 harg2 arg3 harg3 x1 x2 14 256 (by omega) (by omega) (by omega) _ _ _ _ _ _ _ t k)) (uload5 c arg2 harg2 arg3 harg3 x1 x2 13 256 (by omega) (by omega) (by omega) _ _ _ _ _ _ _ t k)) (uload5 c arg2 harg2 arg3 harg3 x1 x2 12 256 (by omega) (by omega) (by omega) _ _ _ _ _ _ _ t k)) (uload5 c arg2 harg2 arg3 harg3 x1 x2 11 256 (by omega) (by omega) (by omega) _ _ _ _ _ _ _ t k)) (uload5 c arg2 harg2 arg3 harg3 x1 x2 10 256 (by omega) (by omega) (by omega) _ _ _ _ _ _ _ t k)) (uload5 c arg2 harg2 arg3 harg3 x1 x2 9 256 (by omega) (by omega) (by omega) _ _ _ _ _ _ _ t k))) (cnt2 t))) (uload5 c arg2 harg2 arg3 harg3 x1 x2 16 256 (by omega) (by omega) (by omega) _ _ _ _ _ _ _ t k)

/-- The differences of sequence 6, group 2. -/
theorem D2_6 (t : Fin 4) (k : Fin 128) :
    sl.r_122 c arg2 harg2 arg3 harg3 arg17 x1 x2 (ix2 t k) = PD2 x1 x2 (⟨6, by omega⟩ : Fin 8) t k := by
  pointwise [sl.r_122, k0_pay272, sl.r_120, sl.r_121, sl.v2159, sl.v2132, k0_pay271, sl.v2135, sl.v2139, sl.v2143, sl.v2147, sl.v2151, sl.v2155]
  exact congr (congrArg HSub.hSub (congr (congrArg Ideal.div (ca (ca (ca (ca (ca (ca (ca (uload6 c arg2 harg2 arg3 harg3 x1 x2 16 256 (by omega) (by omega) (by omega) _ _ _ _ _ _ _ t k) (uload6 c arg2 harg2 arg3 harg3 x1 x2 15 256 (by omega) (by omega) (by omega) _ _ _ _ _ _ _ t k)) (uload6 c arg2 harg2 arg3 harg3 x1 x2 14 256 (by omega) (by omega) (by omega) _ _ _ _ _ _ _ t k)) (uload6 c arg2 harg2 arg3 harg3 x1 x2 13 256 (by omega) (by omega) (by omega) _ _ _ _ _ _ _ t k)) (uload6 c arg2 harg2 arg3 harg3 x1 x2 12 256 (by omega) (by omega) (by omega) _ _ _ _ _ _ _ t k)) (uload6 c arg2 harg2 arg3 harg3 x1 x2 11 256 (by omega) (by omega) (by omega) _ _ _ _ _ _ _ t k)) (uload6 c arg2 harg2 arg3 harg3 x1 x2 10 256 (by omega) (by omega) (by omega) _ _ _ _ _ _ _ t k)) (uload6 c arg2 harg2 arg3 harg3 x1 x2 9 256 (by omega) (by omega) (by omega) _ _ _ _ _ _ _ t k))) (cnt2 t))) (uload6 c arg2 harg2 arg3 harg3 x1 x2 16 256 (by omega) (by omega) (by omega) _ _ _ _ _ _ _ t k)

/-- The differences of sequence 7, group 2. -/
theorem D2_7 (t : Fin 4) (k : Fin 128) :
    sl.r_143 c arg2 harg2 arg3 harg3 arg17 x1 x2 (ix2 t k) = PD2 x1 x2 (⟨7, by omega⟩ : Fin 8) t k := by
  pointwise [sl.r_143, k0_pay315, sl.r_141, sl.r_142, sl.v2491, sl.v2495, sl.v2499, sl.v2472, k0_pay314, sl.v2475, sl.v2479, sl.v2483, sl.v2487]
  exact congr (congrArg HSub.hSub (congr (congrArg Ideal.div (ca (ca (ca (ca (ca (ca (ca (uload7 c arg2 harg2 arg3 harg3 x1 x2 16 256 (by omega) (by omega) (by omega) _ _ _ _ _ _ _ t k) (uload7 c arg2 harg2 arg3 harg3 x1 x2 15 256 (by omega) (by omega) (by omega) _ _ _ _ _ _ _ t k)) (uload7 c arg2 harg2 arg3 harg3 x1 x2 14 256 (by omega) (by omega) (by omega) _ _ _ _ _ _ _ t k)) (uload7 c arg2 harg2 arg3 harg3 x1 x2 13 256 (by omega) (by omega) (by omega) _ _ _ _ _ _ _ t k)) (uload7 c arg2 harg2 arg3 harg3 x1 x2 12 256 (by omega) (by omega) (by omega) _ _ _ _ _ _ _ t k)) (uload7 c arg2 harg2 arg3 harg3 x1 x2 11 256 (by omega) (by omega) (by omega) _ _ _ _ _ _ _ t k)) (uload7 c arg2 harg2 arg3 harg3 x1 x2 10 256 (by omega) (by omega) (by omega) _ _ _ _ _ _ _ t k)) (uload7 c arg2 harg2 arg3 harg3 x1 x2 9 256 (by omega) (by omega) (by omega) _ _ _ _ _ _ _ t k))) (cnt2 t))) (uload7 c arg2 harg2 arg3 harg3 x1 x2 16 256 (by omega) (by omega) (by omega) _ _ _ _ _ _ _ t k)

/-- After 8192 tokens every window of 16 is full. -/
theorem cnt3 (t : Fin 4) : FloatOps.sitofp (F := Ideal) FTy.f32 (IntOp.minsi (IntOp.addi (IntOp.addi (8192#32) (BitVec.ofNat 32 t.val)) 1#32) 16#32)
    = FloatOps.sitofp (F := Ideal) .f32 (16#32) :=
  congrArg _ ((by decide +kernel : ∀ t : Fin 4, IntOp.minsi (IntOp.addi (IntOp.addi (8192#32) (BitVec.ofNat 32 t.val)) 1#32) 16#32 = 16#32) t)

/-- The mean of the last 16 rows at a token, minus the token's own row. -/
def PD3 (x1 : Vec Ideal S32x3328 .f32) (x2 : Vec Ideal S1x8x15x512 .f32) (b : Fin 8) (t : Fin 4) (k : Fin 128) : EReal :=
  Ideal.div (UE x1 x2 b (⟨16 + t.val, by omega⟩ : Fin 24) (⟨384 + k.val, by omega⟩ : Fin 512) + UE x1 x2 b (⟨15 + t.val, by omega⟩ : Fin 24) (⟨384 + k.val, by omega⟩ : Fin 512) + UE x1 x2 b (⟨14 + t.val, by omega⟩ : Fin 24) (⟨384 + k.val, by omega⟩ : Fin 512) + UE x1 x2 b (⟨13 + t.val, by omega⟩ : Fin 24) (⟨384 + k.val, by omega⟩ : Fin 512) + UE x1 x2 b (⟨12 + t.val, by omega⟩ : Fin 24) (⟨384 + k.val, by omega⟩ : Fin 512) + UE x1 x2 b (⟨11 + t.val, by omega⟩ : Fin 24) (⟨384 + k.val, by omega⟩ : Fin 512) + UE x1 x2 b (⟨10 + t.val, by omega⟩ : Fin 24) (⟨384 + k.val, by omega⟩ : Fin 512) + UE x1 x2 b (⟨9 + t.val, by omega⟩ : Fin 24) (⟨384 + k.val, by omega⟩ : Fin 512) + UE x1 x2 b (⟨8 + t.val, by omega⟩ : Fin 24) (⟨384 + k.val, by omega⟩ : Fin 512) + UE x1 x2 b (⟨7 + t.val, by omega⟩ : Fin 24) (⟨384 + k.val, by omega⟩ : Fin 512) + UE x1 x2 b (⟨6 + t.val, by omega⟩ : Fin 24) (⟨384 + k.val, by omega⟩ : Fin 512) + UE x1 x2 b (⟨5 + t.val, by omega⟩ : Fin 24) (⟨384 + k.val, by omega⟩ : Fin 512) + UE x1 x2 b (⟨4 + t.val, by omega⟩ : Fin 24) (⟨384 + k.val, by omega⟩ : Fin 512) + UE x1 x2 b (⟨3 + t.val, by omega⟩ : Fin 24) (⟨384 + k.val, by omega⟩ : Fin 512) + UE x1 x2 b (⟨2 + t.val, by omega⟩ : Fin 24) (⟨384 + k.val, by omega⟩ : Fin 512) + UE x1 x2 b (⟨1 + t.val, by omega⟩ : Fin 24) (⟨384 + k.val, by omega⟩ : Fin 512)) (FloatOps.sitofp (F := Ideal) .f32 (16#32)) - UE x1 x2 b (⟨16 + t.val, by omega⟩ : Fin 24) (⟨384 + k.val, by omega⟩ : Fin 512)

/-- The differences of sequence 0, group 3. -/
theorem D3_0 (t : Fin 4) (k : Fin 128) :
    sl.r_12 c arg2 harg2 arg3 harg3 arg17 x1 x2 (ix2 t k) = PD3 x1 x2 (⟨0, by omega⟩ : Fin 8) t k := by
  pointwise [sl.r_12, k0_pay28, sl.r_8, sl.r_11, sl.v80, k0_pay27, sl.v133, k0_pay26, sl.r_10, sl.v168, sl.v172, sl.v176, sl.v180, sl.v184, sl.v188, sl.v192, k0_pay25, sl.r_9, sl.v144, sl.v148, sl.v152, sl.v156, sl.v160, sl.v164, k0_pay24, sl.v136, sl.v140]
  exact congr (congrArg HSub.hSub (congr (congrArg Ideal.div (ca (ca (ca (ca (ca (ca (ca (ca (ca (ca (ca (ca (ca (ca (ca (uload0 c arg2 harg2 arg3 harg3 x1 x2 16 384 (by omega) (by omega) (by omega) _ _ _ _ _ _ _ t k) (uload0 c arg2 harg2 arg3 harg3 x1 x2 15 384 (by omega) (by omega) (by omega) _ _ _ _ _ _ _ t k)) (uload0 c arg2 harg2 arg3 harg3 x1 x2 14 384 (by omega) (by omega) (by omega) _ _ _ _ _ _ _ t k)) (uload0 c arg2 harg2 arg3 harg3 x1 x2 13 384 (by omega) (by omega) (by omega) _ _ _ _ _ _ _ t k)) (uload0 c arg2 harg2 arg3 harg3 x1 x2 12 384 (by omega) (by omega) (by omega) _ _ _ _ _ _ _ t k)) (uload0 c arg2 harg2 arg3 harg3 x1 x2 11 384 (by omega) (by omega) (by omega) _ _ _ _ _ _ _ t k)) (uload0 c arg2 harg2 arg3 harg3 x1 x2 10 384 (by omega) (by omega) (by omega) _ _ _ _ _ _ _ t k)) (uload0 c arg2 harg2 arg3 harg3 x1 x2 9 384 (by omega) (by omega) (by omega) _ _ _ _ _ _ _ t k)) (uload0 c arg2 harg2 arg3 harg3 x1 x2 8 384 (by omega) (by omega) (by omega) _ _ _ _ _ _ _ t k)) (uload0 c arg2 harg2 arg3 harg3 x1 x2 7 384 (by omega) (by omega) (by omega) _ _ _ _ _ _ _ t k)) (uload0 c arg2 harg2 arg3 harg3 x1 x2 6 384 (by omega) (by omega) (by omega) _ _ _ _ _ _ _ t k)) (uload0 c arg2 harg2 arg3 harg3 x1 x2 5 384 (by omega) (by omega) (by omega) _ _ _ _ _ _ _ t k)) (uload0 c arg2 harg2 arg3 harg3 x1 x2 4 384 (by omega) (by omega) (by omega) _ _ _ _ _ _ _ t k)) (uload0 c arg2 harg2 arg3 harg3 x1 x2 3 384 (by omega) (by omega) (by omega) _ _ _ _ _ _ _ t k)) (uload0 c arg2 harg2 arg3 harg3 x1 x2 2 384 (by omega) (by omega) (by omega) _ _ _ _ _ _ _ t k)) (uload0 c arg2 harg2 arg3 harg3 x1 x2 1 384 (by omega) (by omega) (by omega) _ _ _ _ _ _ _ t k))) (cnt3 t))) (uload0 c arg2 harg2 arg3 harg3 x1 x2 16 384 (by omega) (by omega) (by omega) _ _ _ _ _ _ _ t k)

/-- The differences of sequence 1, group 3. -/
theorem D3_1 (t : Fin 4) (k : Fin 128) :
    sl.r_30 c arg2 harg2 arg3 harg3 arg17 x1 x2 (ix2 t k) = PD3 x1 x2 (⟨1, by omega⟩ : Fin 8) t k := by
  pointwise [sl.r_30, k0_pay67, sl.r_27, sl.r_29, sl.v528, sl.v532, sl.v473, k0_pay66, sl.r_28, sl.v500, sl.v504, sl.v508, sl.v512, sl.v516, sl.v520, sl.v524, k0_pay65, sl.v476, sl.v480, sl.v484, sl.v488, sl.v492, sl.v496]
  exact congr (congrArg HSub.hSub (congr (congrArg Ideal.div (ca (ca (ca (ca (ca (ca (ca (ca (ca (ca (ca (ca (ca (ca (ca (uload1 c arg2 harg2 arg3 harg3 x1 x2 16 384 (by omega) (by omega) (by omega) _ _ _ _ _ _ _ t k) (uload1 c arg2 harg2 arg3 harg3 x1 x2 15 384 (by omega) (by omega) (by omega) _ _ _ _ _ _ _ t k)) (uload1 c arg2 harg2 arg3 harg3 x1 x2 14 384 (by omega) (by omega) (by omega) _ _ _ _ _ _ _ t k)) (uload1 c arg2 harg2 arg3 harg3 x1 x2 13 384 (by omega) (by omega) (by omega) _ _ _ _ _ _ _ t k)) (uload1 c arg2 harg2 arg3 harg3 x1 x2 12 384 (by omega) (by omega) (by omega) _ _ _ _ _ _ _ t k)) (uload1 c arg2 harg2 arg3 harg3 x1 x2 11 384 (by omega) (by omega) (by omega) _ _ _ _ _ _ _ t k)) (uload1 c arg2 harg2 arg3 harg3 x1 x2 10 384 (by omega) (by omega) (by omega) _ _ _ _ _ _ _ t k)) (uload1 c arg2 harg2 arg3 harg3 x1 x2 9 384 (by omega) (by omega) (by omega) _ _ _ _ _ _ _ t k)) (uload1 c arg2 harg2 arg3 harg3 x1 x2 8 384 (by omega) (by omega) (by omega) _ _ _ _ _ _ _ t k)) (uload1 c arg2 harg2 arg3 harg3 x1 x2 7 384 (by omega) (by omega) (by omega) _ _ _ _ _ _ _ t k)) (uload1 c arg2 harg2 arg3 harg3 x1 x2 6 384 (by omega) (by omega) (by omega) _ _ _ _ _ _ _ t k)) (uload1 c arg2 harg2 arg3 harg3 x1 x2 5 384 (by omega) (by omega) (by omega) _ _ _ _ _ _ _ t k)) (uload1 c arg2 harg2 arg3 harg3 x1 x2 4 384 (by omega) (by omega) (by omega) _ _ _ _ _ _ _ t k)) (uload1 c arg2 harg2 arg3 harg3 x1 x2 3 384 (by omega) (by omega) (by omega) _ _ _ _ _ _ _ t k)) (uload1 c arg2 harg2 arg3 harg3 x1 x2 2 384 (by omega) (by omega) (by omega) _ _ _ _ _ _ _ t k)) (uload1 c arg2 harg2 arg3 harg3 x1 x2 1 384 (by omega) (by omega) (by omega) _ _ _ _ _ _ _ t k))) (cnt3 t))) (uload1 c arg2 harg2 arg3 harg3 x1 x2 16 384 (by omega) (by omega) (by omega) _ _ _ _ _ _ _ t k)

/-- The differences of sequence 2, group 3. -/
theorem D3_2 (t : Fin 4) (k : Fin 128) :
    sl.r_50 c arg2 harg2 arg3 harg3 arg17 x1 x2 (ix2 t k) = PD3 x1 x2 (⟨2, by omega⟩ : Fin 8) t k := by
  pointwise [sl.r_50, k0_pay109, sl.r_46, sl.r_49, sl.v860, sl.v864, sl.v868, sl.v872, sl.v813, k0_pay108, sl.r_47, sl.r_48, sl.v836, sl.v840, sl.v844, sl.v848, sl.v852, sl.v856, k0_pay107, sl.v816, sl.v820, sl.v824, sl.v828, sl.v832]
  exact congr (congrArg HSub.hSub (congr (congrArg Ideal.div (ca (ca (ca (ca (ca (ca (ca (ca (ca (ca (ca (ca (ca (ca (ca (uload2 c arg2 harg2 arg3 harg3 x1 x2 16 384 (by omega) (by omega) (by omega) _ _ _ _ _ _ _ t k) (uload2 c arg2 harg2 arg3 harg3 x1 x2 15 384 (by omega) (by omega) (by omega) _ _ _ _ _ _ _ t k)) (uload2 c arg2 harg2 arg3 harg3 x1 x2 14 384 (by omega) (by omega) (by omega) _ _ _ _ _ _ _ t k)) (uload2 c arg2 harg2 arg3 harg3 x1 x2 13 384 (by omega) (by omega) (by omega) _ _ _ _ _ _ _ t k)) (uload2 c arg2 harg2 arg3 harg3 x1 x2 12 384 (by omega) (by omega) (by omega) _ _ _ _ _ _ _ t k)) (uload2 c arg2 harg2 arg3 harg3 x1 x2 11 384 (by omega) (by omega) (by omega) _ _ _ _ _ _ _ t k)) (uload2 c arg2 harg2 arg3 harg3 x1 x2 10 384 (by omega) (by omega) (by omega) _ _ _ _ _ _ _ t k)) (uload2 c arg2 harg2 arg3 harg3 x1 x2 9 384 (by omega) (by omega) (by omega) _ _ _ _ _ _ _ t k)) (uload2 c arg2 harg2 arg3 harg3 x1 x2 8 384 (by omega) (by omega) (by omega) _ _ _ _ _ _ _ t k)) (uload2 c arg2 harg2 arg3 harg3 x1 x2 7 384 (by omega) (by omega) (by omega) _ _ _ _ _ _ _ t k)) (uload2 c arg2 harg2 arg3 harg3 x1 x2 6 384 (by omega) (by omega) (by omega) _ _ _ _ _ _ _ t k)) (uload2 c arg2 harg2 arg3 harg3 x1 x2 5 384 (by omega) (by omega) (by omega) _ _ _ _ _ _ _ t k)) (uload2 c arg2 harg2 arg3 harg3 x1 x2 4 384 (by omega) (by omega) (by omega) _ _ _ _ _ _ _ t k)) (uload2 c arg2 harg2 arg3 harg3 x1 x2 3 384 (by omega) (by omega) (by omega) _ _ _ _ _ _ _ t k)) (uload2 c arg2 harg2 arg3 harg3 x1 x2 2 384 (by omega) (by omega) (by omega) _ _ _ _ _ _ _ t k)) (uload2 c arg2 harg2 arg3 harg3 x1 x2 1 384 (by omega) (by omega) (by omega) _ _ _ _ _ _ _ t k))) (cnt3 t))) (uload2 c arg2 harg2 arg3 harg3 x1 x2 16 384 (by omega) (by omega) (by omega) _ _ _ _ _ _ _ t k)

/-- The differences of sequence 3, group 3. -/
theorem D3_3 (t : Fin 4) (k : Fin 128) :
    sl.r_71 c arg2 harg2 arg3 harg3 arg17 x1 x2 (ix2 t k) = PD3 x1 x2 (⟨3, by omega⟩ : Fin 8) t k := by
  pointwise [sl.r_71, k0_pay151, sl.r_67, sl.r_70, sl.v1153, k0_pay150, sl.r_69, sl.v1192, sl.v1196, sl.v1200, sl.v1204, sl.v1208, sl.v1212, k0_pay149, sl.r_68, sl.v1168, sl.v1172, sl.v1176, sl.v1180, sl.v1184, sl.v1188, k0_pay148, sl.v1156, sl.v1160, sl.v1164]
  exact congr (congrArg HSub.hSub (congr (congrArg Ideal.div (ca (ca (ca (ca (ca (ca (ca (ca (ca (ca (ca (ca (ca (ca (ca (uload3 c arg2 harg2 arg3 harg3 x1 x2 16 384 (by omega) (by omega) (by omega) _ _ _ _ _ _ _ t k) (uload3 c arg2 harg2 arg3 harg3 x1 x2 15 384 (by omega) (by omega) (by omega) _ _ _ _ _ _ _ t k)) (uload3 c arg2 harg2 arg3 harg3 x1 x2 14 384 (by omega) (by omega) (by omega) _ _ _ _ _ _ _ t k)) (uload3 c arg2 harg2 arg3 harg3 x1 x2 13 384 (by omega) (by omega) (by omega) _ _ _ _ _ _ _ t k)) (uload3 c arg2 harg2 arg3 harg3 x1 x2 12 384 (by omega) (by omega) (by omega) _ _ _ _ _ _ _ t k)) (uload3 c arg2 harg2 arg3 harg3 x1 x2 11 384 (by omega) (by omega) (by omega) _ _ _ _ _ _ _ t k)) (uload3 c arg2 harg2 arg3 harg3 x1 x2 10 384 (by omega) (by omega) (by omega) _ _ _ _ _ _ _ t k)) (uload3 c arg2 harg2 arg3 harg3 x1 x2 9 384 (by omega) (by omega) (by omega) _ _ _ _ _ _ _ t k)) (uload3 c arg2 harg2 arg3 harg3 x1 x2 8 384 (by omega) (by omega) (by omega) _ _ _ _ _ _ _ t k)) (uload3 c arg2 harg2 arg3 harg3 x1 x2 7 384 (by omega) (by omega) (by omega) _ _ _ _ _ _ _ t k)) (uload3 c arg2 harg2 arg3 harg3 x1 x2 6 384 (by omega) (by omega) (by omega) _ _ _ _ _ _ _ t k)) (uload3 c arg2 harg2 arg3 harg3 x1 x2 5 384 (by omega) (by omega) (by omega) _ _ _ _ _ _ _ t k)) (uload3 c arg2 harg2 arg3 harg3 x1 x2 4 384 (by omega) (by omega) (by omega) _ _ _ _ _ _ _ t k)) (uload3 c arg2 harg2 arg3 harg3 x1 x2 3 384 (by omega) (by omega) (by omega) _ _ _ _ _ _ _ t k)) (uload3 c arg2 harg2 arg3 harg3 x1 x2 2 384 (by omega) (by omega) (by omega) _ _ _ _ _ _ _ t k)) (uload3 c arg2 harg2 arg3 harg3 x1 x2 1 384 (by omega) (by omega) (by omega) _ _ _ _ _ _ _ t k))) (cnt3 t))) (uload3 c arg2 harg2 arg3 harg3 x1 x2 16 384 (by omega) (by omega) (by omega) _ _ _ _ _ _ _ t k)

/-- The differences of sequence 4, group 3. -/
theorem D3_4 (t : Fin 4) (k : Fin 128) :
    sl.r_87 c arg2 harg2 arg3 harg3 arg17 x1 x2 (ix2 t k) = PD3 x1 x2 (⟨4, by omega⟩ : Fin 8) t k := by
  pointwise [sl.r_87, k0_pay189, sl.r_83, sl.r_86, sl.v1552, sl.v1493, k0_pay188, sl.r_85, sl.v1524, sl.v1528, sl.v1532, sl.v1536, sl.v1540, sl.v1544, sl.v1548, k0_pay187, sl.r_84, sl.v1500, sl.v1504, sl.v1508, sl.v1512, sl.v1516, sl.v1520, k0_pay186, sl.v1496]
  exact congr (congrArg HSub.hSub (congr (congrArg Ideal.div (ca (ca (ca (ca (ca (ca (ca (ca (ca (ca (ca (ca (ca (ca (ca (uload4 c arg2 harg2 arg3 harg3 x1 x2 16 384 (by omega) (by omega) (by omega) _ _ _ _ _ _ _ t k) (uload4 c arg2 harg2 arg3 harg3 x1 x2 15 384 (by omega) (by omega) (by omega) _ _ _ _ _ _ _ t k)) (uload4 c arg2 harg2 arg3 harg3 x1 x2 14 384 (by omega) (by omega) (by omega) _ _ _ _ _ _ _ t k)) (uload4 c arg2 harg2 arg3 harg3 x1 x2 13 384 (by omega) (by omega) (by omega) _ _ _ _ _ _ _ t k)) (uload4 c arg2 harg2 arg3 harg3 x1 x2 12 384 (by omega) (by omega) (by omega) _ _ _ _ _ _ _ t k)) (uload4 c arg2 harg2 arg3 harg3 x1 x2 11 384 (by omega) (by omega) (by omega) _ _ _ _ _ _ _ t k)) (uload4 c arg2 harg2 arg3 harg3 x1 x2 10 384 (by omega) (by omega) (by omega) _ _ _ _ _ _ _ t k)) (uload4 c arg2 harg2 arg3 harg3 x1 x2 9 384 (by omega) (by omega) (by omega) _ _ _ _ _ _ _ t k)) (uload4 c arg2 harg2 arg3 harg3 x1 x2 8 384 (by omega) (by omega) (by omega) _ _ _ _ _ _ _ t k)) (uload4 c arg2 harg2 arg3 harg3 x1 x2 7 384 (by omega) (by omega) (by omega) _ _ _ _ _ _ _ t k)) (uload4 c arg2 harg2 arg3 harg3 x1 x2 6 384 (by omega) (by omega) (by omega) _ _ _ _ _ _ _ t k)) (uload4 c arg2 harg2 arg3 harg3 x1 x2 5 384 (by omega) (by omega) (by omega) _ _ _ _ _ _ _ t k)) (uload4 c arg2 harg2 arg3 harg3 x1 x2 4 384 (by omega) (by omega) (by omega) _ _ _ _ _ _ _ t k)) (uload4 c arg2 harg2 arg3 harg3 x1 x2 3 384 (by omega) (by omega) (by omega) _ _ _ _ _ _ _ t k)) (uload4 c arg2 harg2 arg3 harg3 x1 x2 2 384 (by omega) (by omega) (by omega) _ _ _ _ _ _ _ t k)) (uload4 c arg2 harg2 arg3 harg3 x1 x2 1 384 (by omega) (by omega) (by omega) _ _ _ _ _ _ _ t k))) (cnt3 t))) (uload4 c arg2 harg2 arg3 harg3 x1 x2 16 384 (by omega) (by omega) (by omega) _ _ _ _ _ _ _ t k)

/-- The differences of sequence 5, group 3. -/
theorem D3_5 (t : Fin 4) (k : Fin 128) :
    sl.r_108 c arg2 harg2 arg3 harg3 arg17 x1 x2 (ix2 t k) = PD3 x1 x2 (⟨5, by omega⟩ : Fin 8) t k := by
  pointwise [sl.r_108, k0_pay232, sl.r_104, sl.r_107, sl.v1884, sl.v1888, sl.v1892, sl.v1833, k0_pay231, sl.r_105, sl.r_106, sl.v1860, sl.v1864, sl.v1868, sl.v1872, sl.v1876, sl.v1880, k0_pay230, sl.v1836, sl.v1840, sl.v1844, sl.v1848, sl.v1852, sl.v1856]
  exact congr (congrArg HSub.hSub (congr (congrArg Ideal.div (ca (ca (ca (ca (ca (ca (ca (ca (ca (ca (ca (ca (ca (ca (ca (uload5 c arg2 harg2 arg3 harg3 x1 x2 16 384 (by omega) (by omega) (by omega) _ _ _ _ _ _ _ t k) (uload5 c arg2 harg2 arg3 harg3 x1 x2 15 384 (by omega) (by omega) (by omega) _ _ _ _ _ _ _ t k)) (uload5 c arg2 harg2 arg3 harg3 x1 x2 14 384 (by omega) (by omega) (by omega) _ _ _ _ _ _ _ t k)) (uload5 c arg2 harg2 arg3 harg3 x1 x2 13 384 (by omega) (by omega) (by omega) _ _ _ _ _ _ _ t k)) (uload5 c arg2 harg2 arg3 harg3 x1 x2 12 384 (by omega) (by omega) (by omega) _ _ _ _ _ _ _ t k)) (uload5 c arg2 harg2 arg3 harg3 x1 x2 11 384 (by omega) (by omega) (by omega) _ _ _ _ _ _ _ t k)) (uload5 c arg2 harg2 arg3 harg3 x1 x2 10 384 (by omega) (by omega) (by omega) _ _ _ _ _ _ _ t k)) (uload5 c arg2 harg2 arg3 harg3 x1 x2 9 384 (by omega) (by omega) (by omega) _ _ _ _ _ _ _ t k)) (uload5 c arg2 harg2 arg3 harg3 x1 x2 8 384 (by omega) (by omega) (by omega) _ _ _ _ _ _ _ t k)) (uload5 c arg2 harg2 arg3 harg3 x1 x2 7 384 (by omega) (by omega) (by omega) _ _ _ _ _ _ _ t k)) (uload5 c arg2 harg2 arg3 harg3 x1 x2 6 384 (by omega) (by omega) (by omega) _ _ _ _ _ _ _ t k)) (uload5 c arg2 harg2 arg3 harg3 x1 x2 5 384 (by omega) (by omega) (by omega) _ _ _ _ _ _ _ t k)) (uload5 c arg2 harg2 arg3 harg3 x1 x2 4 384 (by omega) (by omega) (by omega) _ _ _ _ _ _ _ t k)) (uload5 c arg2 harg2 arg3 harg3 x1 x2 3 384 (by omega) (by omega) (by omega) _ _ _ _ _ _ _ t k)) (uload5 c arg2 harg2 arg3 harg3 x1 x2 2 384 (by omega) (by omega) (by omega) _ _ _ _ _ _ _ t k)) (uload5 c arg2 harg2 arg3 harg3 x1 x2 1 384 (by omega) (by omega) (by omega) _ _ _ _ _ _ _ t k))) (cnt3 t))) (uload5 c arg2 harg2 arg3 harg3 x1 x2 16 384 (by omega) (by omega) (by omega) _ _ _ _ _ _ _ t k)

/-- The differences of sequence 6, group 3. -/
theorem D3_6 (t : Fin 4) (k : Fin 128) :
    sl.r_126 c arg2 harg2 arg3 harg3 arg17 x1 x2 (ix2 t k) = PD3 x1 x2 (⟨6, by omega⟩ : Fin 8) t k := by
  pointwise [sl.r_126, k0_pay275, sl.r_123, sl.r_125, sl.v2216, sl.v2220, sl.v2224, sl.v2228, sl.v2232, sl.v2173, k0_pay274, sl.r_124, sl.v2192, sl.v2196, sl.v2200, sl.v2204, sl.v2208, sl.v2212, k0_pay273, sl.v2176, sl.v2180, sl.v2184, sl.v2188]
  exact congr (congrArg HSub.hSub (congr (congrArg Ideal.div (ca (ca (ca (ca (ca (ca (ca (ca (ca (ca (ca (ca (ca (ca (ca (uload6 c arg2 harg2 arg3 harg3 x1 x2 16 384 (by omega) (by omega) (by omega) _ _ _ _ _ _ _ t k) (uload6 c arg2 harg2 arg3 harg3 x1 x2 15 384 (by omega) (by omega) (by omega) _ _ _ _ _ _ _ t k)) (uload6 c arg2 harg2 arg3 harg3 x1 x2 14 384 (by omega) (by omega) (by omega) _ _ _ _ _ _ _ t k)) (uload6 c arg2 harg2 arg3 harg3 x1 x2 13 384 (by omega) (by omega) (by omega) _ _ _ _ _ _ _ t k)) (uload6 c arg2 harg2 arg3 harg3 x1 x2 12 384 (by omega) (by omega) (by omega) _ _ _ _ _ _ _ t k)) (uload6 c arg2 harg2 arg3 harg3 x1 x2 11 384 (by omega) (by omega) (by omega) _ _ _ _ _ _ _ t k)) (uload6 c arg2 harg2 arg3 harg3 x1 x2 10 384 (by omega) (by omega) (by omega) _ _ _ _ _ _ _ t k)) (uload6 c arg2 harg2 arg3 harg3 x1 x2 9 384 (by omega) (by omega) (by omega) _ _ _ _ _ _ _ t k)) (uload6 c arg2 harg2 arg3 harg3 x1 x2 8 384 (by omega) (by omega) (by omega) _ _ _ _ _ _ _ t k)) (uload6 c arg2 harg2 arg3 harg3 x1 x2 7 384 (by omega) (by omega) (by omega) _ _ _ _ _ _ _ t k)) (uload6 c arg2 harg2 arg3 harg3 x1 x2 6 384 (by omega) (by omega) (by omega) _ _ _ _ _ _ _ t k)) (uload6 c arg2 harg2 arg3 harg3 x1 x2 5 384 (by omega) (by omega) (by omega) _ _ _ _ _ _ _ t k)) (uload6 c arg2 harg2 arg3 harg3 x1 x2 4 384 (by omega) (by omega) (by omega) _ _ _ _ _ _ _ t k)) (uload6 c arg2 harg2 arg3 harg3 x1 x2 3 384 (by omega) (by omega) (by omega) _ _ _ _ _ _ _ t k)) (uload6 c arg2 harg2 arg3 harg3 x1 x2 2 384 (by omega) (by omega) (by omega) _ _ _ _ _ _ _ t k)) (uload6 c arg2 harg2 arg3 harg3 x1 x2 1 384 (by omega) (by omega) (by omega) _ _ _ _ _ _ _ t k))) (cnt3 t))) (uload6 c arg2 harg2 arg3 harg3 x1 x2 16 384 (by omega) (by omega) (by omega) _ _ _ _ _ _ _ t k)

/-- The differences of sequence 7, group 3. -/
theorem D3_7 (t : Fin 4) (k : Fin 128) :
    sl.r_148 c arg2 harg2 arg3 harg3 arg17 x1 x2 (ix2 t k) = PD3 x1 x2 (⟨7, by omega⟩ : Fin 8) t k := by
  pointwise [sl.r_148, k0_pay320, sl.r_144, sl.r_147, k0_pay319, sl.v2513, k0_pay318, sl.r_146, sl.v2548, sl.v2552, sl.v2556, sl.v2560, sl.v2564, sl.v2568, sl.v2572, k0_pay317, sl.r_145, sl.v2524, sl.v2528, sl.v2532, sl.v2536, sl.v2540, sl.v2544, k0_pay316, sl.v2516, sl.v2520]
  exact congr (congrArg HSub.hSub (congr (congrArg Ideal.div (ca (ca (ca (ca (ca (ca (ca (ca (ca (ca (ca (ca (ca (ca (ca (uload7 c arg2 harg2 arg3 harg3 x1 x2 16 384 (by omega) (by omega) (by omega) _ _ _ _ _ _ _ t k) (uload7 c arg2 harg2 arg3 harg3 x1 x2 15 384 (by omega) (by omega) (by omega) _ _ _ _ _ _ _ t k)) (uload7 c arg2 harg2 arg3 harg3 x1 x2 14 384 (by omega) (by omega) (by omega) _ _ _ _ _ _ _ t k)) (uload7 c arg2 harg2 arg3 harg3 x1 x2 13 384 (by omega) (by omega) (by omega) _ _ _ _ _ _ _ t k)) (uload7 c arg2 harg2 arg3 harg3 x1 x2 12 384 (by omega) (by omega) (by omega) _ _ _ _ _ _ _ t k)) (uload7 c arg2 harg2 arg3 harg3 x1 x2 11 384 (by omega) (by omega) (by omega) _ _ _ _ _ _ _ t k)) (uload7 c arg2 harg2 arg3 harg3 x1 x2 10 384 (by omega) (by omega) (by omega) _ _ _ _ _ _ _ t k)) (uload7 c arg2 harg2 arg3 harg3 x1 x2 9 384 (by omega) (by omega) (by omega) _ _ _ _ _ _ _ t k)) (uload7 c arg2 harg2 arg3 harg3 x1 x2 8 384 (by omega) (by omega) (by omega) _ _ _ _ _ _ _ t k)) (uload7 c arg2 harg2 arg3 harg3 x1 x2 7 384 (by omega) (by omega) (by omega) _ _ _ _ _ _ _ t k)) (uload7 c arg2 harg2 arg3 harg3 x1 x2 6 384 (by omega) (by omega) (by omega) _ _ _ _ _ _ _ t k)) (uload7 c arg2 harg2 arg3 harg3 x1 x2 5 384 (by omega) (by omega) (by omega) _ _ _ _ _ _ _ t k)) (uload7 c arg2 harg2 arg3 harg3 x1 x2 4 384 (by omega) (by omega) (by omega) _ _ _ _ _ _ _ t k)) (uload7 c arg2 harg2 arg3 harg3 x1 x2 3 384 (by omega) (by omega) (by omega) _ _ _ _ _ _ _ t k)) (uload7 c arg2 harg2 arg3 harg3 x1 x2 2 384 (by omega) (by omega) (by omega) _ _ _ _ _ _ _ t k)) (uload7 c arg2 harg2 arg3 harg3 x1 x2 1 384 (by omega) (by omega) (by omega) _ _ _ _ _ _ _ t k))) (cnt3 t))) (uload7 c arg2 harg2 arg3 harg3 x1 x2 16 384 (by omega) (by omega) (by omega) _ _ _ _ _ _ _ t k)

/-- The pooled part of group 0 at a row and a lane. -/
def OP0 (x1 : Vec Ideal S32x3328 .f32) (x2 : Vec Ideal S1x8x15x512 .f32) (x8 : Vec Ideal S1x4x128x128 .bf16) (x9 : Vec Ideal S1x1x512 .f32) (b : Fin 8) (t : Fin 4) (l : Fin 128) : EReal :=
  (∑ k : Fin 128, PD0 x1 x2 b t k * x8 (ix4 0 0 k l)) * x9 (ix3 0 0 (⟨0 + l.val, by omega⟩ : Fin 512))

/-- What the kernel stores for it. -/
theorem O0 (r : Fin 32) (l : Fin 128) :
    sl.r_157 c arg2 harg2 arg3 harg3 arg9 harg9 arg10 harg10 arg17 x1 x2 x8 x9 (ix2 r l)
      = OP0 x1 x2 x8 x9 (⟨r.val / 4, by omega⟩ : Fin 8) (⟨r.val % 4, by omega⟩ : Fin 4) l := by
  pointwise [sl.r_157, k0_pay351]
  unfold OP0
  simp only [ld3, ld4, D0_0, D0_1, D0_2, D0_3, D0_4, D0_5, D0_6, D0_7]
  refine congr (congrArg HMul.hMul (Finset.sum_congr rfl fun k _ => congr (congrArg HMul.hMul ?_) ?_)) ?_
  · split_ifs <;> exact congr (congr (congrArg (PD0 x1 x2) (Fin.ext (by (try dsimp only); omega))) (Fin.ext (by (try dsimp only); omega))) rfl
  · blk_ext
  · blk_ext

/-- The pooled part of group 1 at a row and a lane. -/
def OP1 (x1 : Vec Ideal S32x3328 .f32) (x2 : Vec Ideal S1x8x15x512 .f32) (x8 : Vec Ideal S1x4x128x128 .bf16) (x9 : Vec Ideal S1x1x512 .f32) (b : Fin 8) (t : Fin 4) (l : Fin 128) : EReal :=
  (∑ k : Fin 128, PD1 x1 x2 b t k * x8 (ix4 0 1 k l)) * x9 (ix3 0 0 (⟨128 + l.val, by omega⟩ : Fin 512))

/-- What the kernel stores for it. -/
theorem O1 (r : Fin 32) (l : Fin 128) :
    k0_pay353 (sl.r_158 c arg2 harg2 arg3 harg3 arg17 x1 x2) (View.readAt (Elt Ideal) arg9.view (Rect.unit (s := S1x4x128x128) ![0, 1, 0, 0] S1x1x128x128.size inb_S1x4x128x128_S1x1x128x128_0_1_0_0).toLoadRect (harg9.unread x8)) (View.readAt (Elt Ideal) arg10.view (Rect.unit (s := S1x1x512) ![0, 0, 128] S1x1x128.size inb_S1x1x512_S1x1x128_0_0_128).toLoadRect (harg10.unread x9)) (ix2 r l)
      = OP1 x1 x2 x8 x9 (⟨r.val / 4, by omega⟩ : Fin 8) (⟨r.val % 4, by omega⟩ : Fin 4) l := by
  pointwise [sl.r_158, k0_pay353, k0_pay352]
  unfold OP1
  simp only [ld3, ld4, D1_0, D1_1, D1_2, D1_3, D1_4, D1_5, D1_6, D1_7]
  refine congr (congrArg HMul.hMul (Finset.sum_congr rfl fun k _ => congr (congrArg HMul.hMul ?_) ?_)) ?_
  · split_ifs <;> exact congr (congr (congrArg (PD1 x1 x2) (Fin.ext (by (try dsimp only); omega))) (Fin.ext (by (try dsimp only); omega))) rfl
  · blk_ext
  · blk_ext

/-- The pooled part of group 2 at a row and a lane. -/
def OP2 (x1 : Vec Ideal S32x3328 .f32) (x2 : Vec Ideal S1x8x15x512 .f32) (x8 : Vec Ideal S1x4x128x128 .bf16) (x9 : Vec Ideal S1x1x512 .f32) (b : Fin 8) (t : Fin 4) (l : Fin 128) : EReal :=
  (∑ k : Fin 128, PD2 x1 x2 b t k * x8 (ix4 0 2 k l)) * x9 (ix3 0 0 (⟨256 + l.val, by omega⟩ : Fin 512))

/-- What the kernel stores for it. -/
theorem O2 (r : Fin 32) (l : Fin 128) :
    k0_pay354 (sl.r_155 c arg2 harg2 arg3 harg3 arg17 x1 x2) (View.readAt (Elt Ideal) arg9.view (Rect.unit (s := S1x4x128x128) ![0, 2, 0, 0] S1x1x128x128.size inb_S1x4x128x128_S1x1x128x128_0_2_0_0).toLoadRect (harg9.unread x8)) (View.readAt (Elt Ideal) arg10.view (Rect.unit (s := S1x1x512) ![0, 0, 256] S1x1x128.size inb_S1x1x512_S1x1x128_0_0_256).toLoadRect (harg10.unread x9)) (ix2 r l)
      = OP2 x1 x2 x8 x9 (⟨r.val / 4, by omega⟩ : Fin 8) (⟨r.val % 4, by omega⟩ : Fin 4) l := by
  pointwise [sl.r_155, k0_pay354, k0_pay349]
  unfold OP2
  simp only [ld3, ld4, D2_0, D2_1, D2_2, D2_3, D2_4, D2_5, D2_6, D2_7]
  refine congr (congrArg HMul.hMul (Finset.sum_congr rfl fun k _ => congr (congrArg HMul.hMul ?_) ?_)) ?_
  · split_ifs <;> exact congr (congr (congrArg (PD2 x1 x2) (Fin.ext (by (try dsimp only); omega))) (Fin.ext (by (try dsimp only); omega))) rfl
  · blk_ext
  · blk_ext

/-- The pooled part of group 3 at a row and a lane. -/
def OP3 (x1 : Vec Ideal S32x3328 .f32) (x2 : Vec Ideal S1x8x15x512 .f32) (x8 : Vec Ideal S1x4x128x128 .bf16) (x9 : Vec Ideal S1x1x512 .f32) (b : Fin 8) (t : Fin 4) (l : Fin 128) : EReal :=
  (∑ k : Fin 128, PD3 x1 x2 b t k * x8 (ix4 0 3 k l)) * x9 (ix3 0 0 (⟨384 + l.val, by omega⟩ : Fin 512))

/-- What the kernel stores for it. -/
theorem O3 (r : Fin 32) (l : Fin 128) :
    sl.r_159 c arg2 harg2 arg3 harg3 arg9 harg9 arg10 harg10 arg17 x1 x2 x8 x9 (ix2 r l)
      = OP3 x1 x2 x8 x9 (⟨r.val / 4, by omega⟩ : Fin 8) (⟨r.val % 4, by omega⟩ : Fin 4) l := by
  pointwise [sl.r_159, sl.r_156, k0_pay355, k0_pay350]
  unfold OP3
  simp only [ld3, ld4, D3_0, D3_1, D3_2, D3_3, D3_4, D3_5, D3_6, D3_7]
  refine congr (congrArg HMul.hMul (Finset.sum_congr rfl fun k _ => congr (congrArg HMul.hMul ?_) ?_)) ?_
  · split_ifs <;> exact congr (congr (congrArg (PD3 x1 x2) (Fin.ext (by (try dsimp only); omega))) (Fin.ext (by (try dsimp only); omega))) rfl
  · blk_ext
  · blk_ext

end Cert.MixerIdeal.Tie

end
-- ==== Proof.MixerConv.lean ====
/-
  The gated short convolution of the sample mixers, read at an index.
-/
module

public import proofs.«01_k».proof.Proof.MixerBuf

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) (i : grid0.Coords) (arg2 : Memref sig .tc .vmem S32x3328 .f32) (harg2 : arg2.IsWhole) (arg4 : Memref sig .tc .vmem S1x8x2x512 .f32) (harg4 : arg4.IsWhole) (arg11 : Memref sig .tc .vmem S1x3x512 .f32) (harg11 : arg11.IsWhole) (arg18 : Memref sig .tc .vmem S8x16x512 .f32) (x1 : Vec Ideal S32x3328 .f32) (x3 : Vec Ideal S1x8x2x512 .f32) (x10 : Vec Ideal S1x3x512 .f32)
/-- The gated convolution of a sequence at a token and a channel. -/
def OC (x1 : Vec Ideal S32x3328 .f32) (x3 : Vec Ideal S1x8x2x512 .f32) (x10 : Vec Ideal S1x3x512 .f32) (b : Fin 8) (t : Fin 4) (l : Fin 512) : EReal :=
  x1 (ix2 (⟨4 * b.val + t.val, by omega⟩ : Fin 32) (⟨1024 + l.val, by omega⟩ : Fin 3328))
    * (x10 (ix3 0 0 l) * CE x1 x3 b (⟨6 + t.val, by omega⟩ : Fin 16) l + x10 (ix3 0 1 l) * CE x1 x3 b (⟨7 + t.val, by omega⟩ : Fin 16) l
      + x10 (ix3 0 2 l) * CE x1 x3 b (⟨8 + t.val, by omega⟩ : Fin 16) l)

/-- A load of four rows of page 0 of the convolved buffer. -/
theorem cload0 (r0 : Nat) (h1' : 6 ≤ r0) (h2' : r0 + 4 ≤ 12) {κ : Kind} {μ : Space} (v : View sig κ μ S8x16x512 .f32) (i1 : ∀ a, (![0, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![0, 0, 0] S1x16x512.size i1).stride a = 1) (hR : (Rect.unit (s := S16x512) ![r0, 0] S4x512.size i2).toLoadRect.shape.numel
      = ((Rect.unit (s := S8x16x512) ![0, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_3 c arg2 harg2 arg4 harg4 x1 x3) ((Rect.unit (s := S8x16x512) ![0, 0, 0] S1x16x512.size i1).withinL
      ((Rect.unit (s := S16x512) ![r0, 0] S4x512.size i2).toLoadRect.consLift ![1, 16, 512] h0 hs) h1)) (ix2 t l)
      = CE x1 x3 (⟨0, by omega⟩ : Fin 8) (⟨r0 + t.val, by omega⟩ : Fin 16) l' :=
  ((load_page (B := 8) (R := 16) (C := 512) (b := 0) (r0 := r0) (c0 := 0) (h := 4) (w := 512) v _ i1 i2 h0 hs h1 hR t l).trans
    (CE0 c harg2 harg4 x1 x3 _ _ (by (try dsimp only); omega) (by (try dsimp only); omega))).trans
      (congrArg (CE x1 x3 _ _) (Fin.ext (by (try dsimp only); omega)))

/-- What the kernel stores for sequence 0. -/
theorem C0 (t : Fin 4) (l : Fin 512) :
    (sl.r_15 c arg2 harg2 arg4 harg4 arg11 harg11 arg18 x1 x3 x10 : FVec Ideal S4x512 .f32) (ix2 t l) = OC x1 x3 x10 (⟨0, by omega⟩ : Fin 8) t l := by
  pointwise [sl.r_15, k0_pay33, sl.r_13, sl.v232, sl.v239, sl.v247]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload0 c arg2 harg2 arg4 harg4 x1 x3 6 (by omega) (by omega) _ _ _ _ _ _ _ t _ _ rfl
  · blk_ext
  · exact cload0 c arg2 harg2 arg4 harg4 x1 x3 7 (by omega) (by omega) _ _ _ _ _ _ _ t _ _ rfl
  · blk_ext
  · exact cload0 c arg2 harg2 arg4 harg4 x1 x3 8 (by omega) (by omega) _ _ _ _ _ _ _ t _ _ rfl

/-- A load of four rows of page 1 of the convolved buffer. -/
theorem cload1 (r0 : Nat) (h1' : 6 ≤ r0) (h2' : r0 + 4 ≤ 12) {κ : Kind} {μ : Space} (v : View sig κ μ S8x16x512 .f32) (i1 : ∀ a, (![1, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![1, 0, 0] S1x16x512.size i1).stride a = 1) (hR : (Rect.unit (s := S16x512) ![r0, 0] S4x512.size i2).toLoadRect.shape.numel
      = ((Rect.unit (s := S8x16x512) ![1, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_5 c arg2 harg2 arg4 harg4 x1 x3) ((Rect.unit (s := S8x16x512) ![1, 0, 0] S1x16x512.size i1).withinL
      ((Rect.unit (s := S16x512) ![r0, 0] S4x512.size i2).toLoadRect.consLift ![1, 16, 512] h0 hs) h1)) (ix2 t l)
      = CE x1 x3 (⟨1, by omega⟩ : Fin 8) (⟨r0 + t.val, by omega⟩ : Fin 16) l' :=
  ((load_page (B := 8) (R := 16) (C := 512) (b := 1) (r0 := r0) (c0 := 0) (h := 4) (w := 512) v _ i1 i2 h0 hs h1 hR t l).trans
    (CE1 c harg2 harg4 x1 x3 _ _ (by (try dsimp only); omega) (by (try dsimp only); omega))).trans
      (congrArg (CE x1 x3 _ _) (Fin.ext (by (try dsimp only); omega)))

/-- What the kernel stores for sequence 1. -/
theorem C1 (t : Fin 4) (l : Fin 512) :
    (k0_pay73 (sl.r_32 c arg2 harg2 x1) (sl.r_33 c arg2 harg2 arg4 harg4 arg11 harg11 arg18 x1 x3 x10) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v587 c arg2 harg2 arg4 harg4 arg18 x1 x3)) : FVec Ideal S4x512 .f32) (ix2 t l) = OC x1 x3 x10 (⟨1, by omega⟩ : Fin 8) t l := by
  pointwise [k0_pay73, sl.r_32, sl.r_33, sl.v587, k0_pay72, sl.v572, sl.v579]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload1 c arg2 harg2 arg4 harg4 x1 x3 6 (by omega) (by omega) _ _ _ _ _ _ _ t _ _ rfl
  · blk_ext
  · exact cload1 c arg2 harg2 arg4 harg4 x1 x3 7 (by omega) (by omega) _ _ _ _ _ _ _ t _ _ rfl
  · blk_ext
  · exact cload1 c arg2 harg2 arg4 harg4 x1 x3 8 (by omega) (by omega) _ _ _ _ _ _ _ t _ _ rfl

/-- A load of four rows of page 2 of the convolved buffer. -/
theorem cload2 (r0 : Nat) (h1' : 6 ≤ r0) (h2' : r0 + 4 ≤ 12) {κ : Kind} {μ : Space} (v : View sig κ μ S8x16x512 .f32) (i1 : ∀ a, (![2, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![2, 0, 0] S1x16x512.size i1).stride a = 1) (hR : (Rect.unit (s := S16x512) ![r0, 0] S4x512.size i2).toLoadRect.shape.numel
      = ((Rect.unit (s := S8x16x512) ![2, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_7 c arg2 harg2 arg4 harg4 x1 x3) ((Rect.unit (s := S8x16x512) ![2, 0, 0] S1x16x512.size i1).withinL
      ((Rect.unit (s := S16x512) ![r0, 0] S4x512.size i2).toLoadRect.consLift ![1, 16, 512] h0 hs) h1)) (ix2 t l)
      = CE x1 x3 (⟨2, by omega⟩ : Fin 8) (⟨r0 + t.val, by omega⟩ : Fin 16) l' :=
  ((load_page (B := 8) (R := 16) (C := 512) (b := 2) (r0 := r0) (c0 := 0) (h := 4) (w := 512) v _ i1 i2 h0 hs h1 hR t l).trans
    (CE2 c harg2 harg4 x1 x3 _ _ (by (try dsimp only); omega) (by (try dsimp only); omega))).trans
      (congrArg (CE x1 x3 _ _) (Fin.ext (by (try dsimp only); omega)))

/-- What the kernel stores for sequence 2. -/
theorem C2 (t : Fin 4) (l : Fin 512) :
    (k0_pay114 (sl.r_52 c arg2 harg2 x1) (sl.r_53 c arg2 harg2 arg4 harg4 arg11 harg11 arg18 x1 x3 x10) (View.readAt (Elt Ideal) arg11.view (Rect.unit (s := S1x3x512) ![0, 1, 0] S1x1x512.size inb_S1x3x512_S1x1x512_0_1_0).toLoadRect (harg11.unread x10)) (LoadRect.valAlong kernelRun0_A._proof_5 (sl.v919 c arg2 harg2 arg4 harg4 arg18 x1 x3)) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v927 c arg2 harg2 arg4 harg4 arg18 x1 x3)) : FVec Ideal S4x512 .f32) (ix2 t l) = OC x1 x3 x10 (⟨2, by omega⟩ : Fin 8) t l := by
  pointwise [k0_pay114, sl.r_52, sl.r_53, sl.v919, sl.v927, k0_pay113, sl.v912]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload2 c arg2 harg2 arg4 harg4 x1 x3 6 (by omega) (by omega) _ _ _ _ _ _ _ t _ _ rfl
  · blk_ext
  · exact cload2 c arg2 harg2 arg4 harg4 x1 x3 7 (by omega) (by omega) _ _ _ _ _ _ _ t _ _ rfl
  · blk_ext
  · exact cload2 c arg2 harg2 arg4 harg4 x1 x3 8 (by omega) (by omega) _ _ _ _ _ _ _ t _ _ rfl

/-- A load of four rows of page 3 of the convolved buffer. -/
theorem cload3 (r0 : Nat) (h1' : 6 ≤ r0) (h2' : r0 + 4 ≤ 12) {κ : Kind} {μ : Space} (v : View sig κ μ S8x16x512 .f32) (i1 : ∀ a, (![3, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![3, 0, 0] S1x16x512.size i1).stride a = 1) (hR : (Rect.unit (s := S16x512) ![r0, 0] S4x512.size i2).toLoadRect.shape.numel
      = ((Rect.unit (s := S8x16x512) ![3, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_9 c arg2 harg2 arg4 harg4 x1 x3) ((Rect.unit (s := S8x16x512) ![3, 0, 0] S1x16x512.size i1).withinL
      ((Rect.unit (s := S16x512) ![r0, 0] S4x512.size i2).toLoadRect.consLift ![1, 16, 512] h0 hs) h1)) (ix2 t l)
      = CE x1 x3 (⟨3, by omega⟩ : Fin 8) (⟨r0 + t.val, by omega⟩ : Fin 16) l' :=
  ((load_page (B := 8) (R := 16) (C := 512) (b := 3) (r0 := r0) (c0 := 0) (h := 4) (w := 512) v _ i1 i2 h0 hs h1 hR t l).trans
    (CE3 c harg2 harg4 x1 x3 _ _ (by (try dsimp only); omega) (by (try dsimp only); omega))).trans
      (congrArg (CE x1 x3 _ _) (Fin.ext (by (try dsimp only); omega)))

/-- What the kernel stores for sequence 3. -/
theorem C3 (t : Fin 4) (l : Fin 512) :
    (k0_pay155 (sl.r_72 c arg2 harg2 x1) (View.readAt (Elt Ideal) arg11.view (Rect.unit (s := S1x3x512) ![0, 0, 0] S1x1x512.size inb_S1x3x512_S1x1x512_0_0_0).toLoadRect (harg11.unread x10)) (LoadRect.valAlong kernelRun0_A._proof_4 (sl.v1252 c arg2 harg2 arg4 harg4 arg18 x1 x3)) (View.readAt (Elt Ideal) arg11.view (Rect.unit (s := S1x3x512) ![0, 1, 0] S1x1x512.size inb_S1x3x512_S1x1x512_0_1_0).toLoadRect (harg11.unread x10)) (LoadRect.valAlong kernelRun0_A._proof_5 (sl.v1259 c arg2 harg2 arg4 harg4 arg18 x1 x3)) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v1267 c arg2 harg2 arg4 harg4 arg18 x1 x3)) : FVec Ideal S4x512 .f32) (ix2 t l) = OC x1 x3 x10 (⟨3, by omega⟩ : Fin 8) t l := by
  pointwise [k0_pay155, sl.r_72, sl.v1252, sl.v1259, sl.v1267]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload3 c arg2 harg2 arg4 harg4 x1 x3 6 (by omega) (by omega) _ _ _ _ _ _ _ t _ _ rfl
  · blk_ext
  · exact cload3 c arg2 harg2 arg4 harg4 x1 x3 7 (by omega) (by omega) _ _ _ _ _ _ _ t _ _ rfl
  · blk_ext
  · exact cload3 c arg2 harg2 arg4 harg4 x1 x3 8 (by omega) (by omega) _ _ _ _ _ _ _ t _ _ rfl

/-- A load of four rows of page 4 of the convolved buffer. -/
theorem cload4 (r0 : Nat) (h1' : 6 ≤ r0) (h2' : r0 + 4 ≤ 12) {κ : Kind} {μ : Space} (v : View sig κ μ S8x16x512 .f32) (i1 : ∀ a, (![4, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![4, 0, 0] S1x16x512.size i1).stride a = 1) (hR : (Rect.unit (s := S16x512) ![r0, 0] S4x512.size i2).toLoadRect.shape.numel
      = ((Rect.unit (s := S8x16x512) ![4, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_11 c arg2 harg2 arg4 harg4 x1 x3) ((Rect.unit (s := S8x16x512) ![4, 0, 0] S1x16x512.size i1).withinL
      ((Rect.unit (s := S16x512) ![r0, 0] S4x512.size i2).toLoadRect.consLift ![1, 16, 512] h0 hs) h1)) (ix2 t l)
      = CE x1 x3 (⟨4, by omega⟩ : Fin 8) (⟨r0 + t.val, by omega⟩ : Fin 16) l' :=
  ((load_page (B := 8) (R := 16) (C := 512) (b := 4) (r0 := r0) (c0 := 0) (h := 4) (w := 512) v _ i1 i2 h0 hs h1 hR t l).trans
    (CE4 c harg2 harg4 x1 x3 _ _ (by (try dsimp only); omega) (by (try dsimp only); omega))).trans
      (congrArg (CE x1 x3 _ _) (Fin.ext (by (try dsimp only); omega)))

/-- What the kernel stores for sequence 4. -/
theorem C4 (t : Fin 4) (l : Fin 512) :
    (k0_pay195 (sl.r_89 c arg2 harg2 x1) (sl.r_90 c arg2 harg2 arg4 harg4 arg11 harg11 arg18 x1 x3 x10) (sl.r_91 c arg11 harg11 x10) (LoadRect.valAlong kernelRun0_A._proof_6 (sl.v1607 c arg2 harg2 arg4 harg4 arg18 x1 x3)) : FVec Ideal S4x512 .f32) (ix2 t l) = OC x1 x3 x10 (⟨4, by omega⟩ : Fin 8) t l := by
  pointwise [k0_pay195, sl.r_89, sl.r_90, sl.r_91, sl.v1607, k0_pay193, sl.v1592, sl.v1599, k0_pay194]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload4 c arg2 harg2 arg4 harg4 x1 x3 6 (by omega) (by omega) _ _ _ _ _ _ _ t _ _ rfl
  · blk_ext
  · exact cload4 c arg2 harg2 arg4 harg4 x1 x3 7 (by omega) (by omega) _ _ _ _ _ _ _ t _ _ rfl
  · blk_ext
  · exact cload4 c arg2 harg2 arg4 harg4 x1 x3 8 (by omega) (by omega) _ _ _ _ _ _ _ t _ _ rfl

/-- A load of four rows of page 5 of the convolved buffer. -/
theorem cload5 (r0 : Nat) (h1' : 6 ≤ r0) (h2' : r0 + 4 ≤ 12) {κ : Kind} {μ : Space} (v : View sig κ μ S8x16x512 .f32) (i1 : ∀ a, (![5, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![5, 0, 0] S1x16x512.size i1).stride a = 1) (hR : (Rect.unit (s := S16x512) ![r0, 0] S4x512.size i2).toLoadRect.shape.numel
      = ((Rect.unit (s := S8x16x512) ![5, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_13 c arg2 harg2 arg4 harg4 x1 x3) ((Rect.unit (s := S8x16x512) ![5, 0, 0] S1x16x512.size i1).withinL
      ((Rect.unit (s := S16x512) ![r0, 0] S4x512.size i2).toLoadRect.consLift ![1, 16, 512] h0 hs) h1)) (ix2 t l)
      = CE x1 x3 (⟨5, by omega⟩ : Fin 8) (⟨r0 + t.val, by omega⟩ : Fin 16) l' :=
  ((load_page (B := 8) (R := 16) (C := 512) (b := 5) (r0 := r0) (c0 := 0) (h := 4) (w := 512) v _ i1 i2 h0 hs h1 hR t l).trans
    (CE5 c harg2 harg4 x1 x3 _ _ (by (try dsimp only); omega) (by (try dsimp only); omega))).trans
      (congrArg (CE x1 x3 _ _) (Fin.ext (by (try dsimp only); omega)))

/-- What the kernel stores for sequence 5. -/
theorem C5 (t : Fin 4) (l : Fin 512) :
    (k0_pay238 (sl.r_109 c arg2 harg2 x1) (sl.r_110 c arg2 harg2 arg4 harg4 arg11 harg11 arg18 x1 x3 x10) (sl.r_111 c arg11 harg11 x10) (LoadRect.valAlong kernelRun0_A._proof_5 (sl.v1939 c arg2 harg2 arg4 harg4 arg18 x1 x3)) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v1947 c arg2 harg2 arg4 harg4 arg18 x1 x3)) : FVec Ideal S4x512 .f32) (ix2 t l) = OC x1 x3 x10 (⟨5, by omega⟩ : Fin 8) t l := by
  pointwise [k0_pay238, sl.r_109, sl.r_110, sl.r_111, sl.v1939, sl.v1947, k0_pay236, sl.v1932, k0_pay237]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload5 c arg2 harg2 arg4 harg4 x1 x3 6 (by omega) (by omega) _ _ _ _ _ _ _ t _ _ rfl
  · blk_ext
  · exact cload5 c arg2 harg2 arg4 harg4 x1 x3 7 (by omega) (by omega) _ _ _ _ _ _ _ t _ _ rfl
  · blk_ext
  · exact cload5 c arg2 harg2 arg4 harg4 x1 x3 8 (by omega) (by omega) _ _ _ _ _ _ _ t _ _ rfl

/-- A load of four rows of page 6 of the convolved buffer. -/
theorem cload6 (r0 : Nat) (h1' : 6 ≤ r0) (h2' : r0 + 4 ≤ 12) {κ : Kind} {μ : Space} (v : View sig κ μ S8x16x512 .f32) (i1 : ∀ a, (![6, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![6, 0, 0] S1x16x512.size i1).stride a = 1) (hR : (Rect.unit (s := S16x512) ![r0, 0] S4x512.size i2).toLoadRect.shape.numel
      = ((Rect.unit (s := S8x16x512) ![6, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_15 c arg2 harg2 arg4 harg4 x1 x3) ((Rect.unit (s := S8x16x512) ![6, 0, 0] S1x16x512.size i1).withinL
      ((Rect.unit (s := S16x512) ![r0, 0] S4x512.size i2).toLoadRect.consLift ![1, 16, 512] h0 hs) h1)) (ix2 t l)
      = CE x1 x3 (⟨6, by omega⟩ : Fin 8) (⟨r0 + t.val, by omega⟩ : Fin 16) l' :=
  ((load_page (B := 8) (R := 16) (C := 512) (b := 6) (r0 := r0) (c0 := 0) (h := 4) (w := 512) v _ i1 i2 h0 hs h1 hR t l).trans
    (CE6 c harg2 harg4 x1 x3 _ _ (by (try dsimp only); omega) (by (try dsimp only); omega))).trans
      (congrArg (CE x1 x3 _ _) (Fin.ext (by (try dsimp only); omega)))

/-- What the kernel stores for sequence 6. -/
theorem C6 (t : Fin 4) (l : Fin 512) :
    (k0_pay280 (sl.r_128 c arg2 harg2 x1) (sl.r_129 c arg11 harg11 x10) (LoadRect.valAlong kernelRun0_A._proof_4 (sl.v2272 c arg2 harg2 arg4 harg4 arg18 x1 x3)) (View.readAt (Elt Ideal) arg11.view (Rect.unit (s := S1x3x512) ![0, 1, 0] S1x1x512.size inb_S1x3x512_S1x1x512_0_1_0).toLoadRect (harg11.unread x10)) (LoadRect.valAlong kernelRun0_A._proof_5 (sl.v2279 c arg2 harg2 arg4 harg4 arg18 x1 x3)) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v2287 c arg2 harg2 arg4 harg4 arg18 x1 x3)) : FVec Ideal S4x512 .f32) (ix2 t l) = OC x1 x3 x10 (⟨6, by omega⟩ : Fin 8) t l := by
  pointwise [k0_pay280, sl.r_128, sl.r_129, sl.v2272, sl.v2279, sl.v2287, k0_pay279]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload6 c arg2 harg2 arg4 harg4 x1 x3 6 (by omega) (by omega) _ _ _ _ _ _ _ t _ _ rfl
  · blk_ext
  · exact cload6 c arg2 harg2 arg4 harg4 x1 x3 7 (by omega) (by omega) _ _ _ _ _ _ _ t _ _ rfl
  · blk_ext
  · exact cload6 c arg2 harg2 arg4 harg4 x1 x3 8 (by omega) (by omega) _ _ _ _ _ _ _ t _ _ rfl

/-- A load of four rows of page 7 of the convolved buffer. -/
theorem cload7 (r0 : Nat) (h1' : 6 ≤ r0) (h2' : r0 + 4 ≤ 12) {κ : Kind} {μ : Space} (v : View sig κ μ S8x16x512 .f32) (i1 : ∀ a, (![7, 0, 0] : Fin 3 → Nat) a + S1x16x512.size a ≤ S8x16x512.size a)
    (i2 : ∀ a, (![r0, 0] : Fin 2 → Nat) a + S4x512.size a ≤ S16x512.size a) (h0 : (![1, 16, 512] : Fin 3 → Nat) 0 = 1)
    (hs : ∀ i : Fin 2, (![1, 16, 512] : Fin 3 → Nat) i.succ = S16x512.size i)
    (h1 : ∀ a, (Rect.unit (s := S8x16x512) ![7, 0, 0] S1x16x512.size i1).stride a = 1) (hR : (Rect.unit (s := S16x512) ![r0, 0] S4x512.size i2).toLoadRect.shape.numel
      = ((Rect.unit (s := S8x16x512) ![7, 0, 0] S1x16x512.size i1).withinL
        ((Rect.unit (s := S16x512) ![r0, 0] S4x512.size i2).toLoadRect.consLift ![1, 16, 512] h0 hs) h1).shape.numel) (t : Fin 4) (l l' : Fin 512) (hl : l'.val = l.val) :
    LoadRect.valAlong (lr := (Rect.unit (s := S16x512) ![r0, 0] S4x512.size i2).toLoadRect) hR (v.readCov (sl.HS1_17 c arg2 harg2 arg4 harg4 x1 x3) ((Rect.unit (s := S8x16x512) ![7, 0, 0] S1x16x512.size i1).withinL
      ((Rect.unit (s := S16x512) ![r0, 0] S4x512.size i2).toLoadRect.consLift ![1, 16, 512] h0 hs) h1)) (ix2 t l)
      = CE x1 x3 (⟨7, by omega⟩ : Fin 8) (⟨r0 + t.val, by omega⟩ : Fin 16) l' :=
  ((load_page (B := 8) (R := 16) (C := 512) (b := 7) (r0 := r0) (c0 := 0) (h := 4) (w := 512) v _ i1 i2 h0 hs h1 hR t l).trans
    (CE7 c harg2 harg4 x1 x3 _ _ (by (try dsimp only); omega) (by (try dsimp only); omega))).trans
      (congrArg (CE x1 x3 _ _) (Fin.ext (by (try dsimp only); omega)))

/-- What the kernel stores for sequence 7. -/
theorem C7 (t : Fin 4) (l : Fin 512) :
    (k0_pay325 (sl.r_149 c arg2 harg2 x1) (View.readAt (Elt Ideal) arg11.view (Rect.unit (s := S1x3x512) ![0, 0, 0] S1x1x512.size inb_S1x3x512_S1x1x512_0_0_0).toLoadRect (harg11.unread x10)) (LoadRect.valAlong kernelRun0_A._proof_4 (sl.v2612 c arg2 harg2 arg4 harg4 arg18 x1 x3)) (View.readAt (Elt Ideal) arg11.view (Rect.unit (s := S1x3x512) ![0, 1, 0] S1x1x512.size inb_S1x3x512_S1x1x512_0_1_0).toLoadRect (harg11.unread x10)) (LoadRect.valAlong kernelRun0_A._proof_5 (sl.v2619 c arg2 harg2 arg4 harg4 arg18 x1 x3)) (View.readAt (Elt Ideal) arg11.view (Rect.unit (s := S1x3x512) ![0, 2, 0] S1x1x512.size inb_S1x3x512_S1x1x512_0_2_0).toLoadRect (harg11.unread x10)) (LoadRect.valAlong kernelRun0_A._proof_6 (sl.v2627 c arg2 harg2 arg4 harg4 arg18 x1 x3)) : FVec Ideal S4x512 .f32) (ix2 t l) = OC x1 x3 x10 (⟨7, by omega⟩ : Fin 8) t l := by
  pointwise [k0_pay325, sl.r_149, sl.v2612, sl.v2619, sl.v2627]
  simp only [ld2, ld3]
  unfold OC
  refine congr (congrArg HMul.hMul ?_) (congr (congrArg HAdd.hAdd (congr (congrArg HAdd.hAdd (congr (congrArg HMul.hMul ?_) ?_)) (congr (congrArg HMul.hMul ?_) ?_))) (congr (congrArg HMul.hMul ?_) ?_))
  · blk_ext
  · blk_ext
  · exact cload7 c arg2 harg2 arg4 harg4 x1 x3 6 (by omega) (by omega) _ _ _ _ _ _ _ t _ _ rfl
  · blk_ext
  · exact cload7 c arg2 harg2 arg4 harg4 x1 x3 7 (by omega) (by omega) _ _ _ _ _ _ _ t _ _ rfl
  · blk_ext
  · exact cload7 c arg2 harg2 arg4 harg4 x1 x3 8 (by omega) (by omega) _ _ _ _ _ _ _ t _ _ rfl

end Cert.MixerIdeal.Tie

end
-- ==== Proof.MixerQ.lean ====
/-
  The queries of the sample mixers, as they are stored: the window attention's heads each on the lanes of its key
  head, scaled and with zeros on the other lanes, and the memory attention's heads as they are.
-/
module

public import proofs.«01_k».proof.Proof.MixerBase

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) {arg2 : Memref sig .tc .vmem S32x3328 .f32} (harg2 : arg2.IsWhole) (x1 : Vec Ideal S32x3328 .f32)

/-- The scale of the window attention, 1/8. -/
def qscale : EReal := Scalar.ofBits (F := Ideal) .f32 0x3E000000#32

/-- The stored query of sequence `b` in row `4 h + t` (head `h`, token `t`), lane `l`. -/
def QS (x1 : Vec Ideal S32x3328 .f32) (b : Fin 8) (r : Fin 32) (l : Fin 128) : EReal :=
  if l.val / 64 = r.val / 16 then
    x1 (ix2 (⟨4 * b.val + r.val % 4, by omega⟩ : Fin 32) (⟨2048 + 64 * (r.val / 4) + l.val % 64, by omega⟩ : Fin 3328)) * qscale
  else 0

/-- The memory query of sequence `b` in row `4 h + t` (head `h`, token `t`), lane `l`. -/
def QM (x1 : Vec Ideal S32x3328 .f32) (b : Fin 8) (r : Fin 16) (l : Fin 128) : EReal :=
  x1 (ix2 (⟨4 * b.val + r.val % 4, by omega⟩ : Fin 32) (⟨2816 + 128 * (r.val / 4) + l.val, by omega⟩ : Fin 3328))

set_option maxHeartbeats 4000000 in
/-- Every store of these rows holds the values said. -/
theorem QS_pieces : View.PiecesOf (fun y => QS x1 (y 0) (y 1) (y 2)) (sl.HS4_64 c arg2 harg2 x1) := by
  unfold sl.HS4_64
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · obtain ⟨i, t, l, rfl⟩ := ix3_cases x
    show _ = QS x1 (⟨7 + 1 * i.val, by omega⟩ : Fin 8) (⟨28 + 1 * t.val, by omega⟩ : Fin 32) (⟨0 + 1 * l.val, by omega⟩ : Fin 128)
    pointwise [k0_pay344, k0_pay15, k0_pay342]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨7 + 1 * i.val, by omega⟩ : Fin 8) (⟨24 + 1 * t.val, by omega⟩ : Fin 32) (⟨0 + 1 * l.val, by omega⟩ : Fin 128)
    pointwise [k0_pay343, k0_pay15, k0_pay342]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨7 + 1 * i.val, by omega⟩ : Fin 8) (⟨20 + 1 * t.val, by omega⟩ : Fin 32) (⟨0 + 1 * l.val, by omega⟩ : Fin 128)
    pointwise [k0_pay341, k0_pay15, k0_pay339]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨7 + 1 * i.val, by omega⟩ : Fin 8) (⟨16 + 1 * t.val, by omega⟩ : Fin 32) (⟨0 + 1 * l.val, by omega⟩ : Fin 128)
    pointwise [k0_pay340, k0_pay15, k0_pay339]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨7 + 1 * i.val, by omega⟩ : Fin 8) (⟨12 + 1 * t.val, by omega⟩ : Fin 32) (⟨0 + 1 * l.val, by omega⟩ : Fin 128)
    pointwise [sl.r_153, k0_pay338, k0_pay15, k0_pay336]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨7 + 1 * i.val, by omega⟩ : Fin 8) (⟨8 + 1 * t.val, by omega⟩ : Fin 32) (⟨0 + 1 * l.val, by omega⟩ : Fin 128)
    pointwise [k0_pay337, k0_pay15, k0_pay336]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨7 + 1 * i.val, by omega⟩ : Fin 8) (⟨4 + 1 * t.val, by omega⟩ : Fin 32) (⟨0 + 1 * l.val, by omega⟩ : Fin 128)
    pointwise [k0_pay335, k0_pay15, k0_pay333]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨7 + 1 * i.val, by omega⟩ : Fin 8) (⟨0 + 1 * t.val, by omega⟩ : Fin 32) (⟨0 + 1 * l.val, by omega⟩ : Fin 128)
    pointwise [k0_pay334, k0_pay15, k0_pay333]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨6 + 1 * i.val, by omega⟩ : Fin 8) (⟨28 + 1 * t.val, by omega⟩ : Fin 32) (⟨0 + 1 * l.val, by omega⟩ : Fin 128)
    pointwise [k0_pay303, k0_pay15, k0_pay301]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨6 + 1 * i.val, by omega⟩ : Fin 8) (⟨24 + 1 * t.val, by omega⟩ : Fin 32) (⟨0 + 1 * l.val, by omega⟩ : Fin 128)
    pointwise [k0_pay302, k0_pay15, k0_pay301]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨6 + 1 * i.val, by omega⟩ : Fin 8) (⟨20 + 1 * t.val, by omega⟩ : Fin 32) (⟨0 + 1 * l.val, by omega⟩ : Fin 128)
    pointwise [k0_pay300, sl.r_135, k0_pay298, k0_pay15, k0_pay296]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨6 + 1 * i.val, by omega⟩ : Fin 8) (⟨16 + 1 * t.val, by omega⟩ : Fin 32) (⟨0 + 1 * l.val, by omega⟩ : Fin 128)
    pointwise [k0_pay299, sl.r_134, k0_pay297, k0_pay15, k0_pay296]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨6 + 1 * i.val, by omega⟩ : Fin 8) (⟨12 + 1 * t.val, by omega⟩ : Fin 32) (⟨0 + 1 * l.val, by omega⟩ : Fin 128)
    pointwise [k0_pay295, k0_pay15, k0_pay293]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨6 + 1 * i.val, by omega⟩ : Fin 8) (⟨8 + 1 * t.val, by omega⟩ : Fin 32) (⟨0 + 1 * l.val, by omega⟩ : Fin 128)
    pointwise [k0_pay294, k0_pay15, k0_pay293]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨6 + 1 * i.val, by omega⟩ : Fin 8) (⟨4 + 1 * t.val, by omega⟩ : Fin 32) (⟨0 + 1 * l.val, by omega⟩ : Fin 128)
    pointwise [k0_pay292, k0_pay15, sl.r_132, sl.cst_25, k0_pay289, k0_pay288]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨6 + 1 * i.val, by omega⟩ : Fin 8) (⟨0 + 1 * t.val, by omega⟩ : Fin 32) (⟨0 + 1 * l.val, by omega⟩ : Fin 128)
    pointwise [k0_pay291, sl.r_133, k0_pay290, k0_pay15, k0_pay288]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨5 + 1 * i.val, by omega⟩ : Fin 8) (⟨28 + 1 * t.val, by omega⟩ : Fin 32) (⟨0 + 1 * l.val, by omega⟩ : Fin 128)
    pointwise [k0_pay259, k0_pay15, sl.r_114, k0_pay256, k0_pay257]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨5 + 1 * i.val, by omega⟩ : Fin 8) (⟨24 + 1 * t.val, by omega⟩ : Fin 32) (⟨0 + 1 * l.val, by omega⟩ : Fin 128)
    pointwise [k0_pay258, k0_pay15, sl.r_114, k0_pay256, k0_pay257]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨5 + 1 * i.val, by omega⟩ : Fin 8) (⟨20 + 1 * t.val, by omega⟩ : Fin 32) (⟨0 + 1 * l.val, by omega⟩ : Fin 128)
    pointwise [k0_pay255, k0_pay15, k0_pay253]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨5 + 1 * i.val, by omega⟩ : Fin 8) (⟨16 + 1 * t.val, by omega⟩ : Fin 32) (⟨0 + 1 * l.val, by omega⟩ : Fin 128)
    pointwise [k0_pay254, k0_pay15, k0_pay253]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨5 + 1 * i.val, by omega⟩ : Fin 8) (⟨12 + 1 * t.val, by omega⟩ : Fin 32) (⟨0 + 1 * l.val, by omega⟩ : Fin 128)
    pointwise [k0_pay252, k0_pay15, k0_pay250]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨5 + 1 * i.val, by omega⟩ : Fin 8) (⟨8 + 1 * t.val, by omega⟩ : Fin 32) (⟨0 + 1 * l.val, by omega⟩ : Fin 128)
    pointwise [k0_pay251, k0_pay15, k0_pay250]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨5 + 1 * i.val, by omega⟩ : Fin 8) (⟨4 + 1 * t.val, by omega⟩ : Fin 32) (⟨0 + 1 * l.val, by omega⟩ : Fin 128)
    pointwise [k0_pay249, k0_pay15, k0_pay247]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨5 + 1 * i.val, by omega⟩ : Fin 8) (⟨0 + 1 * t.val, by omega⟩ : Fin 32) (⟨0 + 1 * l.val, by omega⟩ : Fin 128)
    pointwise [k0_pay248, k0_pay15, k0_pay247]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨4 + 1 * i.val, by omega⟩ : Fin 8) (⟨28 + 1 * t.val, by omega⟩ : Fin 32) (⟨0 + 1 * l.val, by omega⟩ : Fin 128)
    pointwise [sl.v1718, sl.r_95, k0_pay216, k0_pay15, k0_pay215]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨4 + 1 * i.val, by omega⟩ : Fin 8) (⟨24 + 1 * t.val, by omega⟩ : Fin 32) (⟨0 + 1 * l.val, by omega⟩ : Fin 128)
    pointwise [k0_pay217, k0_pay15, k0_pay215]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨4 + 1 * i.val, by omega⟩ : Fin 8) (⟨20 + 1 * t.val, by omega⟩ : Fin 32) (⟨0 + 1 * l.val, by omega⟩ : Fin 128)
    pointwise [k0_pay214, k0_pay15, k0_pay212]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨4 + 1 * i.val, by omega⟩ : Fin 8) (⟨16 + 1 * t.val, by omega⟩ : Fin 32) (⟨0 + 1 * l.val, by omega⟩ : Fin 128)
    pointwise [k0_pay213, k0_pay15, k0_pay212]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨4 + 1 * i.val, by omega⟩ : Fin 8) (⟨12 + 1 * t.val, by omega⟩ : Fin 32) (⟨0 + 1 * l.val, by omega⟩ : Fin 128)
    pointwise [k0_pay211, sl.r_94, k0_pay209, k0_pay15, k0_pay207]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨4 + 1 * i.val, by omega⟩ : Fin 8) (⟨8 + 1 * t.val, by omega⟩ : Fin 32) (⟨0 + 1 * l.val, by omega⟩ : Fin 128)
    pointwise [k0_pay210, sl.r_93, k0_pay208, k0_pay15, k0_pay207]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨4 + 1 * i.val, by omega⟩ : Fin 8) (⟨4 + 1 * t.val, by omega⟩ : Fin 32) (⟨0 + 1 * l.val, by omega⟩ : Fin 128)
    pointwise [k0_pay206, k0_pay15, k0_pay204]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨4 + 1 * i.val, by omega⟩ : Fin 8) (⟨0 + 1 * t.val, by omega⟩ : Fin 32) (⟨0 + 1 * l.val, by omega⟩ : Fin 128)
    pointwise [k0_pay205, k0_pay15, k0_pay204]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨3 + 1 * i.val, by omega⟩ : Fin 8) (⟨28 + 1 * t.val, by omega⟩ : Fin 32) (⟨0 + 1 * l.val, by omega⟩ : Fin 128)
    pointwise [k0_pay174, k0_pay15, k0_pay172]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨3 + 1 * i.val, by omega⟩ : Fin 8) (⟨24 + 1 * t.val, by omega⟩ : Fin 32) (⟨0 + 1 * l.val, by omega⟩ : Fin 128)
    pointwise [k0_pay173, k0_pay15, k0_pay172]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨3 + 1 * i.val, by omega⟩ : Fin 8) (⟨20 + 1 * t.val, by omega⟩ : Fin 32) (⟨0 + 1 * l.val, by omega⟩ : Fin 128)
    pointwise [k0_pay171, k0_pay15, sl.r_75, k0_pay169]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨3 + 1 * i.val, by omega⟩ : Fin 8) (⟨16 + 1 * t.val, by omega⟩ : Fin 32) (⟨0 + 1 * l.val, by omega⟩ : Fin 128)
    pointwise [k0_pay170, k0_pay15, sl.r_75, k0_pay169]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨3 + 1 * i.val, by omega⟩ : Fin 8) (⟨12 + 1 * t.val, by omega⟩ : Fin 32) (⟨0 + 1 * l.val, by omega⟩ : Fin 128)
    pointwise [k0_pay168, k0_pay15, k0_pay166]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨3 + 1 * i.val, by omega⟩ : Fin 8) (⟨8 + 1 * t.val, by omega⟩ : Fin 32) (⟨0 + 1 * l.val, by omega⟩ : Fin 128)
    pointwise [k0_pay167, k0_pay15, k0_pay166]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨3 + 1 * i.val, by omega⟩ : Fin 8) (⟨4 + 1 * t.val, by omega⟩ : Fin 32) (⟨0 + 1 * l.val, by omega⟩ : Fin 128)
    pointwise [k0_pay165, k0_pay15, sl.r_74, k0_pay163]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨3 + 1 * i.val, by omega⟩ : Fin 8) (⟨0 + 1 * t.val, by omega⟩ : Fin 32) (⟨0 + 1 * l.val, by omega⟩ : Fin 128)
    pointwise [k0_pay164, k0_pay15, sl.r_74, k0_pay163]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨2 + 1 * i.val, by omega⟩ : Fin 8) (⟨28 + 1 * t.val, by omega⟩ : Fin 32) (⟨0 + 1 * l.val, by omega⟩ : Fin 128)
    pointwise [k0_pay135, k0_pay15, k0_pay133]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨2 + 1 * i.val, by omega⟩ : Fin 8) (⟨24 + 1 * t.val, by omega⟩ : Fin 32) (⟨0 + 1 * l.val, by omega⟩ : Fin 128)
    pointwise [k0_pay134, k0_pay15, k0_pay133]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨2 + 1 * i.val, by omega⟩ : Fin 8) (⟨20 + 1 * t.val, by omega⟩ : Fin 32) (⟨0 + 1 * l.val, by omega⟩ : Fin 128)
    pointwise [k0_pay132, sl.r_56, k0_pay130, k0_pay15, k0_pay129]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨2 + 1 * i.val, by omega⟩ : Fin 8) (⟨16 + 1 * t.val, by omega⟩ : Fin 32) (⟨0 + 1 * l.val, by omega⟩ : Fin 128)
    pointwise [k0_pay131, k0_pay15, k0_pay129]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨2 + 1 * i.val, by omega⟩ : Fin 8) (⟨12 + 1 * t.val, by omega⟩ : Fin 32) (⟨0 + 1 * l.val, by omega⟩ : Fin 128)
    pointwise [k0_pay128, k0_pay15, k0_pay126]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨2 + 1 * i.val, by omega⟩ : Fin 8) (⟨8 + 1 * t.val, by omega⟩ : Fin 32) (⟨0 + 1 * l.val, by omega⟩ : Fin 128)
    pointwise [k0_pay127, k0_pay15, k0_pay126]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨2 + 1 * i.val, by omega⟩ : Fin 8) (⟨4 + 1 * t.val, by omega⟩ : Fin 32) (⟨0 + 1 * l.val, by omega⟩ : Fin 128)
    pointwise [k0_pay125, sl.r_54, k0_pay123, k0_pay15, k0_pay122]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨2 + 1 * i.val, by omega⟩ : Fin 8) (⟨0 + 1 * t.val, by omega⟩ : Fin 32) (⟨0 + 1 * l.val, by omega⟩ : Fin 128)
    pointwise [sl.r_55, k0_pay124, k0_pay15, k0_pay122]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨1 + 1 * i.val, by omega⟩ : Fin 8) (⟨28 + 1 * t.val, by omega⟩ : Fin 32) (⟨0 + 1 * l.val, by omega⟩ : Fin 128)
    pointwise [sl.v698, sl.v692, k0_pay15, k0_pay93, sl.r_37, k0_pay91]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨1 + 1 * i.val, by omega⟩ : Fin 8) (⟨24 + 1 * t.val, by omega⟩ : Fin 32) (⟨0 + 1 * l.val, by omega⟩ : Fin 128)
    pointwise [sl.v695, sl.r_38, k0_pay92, k0_pay15, k0_pay91]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨1 + 1 * i.val, by omega⟩ : Fin 8) (⟨20 + 1 * t.val, by omega⟩ : Fin 32) (⟨0 + 1 * l.val, by omega⟩ : Fin 128)
    pointwise [k0_pay90, k0_pay15, k0_pay88]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨1 + 1 * i.val, by omega⟩ : Fin 8) (⟨16 + 1 * t.val, by omega⟩ : Fin 32) (⟨0 + 1 * l.val, by omega⟩ : Fin 128)
    pointwise [k0_pay89, k0_pay15, k0_pay88]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨1 + 1 * i.val, by omega⟩ : Fin 8) (⟨12 + 1 * t.val, by omega⟩ : Fin 32) (⟨0 + 1 * l.val, by omega⟩ : Fin 128)
    pointwise [k0_pay87, k0_pay15, sl.r_36, k0_pay85, k0_pay84]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨1 + 1 * i.val, by omega⟩ : Fin 8) (⟨8 + 1 * t.val, by omega⟩ : Fin 32) (⟨0 + 1 * l.val, by omega⟩ : Fin 128)
    pointwise [k0_pay86, k0_pay15, sl.r_35, sl.cst_25, k0_pay84]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨1 + 1 * i.val, by omega⟩ : Fin 8) (⟨4 + 1 * t.val, by omega⟩ : Fin 32) (⟨0 + 1 * l.val, by omega⟩ : Fin 128)
    pointwise [k0_pay83, k0_pay15, k0_pay81]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨1 + 1 * i.val, by omega⟩ : Fin 8) (⟨0 + 1 * t.val, by omega⟩ : Fin 32) (⟨0 + 1 * l.val, by omega⟩ : Fin 128)
    pointwise [k0_pay82, k0_pay15, k0_pay81]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨0 + 1 * i.val, by omega⟩ : Fin 8) (⟨28 + 1 * t.val, by omega⟩ : Fin 32) (⟨0 + 1 * l.val, by omega⟩ : Fin 128)
    pointwise [k0_pay53, k0_pay15, k0_pay51]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨0 + 1 * i.val, by omega⟩ : Fin 8) (⟨24 + 1 * t.val, by omega⟩ : Fin 32) (⟨0 + 1 * l.val, by omega⟩ : Fin 128)
    pointwise [k0_pay52, k0_pay15, k0_pay51]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨0 + 1 * i.val, by omega⟩ : Fin 8) (⟨20 + 1 * t.val, by omega⟩ : Fin 32) (⟨0 + 1 * l.val, by omega⟩ : Fin 128)
    pointwise [k0_pay50, k0_pay15, k0_pay48]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨0 + 1 * i.val, by omega⟩ : Fin 8) (⟨16 + 1 * t.val, by omega⟩ : Fin 32) (⟨0 + 1 * l.val, by omega⟩ : Fin 128)
    pointwise [k0_pay49, k0_pay15, k0_pay48]
    simp only [ld2]
    rw [sel_low]
    unfold QS qscale
    by_cases h : l.val < 64
    · rw [if_pos h, if_neg (by (try dsimp only); omega)]
    · rw [if_neg h, if_pos (by (try dsimp only); omega)]
      congr 1; blk_ext
  · obtain ⟨i, t, l, rfl⟩ := ix3_cases x
    show _ = QS x1 (⟨0 + 1 * i.val, by omega⟩ : Fin 8) (⟨12 + 1 * t.val, by omega⟩ : Fin 32) (⟨0 + 1 * l.val, by omega⟩ : Fin 128)
    pointwise [k0_pay47, sl.r_18, k0_pay45, k0_pay15, k0_pay44]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨0 + 1 * i.val, by omega⟩ : Fin 8) (⟨8 + 1 * t.val, by omega⟩ : Fin 32) (⟨0 + 1 * l.val, by omega⟩ : Fin 128)
    pointwise [k0_pay46, k0_pay15, k0_pay44]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨0 + 1 * i.val, by omega⟩ : Fin 8) (⟨4 + 1 * t.val, by omega⟩ : Fin 32) (⟨0 + 1 * l.val, by omega⟩ : Fin 128)
    pointwise [k0_pay43, k0_pay15, k0_pay41]
    simp only [ld2]
    rw [sel_low]
    unfold QS qscale
    by_cases h : l.val < 64
    · rw [if_pos h, if_pos (by (try dsimp only); omega)]
      congr 1; blk_ext
    · rw [if_neg h, if_neg (by (try dsimp only); omega)]

  · obtain ⟨i, t, l, rfl⟩ := ix3_cases x
    show _ = QS x1 (⟨0 + 1 * i.val, by omega⟩ : Fin 8) (⟨0 + 1 * t.val, by omega⟩ : Fin 32) (⟨0 + 1 * l.val, by omega⟩ : Fin 128)
    pointwise [k0_pay42, k0_pay15, k0_pay41]
    simp only [ld2]
    rw [sel_low]
    unfold QS qscale
    by_cases h : l.val < 64
    · rw [if_pos h, if_pos (by (try dsimp only); omega)]
      congr 1; blk_ext
    · rw [if_neg h, if_neg (by (try dsimp only); omega)]

set_option maxHeartbeats 4000000 in
/-- Every store of these rows holds the values said. -/
theorem QM_pieces : View.PiecesOf (fun y => QM x1 (y 0) (y 1) (y 2)) (sl.HS5_32 c arg2 harg2 x1) := by
  unfold sl.HS5_32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · obtain ⟨i, t, l, rfl⟩ := ix3_cases x
    show _ = QM x1 (⟨7 + 1 * i.val, by omega⟩ : Fin 8) (⟨12 + 1 * t.val, by omega⟩ : Fin 16) (⟨0 + 1 * l.val, by omega⟩ : Fin 128)
    pointwise [k0_pay348]
    simp only [ld2]
    unfold QM
    blk_ext
  · obtain ⟨i, t, l, rfl⟩ := ix3_cases x
    show _ = QM x1 (⟨7 + 1 * i.val, by omega⟩ : Fin 8) (⟨8 + 1 * t.val, by omega⟩ : Fin 16) (⟨0 + 1 * l.val, by omega⟩ : Fin 128)
    pointwise [k0_pay347]
    simp only [ld2]
    unfold QM
    blk_ext
  · obtain ⟨i, t, l, rfl⟩ := ix3_cases x
    show _ = QM x1 (⟨7 + 1 * i.val, by omega⟩ : Fin 8) (⟨4 + 1 * t.val, by omega⟩ : Fin 16) (⟨0 + 1 * l.val, by omega⟩ : Fin 128)
    pointwise [k0_pay346]
    simp only [ld2]
    unfold QM
    blk_ext
  · obtain ⟨i, t, l, rfl⟩ := ix3_cases x
    show _ = QM x1 (⟨7 + 1 * i.val, by omega⟩ : Fin 8) (⟨0 + 1 * t.val, by omega⟩ : Fin 16) (⟨0 + 1 * l.val, by omega⟩ : Fin 128)
    pointwise [k0_pay345, sl.r_154]
    simp only [ld2]
    unfold QM
    blk_ext
  · obtain ⟨i, t, l, rfl⟩ := ix3_cases x
    show _ = QM x1 (⟨6 + 1 * i.val, by omega⟩ : Fin 8) (⟨12 + 1 * t.val, by omega⟩ : Fin 16) (⟨0 + 1 * l.val, by omega⟩ : Fin 128)
    pointwise [sl.v2414]
    simp only [ld2]
    unfold QM
    blk_ext
  · obtain ⟨i, t, l, rfl⟩ := ix3_cases x
    show _ = QM x1 (⟨6 + 1 * i.val, by omega⟩ : Fin 8) (⟨8 + 1 * t.val, by omega⟩ : Fin 16) (⟨0 + 1 * l.val, by omega⟩ : Fin 128)
    pointwise [sl.v2410]
    simp only [ld2]
    unfold QM
    blk_ext
  · obtain ⟨i, t, l, rfl⟩ := ix3_cases x
    show _ = QM x1 (⟨6 + 1 * i.val, by omega⟩ : Fin 8) (⟨4 + 1 * t.val, by omega⟩ : Fin 16) (⟨0 + 1 * l.val, by omega⟩ : Fin 128)
    pointwise [k0_pay305]
    simp only [ld2]
    unfold QM
    blk_ext
  · obtain ⟨i, t, l, rfl⟩ := ix3_cases x
    show _ = QM x1 (⟨6 + 1 * i.val, by omega⟩ : Fin 8) (⟨0 + 1 * t.val, by omega⟩ : Fin 16) (⟨0 + 1 * l.val, by omega⟩ : Fin 128)
    pointwise [k0_pay304]
    simp only [ld2]
    unfold QM
    blk_ext
  · obtain ⟨i, t, l, rfl⟩ := ix3_cases x
    show _ = QM x1 (⟨5 + 1 * i.val, by omega⟩ : Fin 8) (⟨12 + 1 * t.val, by omega⟩ : Fin 16) (⟨0 + 1 * l.val, by omega⟩ : Fin 128)
    pointwise [k0_pay263, sl.r_115]
    simp only [ld2]
    unfold QM
    blk_ext
  · obtain ⟨i, t, l, rfl⟩ := ix3_cases x
    show _ = QM x1 (⟨5 + 1 * i.val, by omega⟩ : Fin 8) (⟨8 + 1 * t.val, by omega⟩ : Fin 16) (⟨0 + 1 * l.val, by omega⟩ : Fin 128)
    pointwise [k0_pay262]
    simp only [ld2]
    unfold QM
    blk_ext
  · obtain ⟨i, t, l, rfl⟩ := ix3_cases x
    show _ = QM x1 (⟨5 + 1 * i.val, by omega⟩ : Fin 8) (⟨4 + 1 * t.val, by omega⟩ : Fin 16) (⟨0 + 1 * l.val, by omega⟩ : Fin 128)
    pointwise [k0_pay261]
    simp only [ld2]
    unfold QM
    blk_ext
  · obtain ⟨i, t, l, rfl⟩ := ix3_cases x
    show _ = QM x1 (⟨5 + 1 * i.val, by omega⟩ : Fin 8) (⟨0 + 1 * t.val, by omega⟩ : Fin 16) (⟨0 + 1 * l.val, by omega⟩ : Fin 128)
    pointwise [k0_pay260]
    simp only [ld2]
    unfold QM
    blk_ext
  · obtain ⟨i, t, l, rfl⟩ := ix3_cases x
    show _ = QM x1 (⟨4 + 1 * i.val, by omega⟩ : Fin 8) (⟨12 + 1 * t.val, by omega⟩ : Fin 16) (⟨0 + 1 * l.val, by omega⟩ : Fin 128)
    pointwise [sl.v1734]
    simp only [ld2]
    unfold QM
    blk_ext
  · obtain ⟨i, t, l, rfl⟩ := ix3_cases x
    show _ = QM x1 (⟨4 + 1 * i.val, by omega⟩ : Fin 8) (⟨8 + 1 * t.val, by omega⟩ : Fin 16) (⟨0 + 1 * l.val, by omega⟩ : Fin 128)
    pointwise [sl.v1730]
    simp only [ld2]
    unfold QM
    blk_ext
  · obtain ⟨i, t, l, rfl⟩ := ix3_cases x
    show _ = QM x1 (⟨4 + 1 * i.val, by omega⟩ : Fin 8) (⟨4 + 1 * t.val, by omega⟩ : Fin 16) (⟨0 + 1 * l.val, by omega⟩ : Fin 128)
    pointwise [sl.v1726]
    simp only [ld2]
    unfold QM
    blk_ext
  · obtain ⟨i, t, l, rfl⟩ := ix3_cases x
    show _ = QM x1 (⟨4 + 1 * i.val, by omega⟩ : Fin 8) (⟨0 + 1 * t.val, by omega⟩ : Fin 16) (⟨0 + 1 * l.val, by omega⟩ : Fin 128)
    pointwise [sl.v1722]
    simp only [ld2]
    unfold QM
    blk_ext
  · obtain ⟨i, t, l, rfl⟩ := ix3_cases x
    show _ = QM x1 (⟨3 + 1 * i.val, by omega⟩ : Fin 8) (⟨12 + 1 * t.val, by omega⟩ : Fin 16) (⟨0 + 1 * l.val, by omega⟩ : Fin 128)
    pointwise [sl.v1394]
    simp only [ld2]
    unfold QM
    blk_ext
  · obtain ⟨i, t, l, rfl⟩ := ix3_cases x
    show _ = QM x1 (⟨3 + 1 * i.val, by omega⟩ : Fin 8) (⟨8 + 1 * t.val, by omega⟩ : Fin 16) (⟨0 + 1 * l.val, by omega⟩ : Fin 128)
    pointwise [sl.v1390]
    simp only [ld2]
    unfold QM
    blk_ext
  · obtain ⟨i, t, l, rfl⟩ := ix3_cases x
    show _ = QM x1 (⟨3 + 1 * i.val, by omega⟩ : Fin 8) (⟨4 + 1 * t.val, by omega⟩ : Fin 16) (⟨0 + 1 * l.val, by omega⟩ : Fin 128)
    pointwise [sl.v1386]
    simp only [ld2]
    unfold QM
    blk_ext
  · obtain ⟨i, t, l, rfl⟩ := ix3_cases x
    show _ = QM x1 (⟨3 + 1 * i.val, by omega⟩ : Fin 8) (⟨0 + 1 * t.val, by omega⟩ : Fin 16) (⟨0 + 1 * l.val, by omega⟩ : Fin 128)
    pointwise [k0_pay175]
    simp only [ld2]
    unfold QM
    blk_ext
  · obtain ⟨i, t, l, rfl⟩ := ix3_cases x
    show _ = QM x1 (⟨2 + 1 * i.val, by omega⟩ : Fin 8) (⟨12 + 1 * t.val, by omega⟩ : Fin 16) (⟨0 + 1 * l.val, by omega⟩ : Fin 128)
    pointwise [k0_pay139]
    simp only [ld2]
    unfold QM
    blk_ext
  · obtain ⟨i, t, l, rfl⟩ := ix3_cases x
    show _ = QM x1 (⟨2 + 1 * i.val, by omega⟩ : Fin 8) (⟨8 + 1 * t.val, by omega⟩ : Fin 16) (⟨0 + 1 * l.val, by omega⟩ : Fin 128)
    pointwise [k0_pay138, sl.r_57]
    simp only [ld2]
    unfold QM
    blk_ext
  · obtain ⟨i, t, l, rfl⟩ := ix3_cases x
    show _ = QM x1 (⟨2 + 1 * i.val, by omega⟩ : Fin 8) (⟨4 + 1 * t.val, by omega⟩ : Fin 16) (⟨0 + 1 * l.val, by omega⟩ : Fin 128)
    pointwise [k0_pay137]
    simp only [ld2]
    unfold QM
    blk_ext
  · obtain ⟨i, t, l, rfl⟩ := ix3_cases x
    show _ = QM x1 (⟨2 + 1 * i.val, by omega⟩ : Fin 8) (⟨0 + 1 * t.val, by omega⟩ : Fin 16) (⟨0 + 1 * l.val, by omega⟩ : Fin 128)
    pointwise [k0_pay136]
    simp only [ld2]
    unfold QM
    blk_ext
  · obtain ⟨i, t, l, rfl⟩ := ix3_cases x
    show _ = QM x1 (⟨1 + 1 * i.val, by omega⟩ : Fin 8) (⟨12 + 1 * t.val, by omega⟩ : Fin 16) (⟨0 + 1 * l.val, by omega⟩ : Fin 128)
    pointwise [sl.v714]
    simp only [ld2]
    unfold QM
    blk_ext
  · obtain ⟨i, t, l, rfl⟩ := ix3_cases x
    show _ = QM x1 (⟨1 + 1 * i.val, by omega⟩ : Fin 8) (⟨8 + 1 * t.val, by omega⟩ : Fin 16) (⟨0 + 1 * l.val, by omega⟩ : Fin 128)
    pointwise [sl.v710]
    simp only [ld2]
    unfold QM
    blk_ext
  · obtain ⟨i, t, l, rfl⟩ := ix3_cases x
    show _ = QM x1 (⟨1 + 1 * i.val, by omega⟩ : Fin 8) (⟨4 + 1 * t.val, by omega⟩ : Fin 16) (⟨0 + 1 * l.val, by omega⟩ : Fin 128)
    pointwise [sl.v706]
    simp only [ld2]
    unfold QM
    blk_ext
  · obtain ⟨i, t, l, rfl⟩ := ix3_cases x
    show _ = QM x1 (⟨1 + 1 * i.val, by omega⟩ : Fin 8) (⟨0 + 1 * t.val, by omega⟩ : Fin 16) (⟨0 + 1 * l.val, by omega⟩ : Fin 128)
    pointwise [sl.v702]
    simp only [ld2]
    unfold QM
    blk_ext
  · obtain ⟨i, t, l, rfl⟩ := ix3_cases x
    show _ = QM x1 (⟨0 + 1 * i.val, by omega⟩ : Fin 8) (⟨12 + 1 * t.val, by omega⟩ : Fin 16) (⟨0 + 1 * l.val, by omega⟩ : Fin 128)
    pointwise [sl.v374]
    simp only [ld2]
    unfold QM
    blk_ext
  · obtain ⟨i, t, l, rfl⟩ := ix3_cases x
    show _ = QM x1 (⟨0 + 1 * i.val, by omega⟩ : Fin 8) (⟨8 + 1 * t.val, by omega⟩ : Fin 16) (⟨0 + 1 * l.val, by omega⟩ : Fin 128)
    pointwise [sl.v370]
    simp only [ld2]
    unfold QM
    blk_ext
  · obtain ⟨i, t, l, rfl⟩ := ix3_cases x
    show _ = QM x1 (⟨0 + 1 * i.val, by omega⟩ : Fin 8) (⟨4 + 1 * t.val, by omega⟩ : Fin 16) (⟨0 + 1 * l.val, by omega⟩ : Fin 128)
    pointwise [sl.v366]
    simp only [ld2]
    unfold QM
    blk_ext
  · obtain ⟨i, t, l, rfl⟩ := ix3_cases x
    show _ = QM x1 (⟨0 + 1 * i.val, by omega⟩ : Fin 8) (⟨0 + 1 * t.val, by omega⟩ : Fin 16) (⟨0 + 1 * l.val, by omega⟩ : Fin 128)
    pointwise [sl.v362]
    simp only [ld2]
    unfold QM
    blk_ext

end Cert.MixerIdeal.Tie

end
-- ==== Proof.MixerSwa.lean ====
/-
  The window attention of the sample mixers: scores, mask, sinks and the softmax, read at an index.
-/
module

public import proofs.«01_k».proof.Proof.MixerBuf
public import proofs.«01_k».proof.Proof.MixerQ

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) (i : grid0.Coords) (arg1 : Memref sig .tc .smem S2x8 .f32) (harg1 : arg1.IsWhole) (arg2 : Memref sig .tc .vmem S32x3328 .f32) (harg2 : arg2.IsWhole) (arg5 : Memref sig .tc .vmem S1x8x128x128 .f32) (harg5 : arg5.IsWhole) (arg19 : Memref sig .tc .vmem S8x256x128 .f32) (arg21 : Memref sig .tc .vmem S8x32x128 .f32) (x0 : Vec Ideal S2x8 .f32) (x1 : Vec Ideal S32x3328 .f32) (x4 : Vec Ideal S1x8x128x128 .f32)
/-- The stored queries of the window attention. -/
theorem QS_at (b : Fin 8) (r : Fin 32) (l : Fin 128) : View.canon (sl.HS4_64 c arg2 harg2 x1) (ix3 b r l) = QS x1 b r l :=
  View.canon_apply_of_pieces (fun y => QS x1 (y 0) (y 1) (y 2)) _ (QS_pieces c harg2 x1).mem (ix3 b r l)
    (View.cover_of_tiledBy (sl.HS4_64 c arg2 harg2 x1) ![1, 4, 128] (by sl_kernel_rfl) _)

/-- The stored queries of the memory attention. -/
theorem QM_at (b : Fin 8) (r : Fin 16) (l : Fin 128) : View.canon (sl.HS5_32 c arg2 harg2 x1) (ix3 b r l) = QM x1 b r l :=
  View.canon_apply_of_pieces (fun y => QM x1 (y 0) (y 1) (y 2)) _ (QM_pieces c harg2 x1).mem (ix3 b r l)
    (View.cover_of_tiledBy (sl.HS5_32 c arg2 harg2 x1) ![1, 4, 128] (by sl_kernel_rfl) _)

/-- The row's token as the mask computes it is the remainder of the row by 4. -/
theorem tok_bits (R : Fin 256) (x : Fin 256) : (sl.v2925 (ix2 R x) : BitVec 32) = BitVec.ofNat 32 (R.val % 4) := by
  pointwise [sl.v2925, sl.v2921, sl.v2915, sl.v2924, sl.v2909, sl.v2912, sl.v2917, sl.v2919, sl.v2914]
  clear x
  revert R
  decide +kernel

/-- The mask leaves to a token the 128 keys that end at its own. -/
theorem mask_at (R : Fin 256) (x : Fin 256) :
    (sl.v2934 (ix2 R x) : BitVec 1) = if R.val % 4 < x.val ∧ x.val ≤ R.val % 4 + 128 then 1#1 else 0#1 := by
  pointwise [sl.v2934, sl.v2931, sl.v2926, sl.v2914, sl.v2930, sl.v2928]
  rw [tok_bits]
  obtain ⟨t, ht⟩ : ∃ t : Fin 4, R.val % 4 = t.val := ⟨⟨R.val % 4, by omega⟩, rfl⟩
  rw [ht]
  clear ht R
  revert t x
  decide +kernel

/-- The row's head as the kernel computes it. -/
theorem head_bits (R : Fin 256) : (k0_pay372 (divsi sl.v2935 sl.v2936) (andi sl.v2951 sl.v2955) sl.v2958 : IVec S256x1 32) (ix2 R 0) = BitVec.ofNat 32 (R.val / 4 % 8) := by
  pointwise [sl.r_176, k0_pay372, sl.v2935, sl.v2936, sl.v2951, sl.v2955, sl.v2958, sl.v2940, sl.v2943, sl.v2950, sl.v2938]
  revert R
  decide +kernel

/-- A choice among eight values by the head's number. -/
theorem pick8 (h : Fin 8) (f : Fin 8 → EReal) (z a0 a1 a2 a3 a4 a5 a6 a7 : EReal) (h0 : a0 = f 0) (h1 : a1 = f 1) (h2 : a2 = f 2) (h3 : a3 = f 3)
    (h4 : a4 = f 4) (h5 : a5 = f 5) (h6 : a6 = f 6) (h7 : a7 = f 7) :
    Scalar.select (IntOp.cmpi CmpIPredicate.eq (BitVec.ofNat 32 h.val) 7#32) a7
      (Scalar.select (IntOp.cmpi CmpIPredicate.eq (BitVec.ofNat 32 h.val) 6#32) a6
      (Scalar.select (IntOp.cmpi CmpIPredicate.eq (BitVec.ofNat 32 h.val) 5#32) a5
      (Scalar.select (IntOp.cmpi CmpIPredicate.eq (BitVec.ofNat 32 h.val) 4#32) a4
      (Scalar.select (IntOp.cmpi CmpIPredicate.eq (BitVec.ofNat 32 h.val) 3#32) a3
      (Scalar.select (IntOp.cmpi CmpIPredicate.eq (BitVec.ofNat 32 h.val) 2#32) a2
      (Scalar.select (IntOp.cmpi CmpIPredicate.eq (BitVec.ofNat 32 h.val) 1#32) a1
      (Scalar.select (IntOp.cmpi CmpIPredicate.eq (BitVec.ofNat 32 h.val) 0#32) a0 z)))))))
    = f h := by
  subst h0 h1 h2 h3 h4 h5 h6 h7
  fin_cases h <;> rfl

/-- A load of one sink. -/
theorem sink_load (h : Nat) (hh : h < 8) (i1 : ∀ a, (![0, h] : Fin 2 → Nat) a + (![1, 1] : Fin 2 → Nat) a ≤ S2x8.size a) (p : 0 < (Rect.unit (s := S2x8) ![0, h] (![1, 1] : Fin 2 → Nat) i1).toLoadRect.shape.numel) :
    View.readAt (Elt Ideal) arg1.view (Rect.unit (s := S2x8) ![0, h] (![1, 1] : Fin 2 → Nat) i1).toLoadRect (harg1.unread x0) (Shape.Idx.first p) = x0 (ix2 0 ⟨h, hh⟩) := by
  have e : (Shape.Idx.first p : (Rect.unit (s := S2x8) ![0, h] (![1, 1] : Fin 2 → Nat) i1).toLoadRect.shape.Idx) = ix2 (0 : Fin 1) (0 : Fin 1) := by
    funext a; fin_cases a <;> exact Subsingleton.elim (α := Fin 1) _ _
  rw [e]
  exact (ld2 arg1 harg1 x0 _ 0 0).trans (by blk_ext)

/-- The stored scores of a row: the stored query against each key. -/
def SS (x1 : Vec Ideal S32x3328 .f32) (x4 : Vec Ideal S1x8x128x128 .f32) (b : Fin 8) (r : Fin 32) (k : Fin 256) : EReal :=
  ∑ l : Fin 128, QS x1 b r l * KE x1 x4 b k l

/-- A load of a whole page. -/
theorem load_all {sg : RefSig} {κ : Kind} {sp : Space} {B R C : Nat} (b : Nat) (hb : b < B) (v : View sg κ sp ⟨3, ![B, R, C]⟩ .f32) (L : List (View.Piece (Elt Ideal) ⟨3, ![B, R, C]⟩ .f32))
    (inb : ∀ a, (![b, 0, 0] : Fin 3 → Nat) a + (![1, R, C] : Fin 3 → Nat) a ≤ (⟨3, ![B, R, C]⟩ : Shape).size a) (r : Fin R) (c : Fin C) :
    v.readCov L (Rect.unit (s := ⟨3, ![B, R, C]⟩) ![b, 0, 0] ![1, R, C] inb).toLoadRect (ix3 0 r c) = View.canon L (ix3 ⟨b, hb⟩ r c) :=
  (load_plain v L inb 0 r c).trans (congrArg (View.canon L) (eq3 rfl (by show 0 + r.val = r.val; omega) (by show 0 + c.val = c.val; omega)))

/-- The stored queries of sequence 0, as they are loaded. -/
theorem qload0 (r : Fin 32) (l : Fin 128) : (sl.v2795 (F := Ideal) c arg2 harg2 arg21 x1 : Vec Ideal S1x32x128 .f32) (ix3 0 r l) = QS x1 (⟨0, by omega⟩ : Fin 8) r l :=
  (load_all (B := 8) (R := 32) (C := 128) 0 (by omega) arg21.view (sl.HS4_64 (F := Ideal) c arg2 harg2 x1) inb_S8x32x128_S1x32x128_0_0_0 r l).trans (QS_at c arg2 harg2 x1 (⟨0, by omega⟩ : Fin 8) r l)

/-- The keys of sequence 0, as they are loaded. -/
theorem kload0 (k : Fin 256) (hk : k.val < 132) (l : Fin 128) : (sl.v2798 (F := Ideal) c arg2 harg2 arg5 harg5 arg19 x1 x4 : Vec Ideal S1x256x128 .f32) (ix3 0 k l) = KE x1 x4 (⟨0, by omega⟩ : Fin 8) k l :=
  (load_all (B := 8) (R := 256) (C := 128) 0 (by omega) arg19.view (sl.HS2_17 (F := Ideal) c arg2 harg2 arg5 harg5 x1 x4) inb_S8x256x128_S1x256x128_0_0_0 k l).trans (KE_all0 c harg2 harg5 x1 x4 k l (by omega) hk)

/-- The stored queries of sequence 1, as they are loaded. -/
theorem qload1 (r : Fin 32) (l : Fin 128) : (sl.v2802 (F := Ideal) c arg2 harg2 arg21 x1 : Vec Ideal S1x32x128 .f32) (ix3 0 r l) = QS x1 (⟨1, by omega⟩ : Fin 8) r l :=
  (load_all (B := 8) (R := 32) (C := 128) 1 (by omega) arg21.view (sl.HS4_64 (F := Ideal) c arg2 harg2 x1) inb_S8x32x128_S1x32x128_1_0_0 r l).trans (QS_at c arg2 harg2 x1 (⟨1, by omega⟩ : Fin 8) r l)

/-- The keys of sequence 1, as they are loaded. -/
theorem kload1 (k : Fin 256) (hk : k.val < 132) (l : Fin 128) : (sl.v2805 (F := Ideal) c arg2 harg2 arg5 harg5 arg19 x1 x4 : Vec Ideal S1x256x128 .f32) (ix3 0 k l) = KE x1 x4 (⟨1, by omega⟩ : Fin 8) k l :=
  (load_all (B := 8) (R := 256) (C := 128) 1 (by omega) arg19.view (sl.HS2_17 (F := Ideal) c arg2 harg2 arg5 harg5 x1 x4) inb_S8x256x128_S1x256x128_1_0_0 k l).trans (KE_all1 c harg2 harg5 x1 x4 k l (by omega) hk)

/-- The stored queries of sequence 2, as they are loaded. -/
theorem qload2 (r : Fin 32) (l : Fin 128) : (sl.v2809 (F := Ideal) c arg2 harg2 arg21 x1 : Vec Ideal S1x32x128 .f32) (ix3 0 r l) = QS x1 (⟨2, by omega⟩ : Fin 8) r l :=
  (load_all (B := 8) (R := 32) (C := 128) 2 (by omega) arg21.view (sl.HS4_64 (F := Ideal) c arg2 harg2 x1) inb_S8x32x128_S1x32x128_2_0_0 r l).trans (QS_at c arg2 harg2 x1 (⟨2, by omega⟩ : Fin 8) r l)

/-- The keys of sequence 2, as they are loaded. -/
theorem kload2 (k : Fin 256) (hk : k.val < 132) (l : Fin 128) : (sl.v2812 (F := Ideal) c arg2 harg2 arg5 harg5 arg19 x1 x4 : Vec Ideal S1x256x128 .f32) (ix3 0 k l) = KE x1 x4 (⟨2, by omega⟩ : Fin 8) k l :=
  (load_all (B := 8) (R := 256) (C := 128) 2 (by omega) arg19.view (sl.HS2_17 (F := Ideal) c arg2 harg2 arg5 harg5 x1 x4) inb_S8x256x128_S1x256x128_2_0_0 k l).trans (KE_all2 c harg2 harg5 x1 x4 k l (by omega) hk)

/-- The stored queries of sequence 3, as they are loaded. -/
theorem qload3 (r : Fin 32) (l : Fin 128) : (sl.v2816 (F := Ideal) c arg2 harg2 arg21 x1 : Vec Ideal S1x32x128 .f32) (ix3 0 r l) = QS x1 (⟨3, by omega⟩ : Fin 8) r l :=
  (load_all (B := 8) (R := 32) (C := 128) 3 (by omega) arg21.view (sl.HS4_64 (F := Ideal) c arg2 harg2 x1) inb_S8x32x128_S1x32x128_3_0_0 r l).trans (QS_at c arg2 harg2 x1 (⟨3, by omega⟩ : Fin 8) r l)

/-- The keys of sequence 3, as they are loaded. -/
theorem kload3 (k : Fin 256) (hk : k.val < 132) (l : Fin 128) : (sl.v2819 (F := Ideal) c arg2 harg2 arg5 harg5 arg19 x1 x4 : Vec Ideal S1x256x128 .f32) (ix3 0 k l) = KE x1 x4 (⟨3, by omega⟩ : Fin 8) k l :=
  (load_all (B := 8) (R := 256) (C := 128) 3 (by omega) arg19.view (sl.HS2_17 (F := Ideal) c arg2 harg2 arg5 harg5 x1 x4) inb_S8x256x128_S1x256x128_3_0_0 k l).trans (KE_all3 c harg2 harg5 x1 x4 k l (by omega) hk)

/-- The stored queries of sequence 4, as they are loaded. -/
theorem qload4 (r : Fin 32) (l : Fin 128) : (sl.v2823 (F := Ideal) c arg2 harg2 arg21 x1 : Vec Ideal S1x32x128 .f32) (ix3 0 r l) = QS x1 (⟨4, by omega⟩ : Fin 8) r l :=
  (load_all (B := 8) (R := 32) (C := 128) 4 (by omega) arg21.view (sl.HS4_64 (F := Ideal) c arg2 harg2 x1) inb_S8x32x128_S1x32x128_4_0_0 r l).trans (QS_at c arg2 harg2 x1 (⟨4, by omega⟩ : Fin 8) r l)

/-- The keys of sequence 4, as they are loaded. -/
theorem kload4 (k : Fin 256) (hk : k.val < 132) (l : Fin 128) : (sl.v2826 (F := Ideal) c arg2 harg2 arg5 harg5 arg19 x1 x4 : Vec Ideal S1x256x128 .f32) (ix3 0 k l) = KE x1 x4 (⟨4, by omega⟩ : Fin 8) k l :=
  (load_all (B := 8) (R := 256) (C := 128) 4 (by omega) arg19.view (sl.HS2_17 (F := Ideal) c arg2 harg2 arg5 harg5 x1 x4) inb_S8x256x128_S1x256x128_4_0_0 k l).trans (KE_all4 c harg2 harg5 x1 x4 k l (by omega) hk)

/-- The stored queries of sequence 5, as they are loaded. -/
theorem qload5 (r : Fin 32) (l : Fin 128) : (sl.v2830 (F := Ideal) c arg2 harg2 arg21 x1 : Vec Ideal S1x32x128 .f32) (ix3 0 r l) = QS x1 (⟨5, by omega⟩ : Fin 8) r l :=
  (load_all (B := 8) (R := 32) (C := 128) 5 (by omega) arg21.view (sl.HS4_64 (F := Ideal) c arg2 harg2 x1) inb_S8x32x128_S1x32x128_5_0_0 r l).trans (QS_at c arg2 harg2 x1 (⟨5, by omega⟩ : Fin 8) r l)

/-- The keys of sequence 5, as they are loaded. -/
theorem kload5 (k : Fin 256) (hk : k.val < 132) (l : Fin 128) : (sl.v2833 (F := Ideal) c arg2 harg2 arg5 harg5 arg19 x1 x4 : Vec Ideal S1x256x128 .f32) (ix3 0 k l) = KE x1 x4 (⟨5, by omega⟩ : Fin 8) k l :=
  (load_all (B := 8) (R := 256) (C := 128) 5 (by omega) arg19.view (sl.HS2_17 (F := Ideal) c arg2 harg2 arg5 harg5 x1 x4) inb_S8x256x128_S1x256x128_5_0_0 k l).trans (KE_all5 c harg2 harg5 x1 x4 k l (by omega) hk)

/-- The stored queries of sequence 6, as they are loaded. -/
theorem qload6 (r : Fin 32) (l : Fin 128) : (sl.v2837 (F := Ideal) c arg2 harg2 arg21 x1 : Vec Ideal S1x32x128 .f32) (ix3 0 r l) = QS x1 (⟨6, by omega⟩ : Fin 8) r l :=
  (load_all (B := 8) (R := 32) (C := 128) 6 (by omega) arg21.view (sl.HS4_64 (F := Ideal) c arg2 harg2 x1) inb_S8x32x128_S1x32x128_6_0_0 r l).trans (QS_at c arg2 harg2 x1 (⟨6, by omega⟩ : Fin 8) r l)

/-- The keys of sequence 6, as they are loaded. -/
theorem kload6 (k : Fin 256) (hk : k.val < 132) (l : Fin 128) : (sl.v2840 (F := Ideal) c arg2 harg2 arg5 harg5 arg19 x1 x4 : Vec Ideal S1x256x128 .f32) (ix3 0 k l) = KE x1 x4 (⟨6, by omega⟩ : Fin 8) k l :=
  (load_all (B := 8) (R := 256) (C := 128) 6 (by omega) arg19.view (sl.HS2_17 (F := Ideal) c arg2 harg2 arg5 harg5 x1 x4) inb_S8x256x128_S1x256x128_6_0_0 k l).trans (KE_all6 c harg2 harg5 x1 x4 k l (by omega) hk)

/-- The stored queries of sequence 7, as they are loaded. -/
theorem qload7 (r : Fin 32) (l : Fin 128) : (sl.v2844 (F := Ideal) c arg2 harg2 arg21 x1 : Vec Ideal S1x32x128 .f32) (ix3 0 r l) = QS x1 (⟨7, by omega⟩ : Fin 8) r l :=
  (load_all (B := 8) (R := 32) (C := 128) 7 (by omega) arg21.view (sl.HS4_64 (F := Ideal) c arg2 harg2 x1) inb_S8x32x128_S1x32x128_7_0_0 r l).trans (QS_at c arg2 harg2 x1 (⟨7, by omega⟩ : Fin 8) r l)

/-- The keys of sequence 7, as they are loaded. -/
theorem kload7 (k : Fin 256) (hk : k.val < 132) (l : Fin 128) : (sl.v2847 (F := Ideal) c arg2 harg2 arg5 harg5 arg19 x1 x4 : Vec Ideal S1x256x128 .f32) (ix3 0 k l) = KE x1 x4 (⟨7, by omega⟩ : Fin 8) k l :=
  (load_all (B := 8) (R := 256) (C := 128) 7 (by omega) arg19.view (sl.HS2_17 (F := Ideal) c arg2 harg2 arg5 harg5 x1 x4) inb_S8x256x128_S1x256x128_7_0_0 k l).trans (KE_all7 c harg2 harg5 x1 x4 k l (by omega) hk)

/-- Eight stacked products read at an index, from what their operands hold. -/
theorem stack_at (q0 q1 q2 q3 q4 q5 q6 q7 : Vec Ideal S1x32x128 .f32) (w0 w1 w2 w3 w4 w5 w6 w7 : Vec Ideal S1x256x128 .f32)
    (Q : Fin 8 → Fin 32 → Fin 128 → EReal) (K : Fin 8 → Fin 128 → EReal) (R : Fin 256) (k : Fin 256)
    (hq0 : ∀ r l, q0 (ix3 0 r l) = Q 0 r l) (hq1 : ∀ r l, q1 (ix3 0 r l) = Q 1 r l) (hq2 : ∀ r l, q2 (ix3 0 r l) = Q 2 r l) (hq3 : ∀ r l, q3 (ix3 0 r l) = Q 3 r l) (hq4 : ∀ r l, q4 (ix3 0 r l) = Q 4 r l) (hq5 : ∀ r l, q5 (ix3 0 r l) = Q 5 r l) (hq6 : ∀ r l, q6 (ix3 0 r l) = Q 6 r l) (hq7 : ∀ r l, q7 (ix3 0 r l) = Q 7 r l)
    (hk0 : ∀ l, w0 (ix3 0 k l) = K 0 l) (hk1 : ∀ l, w1 (ix3 0 k l) = K 1 l) (hk2 : ∀ l, w2 (ix3 0 k l) = K 2 l) (hk3 : ∀ l, w3 (ix3 0 k l) = K 3 l) (hk4 : ∀ l, w4 (ix3 0 k l) = K 4 l) (hk5 : ∀ l, w5 (ix3 0 k l) = K 5 l) (hk6 : ∀ l, w6 (ix3 0 k l) = K 6 l) (hk7 : ∀ l, w7 (ix3 0 k l) = K 7 l) :
    (k0_pay360 (k0_pay356 q0 w0) (k0_pay357 q1 w1) (k0_pay358 q2 w2) (k0_pay359 q3 w3) q4 w4 q5 w5 q6 w6 q7 w7) (ix2 R k)
      = ∑ l : Fin 128, Q (⟨R.val / 32, by omega⟩ : Fin 8) (⟨R.val % 32, by omega⟩ : Fin 32) l * K (⟨R.val / 32, by omega⟩ : Fin 8) l := by
  pointwise [k0_pay360, k0_pay356, k0_pay357, k0_pay358, k0_pay359]
  simp only [hq0, hk0, hq1, hk1, hq2, hk2, hq3, hk3, hq4, hk4, hq5, hk5, hq6, hk6, hq7, hk7]
  have e : ∀ (b : Fin 8) (r : Fin 32), b.val = R.val / 32 → r.val = R.val % 32 →
      (∑ l : Fin 128, Q b r l * K b l) = ∑ l : Fin 128, Q (⟨R.val / 32, by omega⟩ : Fin 8) (⟨R.val % 32, by omega⟩ : Fin 32) l * K (⟨R.val / 32, by omega⟩ : Fin 8) l := by
    intro b r hb hr
    have h1 : b = ⟨R.val / 32, by omega⟩ := Fin.ext hb
    have h2 : r = ⟨R.val % 32, by omega⟩ := Fin.ext hr
    rw [h1, h2]
  split_ifs
  all_goals exact e _ _ (by (try dsimp only); (first | omega | (show (_ : Nat) = _; simp; omega))) (by (try dsimp only); omega)

/-- The score words at the keys that hold values. -/
theorem scores_at (R : Fin 256) (k : Fin 256) (hk : k.val < 132) :
    (sl.r_164 (F := Ideal) c arg2 harg2 arg5 harg5 arg19 arg21 x1 x4) (ix2 R k) = SS x1 x4 (⟨R.val / 32, by omega⟩ : Fin 8) (⟨R.val % 32, by omega⟩ : Fin 32) k :=
  stack_at _ _ _ _ _ _ _ _ _ _ _ _ _ _ _ _ (QS x1) (fun b l => KE x1 x4 b k l) R k (qload0 c arg2 harg2 arg21 x1) (qload1 c arg2 harg2 arg21 x1) (qload2 c arg2 harg2 arg21 x1) (qload3 c arg2 harg2 arg21 x1) (qload4 c arg2 harg2 arg21 x1) (qload5 c arg2 harg2 arg21 x1) (qload6 c arg2 harg2 arg21 x1) (qload7 c arg2 harg2 arg21 x1)
    (kload0 c arg2 harg2 arg5 harg5 arg19 x1 x4 k hk) (kload1 c arg2 harg2 arg5 harg5 arg19 x1 x4 k hk) (kload2 c arg2 harg2 arg5 harg5 arg19 x1 x4 k hk) (kload3 c arg2 harg2 arg5 harg5 arg19 x1 x4 k hk) (kload4 c arg2 harg2 arg5 harg5 arg19 x1 x4 k hk) (kload5 c arg2 harg2 arg5 harg5 arg19 x1 x4 k hk) (kload6 c arg2 harg2 arg5 harg5 arg19 x1 x4 k hk) (kload7 c arg2 harg2 arg5 harg5 arg19 x1 x4 k hk)

/-- The masked scores of a row. -/
def MS (x1 : Vec Ideal S32x3328 .f32) (x4 : Vec Ideal S1x8x128x128 .f32) (b : Fin 8) (r : Fin 32) (k : Fin 256) : EReal :=
  if r.val % 4 < k.val ∧ k.val ≤ r.val % 4 + 128 then SS x1 x4 b r k else ⊥

/-- The greatest masked score of a row, or its sink. -/
def MM (x0 : Vec Ideal S2x8 .f32) (x1 : Vec Ideal S32x3328 .f32) (x4 : Vec Ideal S1x8x128x128 .f32) (b : Fin 8) (r : Fin 32) : EReal :=
  max (Finset.fold max ⊥ (fun k : Fin 256 => MS x1 x4 b r k) Finset.univ) (x0 (ix2 0 (⟨r.val / 4, by omega⟩ : Fin 8)))

/-- The weights of a row. -/
def PS (x0 : Vec Ideal S2x8 .f32) (x1 : Vec Ideal S32x3328 .f32) (x4 : Vec Ideal S1x8x128x128 .f32) (b : Fin 8) (r : Fin 32) (k : Fin 256) : EReal :=
  Ideal.exp (MS x1 x4 b r k - MM x0 x1 x4 b r)
    * Ideal.div 1 ((∑ j : Fin 256, Ideal.exp (MS x1 x4 b r j - MM x0 x1 x4 b r)) + Ideal.exp (x0 (ix2 0 (⟨r.val / 4, by omega⟩ : Fin 8)) - MM x0 x1 x4 b r))

/-- The pattern of minus infinity. -/
theorem bits_bot : Ideal.ofBits FTy.f32 4286578688#32 = ⊥ := by
  have h : Ideal.ofBits FTy.f32 4286578688#32 = Ideal.ieee 8 23 4286578688#32 := rfl
  rw [h]
  unfold Ideal.ieee
  simp only []
  exact if_pos (by decide)

/-- The selected score is the masked score. -/
theorem masked_at (R : Fin 256) (k : Fin 256) :
    Scalar.select (sl.v2934 (ix2 R k)) ((sl.r_164 (F := Ideal) c arg2 harg2 arg5 harg5 arg19 arg21 x1 x4) (ix2 R k)) (⊥ : EReal)
      = MS x1 x4 (⟨R.val / 32, by omega⟩ : Fin 8) (⟨R.val % 32, by omega⟩ : Fin 32) k := by
  rw [mask_at]
  unfold MS
  by_cases h : R.val % 4 < k.val ∧ k.val ≤ R.val % 4 + 128
  · rw [if_pos h]
    refine Eq.trans ?_ (if_pos (by (try dsimp only); omega)).symm
    exact scores_at c arg2 harg2 arg5 harg5 arg19 arg21 x1 x4 R k (by omega)
  · rw [if_neg h]
    exact (if_neg (by (try dsimp only); omega)).symm

/-- The weight words. -/
theorem weights_at (R : Fin 256) (k : Fin 256) :
    (sl.r_183 (F := Ideal) c arg1 harg1 arg2 harg2 arg5 harg5 arg19 arg21 x0 x1 x4) (ix2 R k)
      = PS x0 x1 x4 (⟨R.val / 32, by omega⟩ : Fin 8) (⟨R.val % 32, by omega⟩ : Fin 32) k := by
  pointwise [sl.r_183, k0_pay375, sl.r_178, k0_pay374, sl.r_177, k0_pay373, sl.r_176, sl.r_172, sl.r_173, sl.r_174, sl.r_175, sl.r_179, sl.r_180, sl.r_181, sl.r_182]
  have b4 : R.val % 32 / 4 < 8 := by omega
  have hs := head_bits R
  obtain ⟨h, hh⟩ : ∃ h : Fin 8, R.val / 4 % 8 = h.val := ⟨⟨R.val / 4 % 8, by omega⟩, rfl⟩
  rw [hh] at hs
  have key := fun z => pick8 h (fun j => x0 (ix2 0 j)) z _ _ _ _ _ _ _ _ (sink_load arg1 harg1 x0 0 (by omega) inb_S2x8_S1x1_0_0 (by decide))
    (sink_load arg1 harg1 x0 1 (by omega) inb_S2x8_S1x1_0_1 (by decide)) (sink_load arg1 harg1 x0 2 (by omega) inb_S2x8_S1x1_0_2 (by decide))
    (sink_load arg1 harg1 x0 3 (by omega) inb_S2x8_S1x1_0_3 (by decide)) (sink_load arg1 harg1 x0 4 (by omega) inb_S2x8_S1x1_0_4 (by decide))
    (sink_load arg1 harg1 x0 5 (by omega) inb_S2x8_S1x1_0_5 (by decide)) (sink_load arg1 harg1 x0 6 (by omega) inb_S2x8_S1x1_0_6 (by decide))
    (sink_load arg1 harg1 x0 7 (by omega) inb_S2x8_S1x1_0_7 (by decide))
  have e : h = (⟨R.val % 32 / 4, b4⟩ : Fin 8) := Fin.ext (by (try dsimp only); omega)
  simp only [hs, masked_at, key, bits_bot]
  subst e
  rfl
end Cert.MixerIdeal.Tie

end
-- ==== Proof.MixerSwaOut.lean ====
/-
  The window attention's output of the sample mixers: the weights against the values, read at an index.
-/
module

public import proofs.«01_k».proof.Proof.MixerSwa

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) (i : grid0.Coords) (arg1 : Memref sig .tc .smem S2x8 .f32) (harg1 : arg1.IsWhole) (arg2 : Memref sig .tc .vmem S32x3328 .f32) (harg2 : arg2.IsWhole) (arg5 : Memref sig .tc .vmem S1x8x128x128 .f32) (harg5 : arg5.IsWhole) (arg6 : Memref sig .tc .vmem S1x8x128x128 .f32) (harg6 : arg6.IsWhole) (arg19 : Memref sig .tc .vmem S8x256x128 .f32) (arg20 : Memref sig .tc .vmem S8x256x128 .f32) (arg21 : Memref sig .tc .vmem S8x32x128 .f32) (x0 : Vec Ideal S2x8 .f32) (x1 : Vec Ideal S32x3328 .f32) (x4 : Vec Ideal S1x8x128x128 .f32) (x5 : Vec Ideal S1x8x128x128 .f32)
/-- The window attention of a sequence at a token and a column (head `col / 64`, lane `col % 64` of its values). -/
def OS (x0 : Vec Ideal S2x8 .f32) (x1 : Vec Ideal S32x3328 .f32) (x4 x5 : Vec Ideal S1x8x128x128 .f32) (b : Fin 8) (t : Fin 4) (col : Fin 512) : EReal :=
  ∑ k : Fin 132, PS x0 x1 x4 b (⟨4 * (col.val / 64) + t.val, by omega⟩ : Fin 32) (⟨k.val, by omega⟩ : Fin 256)
    * VE x1 x5 b (⟨k.val, by omega⟩ : Fin 256) (⟨64 * (col.val / 256) + col.val % 64, by omega⟩ : Fin 128)

/-- Beyond the last key the weights are zero. -/
theorem PS_zero (b : Fin 8) (r : Fin 32) (k : Fin 256) (hk : 132 ≤ k.val) : PS x0 x1 x4 b r k = 0 := by
  have h : MS x1 x4 b r k = ⊥ := if_neg (by omega)
  unfold PS
  rw [h, EReal.bot_sub, Ideal.exp_bot, zero_mul]

/-- A sum whose terms vanish from the 132nd on. -/
theorem sum132 (f : Fin 256 → EReal) (h : ∀ k : Fin 256, 132 ≤ k.val → f k = 0) : ∑ k, f k = ∑ k : Fin 132, f ⟨k.val, by omega⟩ := by
  refine (Fin.sum_univ_add (a := 132) (b := 124) f).trans ?_
  refine (congrArg (HAdd.hAdd _) (Finset.sum_eq_zero fun k _ => h _ (Nat.le_add_right _ _))).trans (add_zero _)

/-- The weights against a page of values. -/
theorem swa_sum (b : Fin 8) (t : Fin 4) (col : Fin 512) (Pv : FVec Ideal S256x256 .bf16) (V : Vec Ideal S1x256x128 .f32)
    (hP : ∀ R k, Pv (ix2 R k) = PS x0 x1 x4 (⟨R.val / 32, by omega⟩ : Fin 8) (⟨R.val % 32, by omega⟩ : Fin 32) k)
    (hV : ∀ (k : Fin 256) (l : Fin 128), k.val < 132 → V (ix3 0 k l) = VE x1 x5 b k l) (R : Fin 256) (l : Fin 128)
    (hR : R.val = 32 * b.val + (4 * (col.val / 64) + t.val)) (hl : l.val = 64 * (col.val / 256) + col.val % 64) :
    ∑ k : Fin 256, Pv (ix2 R k) * V (ix3 0 k l) = OS x0 x1 x4 x5 b t col := by
  have h1 : (⟨R.val / 32, by omega⟩ : Fin 8) = b := Fin.ext (by (try dsimp only); omega)
  have h2 : (⟨R.val % 32, by omega⟩ : Fin 32) = ⟨4 * (col.val / 64) + t.val, by omega⟩ := Fin.ext (by (try dsimp only); omega)
  have h3 : l = ⟨64 * (col.val / 256) + col.val % 64, by omega⟩ := Fin.ext hl
  simp only [hP, h1, h2, h3]
  refine (sum132 _ fun k hk => by rw [PS_zero x0 x1 x4 _ _ k hk, zero_mul]).trans ?_
  exact Finset.sum_congr rfl fun k _ => congrArg (HMul.hMul _) (hV _ _ k.isLt)

/-- The values of sequence 7, as they are loaded. -/
theorem vload7 (k : Fin 256) (l : Fin 128) (hk : k.val < 132) : (sl.v3356 (F := Ideal) c arg2 harg2 arg6 harg6 arg20 x1 x5 : Vec Ideal S1x256x128 .f32) (ix3 0 k l) = VE x1 x5 (⟨7, by omega⟩ : Fin 8) k l :=
  (load_all (B := 8) (R := 256) (C := 128) 7 (by omega) arg20.view (sl.HS3_17 (F := Ideal) c arg2 harg2 arg6 harg6 x1 x5) inb_S8x256x128_S1x256x128_7_0_0 k l).trans (VE_all7 c harg2 harg6 x1 x5 k l (by omega) hk)

/-- A stored tile of sequence 7, heads 6 and 7, over any weights and values. -/
theorem tile7_3 (Pv : FVec Ideal S256x256 .bf16) (V : Vec Ideal S1x256x128 .f32) (t : Fin 4) (l : Fin 128) :
    (k0_pay1 k0_pay15 (k0_pay462 Pv V) (k0_pay463 Pv V) : FVec Ideal S4x128 .f32) (ix2 t l)
      = ∑ k : Fin 256, Pv (ix2 (⟨224 + (4 * (6 + l.val / 64) + t.val), by omega⟩ : Fin 256) k) * V (ix3 0 k (⟨64 + l.val % 64, by omega⟩ : Fin 128)) := by
  pointwise [k0_pay1, k0_pay15, k0_pay462, k0_pay463]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 7, heads 6 and 7. -/
theorem S7_3 (t : Fin 4) (l : Fin 128) :
    (k0_pay1 k0_pay15 (sl.r_201 c arg1 harg1 arg2 harg2 arg5 harg5 arg6 harg6 arg19 arg20 arg21 x0 x1 x4 x5) (sl.r_202 c arg1 harg1 arg2 harg2 arg5 harg5 arg6 harg6 arg19 arg20 arg21 x0 x1 x4 x5) : FVec Ideal S4x128 .f32) (ix2 t l) = OS x0 x1 x4 x5 (⟨7, by omega⟩ : Fin 8) t (⟨384 + l.val, by omega⟩ : Fin 512) :=
  (tile7_3 (sl.r_183 (F := Ideal) c arg1 harg1 arg2 harg2 arg5 harg5 arg19 arg21 x0 x1 x4) (sl.v3356 (F := Ideal) c arg2 harg2 arg6 harg6 arg20 x1 x5) t l).trans
    (swa_sum x0 x1 x4 x5 (⟨7, by omega⟩ : Fin 8) t (⟨384 + l.val, by omega⟩ : Fin 512) _ _ (weights_at c arg1 harg1 arg2 harg2 arg5 harg5 arg19 arg21 x0 x1 x4) (vload7 c arg2 harg2 arg6 harg6 arg20 x1 x5) _ _
      (by (try dsimp only); omega) (by (try dsimp only); omega))

/-- A stored tile of sequence 7, heads 4 and 5, over any weights and values. -/
theorem tile7_2 (Pv : FVec Ideal S256x256 .bf16) (V : Vec Ideal S1x256x128 .f32) (t : Fin 4) (l : Fin 128) :
    (k0_pay468 k0_pay15 (k0_pay466 Pv V) (k0_pay467 Pv V) : FVec Ideal S4x128 .f32) (ix2 t l)
      = ∑ k : Fin 256, Pv (ix2 (⟨224 + (4 * (4 + l.val / 64) + t.val), by omega⟩ : Fin 256) k) * V (ix3 0 k (⟨64 + l.val % 64, by omega⟩ : Fin 128)) := by
  pointwise [k0_pay468, k0_pay15, k0_pay466, k0_pay467, k0_pay463, k0_pay462]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 7, heads 4 and 5. -/
theorem S7_2 (t : Fin 4) (l : Fin 128) :
    (sl.r_205 c arg1 harg1 arg2 harg2 arg5 harg5 arg6 harg6 arg19 arg20 arg21 x0 x1 x4 x5 : FVec Ideal S4x128 .f32) (ix2 t l) = OS x0 x1 x4 x5 (⟨7, by omega⟩ : Fin 8) t (⟨256 + l.val, by omega⟩ : Fin 512) :=
  (tile7_2 (sl.r_183 (F := Ideal) c arg1 harg1 arg2 harg2 arg5 harg5 arg19 arg21 x0 x1 x4) (sl.v3356 (F := Ideal) c arg2 harg2 arg6 harg6 arg20 x1 x5) t l).trans
    (swa_sum x0 x1 x4 x5 (⟨7, by omega⟩ : Fin 8) t (⟨256 + l.val, by omega⟩ : Fin 512) _ _ (weights_at c arg1 harg1 arg2 harg2 arg5 harg5 arg19 arg21 x0 x1 x4) (vload7 c arg2 harg2 arg6 harg6 arg20 x1 x5) _ _
      (by (try dsimp only); omega) (by (try dsimp only); omega))

/-- A stored tile of sequence 7, heads 2 and 3, over any weights and values. -/
theorem tile7_1 (Pv : FVec Ideal S256x256 .bf16) (V : Vec Ideal S1x256x128 .f32) (t : Fin 4) (l : Fin 128) :
    (k0_pay465 k0_pay15 Pv V : FVec Ideal S4x128 .f32) (ix2 t l)
      = ∑ k : Fin 256, Pv (ix2 (⟨224 + (4 * (2 + l.val / 64) + t.val), by omega⟩ : Fin 256) k) * V (ix3 0 k (⟨0 + l.val % 64, by omega⟩ : Fin 128)) := by
  pointwise [k0_pay465, k0_pay15, k0_pay462, k0_pay463]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 7, heads 2 and 3. -/
theorem S7_1 (t : Fin 4) (l : Fin 128) :
    (k0_pay465 k0_pay15 (sl.r_183 c arg1 harg1 arg2 harg2 arg5 harg5 arg19 arg21 x0 x1 x4) (sl.v3356 c arg2 harg2 arg6 harg6 arg20 x1 x5) : FVec Ideal S4x128 .f32) (ix2 t l) = OS x0 x1 x4 x5 (⟨7, by omega⟩ : Fin 8) t (⟨128 + l.val, by omega⟩ : Fin 512) :=
  (tile7_1 (sl.r_183 (F := Ideal) c arg1 harg1 arg2 harg2 arg5 harg5 arg19 arg21 x0 x1 x4) (sl.v3356 (F := Ideal) c arg2 harg2 arg6 harg6 arg20 x1 x5) t l).trans
    (swa_sum x0 x1 x4 x5 (⟨7, by omega⟩ : Fin 8) t (⟨128 + l.val, by omega⟩ : Fin 512) _ _ (weights_at c arg1 harg1 arg2 harg2 arg5 harg5 arg19 arg21 x0 x1 x4) (vload7 c arg2 harg2 arg6 harg6 arg20 x1 x5) _ _
      (by (try dsimp only); omega) (by (try dsimp only); omega))

/-- A stored tile of sequence 7, heads 0 and 1, over any weights and values. -/
theorem tile7_0 (Pv : FVec Ideal S256x256 .bf16) (V : Vec Ideal S1x256x128 .f32) (t : Fin 4) (l : Fin 128) :
    (k0_pay464 k0_pay15 Pv V : FVec Ideal S4x128 .f32) (ix2 t l)
      = ∑ k : Fin 256, Pv (ix2 (⟨224 + (4 * (0 + l.val / 64) + t.val), by omega⟩ : Fin 256) k) * V (ix3 0 k (⟨0 + l.val % 64, by omega⟩ : Fin 128)) := by
  pointwise [k0_pay464, k0_pay15, k0_pay462, k0_pay463]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 7, heads 0 and 1. -/
theorem S7_0 (t : Fin 4) (l : Fin 128) :
    (k0_pay464 k0_pay15 (sl.r_183 c arg1 harg1 arg2 harg2 arg5 harg5 arg19 arg21 x0 x1 x4) (sl.v3356 c arg2 harg2 arg6 harg6 arg20 x1 x5) : FVec Ideal S4x128 .f32) (ix2 t l) = OS x0 x1 x4 x5 (⟨7, by omega⟩ : Fin 8) t (⟨0 + l.val, by omega⟩ : Fin 512) :=
  (tile7_0 (sl.r_183 (F := Ideal) c arg1 harg1 arg2 harg2 arg5 harg5 arg19 arg21 x0 x1 x4) (sl.v3356 (F := Ideal) c arg2 harg2 arg6 harg6 arg20 x1 x5) t l).trans
    (swa_sum x0 x1 x4 x5 (⟨7, by omega⟩ : Fin 8) t (⟨0 + l.val, by omega⟩ : Fin 512) _ _ (weights_at c arg1 harg1 arg2 harg2 arg5 harg5 arg19 arg21 x0 x1 x4) (vload7 c arg2 harg2 arg6 harg6 arg20 x1 x5) _ _
      (by (try dsimp only); omega) (by (try dsimp only); omega))

/-- The values of sequence 6, as they are loaded. -/
theorem vload6 (k : Fin 256) (l : Fin 128) (hk : k.val < 132) : (sl.v3321 (F := Ideal) c arg2 harg2 arg6 harg6 arg20 x1 x5 : Vec Ideal S1x256x128 .f32) (ix3 0 k l) = VE x1 x5 (⟨6, by omega⟩ : Fin 8) k l :=
  (load_all (B := 8) (R := 256) (C := 128) 6 (by omega) arg20.view (sl.HS3_17 (F := Ideal) c arg2 harg2 arg6 harg6 x1 x5) inb_S8x256x128_S1x256x128_6_0_0 k l).trans (VE_all6 c harg2 harg6 x1 x5 k l (by omega) hk)

/-- A stored tile of sequence 6, heads 6 and 7, over any weights and values. -/
theorem tile6_3 (Pv : FVec Ideal S256x256 .bf16) (V : Vec Ideal S1x256x128 .f32) (t : Fin 4) (l : Fin 128) :
    (k0_pay456 k0_pay15 Pv V : FVec Ideal S4x128 .f32) (ix2 t l)
      = ∑ k : Fin 256, Pv (ix2 (⟨192 + (4 * (6 + l.val / 64) + t.val), by omega⟩ : Fin 256) k) * V (ix3 0 k (⟨64 + l.val % 64, by omega⟩ : Fin 128)) := by
  pointwise [k0_pay456, k0_pay15, k0_pay452, k0_pay451]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 6, heads 6 and 7. -/
theorem S6_3 (t : Fin 4) (l : Fin 128) :
    (sl.r_200 c arg1 harg1 arg2 harg2 arg5 harg5 arg6 harg6 arg19 arg20 arg21 x0 x1 x4 x5 : FVec Ideal S4x128 .f32) (ix2 t l) = OS x0 x1 x4 x5 (⟨6, by omega⟩ : Fin 8) t (⟨384 + l.val, by omega⟩ : Fin 512) :=
  (tile6_3 (sl.r_183 (F := Ideal) c arg1 harg1 arg2 harg2 arg5 harg5 arg19 arg21 x0 x1 x4) (sl.v3321 (F := Ideal) c arg2 harg2 arg6 harg6 arg20 x1 x5) t l).trans
    (swa_sum x0 x1 x4 x5 (⟨6, by omega⟩ : Fin 8) t (⟨384 + l.val, by omega⟩ : Fin 512) _ _ (weights_at c arg1 harg1 arg2 harg2 arg5 harg5 arg19 arg21 x0 x1 x4) (vload6 c arg2 harg2 arg6 harg6 arg20 x1 x5) _ _
      (by (try dsimp only); omega) (by (try dsimp only); omega))

/-- A stored tile of sequence 6, heads 4 and 5, over any weights and values. -/
theorem tile6_2 (Pv : FVec Ideal S256x256 .bf16) (V : Vec Ideal S1x256x128 .f32) (t : Fin 4) (l : Fin 128) :
    (k0_pay455 k0_pay15 Pv V : FVec Ideal S4x128 .f32) (ix2 t l)
      = ∑ k : Fin 256, Pv (ix2 (⟨192 + (4 * (4 + l.val / 64) + t.val), by omega⟩ : Fin 256) k) * V (ix3 0 k (⟨64 + l.val % 64, by omega⟩ : Fin 128)) := by
  pointwise [k0_pay455, k0_pay15, k0_pay452, k0_pay451]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 6, heads 4 and 5. -/
theorem S6_2 (t : Fin 4) (l : Fin 128) :
    (k0_pay455 k0_pay15 (sl.r_183 c arg1 harg1 arg2 harg2 arg5 harg5 arg19 arg21 x0 x1 x4) (sl.v3321 c arg2 harg2 arg6 harg6 arg20 x1 x5) : FVec Ideal S4x128 .f32) (ix2 t l) = OS x0 x1 x4 x5 (⟨6, by omega⟩ : Fin 8) t (⟨256 + l.val, by omega⟩ : Fin 512) :=
  (tile6_2 (sl.r_183 (F := Ideal) c arg1 harg1 arg2 harg2 arg5 harg5 arg19 arg21 x0 x1 x4) (sl.v3321 (F := Ideal) c arg2 harg2 arg6 harg6 arg20 x1 x5) t l).trans
    (swa_sum x0 x1 x4 x5 (⟨6, by omega⟩ : Fin 8) t (⟨256 + l.val, by omega⟩ : Fin 512) _ _ (weights_at c arg1 harg1 arg2 harg2 arg5 harg5 arg19 arg21 x0 x1 x4) (vload6 c arg2 harg2 arg6 harg6 arg20 x1 x5) _ _
      (by (try dsimp only); omega) (by (try dsimp only); omega))

/-- A stored tile of sequence 6, heads 2 and 3, over any weights and values. -/
theorem tile6_1 (Pv : FVec Ideal S256x256 .bf16) (V : Vec Ideal S1x256x128 .f32) (t : Fin 4) (l : Fin 128) :
    (k0_pay454 k0_pay15 Pv V : FVec Ideal S4x128 .f32) (ix2 t l)
      = ∑ k : Fin 256, Pv (ix2 (⟨192 + (4 * (2 + l.val / 64) + t.val), by omega⟩ : Fin 256) k) * V (ix3 0 k (⟨0 + l.val % 64, by omega⟩ : Fin 128)) := by
  pointwise [k0_pay454, k0_pay15, k0_pay451, k0_pay452]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 6, heads 2 and 3. -/
theorem S6_1 (t : Fin 4) (l : Fin 128) :
    (k0_pay454 k0_pay15 (sl.r_183 c arg1 harg1 arg2 harg2 arg5 harg5 arg19 arg21 x0 x1 x4) (sl.v3321 c arg2 harg2 arg6 harg6 arg20 x1 x5) : FVec Ideal S4x128 .f32) (ix2 t l) = OS x0 x1 x4 x5 (⟨6, by omega⟩ : Fin 8) t (⟨128 + l.val, by omega⟩ : Fin 512) :=
  (tile6_1 (sl.r_183 (F := Ideal) c arg1 harg1 arg2 harg2 arg5 harg5 arg19 arg21 x0 x1 x4) (sl.v3321 (F := Ideal) c arg2 harg2 arg6 harg6 arg20 x1 x5) t l).trans
    (swa_sum x0 x1 x4 x5 (⟨6, by omega⟩ : Fin 8) t (⟨128 + l.val, by omega⟩ : Fin 512) _ _ (weights_at c arg1 harg1 arg2 harg2 arg5 harg5 arg19 arg21 x0 x1 x4) (vload6 c arg2 harg2 arg6 harg6 arg20 x1 x5) _ _
      (by (try dsimp only); omega) (by (try dsimp only); omega))

/-- A stored tile of sequence 6, heads 0 and 1, over any weights and values. -/
theorem tile6_0 (Pv : FVec Ideal S256x256 .bf16) (V : Vec Ideal S1x256x128 .f32) (t : Fin 4) (l : Fin 128) :
    (k0_pay453 k0_pay15 Pv V : FVec Ideal S4x128 .f32) (ix2 t l)
      = ∑ k : Fin 256, Pv (ix2 (⟨192 + (4 * (0 + l.val / 64) + t.val), by omega⟩ : Fin 256) k) * V (ix3 0 k (⟨0 + l.val % 64, by omega⟩ : Fin 128)) := by
  pointwise [k0_pay453, k0_pay15, k0_pay451, k0_pay452]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 6, heads 0 and 1. -/
theorem S6_0 (t : Fin 4) (l : Fin 128) :
    (k0_pay453 k0_pay15 (sl.r_183 c arg1 harg1 arg2 harg2 arg5 harg5 arg19 arg21 x0 x1 x4) (sl.v3321 c arg2 harg2 arg6 harg6 arg20 x1 x5) : FVec Ideal S4x128 .f32) (ix2 t l) = OS x0 x1 x4 x5 (⟨6, by omega⟩ : Fin 8) t (⟨0 + l.val, by omega⟩ : Fin 512) :=
  (tile6_0 (sl.r_183 (F := Ideal) c arg1 harg1 arg2 harg2 arg5 harg5 arg19 arg21 x0 x1 x4) (sl.v3321 (F := Ideal) c arg2 harg2 arg6 harg6 arg20 x1 x5) t l).trans
    (swa_sum x0 x1 x4 x5 (⟨6, by omega⟩ : Fin 8) t (⟨0 + l.val, by omega⟩ : Fin 512) _ _ (weights_at c arg1 harg1 arg2 harg2 arg5 harg5 arg19 arg21 x0 x1 x4) (vload6 c arg2 harg2 arg6 harg6 arg20 x1 x5) _ _
      (by (try dsimp only); omega) (by (try dsimp only); omega))

/-- The values of sequence 5, as they are loaded. -/
theorem vload5 (k : Fin 256) (l : Fin 128) (hk : k.val < 132) : (sl.v3286 (F := Ideal) c arg2 harg2 arg6 harg6 arg20 x1 x5 : Vec Ideal S1x256x128 .f32) (ix3 0 k l) = VE x1 x5 (⟨5, by omega⟩ : Fin 8) k l :=
  (load_all (B := 8) (R := 256) (C := 128) 5 (by omega) arg20.view (sl.HS3_17 (F := Ideal) c arg2 harg2 arg6 harg6 x1 x5) inb_S8x256x128_S1x256x128_5_0_0 k l).trans (VE_all5 c harg2 harg6 x1 x5 k l (by omega) hk)

/-- A stored tile of sequence 5, heads 6 and 7, over any weights and values. -/
theorem tile5_3 (Pv : FVec Ideal S256x256 .bf16) (V : Vec Ideal S1x256x128 .f32) (t : Fin 4) (l : Fin 128) :
    (k0_pay444 k0_pay15 Pv V : FVec Ideal S4x128 .f32) (ix2 t l)
      = ∑ k : Fin 256, Pv (ix2 (⟨160 + (4 * (6 + l.val / 64) + t.val), by omega⟩ : Fin 256) k) * V (ix3 0 k (⟨64 + l.val % 64, by omega⟩ : Fin 128)) := by
  pointwise [k0_pay444, k0_pay15, k0_pay440, k0_pay439]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 5, heads 6 and 7. -/
theorem S5_3 (t : Fin 4) (l : Fin 128) :
    (k0_pay444 k0_pay15 (sl.r_183 c arg1 harg1 arg2 harg2 arg5 harg5 arg19 arg21 x0 x1 x4) (sl.v3286 c arg2 harg2 arg6 harg6 arg20 x1 x5) : FVec Ideal S4x128 .f32) (ix2 t l) = OS x0 x1 x4 x5 (⟨5, by omega⟩ : Fin 8) t (⟨384 + l.val, by omega⟩ : Fin 512) :=
  (tile5_3 (sl.r_183 (F := Ideal) c arg1 harg1 arg2 harg2 arg5 harg5 arg19 arg21 x0 x1 x4) (sl.v3286 (F := Ideal) c arg2 harg2 arg6 harg6 arg20 x1 x5) t l).trans
    (swa_sum x0 x1 x4 x5 (⟨5, by omega⟩ : Fin 8) t (⟨384 + l.val, by omega⟩ : Fin 512) _ _ (weights_at c arg1 harg1 arg2 harg2 arg5 harg5 arg19 arg21 x0 x1 x4) (vload5 c arg2 harg2 arg6 harg6 arg20 x1 x5) _ _
      (by (try dsimp only); omega) (by (try dsimp only); omega))

/-- A stored tile of sequence 5, heads 4 and 5, over any weights and values. -/
theorem tile5_2 (Pv : FVec Ideal S256x256 .bf16) (V : Vec Ideal S1x256x128 .f32) (t : Fin 4) (l : Fin 128) :
    (k0_pay443 k0_pay15 Pv V : FVec Ideal S4x128 .f32) (ix2 t l)
      = ∑ k : Fin 256, Pv (ix2 (⟨160 + (4 * (4 + l.val / 64) + t.val), by omega⟩ : Fin 256) k) * V (ix3 0 k (⟨64 + l.val % 64, by omega⟩ : Fin 128)) := by
  pointwise [k0_pay443, k0_pay15, k0_pay440, k0_pay439]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 5, heads 4 and 5. -/
theorem S5_2 (t : Fin 4) (l : Fin 128) :
    (k0_pay443 k0_pay15 (sl.r_183 c arg1 harg1 arg2 harg2 arg5 harg5 arg19 arg21 x0 x1 x4) (sl.v3286 c arg2 harg2 arg6 harg6 arg20 x1 x5) : FVec Ideal S4x128 .f32) (ix2 t l) = OS x0 x1 x4 x5 (⟨5, by omega⟩ : Fin 8) t (⟨256 + l.val, by omega⟩ : Fin 512) :=
  (tile5_2 (sl.r_183 (F := Ideal) c arg1 harg1 arg2 harg2 arg5 harg5 arg19 arg21 x0 x1 x4) (sl.v3286 (F := Ideal) c arg2 harg2 arg6 harg6 arg20 x1 x5) t l).trans
    (swa_sum x0 x1 x4 x5 (⟨5, by omega⟩ : Fin 8) t (⟨256 + l.val, by omega⟩ : Fin 512) _ _ (weights_at c arg1 harg1 arg2 harg2 arg5 harg5 arg19 arg21 x0 x1 x4) (vload5 c arg2 harg2 arg6 harg6 arg20 x1 x5) _ _
      (by (try dsimp only); omega) (by (try dsimp only); omega))

/-- A stored tile of sequence 5, heads 2 and 3, over any weights and values. -/
theorem tile5_1 (Pv : FVec Ideal S256x256 .bf16) (V : Vec Ideal S1x256x128 .f32) (t : Fin 4) (l : Fin 128) :
    (k0_pay442 k0_pay15 Pv V : FVec Ideal S4x128 .f32) (ix2 t l)
      = ∑ k : Fin 256, Pv (ix2 (⟨160 + (4 * (2 + l.val / 64) + t.val), by omega⟩ : Fin 256) k) * V (ix3 0 k (⟨0 + l.val % 64, by omega⟩ : Fin 128)) := by
  pointwise [k0_pay442, k0_pay15, k0_pay439, k0_pay440]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 5, heads 2 and 3. -/
theorem S5_1 (t : Fin 4) (l : Fin 128) :
    (k0_pay442 k0_pay15 (sl.r_183 c arg1 harg1 arg2 harg2 arg5 harg5 arg19 arg21 x0 x1 x4) (sl.v3286 c arg2 harg2 arg6 harg6 arg20 x1 x5) : FVec Ideal S4x128 .f32) (ix2 t l) = OS x0 x1 x4 x5 (⟨5, by omega⟩ : Fin 8) t (⟨128 + l.val, by omega⟩ : Fin 512) :=
  (tile5_1 (sl.r_183 (F := Ideal) c arg1 harg1 arg2 harg2 arg5 harg5 arg19 arg21 x0 x1 x4) (sl.v3286 (F := Ideal) c arg2 harg2 arg6 harg6 arg20 x1 x5) t l).trans
    (swa_sum x0 x1 x4 x5 (⟨5, by omega⟩ : Fin 8) t (⟨128 + l.val, by omega⟩ : Fin 512) _ _ (weights_at c arg1 harg1 arg2 harg2 arg5 harg5 arg19 arg21 x0 x1 x4) (vload5 c arg2 harg2 arg6 harg6 arg20 x1 x5) _ _
      (by (try dsimp only); omega) (by (try dsimp only); omega))

/-- A stored tile of sequence 5, heads 0 and 1, over any weights and values. -/
theorem tile5_0 (Pv : FVec Ideal S256x256 .bf16) (V : Vec Ideal S1x256x128 .f32) (t : Fin 4) (l : Fin 128) :
    (k0_pay441 k0_pay15 Pv V : FVec Ideal S4x128 .f32) (ix2 t l)
      = ∑ k : Fin 256, Pv (ix2 (⟨160 + (4 * (0 + l.val / 64) + t.val), by omega⟩ : Fin 256) k) * V (ix3 0 k (⟨0 + l.val % 64, by omega⟩ : Fin 128)) := by
  pointwise [k0_pay441, k0_pay15, k0_pay439, k0_pay440]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 5, heads 0 and 1. -/
theorem S5_0 (t : Fin 4) (l : Fin 128) :
    (k0_pay441 k0_pay15 (sl.r_183 c arg1 harg1 arg2 harg2 arg5 harg5 arg19 arg21 x0 x1 x4) (sl.v3286 c arg2 harg2 arg6 harg6 arg20 x1 x5) : FVec Ideal S4x128 .f32) (ix2 t l) = OS x0 x1 x4 x5 (⟨5, by omega⟩ : Fin 8) t (⟨0 + l.val, by omega⟩ : Fin 512) :=
  (tile5_0 (sl.r_183 (F := Ideal) c arg1 harg1 arg2 harg2 arg5 harg5 arg19 arg21 x0 x1 x4) (sl.v3286 (F := Ideal) c arg2 harg2 arg6 harg6 arg20 x1 x5) t l).trans
    (swa_sum x0 x1 x4 x5 (⟨5, by omega⟩ : Fin 8) t (⟨0 + l.val, by omega⟩ : Fin 512) _ _ (weights_at c arg1 harg1 arg2 harg2 arg5 harg5 arg19 arg21 x0 x1 x4) (vload5 c arg2 harg2 arg6 harg6 arg20 x1 x5) _ _
      (by (try dsimp only); omega) (by (try dsimp only); omega))

/-- The values of sequence 4, as they are loaded. -/
theorem vload4 (k : Fin 256) (l : Fin 128) (hk : k.val < 132) : (sl.v3251 (F := Ideal) c arg2 harg2 arg6 harg6 arg20 x1 x5 : Vec Ideal S1x256x128 .f32) (ix3 0 k l) = VE x1 x5 (⟨4, by omega⟩ : Fin 8) k l :=
  (load_all (B := 8) (R := 256) (C := 128) 4 (by omega) arg20.view (sl.HS3_17 (F := Ideal) c arg2 harg2 arg6 harg6 x1 x5) inb_S8x256x128_S1x256x128_4_0_0 k l).trans (VE_all4 c harg2 harg6 x1 x5 k l (by omega) hk)

/-- A stored tile of sequence 4, heads 6 and 7, over any weights and values. -/
theorem tile4_3 (Pv : FVec Ideal S256x256 .bf16) (V : Vec Ideal S1x256x128 .f32) (t : Fin 4) (l : Fin 128) :
    (k0_pay433 k0_pay15 Pv V : FVec Ideal S4x128 .f32) (ix2 t l)
      = ∑ k : Fin 256, Pv (ix2 (⟨128 + (4 * (6 + l.val / 64) + t.val), by omega⟩ : Fin 256) k) * V (ix3 0 k (⟨64 + l.val % 64, by omega⟩ : Fin 128)) := by
  pointwise [k0_pay433, k0_pay15, k0_pay429, k0_pay428]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 4, heads 6 and 7. -/
theorem S4_3 (t : Fin 4) (l : Fin 128) :
    (k0_pay433 k0_pay15 (sl.r_183 c arg1 harg1 arg2 harg2 arg5 harg5 arg19 arg21 x0 x1 x4) (sl.v3251 c arg2 harg2 arg6 harg6 arg20 x1 x5) : FVec Ideal S4x128 .f32) (ix2 t l) = OS x0 x1 x4 x5 (⟨4, by omega⟩ : Fin 8) t (⟨384 + l.val, by omega⟩ : Fin 512) :=
  (tile4_3 (sl.r_183 (F := Ideal) c arg1 harg1 arg2 harg2 arg5 harg5 arg19 arg21 x0 x1 x4) (sl.v3251 (F := Ideal) c arg2 harg2 arg6 harg6 arg20 x1 x5) t l).trans
    (swa_sum x0 x1 x4 x5 (⟨4, by omega⟩ : Fin 8) t (⟨384 + l.val, by omega⟩ : Fin 512) _ _ (weights_at c arg1 harg1 arg2 harg2 arg5 harg5 arg19 arg21 x0 x1 x4) (vload4 c arg2 harg2 arg6 harg6 arg20 x1 x5) _ _
      (by (try dsimp only); omega) (by (try dsimp only); omega))

/-- A stored tile of sequence 4, heads 4 and 5, over any weights and values. -/
theorem tile4_2 (Pv : FVec Ideal S256x256 .bf16) (V : Vec Ideal S1x256x128 .f32) (t : Fin 4) (l : Fin 128) :
    (k0_pay432 k0_pay15 Pv V : FVec Ideal S4x128 .f32) (ix2 t l)
      = ∑ k : Fin 256, Pv (ix2 (⟨128 + (4 * (4 + l.val / 64) + t.val), by omega⟩ : Fin 256) k) * V (ix3 0 k (⟨64 + l.val % 64, by omega⟩ : Fin 128)) := by
  pointwise [k0_pay432, k0_pay15, k0_pay429, k0_pay428]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 4, heads 4 and 5. -/
theorem S4_2 (t : Fin 4) (l : Fin 128) :
    (k0_pay432 k0_pay15 (sl.r_183 c arg1 harg1 arg2 harg2 arg5 harg5 arg19 arg21 x0 x1 x4) (sl.v3251 c arg2 harg2 arg6 harg6 arg20 x1 x5) : FVec Ideal S4x128 .f32) (ix2 t l) = OS x0 x1 x4 x5 (⟨4, by omega⟩ : Fin 8) t (⟨256 + l.val, by omega⟩ : Fin 512) :=
  (tile4_2 (sl.r_183 (F := Ideal) c arg1 harg1 arg2 harg2 arg5 harg5 arg19 arg21 x0 x1 x4) (sl.v3251 (F := Ideal) c arg2 harg2 arg6 harg6 arg20 x1 x5) t l).trans
    (swa_sum x0 x1 x4 x5 (⟨4, by omega⟩ : Fin 8) t (⟨256 + l.val, by omega⟩ : Fin 512) _ _ (weights_at c arg1 harg1 arg2 harg2 arg5 harg5 arg19 arg21 x0 x1 x4) (vload4 c arg2 harg2 arg6 harg6 arg20 x1 x5) _ _
      (by (try dsimp only); omega) (by (try dsimp only); omega))

/-- A stored tile of sequence 4, heads 2 and 3, over any weights and values. -/
theorem tile4_1 (Pv : FVec Ideal S256x256 .bf16) (V : Vec Ideal S1x256x128 .f32) (t : Fin 4) (l : Fin 128) :
    (k0_pay431 k0_pay15 Pv V : FVec Ideal S4x128 .f32) (ix2 t l)
      = ∑ k : Fin 256, Pv (ix2 (⟨128 + (4 * (2 + l.val / 64) + t.val), by omega⟩ : Fin 256) k) * V (ix3 0 k (⟨0 + l.val % 64, by omega⟩ : Fin 128)) := by
  pointwise [k0_pay431, k0_pay15, k0_pay428, k0_pay429]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 4, heads 2 and 3. -/
theorem S4_1 (t : Fin 4) (l : Fin 128) :
    (k0_pay431 k0_pay15 (sl.r_183 c arg1 harg1 arg2 harg2 arg5 harg5 arg19 arg21 x0 x1 x4) (sl.v3251 c arg2 harg2 arg6 harg6 arg20 x1 x5) : FVec Ideal S4x128 .f32) (ix2 t l) = OS x0 x1 x4 x5 (⟨4, by omega⟩ : Fin 8) t (⟨128 + l.val, by omega⟩ : Fin 512) :=
  (tile4_1 (sl.r_183 (F := Ideal) c arg1 harg1 arg2 harg2 arg5 harg5 arg19 arg21 x0 x1 x4) (sl.v3251 (F := Ideal) c arg2 harg2 arg6 harg6 arg20 x1 x5) t l).trans
    (swa_sum x0 x1 x4 x5 (⟨4, by omega⟩ : Fin 8) t (⟨128 + l.val, by omega⟩ : Fin 512) _ _ (weights_at c arg1 harg1 arg2 harg2 arg5 harg5 arg19 arg21 x0 x1 x4) (vload4 c arg2 harg2 arg6 harg6 arg20 x1 x5) _ _
      (by (try dsimp only); omega) (by (try dsimp only); omega))

/-- A stored tile of sequence 4, heads 0 and 1, over any weights and values. -/
theorem tile4_0 (Pv : FVec Ideal S256x256 .bf16) (V : Vec Ideal S1x256x128 .f32) (t : Fin 4) (l : Fin 128) :
    (k0_pay430 k0_pay15 Pv V : FVec Ideal S4x128 .f32) (ix2 t l)
      = ∑ k : Fin 256, Pv (ix2 (⟨128 + (4 * (0 + l.val / 64) + t.val), by omega⟩ : Fin 256) k) * V (ix3 0 k (⟨0 + l.val % 64, by omega⟩ : Fin 128)) := by
  pointwise [k0_pay430, k0_pay15, k0_pay428, k0_pay429]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 4, heads 0 and 1. -/
theorem S4_0 (t : Fin 4) (l : Fin 128) :
    (k0_pay430 k0_pay15 (sl.r_183 c arg1 harg1 arg2 harg2 arg5 harg5 arg19 arg21 x0 x1 x4) (sl.v3251 c arg2 harg2 arg6 harg6 arg20 x1 x5) : FVec Ideal S4x128 .f32) (ix2 t l) = OS x0 x1 x4 x5 (⟨4, by omega⟩ : Fin 8) t (⟨0 + l.val, by omega⟩ : Fin 512) :=
  (tile4_0 (sl.r_183 (F := Ideal) c arg1 harg1 arg2 harg2 arg5 harg5 arg19 arg21 x0 x1 x4) (sl.v3251 (F := Ideal) c arg2 harg2 arg6 harg6 arg20 x1 x5) t l).trans
    (swa_sum x0 x1 x4 x5 (⟨4, by omega⟩ : Fin 8) t (⟨0 + l.val, by omega⟩ : Fin 512) _ _ (weights_at c arg1 harg1 arg2 harg2 arg5 harg5 arg19 arg21 x0 x1 x4) (vload4 c arg2 harg2 arg6 harg6 arg20 x1 x5) _ _
      (by (try dsimp only); omega) (by (try dsimp only); omega))

/-- The values of sequence 3, as they are loaded. -/
theorem vload3 (k : Fin 256) (l : Fin 128) (hk : k.val < 132) : (sl.v3216 (F := Ideal) c arg2 harg2 arg6 harg6 arg20 x1 x5 : Vec Ideal S1x256x128 .f32) (ix3 0 k l) = VE x1 x5 (⟨3, by omega⟩ : Fin 8) k l :=
  (load_all (B := 8) (R := 256) (C := 128) 3 (by omega) arg20.view (sl.HS3_17 (F := Ideal) c arg2 harg2 arg6 harg6 x1 x5) inb_S8x256x128_S1x256x128_3_0_0 k l).trans (VE_all3 c harg2 harg6 x1 x5 k l (by omega) hk)

/-- A stored tile of sequence 3, heads 6 and 7, over any weights and values. -/
theorem tile3_3 (Pv : FVec Ideal S256x256 .bf16) (V : Vec Ideal S1x256x128 .f32) (t : Fin 4) (l : Fin 128) :
    (k0_pay422 k0_pay15 (k0_pay416 Pv) V : FVec Ideal S4x128 .f32) (ix2 t l)
      = ∑ k : Fin 256, Pv (ix2 (⟨96 + (4 * (6 + l.val / 64) + t.val), by omega⟩ : Fin 256) k) * V (ix3 0 k (⟨64 + l.val % 64, by omega⟩ : Fin 128)) := by
  pointwise [k0_pay422, k0_pay15, k0_pay416, k0_pay418, k0_pay417]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 3, heads 6 and 7. -/
theorem S3_3 (t : Fin 4) (l : Fin 128) :
    (k0_pay422 k0_pay15 (sl.r_194 c arg1 harg1 arg2 harg2 arg5 harg5 arg19 arg21 x0 x1 x4) (sl.v3216 c arg2 harg2 arg6 harg6 arg20 x1 x5) : FVec Ideal S4x128 .f32) (ix2 t l) = OS x0 x1 x4 x5 (⟨3, by omega⟩ : Fin 8) t (⟨384 + l.val, by omega⟩ : Fin 512) :=
  (tile3_3 (sl.r_183 (F := Ideal) c arg1 harg1 arg2 harg2 arg5 harg5 arg19 arg21 x0 x1 x4) (sl.v3216 (F := Ideal) c arg2 harg2 arg6 harg6 arg20 x1 x5) t l).trans
    (swa_sum x0 x1 x4 x5 (⟨3, by omega⟩ : Fin 8) t (⟨384 + l.val, by omega⟩ : Fin 512) _ _ (weights_at c arg1 harg1 arg2 harg2 arg5 harg5 arg19 arg21 x0 x1 x4) (vload3 c arg2 harg2 arg6 harg6 arg20 x1 x5) _ _
      (by (try dsimp only); omega) (by (try dsimp only); omega))

/-- A stored tile of sequence 3, heads 4 and 5, over any weights and values. -/
theorem tile3_2 (Pv : FVec Ideal S256x256 .bf16) (V : Vec Ideal S1x256x128 .f32) (t : Fin 4) (l : Fin 128) :
    (k0_pay421 k0_pay15 (k0_pay416 Pv) V : FVec Ideal S4x128 .f32) (ix2 t l)
      = ∑ k : Fin 256, Pv (ix2 (⟨96 + (4 * (4 + l.val / 64) + t.val), by omega⟩ : Fin 256) k) * V (ix3 0 k (⟨64 + l.val % 64, by omega⟩ : Fin 128)) := by
  pointwise [k0_pay421, k0_pay15, k0_pay416, k0_pay418, k0_pay417]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 3, heads 4 and 5. -/
theorem S3_2 (t : Fin 4) (l : Fin 128) :
    (k0_pay421 k0_pay15 (sl.r_194 c arg1 harg1 arg2 harg2 arg5 harg5 arg19 arg21 x0 x1 x4) (sl.v3216 c arg2 harg2 arg6 harg6 arg20 x1 x5) : FVec Ideal S4x128 .f32) (ix2 t l) = OS x0 x1 x4 x5 (⟨3, by omega⟩ : Fin 8) t (⟨256 + l.val, by omega⟩ : Fin 512) :=
  (tile3_2 (sl.r_183 (F := Ideal) c arg1 harg1 arg2 harg2 arg5 harg5 arg19 arg21 x0 x1 x4) (sl.v3216 (F := Ideal) c arg2 harg2 arg6 harg6 arg20 x1 x5) t l).trans
    (swa_sum x0 x1 x4 x5 (⟨3, by omega⟩ : Fin 8) t (⟨256 + l.val, by omega⟩ : Fin 512) _ _ (weights_at c arg1 harg1 arg2 harg2 arg5 harg5 arg19 arg21 x0 x1 x4) (vload3 c arg2 harg2 arg6 harg6 arg20 x1 x5) _ _
      (by (try dsimp only); omega) (by (try dsimp only); omega))

/-- A stored tile of sequence 3, heads 2 and 3, over any weights and values. -/
theorem tile3_1 (Pv : FVec Ideal S256x256 .bf16) (V : Vec Ideal S1x256x128 .f32) (t : Fin 4) (l : Fin 128) :
    (k0_pay420 k0_pay15 (k0_pay416 Pv) V : FVec Ideal S4x128 .f32) (ix2 t l)
      = ∑ k : Fin 256, Pv (ix2 (⟨96 + (4 * (2 + l.val / 64) + t.val), by omega⟩ : Fin 256) k) * V (ix3 0 k (⟨0 + l.val % 64, by omega⟩ : Fin 128)) := by
  pointwise [k0_pay420, k0_pay15, k0_pay416, k0_pay417, k0_pay418]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 3, heads 2 and 3. -/
theorem S3_1 (t : Fin 4) (l : Fin 128) :
    (k0_pay420 k0_pay15 (sl.r_194 c arg1 harg1 arg2 harg2 arg5 harg5 arg19 arg21 x0 x1 x4) (sl.v3216 c arg2 harg2 arg6 harg6 arg20 x1 x5) : FVec Ideal S4x128 .f32) (ix2 t l) = OS x0 x1 x4 x5 (⟨3, by omega⟩ : Fin 8) t (⟨128 + l.val, by omega⟩ : Fin 512) :=
  (tile3_1 (sl.r_183 (F := Ideal) c arg1 harg1 arg2 harg2 arg5 harg5 arg19 arg21 x0 x1 x4) (sl.v3216 (F := Ideal) c arg2 harg2 arg6 harg6 arg20 x1 x5) t l).trans
    (swa_sum x0 x1 x4 x5 (⟨3, by omega⟩ : Fin 8) t (⟨128 + l.val, by omega⟩ : Fin 512) _ _ (weights_at c arg1 harg1 arg2 harg2 arg5 harg5 arg19 arg21 x0 x1 x4) (vload3 c arg2 harg2 arg6 harg6 arg20 x1 x5) _ _
      (by (try dsimp only); omega) (by (try dsimp only); omega))

/-- A stored tile of sequence 3, heads 0 and 1, over any weights and values. -/
theorem tile3_0 (Pv : FVec Ideal S256x256 .bf16) (V : Vec Ideal S1x256x128 .f32) (t : Fin 4) (l : Fin 128) :
    (k0_pay419 k0_pay15 (k0_pay416 Pv) V : FVec Ideal S4x128 .f32) (ix2 t l)
      = ∑ k : Fin 256, Pv (ix2 (⟨96 + (4 * (0 + l.val / 64) + t.val), by omega⟩ : Fin 256) k) * V (ix3 0 k (⟨0 + l.val % 64, by omega⟩ : Fin 128)) := by
  pointwise [k0_pay419, k0_pay15, k0_pay416, k0_pay417, k0_pay418]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 3, heads 0 and 1. -/
theorem S3_0 (t : Fin 4) (l : Fin 128) :
    (k0_pay419 k0_pay15 (sl.r_194 c arg1 harg1 arg2 harg2 arg5 harg5 arg19 arg21 x0 x1 x4) (sl.v3216 c arg2 harg2 arg6 harg6 arg20 x1 x5) : FVec Ideal S4x128 .f32) (ix2 t l) = OS x0 x1 x4 x5 (⟨3, by omega⟩ : Fin 8) t (⟨0 + l.val, by omega⟩ : Fin 512) :=
  (tile3_0 (sl.r_183 (F := Ideal) c arg1 harg1 arg2 harg2 arg5 harg5 arg19 arg21 x0 x1 x4) (sl.v3216 (F := Ideal) c arg2 harg2 arg6 harg6 arg20 x1 x5) t l).trans
    (swa_sum x0 x1 x4 x5 (⟨3, by omega⟩ : Fin 8) t (⟨0 + l.val, by omega⟩ : Fin 512) _ _ (weights_at c arg1 harg1 arg2 harg2 arg5 harg5 arg19 arg21 x0 x1 x4) (vload3 c arg2 harg2 arg6 harg6 arg20 x1 x5) _ _
      (by (try dsimp only); omega) (by (try dsimp only); omega))

/-- The values of sequence 2, as they are loaded. -/
theorem vload2 (k : Fin 256) (l : Fin 128) (hk : k.val < 132) : (sl.v3181 (F := Ideal) c arg2 harg2 arg6 harg6 arg20 x1 x5 : Vec Ideal S1x256x128 .f32) (ix3 0 k l) = VE x1 x5 (⟨2, by omega⟩ : Fin 8) k l :=
  (load_all (B := 8) (R := 256) (C := 128) 2 (by omega) arg20.view (sl.HS3_17 (F := Ideal) c arg2 harg2 arg6 harg6 x1 x5) inb_S8x256x128_S1x256x128_2_0_0 k l).trans (VE_all2 c harg2 harg6 x1 x5 k l (by omega) hk)

/-- A stored tile of sequence 2, heads 6 and 7, over any weights and values. -/
theorem tile2_3 (Pv : FVec Ideal S256x256 .bf16) (V : Vec Ideal S1x256x128 .f32) (t : Fin 4) (l : Fin 128) :
    (k0_pay410 k0_pay15 (k0_pay404 Pv V) (k0_pay405 Pv V) : FVec Ideal S4x128 .f32) (ix2 t l)
      = ∑ k : Fin 256, Pv (ix2 (⟨64 + (4 * (6 + l.val / 64) + t.val), by omega⟩ : Fin 256) k) * V (ix3 0 k (⟨64 + l.val % 64, by omega⟩ : Fin 128)) := by
  pointwise [k0_pay410, k0_pay15, k0_pay404, k0_pay405]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 2, heads 6 and 7. -/
theorem S2_3 (t : Fin 4) (l : Fin 128) :
    (k0_pay410 k0_pay15 (sl.r_191 c arg1 harg1 arg2 harg2 arg5 harg5 arg6 harg6 arg19 arg20 arg21 x0 x1 x4 x5) (sl.r_192 c arg1 harg1 arg2 harg2 arg5 harg5 arg6 harg6 arg19 arg20 arg21 x0 x1 x4 x5) : FVec Ideal S4x128 .f32) (ix2 t l) = OS x0 x1 x4 x5 (⟨2, by omega⟩ : Fin 8) t (⟨384 + l.val, by omega⟩ : Fin 512) :=
  (tile2_3 (sl.r_183 (F := Ideal) c arg1 harg1 arg2 harg2 arg5 harg5 arg19 arg21 x0 x1 x4) (sl.v3181 (F := Ideal) c arg2 harg2 arg6 harg6 arg20 x1 x5) t l).trans
    (swa_sum x0 x1 x4 x5 (⟨2, by omega⟩ : Fin 8) t (⟨384 + l.val, by omega⟩ : Fin 512) _ _ (weights_at c arg1 harg1 arg2 harg2 arg5 harg5 arg19 arg21 x0 x1 x4) (vload2 c arg2 harg2 arg6 harg6 arg20 x1 x5) _ _
      (by (try dsimp only); omega) (by (try dsimp only); omega))

/-- A stored tile of sequence 2, heads 4 and 5, over any weights and values. -/
theorem tile2_2 (Pv : FVec Ideal S256x256 .bf16) (V : Vec Ideal S1x256x128 .f32) (t : Fin 4) (l : Fin 128) :
    (k0_pay409 k0_pay15 (k0_pay404 Pv V) (k0_pay405 Pv V) : FVec Ideal S4x128 .f32) (ix2 t l)
      = ∑ k : Fin 256, Pv (ix2 (⟨64 + (4 * (4 + l.val / 64) + t.val), by omega⟩ : Fin 256) k) * V (ix3 0 k (⟨64 + l.val % 64, by omega⟩ : Fin 128)) := by
  pointwise [k0_pay409, k0_pay15, k0_pay404, k0_pay405]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 2, heads 4 and 5. -/
theorem S2_2 (t : Fin 4) (l : Fin 128) :
    (k0_pay409 k0_pay15 (sl.r_191 c arg1 harg1 arg2 harg2 arg5 harg5 arg6 harg6 arg19 arg20 arg21 x0 x1 x4 x5) (sl.r_192 c arg1 harg1 arg2 harg2 arg5 harg5 arg6 harg6 arg19 arg20 arg21 x0 x1 x4 x5) : FVec Ideal S4x128 .f32) (ix2 t l) = OS x0 x1 x4 x5 (⟨2, by omega⟩ : Fin 8) t (⟨256 + l.val, by omega⟩ : Fin 512) :=
  (tile2_2 (sl.r_183 (F := Ideal) c arg1 harg1 arg2 harg2 arg5 harg5 arg19 arg21 x0 x1 x4) (sl.v3181 (F := Ideal) c arg2 harg2 arg6 harg6 arg20 x1 x5) t l).trans
    (swa_sum x0 x1 x4 x5 (⟨2, by omega⟩ : Fin 8) t (⟨256 + l.val, by omega⟩ : Fin 512) _ _ (weights_at c arg1 harg1 arg2 harg2 arg5 harg5 arg19 arg21 x0 x1 x4) (vload2 c arg2 harg2 arg6 harg6 arg20 x1 x5) _ _
      (by (try dsimp only); omega) (by (try dsimp only); omega))

/-- A stored tile of sequence 2, heads 2 and 3, over any weights and values. -/
theorem tile2_1 (Pv : FVec Ideal S256x256 .bf16) (V : Vec Ideal S1x256x128 .f32) (t : Fin 4) (l : Fin 128) :
    (k0_pay408 k0_pay15 (k0_pay404 Pv V) (k0_pay405 Pv V) : FVec Ideal S4x128 .f32) (ix2 t l)
      = ∑ k : Fin 256, Pv (ix2 (⟨64 + (4 * (2 + l.val / 64) + t.val), by omega⟩ : Fin 256) k) * V (ix3 0 k (⟨0 + l.val % 64, by omega⟩ : Fin 128)) := by
  pointwise [k0_pay408, k0_pay15, k0_pay404, k0_pay405]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 2, heads 2 and 3. -/
theorem S2_1 (t : Fin 4) (l : Fin 128) :
    (k0_pay408 k0_pay15 (sl.r_191 c arg1 harg1 arg2 harg2 arg5 harg5 arg6 harg6 arg19 arg20 arg21 x0 x1 x4 x5) (sl.r_192 c arg1 harg1 arg2 harg2 arg5 harg5 arg6 harg6 arg19 arg20 arg21 x0 x1 x4 x5) : FVec Ideal S4x128 .f32) (ix2 t l) = OS x0 x1 x4 x5 (⟨2, by omega⟩ : Fin 8) t (⟨128 + l.val, by omega⟩ : Fin 512) :=
  (tile2_1 (sl.r_183 (F := Ideal) c arg1 harg1 arg2 harg2 arg5 harg5 arg19 arg21 x0 x1 x4) (sl.v3181 (F := Ideal) c arg2 harg2 arg6 harg6 arg20 x1 x5) t l).trans
    (swa_sum x0 x1 x4 x5 (⟨2, by omega⟩ : Fin 8) t (⟨128 + l.val, by omega⟩ : Fin 512) _ _ (weights_at c arg1 harg1 arg2 harg2 arg5 harg5 arg19 arg21 x0 x1 x4) (vload2 c arg2 harg2 arg6 harg6 arg20 x1 x5) _ _
      (by (try dsimp only); omega) (by (try dsimp only); omega))

/-- A stored tile of sequence 2, heads 0 and 1, over any weights and values. -/
theorem tile2_0 (Pv : FVec Ideal S256x256 .bf16) (V : Vec Ideal S1x256x128 .f32) (t : Fin 4) (l : Fin 128) :
    (k0_pay407 k0_pay15 (k0_pay405 Pv V) (k0_pay406 Pv V) : FVec Ideal S4x128 .f32) (ix2 t l)
      = ∑ k : Fin 256, Pv (ix2 (⟨64 + (4 * (0 + l.val / 64) + t.val), by omega⟩ : Fin 256) k) * V (ix3 0 k (⟨0 + l.val % 64, by omega⟩ : Fin 128)) := by
  pointwise [k0_pay407, k0_pay15, k0_pay405, k0_pay406, k0_pay404]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 2, heads 0 and 1. -/
theorem S2_0 (t : Fin 4) (l : Fin 128) :
    (k0_pay407 k0_pay15 (sl.r_192 c arg1 harg1 arg2 harg2 arg5 harg5 arg6 harg6 arg19 arg20 arg21 x0 x1 x4 x5) (sl.r_193 c arg1 harg1 arg2 harg2 arg5 harg5 arg6 harg6 arg19 arg20 arg21 x0 x1 x4 x5) : FVec Ideal S4x128 .f32) (ix2 t l) = OS x0 x1 x4 x5 (⟨2, by omega⟩ : Fin 8) t (⟨0 + l.val, by omega⟩ : Fin 512) :=
  (tile2_0 (sl.r_183 (F := Ideal) c arg1 harg1 arg2 harg2 arg5 harg5 arg19 arg21 x0 x1 x4) (sl.v3181 (F := Ideal) c arg2 harg2 arg6 harg6 arg20 x1 x5) t l).trans
    (swa_sum x0 x1 x4 x5 (⟨2, by omega⟩ : Fin 8) t (⟨0 + l.val, by omega⟩ : Fin 512) _ _ (weights_at c arg1 harg1 arg2 harg2 arg5 harg5 arg19 arg21 x0 x1 x4) (vload2 c arg2 harg2 arg6 harg6 arg20 x1 x5) _ _
      (by (try dsimp only); omega) (by (try dsimp only); omega))

/-- The values of sequence 1, as they are loaded. -/
theorem vload1 (k : Fin 256) (l : Fin 128) (hk : k.val < 132) : (sl.v3146 (F := Ideal) c arg2 harg2 arg6 harg6 arg20 x1 x5 : Vec Ideal S1x256x128 .f32) (ix3 0 k l) = VE x1 x5 (⟨1, by omega⟩ : Fin 8) k l :=
  (load_all (B := 8) (R := 256) (C := 128) 1 (by omega) arg20.view (sl.HS3_17 (F := Ideal) c arg2 harg2 arg6 harg6 x1 x5) inb_S8x256x128_S1x256x128_1_0_0 k l).trans (VE_all1 c harg2 harg6 x1 x5 k l (by omega) hk)

/-- A stored tile of sequence 1, heads 6 and 7, over any weights and values. -/
theorem tile1_3 (Pv : FVec Ideal S256x256 .bf16) (V : Vec Ideal S1x256x128 .f32) (t : Fin 4) (l : Fin 128) :
    (k0_pay398 k0_pay15 (k0_pay393 Pv V) (k0_pay394 Pv V) : FVec Ideal S4x128 .f32) (ix2 t l)
      = ∑ k : Fin 256, Pv (ix2 (⟨32 + (4 * (6 + l.val / 64) + t.val), by omega⟩ : Fin 256) k) * V (ix3 0 k (⟨64 + l.val % 64, by omega⟩ : Fin 128)) := by
  pointwise [k0_pay398, k0_pay15, k0_pay393, k0_pay394]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 1, heads 6 and 7. -/
theorem S1_3 (t : Fin 4) (l : Fin 128) :
    (k0_pay398 k0_pay15 (sl.r_188 c arg1 harg1 arg2 harg2 arg5 harg5 arg6 harg6 arg19 arg20 arg21 x0 x1 x4 x5) (sl.r_189 c arg1 harg1 arg2 harg2 arg5 harg5 arg6 harg6 arg19 arg20 arg21 x0 x1 x4 x5) : FVec Ideal S4x128 .f32) (ix2 t l) = OS x0 x1 x4 x5 (⟨1, by omega⟩ : Fin 8) t (⟨384 + l.val, by omega⟩ : Fin 512) :=
  (tile1_3 (sl.r_183 (F := Ideal) c arg1 harg1 arg2 harg2 arg5 harg5 arg19 arg21 x0 x1 x4) (sl.v3146 (F := Ideal) c arg2 harg2 arg6 harg6 arg20 x1 x5) t l).trans
    (swa_sum x0 x1 x4 x5 (⟨1, by omega⟩ : Fin 8) t (⟨384 + l.val, by omega⟩ : Fin 512) _ _ (weights_at c arg1 harg1 arg2 harg2 arg5 harg5 arg19 arg21 x0 x1 x4) (vload1 c arg2 harg2 arg6 harg6 arg20 x1 x5) _ _
      (by (try dsimp only); omega) (by (try dsimp only); omega))

/-- A stored tile of sequence 1, heads 4 and 5, over any weights and values. -/
theorem tile1_2 (Pv : FVec Ideal S256x256 .bf16) (V : Vec Ideal S1x256x128 .f32) (t : Fin 4) (l : Fin 128) :
    (k0_pay397 k0_pay15 (k0_pay393 Pv V) (k0_pay394 Pv V) : FVec Ideal S4x128 .f32) (ix2 t l)
      = ∑ k : Fin 256, Pv (ix2 (⟨32 + (4 * (4 + l.val / 64) + t.val), by omega⟩ : Fin 256) k) * V (ix3 0 k (⟨64 + l.val % 64, by omega⟩ : Fin 128)) := by
  pointwise [k0_pay397, k0_pay15, k0_pay393, k0_pay394]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 1, heads 4 and 5. -/
theorem S1_2 (t : Fin 4) (l : Fin 128) :
    (k0_pay397 k0_pay15 (sl.r_188 c arg1 harg1 arg2 harg2 arg5 harg5 arg6 harg6 arg19 arg20 arg21 x0 x1 x4 x5) (sl.r_189 c arg1 harg1 arg2 harg2 arg5 harg5 arg6 harg6 arg19 arg20 arg21 x0 x1 x4 x5) : FVec Ideal S4x128 .f32) (ix2 t l) = OS x0 x1 x4 x5 (⟨1, by omega⟩ : Fin 8) t (⟨256 + l.val, by omega⟩ : Fin 512) :=
  (tile1_2 (sl.r_183 (F := Ideal) c arg1 harg1 arg2 harg2 arg5 harg5 arg19 arg21 x0 x1 x4) (sl.v3146 (F := Ideal) c arg2 harg2 arg6 harg6 arg20 x1 x5) t l).trans
    (swa_sum x0 x1 x4 x5 (⟨1, by omega⟩ : Fin 8) t (⟨256 + l.val, by omega⟩ : Fin 512) _ _ (weights_at c arg1 harg1 arg2 harg2 arg5 harg5 arg19 arg21 x0 x1 x4) (vload1 c arg2 harg2 arg6 harg6 arg20 x1 x5) _ _
      (by (try dsimp only); omega) (by (try dsimp only); omega))

/-- A stored tile of sequence 1, heads 2 and 3, over any weights and values. -/
theorem tile1_1 (Pv : FVec Ideal S256x256 .bf16) (V : Vec Ideal S1x256x128 .f32) (t : Fin 4) (l : Fin 128) :
    (k0_pay396 k0_pay15 Pv V : FVec Ideal S4x128 .f32) (ix2 t l)
      = ∑ k : Fin 256, Pv (ix2 (⟨32 + (4 * (2 + l.val / 64) + t.val), by omega⟩ : Fin 256) k) * V (ix3 0 k (⟨0 + l.val % 64, by omega⟩ : Fin 128)) := by
  pointwise [k0_pay396, k0_pay15, k0_pay393, k0_pay394]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 1, heads 2 and 3. -/
theorem S1_1 (t : Fin 4) (l : Fin 128) :
    (sl.r_190 c arg1 harg1 arg2 harg2 arg5 harg5 arg6 harg6 arg19 arg20 arg21 x0 x1 x4 x5 : FVec Ideal S4x128 .f32) (ix2 t l) = OS x0 x1 x4 x5 (⟨1, by omega⟩ : Fin 8) t (⟨128 + l.val, by omega⟩ : Fin 512) :=
  (tile1_1 (sl.r_183 (F := Ideal) c arg1 harg1 arg2 harg2 arg5 harg5 arg19 arg21 x0 x1 x4) (sl.v3146 (F := Ideal) c arg2 harg2 arg6 harg6 arg20 x1 x5) t l).trans
    (swa_sum x0 x1 x4 x5 (⟨1, by omega⟩ : Fin 8) t (⟨128 + l.val, by omega⟩ : Fin 512) _ _ (weights_at c arg1 harg1 arg2 harg2 arg5 harg5 arg19 arg21 x0 x1 x4) (vload1 c arg2 harg2 arg6 harg6 arg20 x1 x5) _ _
      (by (try dsimp only); omega) (by (try dsimp only); omega))

/-- A stored tile of sequence 1, heads 0 and 1, over any weights and values. -/
theorem tile1_0 (Pv : FVec Ideal S256x256 .bf16) (V : Vec Ideal S1x256x128 .f32) (t : Fin 4) (l : Fin 128) :
    (k0_pay395 k0_pay15 Pv V : FVec Ideal S4x128 .f32) (ix2 t l)
      = ∑ k : Fin 256, Pv (ix2 (⟨32 + (4 * (0 + l.val / 64) + t.val), by omega⟩ : Fin 256) k) * V (ix3 0 k (⟨0 + l.val % 64, by omega⟩ : Fin 128)) := by
  pointwise [k0_pay395, k0_pay15, k0_pay393, k0_pay394]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 1, heads 0 and 1. -/
theorem S1_0 (t : Fin 4) (l : Fin 128) :
    (k0_pay395 k0_pay15 (sl.r_183 c arg1 harg1 arg2 harg2 arg5 harg5 arg19 arg21 x0 x1 x4) (sl.v3146 c arg2 harg2 arg6 harg6 arg20 x1 x5) : FVec Ideal S4x128 .f32) (ix2 t l) = OS x0 x1 x4 x5 (⟨1, by omega⟩ : Fin 8) t (⟨0 + l.val, by omega⟩ : Fin 512) :=
  (tile1_0 (sl.r_183 (F := Ideal) c arg1 harg1 arg2 harg2 arg5 harg5 arg19 arg21 x0 x1 x4) (sl.v3146 (F := Ideal) c arg2 harg2 arg6 harg6 arg20 x1 x5) t l).trans
    (swa_sum x0 x1 x4 x5 (⟨1, by omega⟩ : Fin 8) t (⟨0 + l.val, by omega⟩ : Fin 512) _ _ (weights_at c arg1 harg1 arg2 harg2 arg5 harg5 arg19 arg21 x0 x1 x4) (vload1 c arg2 harg2 arg6 harg6 arg20 x1 x5) _ _
      (by (try dsimp only); omega) (by (try dsimp only); omega))

/-- The values of sequence 0, as they are loaded. -/
theorem vload0 (k : Fin 256) (l : Fin 128) (hk : k.val < 132) : (sl.v3111 (F := Ideal) c arg2 harg2 arg6 harg6 arg20 x1 x5 : Vec Ideal S1x256x128 .f32) (ix3 0 k l) = VE x1 x5 (⟨0, by omega⟩ : Fin 8) k l :=
  (load_all (B := 8) (R := 256) (C := 128) 0 (by omega) arg20.view (sl.HS3_17 (F := Ideal) c arg2 harg2 arg6 harg6 x1 x5) inb_S8x256x128_S1x256x128_0_0_0 k l).trans (VE_all0 c harg2 harg6 x1 x5 k l (by omega) hk)

/-- A stored tile of sequence 0, heads 6 and 7, over any weights and values. -/
theorem tile0_3 (Pv : FVec Ideal S256x256 .bf16) (V : Vec Ideal S1x256x128 .f32) (t : Fin 4) (l : Fin 128) :
    (k0_pay387 k0_pay15 (k0_pay382 Pv V) (k0_pay383 Pv V) : FVec Ideal S4x128 .f32) (ix2 t l)
      = ∑ k : Fin 256, Pv (ix2 (⟨0 + (4 * (6 + l.val / 64) + t.val), by omega⟩ : Fin 256) k) * V (ix3 0 k (⟨64 + l.val % 64, by omega⟩ : Fin 128)) := by
  pointwise [k0_pay387, k0_pay15, k0_pay382, k0_pay383]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 0, heads 6 and 7. -/
theorem S0_3 (t : Fin 4) (l : Fin 128) :
    (k0_pay387 k0_pay15 (sl.r_185 c arg1 harg1 arg2 harg2 arg5 harg5 arg6 harg6 arg19 arg20 arg21 x0 x1 x4 x5) (sl.r_186 c arg1 harg1 arg2 harg2 arg5 harg5 arg6 harg6 arg19 arg20 arg21 x0 x1 x4 x5) : FVec Ideal S4x128 .f32) (ix2 t l) = OS x0 x1 x4 x5 (⟨0, by omega⟩ : Fin 8) t (⟨384 + l.val, by omega⟩ : Fin 512) :=
  (tile0_3 (sl.r_183 (F := Ideal) c arg1 harg1 arg2 harg2 arg5 harg5 arg19 arg21 x0 x1 x4) (sl.v3111 (F := Ideal) c arg2 harg2 arg6 harg6 arg20 x1 x5) t l).trans
    (swa_sum x0 x1 x4 x5 (⟨0, by omega⟩ : Fin 8) t (⟨384 + l.val, by omega⟩ : Fin 512) _ _ (weights_at c arg1 harg1 arg2 harg2 arg5 harg5 arg19 arg21 x0 x1 x4) (vload0 c arg2 harg2 arg6 harg6 arg20 x1 x5) _ _
      (by (try dsimp only); omega) (by (try dsimp only); omega))

/-- A stored tile of sequence 0, heads 4 and 5, over any weights and values. -/
theorem tile0_2 (Pv : FVec Ideal S256x256 .bf16) (V : Vec Ideal S1x256x128 .f32) (t : Fin 4) (l : Fin 128) :
    (k0_pay386 k0_pay15 Pv V : FVec Ideal S4x128 .f32) (ix2 t l)
      = ∑ k : Fin 256, Pv (ix2 (⟨0 + (4 * (4 + l.val / 64) + t.val), by omega⟩ : Fin 256) k) * V (ix3 0 k (⟨64 + l.val % 64, by omega⟩ : Fin 128)) := by
  pointwise [k0_pay386, k0_pay15, k0_pay383, k0_pay382]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 0, heads 4 and 5. -/
theorem S0_2 (t : Fin 4) (l : Fin 128) :
    (sl.r_187 c arg1 harg1 arg2 harg2 arg5 harg5 arg6 harg6 arg19 arg20 arg21 x0 x1 x4 x5 : FVec Ideal S4x128 .f32) (ix2 t l) = OS x0 x1 x4 x5 (⟨0, by omega⟩ : Fin 8) t (⟨256 + l.val, by omega⟩ : Fin 512) :=
  (tile0_2 (sl.r_183 (F := Ideal) c arg1 harg1 arg2 harg2 arg5 harg5 arg19 arg21 x0 x1 x4) (sl.v3111 (F := Ideal) c arg2 harg2 arg6 harg6 arg20 x1 x5) t l).trans
    (swa_sum x0 x1 x4 x5 (⟨0, by omega⟩ : Fin 8) t (⟨256 + l.val, by omega⟩ : Fin 512) _ _ (weights_at c arg1 harg1 arg2 harg2 arg5 harg5 arg19 arg21 x0 x1 x4) (vload0 c arg2 harg2 arg6 harg6 arg20 x1 x5) _ _
      (by (try dsimp only); omega) (by (try dsimp only); omega))

/-- A stored tile of sequence 0, heads 2 and 3, over any weights and values. -/
theorem tile0_1 (Pv : FVec Ideal S256x256 .bf16) (V : Vec Ideal S1x256x128 .f32) (t : Fin 4) (l : Fin 128) :
    (k0_pay385 k0_pay15 Pv V : FVec Ideal S4x128 .f32) (ix2 t l)
      = ∑ k : Fin 256, Pv (ix2 (⟨0 + (4 * (2 + l.val / 64) + t.val), by omega⟩ : Fin 256) k) * V (ix3 0 k (⟨0 + l.val % 64, by omega⟩ : Fin 128)) := by
  pointwise [k0_pay385, k0_pay15, k0_pay382, k0_pay383]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 0, heads 2 and 3. -/
theorem S0_1 (t : Fin 4) (l : Fin 128) :
    (k0_pay385 k0_pay15 (sl.r_183 c arg1 harg1 arg2 harg2 arg5 harg5 arg19 arg21 x0 x1 x4) (sl.v3111 c arg2 harg2 arg6 harg6 arg20 x1 x5) : FVec Ideal S4x128 .f32) (ix2 t l) = OS x0 x1 x4 x5 (⟨0, by omega⟩ : Fin 8) t (⟨128 + l.val, by omega⟩ : Fin 512) :=
  (tile0_1 (sl.r_183 (F := Ideal) c arg1 harg1 arg2 harg2 arg5 harg5 arg19 arg21 x0 x1 x4) (sl.v3111 (F := Ideal) c arg2 harg2 arg6 harg6 arg20 x1 x5) t l).trans
    (swa_sum x0 x1 x4 x5 (⟨0, by omega⟩ : Fin 8) t (⟨128 + l.val, by omega⟩ : Fin 512) _ _ (weights_at c arg1 harg1 arg2 harg2 arg5 harg5 arg19 arg21 x0 x1 x4) (vload0 c arg2 harg2 arg6 harg6 arg20 x1 x5) _ _
      (by (try dsimp only); omega) (by (try dsimp only); omega))

/-- A stored tile of sequence 0, heads 0 and 1, over any weights and values. -/
theorem tile0_0 (Pv : FVec Ideal S256x256 .bf16) (V : Vec Ideal S1x256x128 .f32) (t : Fin 4) (l : Fin 128) :
    (k0_pay384 k0_pay15 Pv V : FVec Ideal S4x128 .f32) (ix2 t l)
      = ∑ k : Fin 256, Pv (ix2 (⟨0 + (4 * (0 + l.val / 64) + t.val), by omega⟩ : Fin 256) k) * V (ix3 0 k (⟨0 + l.val % 64, by omega⟩ : Fin 128)) := by
  pointwise [k0_pay384, k0_pay15, k0_pay382, k0_pay383]
  rw [sel_low]
  by_cases h : l.val < 64
  · rw [if_pos h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))
  · rw [if_neg h]
    exact Finset.sum_congr rfl fun k _ => congr (congrArg HMul.hMul (congrArg (fun i => Pv (ix2 i k)) (Fin.ext (by (try dsimp only); omega)))) (congrArg (fun i => V (ix3 0 k i)) (Fin.ext (by (try dsimp only); omega)))

/-- What the kernel stores of sequence 0, heads 0 and 1. -/
theorem S0_0 (t : Fin 4) (l : Fin 128) :
    (k0_pay384 k0_pay15 (sl.r_183 c arg1 harg1 arg2 harg2 arg5 harg5 arg19 arg21 x0 x1 x4) (sl.v3111 c arg2 harg2 arg6 harg6 arg20 x1 x5) : FVec Ideal S4x128 .f32) (ix2 t l) = OS x0 x1 x4 x5 (⟨0, by omega⟩ : Fin 8) t (⟨0 + l.val, by omega⟩ : Fin 512) :=
  (tile0_0 (sl.r_183 (F := Ideal) c arg1 harg1 arg2 harg2 arg5 harg5 arg19 arg21 x0 x1 x4) (sl.v3111 (F := Ideal) c arg2 harg2 arg6 harg6 arg20 x1 x5) t l).trans
    (swa_sum x0 x1 x4 x5 (⟨0, by omega⟩ : Fin 8) t (⟨0 + l.val, by omega⟩ : Fin 512) _ _ (weights_at c arg1 harg1 arg2 harg2 arg5 harg5 arg19 arg21 x0 x1 x4) (vload0 c arg2 harg2 arg6 harg6 arg20 x1 x5) _ _
      (by (try dsimp only); omega) (by (try dsimp only); omega))

end Cert.MixerIdeal.Tie

end
-- ==== Proof.MixerMem.lean ====
/-
  The memory attention of the sample mixers: scores, mask, softmax and output, read at an index.
-/
module

public import proofs.«01_k».proof.Proof.MixerSwa

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) (i : grid0.Coords) (arg2 : Memref sig .tc .vmem S32x3328 .f32) (harg2 : arg2.IsWhole) (arg7 : Memref sig .tc .vmem S1x8x1024x128 .f32) (harg7 : arg7.IsWhole) (arg8 : Memref sig .tc .vmem S1x8x1024x128 .f32) (harg8 : arg8.IsWhole) (arg22 : Memref sig .tc .vmem S8x16x128 .f32) (x1 : Vec Ideal S32x3328 .f32) (x6 : Vec Ideal S1x8x1024x128 .f32) (x7 : Vec Ideal S1x8x1024x128 .f32)
/-- The key's head as the kernel computes it. -/
theorem lane_bits (R : Fin 128) (x : Fin 1024) : (sl.v3051 (ix2 R x) : BitVec 32) = BitVec.ofNat 32 (x.val % 4) := by
  pointwise [sl.v3051, sl.v3048, k0_pay376, sl.v3049, sl.v3047, sl.v3040, sl.v3045]
  clear R
  revert x
  decide +kernel

/-- The row's head as the kernel computes it, before the last correction. -/
theorem mrow_bits (R : Fin 128) (x : Fin 1024) : (sl.v3076 (ix2 R x) : BitVec 32) = BitVec.ofNat 32 (R.val / 4) := by
  pointwise [sl.v3076, sl.v3068, sl.v3072, sl.v3075, sl.v3052, sl.v3049, sl.v3057, sl.v3060, sl.v3067, sl.v3040]
  clear x
  revert R
  decide +kernel

/-- Equality of two numbers below four, as the kernel compares them. -/
theorem eq4 : ∀ (r : Fin 32) (h : Fin 4), IntOp.cmpi CmpIPredicate.eq (BitVec.ofNat 32 h.val)
    (Scalar.select (IntOp.andi (IntOp.xori (IntOp.cmpi CmpIPredicate.slt (IntOp.remsi ArithUnit.vector (BitVec.ofNat 32 r.val) 4#32) 0#32) (Scalar.cmpi CmpIPredicate.slt 4#32 0#32))
      (IntOp.cmpi CmpIPredicate.ne (IntOp.remsi ArithUnit.vector (BitVec.ofNat 32 r.val) 4#32) 0#32)) (IntOp.addi (IntOp.remsi ArithUnit.vector (BitVec.ofNat 32 r.val) 4#32) 4#32) (IntOp.remsi ArithUnit.vector (BitVec.ofNat 32 r.val) 4#32))
    = if h.val = r.val % 4 then 1#1 else 0#1 := by
  decide +kernel

/-- The stored scores of a row: the query against each key, whatever its head. -/
def SM (x1 : Vec Ideal S32x3328 .f32) (x6 : Vec Ideal S1x8x1024x128 .f32) (b : Fin 8) (r : Fin 16) (n : Fin 1024) : EReal :=
  ∑ l : Fin 128, QM x1 b r l * x6 (ix4 0 b n l)

/-- The scale of the memory attention. -/
def mscale : EReal := Ideal.ofBits FTy.f32 0x3DB504F3#32

/-- The scaled scores of a row, at the keys of its head. -/
def XM (x1 : Vec Ideal S32x3328 .f32) (x6 : Vec Ideal S1x8x1024x128 .f32) (b : Fin 8) (r : Fin 16) (n : Fin 1024) : EReal :=
  if n.val % 4 = r.val / 4 then SM x1 x6 b r n * mscale else ⊥

/-- The greatest score of a row. -/
def GM (x1 : Vec Ideal S32x3328 .f32) (x6 : Vec Ideal S1x8x1024x128 .f32) (b : Fin 8) (r : Fin 16) : EReal :=
  Finset.fold max ⊥ (fun n : Fin 1024 => XM x1 x6 b r n) Finset.univ

/-- The weights of a row. -/
def PM (x1 : Vec Ideal S32x3328 .f32) (x6 : Vec Ideal S1x8x1024x128 .f32) (b : Fin 8) (r : Fin 16) (n : Fin 1024) : EReal :=
  Ideal.exp (XM x1 x6 b r n - GM x1 x6 b r) * Ideal.div 1 (∑ j : Fin 1024, Ideal.exp (XM x1 x6 b r j - GM x1 x6 b r))

/-- The memory attention of a sequence at a token and a column. -/
def OM (x1 : Vec Ideal S32x3328 .f32) (x6 x7 : Vec Ideal S1x8x1024x128 .f32) (b : Fin 8) (t : Fin 4) (col : Fin 512) : EReal :=
  ∑ n : Fin 1024, PM x1 x6 b (⟨4 * (col.val / 128) + t.val, by omega⟩ : Fin 16) n * x7 (ix4 0 b n (⟨col.val % 128, by omega⟩ : Fin 128))

/-- Eight stacked products read at an index, from what their operands hold. -/
theorem mstack_at (q0 q1 q2 q3 q4 q5 q6 q7 : Vec Ideal S1x16x128 .f32) (w0 w1 w2 w3 w4 w5 w6 w7 : Vec Ideal S1x1x1024x128 .f32)
    (Q : Fin 8 → Fin 16 → Fin 128 → EReal) (K : Fin 8 → Fin 1024 → Fin 128 → EReal) (R : Fin 128) (k : Fin 1024)
    (hq0 : ∀ r l, q0 (ix3 0 r l) = Q 0 r l) (hq1 : ∀ r l, q1 (ix3 0 r l) = Q 1 r l) (hq2 : ∀ r l, q2 (ix3 0 r l) = Q 2 r l) (hq3 : ∀ r l, q3 (ix3 0 r l) = Q 3 r l) (hq4 : ∀ r l, q4 (ix3 0 r l) = Q 4 r l) (hq5 : ∀ r l, q5 (ix3 0 r l) = Q 5 r l) (hq6 : ∀ r l, q6 (ix3 0 r l) = Q 6 r l) (hq7 : ∀ r l, q7 (ix3 0 r l) = Q 7 r l)
    (hk0 : ∀ k l, w0 (ix4 0 0 k l) = K 0 k l) (hk1 : ∀ k l, w1 (ix4 0 0 k l) = K 1 k l) (hk2 : ∀ k l, w2 (ix4 0 0 k l) = K 2 k l) (hk3 : ∀ k l, w3 (ix4 0 0 k l) = K 3 k l) (hk4 : ∀ k l, w4 (ix4 0 0 k l) = K 4 k l) (hk5 : ∀ k l, w5 (ix4 0 0 k l) = K 5 k l) (hk6 : ∀ k l, w6 (ix4 0 0 k l) = K 6 k l) (hk7 : ∀ k l, w7 (ix4 0 0 k l) = K 7 k l) :
    (k0_pay367 (k0_pay362 (k0_pay361 q0) w0) (k0_pay363 q1 w1) (k0_pay364 q2 w2) (k0_pay365 q3 w3) (k0_pay366 q4) w4 q5 w5 q6 w6 q7 w7) (ix2 R k)
      = ∑ l : Fin 128, Q (⟨R.val / 16, by omega⟩ : Fin 8) (⟨R.val % 16, by omega⟩ : Fin 16) l * K (⟨R.val / 16, by omega⟩ : Fin 8) k l := by
  pointwise [k0_pay367, k0_pay361, k0_pay362, k0_pay363, k0_pay364, k0_pay365, k0_pay366]
  simp only [hq0, hk0, hq1, hk1, hq2, hk2, hq3, hk3, hq4, hk4, hq5, hk5, hq6, hk6, hq7, hk7]
  have e : ∀ (b : Fin 8) (r : Fin 16), b.val = R.val / 16 → r.val = R.val % 16 →
      (∑ l : Fin 128, Q b r l * K b k l) = ∑ l : Fin 128, Q (⟨R.val / 16, by omega⟩ : Fin 8) (⟨R.val % 16, by omega⟩ : Fin 16) l * K (⟨R.val / 16, by omega⟩ : Fin 8) k l := by
    intro b r hb hr
    have h1 : b = ⟨R.val / 16, by omega⟩ := Fin.ext hb
    have h2 : r = ⟨R.val % 16, by omega⟩ := Fin.ext hr
    rw [h1, h2]
  split_ifs
  all_goals exact e _ _ (by (try dsimp only); (first | omega | (show (_ : Nat) = _; simp; omega))) (by (try dsimp only); omega)

/-- The stored queries of sequence 0, as they are loaded. -/
theorem mqload0 (r : Fin 16) (l : Fin 128) : (sl.v2852 (F := Ideal) c arg2 harg2 arg22 x1 : Vec Ideal S1x16x128 .f32) (ix3 0 r l) = QM x1 (⟨0, by omega⟩ : Fin 8) r l :=
  (load_all (B := 8) (R := 16) (C := 128) 0 (by omega) arg22.view (sl.HS5_32 (F := Ideal) c arg2 harg2 x1) inb_S8x16x128_S1x16x128_0_0_0 r l).trans (QM_at c arg2 harg2 x1 (⟨0, by omega⟩ : Fin 8) r l)

/-- The keys of sequence 0, as they are loaded. -/
theorem mkload0 (k : Fin 1024) (l : Fin 128) : (View.readAt (Elt Ideal) arg7.view (Rect.unit (s := S1x8x1024x128) ![0, 0, 0, 0] S1x1x1024x128.size inb_S1x8x1024x128_S1x1x1024x128_0_0_0_0).toLoadRect (harg7.unread x6) : Vec Ideal S1x1x1024x128 .f32) (ix4 0 0 k l) = x6 (ix4 0 (⟨0, by omega⟩ : Fin 8) k l) :=
  (ld4 arg7 harg7 x6 _ 0 0 k l).trans (by blk_ext)

/-- The values of sequence 0, as they are loaded. -/
theorem mvload0 (k : Fin 1024) (l : Fin 128) : (View.readAt (Elt Ideal) arg8.view (Rect.unit (s := S1x8x1024x128) ![0, 0, 0, 0] S1x1x1024x128.size inb_S1x8x1024x128_S1x1x1024x128_0_0_0_0).toLoadRect (harg8.unread x7) : Vec Ideal S1x1x1024x128 .f32) (ix4 0 0 k l) = x7 (ix4 0 (⟨0, by omega⟩ : Fin 8) k l) :=
  (ld4 arg8 harg8 x7 _ 0 0 k l).trans (by blk_ext)

/-- The stored queries of sequence 1, as they are loaded. -/
theorem mqload1 (r : Fin 16) (l : Fin 128) : (sl.v2859 (F := Ideal) c arg2 harg2 arg22 x1 : Vec Ideal S1x16x128 .f32) (ix3 0 r l) = QM x1 (⟨1, by omega⟩ : Fin 8) r l :=
  (load_all (B := 8) (R := 16) (C := 128) 1 (by omega) arg22.view (sl.HS5_32 (F := Ideal) c arg2 harg2 x1) inb_S8x16x128_S1x16x128_1_0_0 r l).trans (QM_at c arg2 harg2 x1 (⟨1, by omega⟩ : Fin 8) r l)

/-- The keys of sequence 1, as they are loaded. -/
theorem mkload1 (k : Fin 1024) (l : Fin 128) : (View.readAt (Elt Ideal) arg7.view (Rect.unit (s := S1x8x1024x128) ![0, 1, 0, 0] S1x1x1024x128.size inb_S1x8x1024x128_S1x1x1024x128_0_1_0_0).toLoadRect (harg7.unread x6) : Vec Ideal S1x1x1024x128 .f32) (ix4 0 0 k l) = x6 (ix4 0 (⟨1, by omega⟩ : Fin 8) k l) :=
  (ld4 arg7 harg7 x6 _ 0 0 k l).trans (by blk_ext)

/-- The values of sequence 1, as they are loaded. -/
theorem mvload1 (k : Fin 1024) (l : Fin 128) : (View.readAt (Elt Ideal) arg8.view (Rect.unit (s := S1x8x1024x128) ![0, 1, 0, 0] S1x1x1024x128.size inb_S1x8x1024x128_S1x1x1024x128_0_1_0_0).toLoadRect (harg8.unread x7) : Vec Ideal S1x1x1024x128 .f32) (ix4 0 0 k l) = x7 (ix4 0 (⟨1, by omega⟩ : Fin 8) k l) :=
  (ld4 arg8 harg8 x7 _ 0 0 k l).trans (by blk_ext)

/-- The stored queries of sequence 2, as they are loaded. -/
theorem mqload2 (r : Fin 16) (l : Fin 128) : (sl.v2866 (F := Ideal) c arg2 harg2 arg22 x1 : Vec Ideal S1x16x128 .f32) (ix3 0 r l) = QM x1 (⟨2, by omega⟩ : Fin 8) r l :=
  (load_all (B := 8) (R := 16) (C := 128) 2 (by omega) arg22.view (sl.HS5_32 (F := Ideal) c arg2 harg2 x1) inb_S8x16x128_S1x16x128_2_0_0 r l).trans (QM_at c arg2 harg2 x1 (⟨2, by omega⟩ : Fin 8) r l)

/-- The keys of sequence 2, as they are loaded. -/
theorem mkload2 (k : Fin 1024) (l : Fin 128) : (View.readAt (Elt Ideal) arg7.view (Rect.unit (s := S1x8x1024x128) ![0, 2, 0, 0] S1x1x1024x128.size inb_S1x8x1024x128_S1x1x1024x128_0_2_0_0).toLoadRect (harg7.unread x6) : Vec Ideal S1x1x1024x128 .f32) (ix4 0 0 k l) = x6 (ix4 0 (⟨2, by omega⟩ : Fin 8) k l) :=
  (ld4 arg7 harg7 x6 _ 0 0 k l).trans (by blk_ext)

/-- The values of sequence 2, as they are loaded. -/
theorem mvload2 (k : Fin 1024) (l : Fin 128) : (View.readAt (Elt Ideal) arg8.view (Rect.unit (s := S1x8x1024x128) ![0, 2, 0, 0] S1x1x1024x128.size inb_S1x8x1024x128_S1x1x1024x128_0_2_0_0).toLoadRect (harg8.unread x7) : Vec Ideal S1x1x1024x128 .f32) (ix4 0 0 k l) = x7 (ix4 0 (⟨2, by omega⟩ : Fin 8) k l) :=
  (ld4 arg8 harg8 x7 _ 0 0 k l).trans (by blk_ext)

/-- The stored queries of sequence 3, as they are loaded. -/
theorem mqload3 (r : Fin 16) (l : Fin 128) : (sl.v2873 (F := Ideal) c arg2 harg2 arg22 x1 : Vec Ideal S1x16x128 .f32) (ix3 0 r l) = QM x1 (⟨3, by omega⟩ : Fin 8) r l :=
  (load_all (B := 8) (R := 16) (C := 128) 3 (by omega) arg22.view (sl.HS5_32 (F := Ideal) c arg2 harg2 x1) inb_S8x16x128_S1x16x128_3_0_0 r l).trans (QM_at c arg2 harg2 x1 (⟨3, by omega⟩ : Fin 8) r l)

/-- The keys of sequence 3, as they are loaded. -/
theorem mkload3 (k : Fin 1024) (l : Fin 128) : (View.readAt (Elt Ideal) arg7.view (Rect.unit (s := S1x8x1024x128) ![0, 3, 0, 0] S1x1x1024x128.size inb_S1x8x1024x128_S1x1x1024x128_0_3_0_0).toLoadRect (harg7.unread x6) : Vec Ideal S1x1x1024x128 .f32) (ix4 0 0 k l) = x6 (ix4 0 (⟨3, by omega⟩ : Fin 8) k l) :=
  (ld4 arg7 harg7 x6 _ 0 0 k l).trans (by blk_ext)

/-- The values of sequence 3, as they are loaded. -/
theorem mvload3 (k : Fin 1024) (l : Fin 128) : (View.readAt (Elt Ideal) arg8.view (Rect.unit (s := S1x8x1024x128) ![0, 3, 0, 0] S1x1x1024x128.size inb_S1x8x1024x128_S1x1x1024x128_0_3_0_0).toLoadRect (harg8.unread x7) : Vec Ideal S1x1x1024x128 .f32) (ix4 0 0 k l) = x7 (ix4 0 (⟨3, by omega⟩ : Fin 8) k l) :=
  (ld4 arg8 harg8 x7 _ 0 0 k l).trans (by blk_ext)

/-- The stored queries of sequence 4, as they are loaded. -/
theorem mqload4 (r : Fin 16) (l : Fin 128) : (sl.v2880 (F := Ideal) c arg2 harg2 arg22 x1 : Vec Ideal S1x16x128 .f32) (ix3 0 r l) = QM x1 (⟨4, by omega⟩ : Fin 8) r l :=
  (load_all (B := 8) (R := 16) (C := 128) 4 (by omega) arg22.view (sl.HS5_32 (F := Ideal) c arg2 harg2 x1) inb_S8x16x128_S1x16x128_4_0_0 r l).trans (QM_at c arg2 harg2 x1 (⟨4, by omega⟩ : Fin 8) r l)

/-- The keys of sequence 4, as they are loaded. -/
theorem mkload4 (k : Fin 1024) (l : Fin 128) : (View.readAt (Elt Ideal) arg7.view (Rect.unit (s := S1x8x1024x128) ![0, 4, 0, 0] S1x1x1024x128.size inb_S1x8x1024x128_S1x1x1024x128_0_4_0_0).toLoadRect (harg7.unread x6) : Vec Ideal S1x1x1024x128 .f32) (ix4 0 0 k l) = x6 (ix4 0 (⟨4, by omega⟩ : Fin 8) k l) :=
  (ld4 arg7 harg7 x6 _ 0 0 k l).trans (by blk_ext)

/-- The values of sequence 4, as they are loaded. -/
theorem mvload4 (k : Fin 1024) (l : Fin 128) : (View.readAt (Elt Ideal) arg8.view (Rect.unit (s := S1x8x1024x128) ![0, 4, 0, 0] S1x1x1024x128.size inb_S1x8x1024x128_S1x1x1024x128_0_4_0_0).toLoadRect (harg8.unread x7) : Vec Ideal S1x1x1024x128 .f32) (ix4 0 0 k l) = x7 (ix4 0 (⟨4, by omega⟩ : Fin 8) k l) :=
  (ld4 arg8 harg8 x7 _ 0 0 k l).trans (by blk_ext)

/-- The stored queries of sequence 5, as they are loaded. -/
theorem mqload5 (r : Fin 16) (l : Fin 128) : (sl.v2887 (F := Ideal) c arg2 harg2 arg22 x1 : Vec Ideal S1x16x128 .f32) (ix3 0 r l) = QM x1 (⟨5, by omega⟩ : Fin 8) r l :=
  (load_all (B := 8) (R := 16) (C := 128) 5 (by omega) arg22.view (sl.HS5_32 (F := Ideal) c arg2 harg2 x1) inb_S8x16x128_S1x16x128_5_0_0 r l).trans (QM_at c arg2 harg2 x1 (⟨5, by omega⟩ : Fin 8) r l)

/-- The keys of sequence 5, as they are loaded. -/
theorem mkload5 (k : Fin 1024) (l : Fin 128) : (View.readAt (Elt Ideal) arg7.view (Rect.unit (s := S1x8x1024x128) ![0, 5, 0, 0] S1x1x1024x128.size inb_S1x8x1024x128_S1x1x1024x128_0_5_0_0).toLoadRect (harg7.unread x6) : Vec Ideal S1x1x1024x128 .f32) (ix4 0 0 k l) = x6 (ix4 0 (⟨5, by omega⟩ : Fin 8) k l) :=
  (ld4 arg7 harg7 x6 _ 0 0 k l).trans (by blk_ext)

/-- The values of sequence 5, as they are loaded. -/
theorem mvload5 (k : Fin 1024) (l : Fin 128) : (View.readAt (Elt Ideal) arg8.view (Rect.unit (s := S1x8x1024x128) ![0, 5, 0, 0] S1x1x1024x128.size inb_S1x8x1024x128_S1x1x1024x128_0_5_0_0).toLoadRect (harg8.unread x7) : Vec Ideal S1x1x1024x128 .f32) (ix4 0 0 k l) = x7 (ix4 0 (⟨5, by omega⟩ : Fin 8) k l) :=
  (ld4 arg8 harg8 x7 _ 0 0 k l).trans (by blk_ext)

/-- The stored queries of sequence 6, as they are loaded. -/
theorem mqload6 (r : Fin 16) (l : Fin 128) : (sl.v2894 (F := Ideal) c arg2 harg2 arg22 x1 : Vec Ideal S1x16x128 .f32) (ix3 0 r l) = QM x1 (⟨6, by omega⟩ : Fin 8) r l :=
  (load_all (B := 8) (R := 16) (C := 128) 6 (by omega) arg22.view (sl.HS5_32 (F := Ideal) c arg2 harg2 x1) inb_S8x16x128_S1x16x128_6_0_0 r l).trans (QM_at c arg2 harg2 x1 (⟨6, by omega⟩ : Fin 8) r l)

/-- The keys of sequence 6, as they are loaded. -/
theorem mkload6 (k : Fin 1024) (l : Fin 128) : (View.readAt (Elt Ideal) arg7.view (Rect.unit (s := S1x8x1024x128) ![0, 6, 0, 0] S1x1x1024x128.size inb_S1x8x1024x128_S1x1x1024x128_0_6_0_0).toLoadRect (harg7.unread x6) : Vec Ideal S1x1x1024x128 .f32) (ix4 0 0 k l) = x6 (ix4 0 (⟨6, by omega⟩ : Fin 8) k l) :=
  (ld4 arg7 harg7 x6 _ 0 0 k l).trans (by blk_ext)

/-- The values of sequence 6, as they are loaded. -/
theorem mvload6 (k : Fin 1024) (l : Fin 128) : (View.readAt (Elt Ideal) arg8.view (Rect.unit (s := S1x8x1024x128) ![0, 6, 0, 0] S1x1x1024x128.size inb_S1x8x1024x128_S1x1x1024x128_0_6_0_0).toLoadRect (harg8.unread x7) : Vec Ideal S1x1x1024x128 .f32) (ix4 0 0 k l) = x7 (ix4 0 (⟨6, by omega⟩ : Fin 8) k l) :=
  (ld4 arg8 harg8 x7 _ 0 0 k l).trans (by blk_ext)

/-- The stored queries of sequence 7, as they are loaded. -/
theorem mqload7 (r : Fin 16) (l : Fin 128) : (sl.v2901 (F := Ideal) c arg2 harg2 arg22 x1 : Vec Ideal S1x16x128 .f32) (ix3 0 r l) = QM x1 (⟨7, by omega⟩ : Fin 8) r l :=
  (load_all (B := 8) (R := 16) (C := 128) 7 (by omega) arg22.view (sl.HS5_32 (F := Ideal) c arg2 harg2 x1) inb_S8x16x128_S1x16x128_7_0_0 r l).trans (QM_at c arg2 harg2 x1 (⟨7, by omega⟩ : Fin 8) r l)

/-- The keys of sequence 7, as they are loaded. -/
theorem mkload7 (k : Fin 1024) (l : Fin 128) : (View.readAt (Elt Ideal) arg7.view (Rect.unit (s := S1x8x1024x128) ![0, 7, 0, 0] S1x1x1024x128.size inb_S1x8x1024x128_S1x1x1024x128_0_7_0_0).toLoadRect (harg7.unread x6) : Vec Ideal S1x1x1024x128 .f32) (ix4 0 0 k l) = x6 (ix4 0 (⟨7, by omega⟩ : Fin 8) k l) :=
  (ld4 arg7 harg7 x6 _ 0 0 k l).trans (by blk_ext)

/-- The values of sequence 7, as they are loaded. -/
theorem mvload7 (k : Fin 1024) (l : Fin 128) : (View.readAt (Elt Ideal) arg8.view (Rect.unit (s := S1x8x1024x128) ![0, 7, 0, 0] S1x1x1024x128.size inb_S1x8x1024x128_S1x1x1024x128_0_7_0_0).toLoadRect (harg8.unread x7) : Vec Ideal S1x1x1024x128 .f32) (ix4 0 0 k l) = x7 (ix4 0 (⟨7, by omega⟩ : Fin 8) k l) :=
  (ld4 arg8 harg8 x7 _ 0 0 k l).trans (by blk_ext)

/-- The score words. -/
theorem mscores_at (R : Fin 128) (k : Fin 1024) :
    (sl.r_171 (F := Ideal) c arg2 harg2 arg7 harg7 arg22 x1 x6) (ix2 R k) = SM x1 x6 (⟨R.val / 16, by omega⟩ : Fin 8) (⟨R.val % 16, by omega⟩ : Fin 16) k :=
  mstack_at _ _ _ _ _ _ _ _ _ _ _ _ _ _ _ _ (QM x1) (fun b k l => x6 (ix4 0 b k l)) R k (mqload0 c arg2 harg2 arg22 x1) (mqload1 c arg2 harg2 arg22 x1) (mqload2 c arg2 harg2 arg22 x1) (mqload3 c arg2 harg2 arg22 x1) (mqload4 c arg2 harg2 arg22 x1) (mqload5 c arg2 harg2 arg22 x1) (mqload6 c arg2 harg2 arg22 x1) (mqload7 c arg2 harg2 arg22 x1)
    (mkload0 arg7 harg7 x6) (mkload1 arg7 harg7 x6) (mkload2 arg7 harg7 x6) (mkload3 arg7 harg7 x6) (mkload4 arg7 harg7 x6) (mkload5 arg7 harg7 x6) (mkload6 arg7 harg7 x6) (mkload7 arg7 harg7 x6)

/-- The weight words. -/
theorem mweights_at (R : Fin 128) (k : Fin 1024) :
    (sl.r_184 (F := Ideal) c arg2 harg2 arg7 harg7 arg22 x1 x6) (ix2 R k)
      = PM x1 x6 (⟨R.val / 16, by omega⟩ : Fin 8) (⟨R.val % 16, by omega⟩ : Fin 16) k := by
  have hm : ∀ n : Fin 1024, Scalar.select (IntOp.cmpi CmpIPredicate.eq (BitVec.ofNat 32 (n.val % 4))
    (Scalar.select (IntOp.andi (IntOp.xori (IntOp.cmpi CmpIPredicate.slt (IntOp.remsi ArithUnit.vector (BitVec.ofNat 32 (R.val / 4)) 4#32) 0#32) (Scalar.cmpi CmpIPredicate.slt 4#32 0#32))
      (IntOp.cmpi CmpIPredicate.ne (IntOp.remsi ArithUnit.vector (BitVec.ofNat 32 (R.val / 4)) 4#32) 0#32)) (IntOp.addi (IntOp.remsi ArithUnit.vector (BitVec.ofNat 32 (R.val / 4)) 4#32) 4#32) (IntOp.remsi ArithUnit.vector (BitVec.ofNat 32 (R.val / 4)) 4#32)))
      ((sl.r_171 (F := Ideal) c arg2 harg2 arg7 harg7 arg22 x1 x6) (ix2 R n) * Ideal.ofBits FTy.f32 1035273459#32) (⊥ : EReal)
      = XM x1 x6 (⟨R.val / 16, by omega⟩ : Fin 8) (⟨R.val % 16, by omega⟩ : Fin 16) n := by
    intro n
    have h := eq4 (⟨R.val / 4, by omega⟩ : Fin 32) (⟨n.val % 4, by omega⟩ : Fin 4)
    simp only [] at h
    rw [h, mscores_at]
    unfold XM
    by_cases e : n.val % 4 = R.val / 4 % 4
    · rw [if_pos e]
      exact (if_pos (by (try dsimp only); omega)).symm
    · rw [if_neg e]
      exact (if_neg (by (try dsimp only); omega)).symm
  pointwise [sl.r_184, k0_pay381, sl.v3049, sl.v3082, sl.v3084, sl.v3040]
  simp only [lane_bits, mrow_bits, bits_bot, hm]
  rfl

/-- The weights against a page of values. -/
theorem mem_sum (b : Fin 8) (t : Fin 4) (col : Fin 512) (Pv : FVec Ideal S128x1024 .bf16) (V : Vec Ideal S1x1x1024x128 .f32)
    (hP : ∀ R k, Pv (ix2 R k) = PM x1 x6 (⟨R.val / 16, by omega⟩ : Fin 8) (⟨R.val % 16, by omega⟩ : Fin 16) k)
    (hV : ∀ (k : Fin 1024) (l : Fin 128), V (ix4 0 0 k l) = x7 (ix4 0 b k l)) (R : Fin 128) (l : Fin 128)
    (hR : R.val = 16 * b.val + (4 * (col.val / 128) + t.val)) (hl : l.val = col.val % 128) :
    ∑ k : Fin 1024, Pv (ix2 R k) * V (ix4 0 0 k l) = OM x1 x6 x7 b t col := by
  have h1 : (⟨R.val / 16, by omega⟩ : Fin 8) = b := Fin.ext (by (try dsimp only); omega)
  have h2 : (⟨R.val % 16, by omega⟩ : Fin 16) = ⟨4 * (col.val / 128) + t.val, by omega⟩ := Fin.ext (by (try dsimp only); omega)
  have h3 : l = ⟨col.val % 128, by omega⟩ := Fin.ext hl
  simp only [hP, hV, h1, h2, h3]
  rfl

/-- A stored tile of sequence 7, head 3, over any weights and values. -/
theorem mtile7_3 (Pv : FVec Ideal S128x1024 .bf16) (V : Vec Ideal S1x1x1024x128 .f32) (t : Fin 4) (l : Fin 128) :
    (k0_pay6 Pv V : FVec Ideal S4x128 .f32) (ix2 t l)
      = ∑ k : Fin 1024, Pv (ix2 (⟨124 + t.val, by omega⟩ : Fin 128) k) * V (ix4 0 0 k l) := by
  pointwise [k0_pay6, k0_pay2]
  all_goals exact Finset.sum_congr rfl fun k _ => congr (congrArg HMul.hMul (congrArg (fun i => Pv (ix2 i k)) (Fin.ext (by (try dsimp only); omega)))) rfl

/-- What the kernel stores of sequence 7, head 3. -/
theorem M7_3 (t : Fin 4) (l : Fin 128) :
    (k0_pay6 (sl.r_184 c arg2 harg2 arg7 harg7 arg22 x1 x6) (sl.v3378 c arg8 harg8 x7) : FVec Ideal S4x128 .f32) (ix2 t l) = OM x1 x6 x7 (⟨7, by omega⟩ : Fin 8) t (⟨384 + l.val, by omega⟩ : Fin 512) :=
  (mtile7_3 (sl.r_184 (F := Ideal) c arg2 harg2 arg7 harg7 arg22 x1 x6) (View.readAt (Elt Ideal) arg8.view (Rect.unit (s := S1x8x1024x128) ![0, 7, 0, 0] S1x1x1024x128.size inb_S1x8x1024x128_S1x1x1024x128_0_7_0_0).toLoadRect (harg8.unread x7)) t l).trans
    (mem_sum x1 x6 x7 (⟨7, by omega⟩ : Fin 8) t (⟨384 + l.val, by omega⟩ : Fin 512) _ _ (mweights_at c arg2 harg2 arg7 harg7 arg22 x1 x6) (mvload7 arg8 harg8 x7) _ _
      (by (try dsimp only); omega) (by (try dsimp only); omega))

/-- A stored tile of sequence 7, head 2, over any weights and values. -/
theorem mtile7_2 (Pv : FVec Ideal S128x1024 .bf16) (V : Vec Ideal S1x1x1024x128 .f32) (t : Fin 4) (l : Fin 128) :
    (k0_pay5 Pv V : FVec Ideal S4x128 .f32) (ix2 t l)
      = ∑ k : Fin 1024, Pv (ix2 (⟨120 + t.val, by omega⟩ : Fin 128) k) * V (ix4 0 0 k l) := by
  pointwise [k0_pay5, k0_pay2]
  all_goals exact Finset.sum_congr rfl fun k _ => congr (congrArg HMul.hMul (congrArg (fun i => Pv (ix2 i k)) (Fin.ext (by (try dsimp only); omega)))) rfl

/-- What the kernel stores of sequence 7, head 2. -/
theorem M7_2 (t : Fin 4) (l : Fin 128) :
    (k0_pay5 (sl.r_184 c arg2 harg2 arg7 harg7 arg22 x1 x6) (sl.v3378 c arg8 harg8 x7) : FVec Ideal S4x128 .f32) (ix2 t l) = OM x1 x6 x7 (⟨7, by omega⟩ : Fin 8) t (⟨256 + l.val, by omega⟩ : Fin 512) :=
  (mtile7_2 (sl.r_184 (F := Ideal) c arg2 harg2 arg7 harg7 arg22 x1 x6) (View.readAt (Elt Ideal) arg8.view (Rect.unit (s := S1x8x1024x128) ![0, 7, 0, 0] S1x1x1024x128.size inb_S1x8x1024x128_S1x1x1024x128_0_7_0_0).toLoadRect (harg8.unread x7)) t l).trans
    (mem_sum x1 x6 x7 (⟨7, by omega⟩ : Fin 8) t (⟨256 + l.val, by omega⟩ : Fin 512) _ _ (mweights_at c arg2 harg2 arg7 harg7 arg22 x1 x6) (mvload7 arg8 harg8 x7) _ _
      (by (try dsimp only); omega) (by (try dsimp only); omega))

/-- A stored tile of sequence 7, head 1, over any weights and values. -/
theorem mtile7_1 (Pv : FVec Ideal S128x1024 .bf16) (V : Vec Ideal S1x1x1024x128 .f32) (t : Fin 4) (l : Fin 128) :
    (k0_pay4 Pv V : FVec Ideal S4x128 .f32) (ix2 t l)
      = ∑ k : Fin 1024, Pv (ix2 (⟨116 + t.val, by omega⟩ : Fin 128) k) * V (ix4 0 0 k l) := by
  pointwise [k0_pay4, k0_pay2]
  all_goals exact Finset.sum_congr rfl fun k _ => congr (congrArg HMul.hMul (congrArg (fun i => Pv (ix2 i k)) (Fin.ext (by (try dsimp only); omega)))) rfl

/-- What the kernel stores of sequence 7, head 1. -/
theorem M7_1 (t : Fin 4) (l : Fin 128) :
    (k0_pay4 (sl.r_184 c arg2 harg2 arg7 harg7 arg22 x1 x6) (sl.v3378 c arg8 harg8 x7) : FVec Ideal S4x128 .f32) (ix2 t l) = OM x1 x6 x7 (⟨7, by omega⟩ : Fin 8) t (⟨128 + l.val, by omega⟩ : Fin 512) :=
  (mtile7_1 (sl.r_184 (F := Ideal) c arg2 harg2 arg7 harg7 arg22 x1 x6) (View.readAt (Elt Ideal) arg8.view (Rect.unit (s := S1x8x1024x128) ![0, 7, 0, 0] S1x1x1024x128.size inb_S1x8x1024x128_S1x1x1024x128_0_7_0_0).toLoadRect (harg8.unread x7)) t l).trans
    (mem_sum x1 x6 x7 (⟨7, by omega⟩ : Fin 8) t (⟨128 + l.val, by omega⟩ : Fin 512) _ _ (mweights_at c arg2 harg2 arg7 harg7 arg22 x1 x6) (mvload7 arg8 harg8 x7) _ _
      (by (try dsimp only); omega) (by (try dsimp only); omega))

/-- A stored tile of sequence 7, head 0, over any weights and values. -/
theorem mtile7_0 (Pv : FVec Ideal S128x1024 .bf16) (V : Vec Ideal S1x1x1024x128 .f32) (t : Fin 4) (l : Fin 128) :
    (k0_pay3 Pv V : FVec Ideal S4x128 .f32) (ix2 t l)
      = ∑ k : Fin 1024, Pv (ix2 (⟨112 + t.val, by omega⟩ : Fin 128) k) * V (ix4 0 0 k l) := by
  pointwise [k0_pay3, k0_pay2]
  all_goals exact Finset.sum_congr rfl fun k _ => congr (congrArg HMul.hMul (congrArg (fun i => Pv (ix2 i k)) (Fin.ext (by (try dsimp only); omega)))) rfl

/-- What the kernel stores of sequence 7, head 0. -/
theorem M7_0 (t : Fin 4) (l : Fin 128) :
    (k0_pay3 (sl.r_184 c arg2 harg2 arg7 harg7 arg22 x1 x6) (sl.v3378 c arg8 harg8 x7) : FVec Ideal S4x128 .f32) (ix2 t l) = OM x1 x6 x7 (⟨7, by omega⟩ : Fin 8) t (⟨0 + l.val, by omega⟩ : Fin 512) :=
  (mtile7_0 (sl.r_184 (F := Ideal) c arg2 harg2 arg7 harg7 arg22 x1 x6) (View.readAt (Elt Ideal) arg8.view (Rect.unit (s := S1x8x1024x128) ![0, 7, 0, 0] S1x1x1024x128.size inb_S1x8x1024x128_S1x1x1024x128_0_7_0_0).toLoadRect (harg8.unread x7)) t l).trans
    (mem_sum x1 x6 x7 (⟨7, by omega⟩ : Fin 8) t (⟨0 + l.val, by omega⟩ : Fin 512) _ _ (mweights_at c arg2 harg2 arg7 harg7 arg22 x1 x6) (mvload7 arg8 harg8 x7) _ _
      (by (try dsimp only); omega) (by (try dsimp only); omega))

/-- A stored tile of sequence 6, head 3, over any weights and values. -/
theorem mtile6_3 (Pv : FVec Ideal S128x1024 .bf16) (V : Vec Ideal S1x1x1024x128 .f32) (t : Fin 4) (l : Fin 128) :
    (k0_pay461 Pv V : FVec Ideal S4x128 .f32) (ix2 t l)
      = ∑ k : Fin 1024, Pv (ix2 (⟨108 + t.val, by omega⟩ : Fin 128) k) * V (ix4 0 0 k l) := by
  pointwise [k0_pay461, k0_pay457]
  all_goals exact Finset.sum_congr rfl fun k _ => congr (congrArg HMul.hMul (congrArg (fun i => Pv (ix2 i k)) (Fin.ext (by (try dsimp only); omega)))) rfl

/-- What the kernel stores of sequence 6, head 3. -/
theorem M6_3 (t : Fin 4) (l : Fin 128) :
    (k0_pay461 (sl.r_184 c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) : FVec Ideal S4x128 .f32) (ix2 t l) = OM x1 x6 x7 (⟨6, by omega⟩ : Fin 8) t (⟨384 + l.val, by omega⟩ : Fin 512) :=
  (mtile6_3 (sl.r_184 (F := Ideal) c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) t l).trans
    (mem_sum x1 x6 x7 (⟨6, by omega⟩ : Fin 8) t (⟨384 + l.val, by omega⟩ : Fin 512) _ _ (mweights_at c arg2 harg2 arg7 harg7 arg22 x1 x6) (mvload6 arg8 harg8 x7) _ _
      (by (try dsimp only); omega) (by (try dsimp only); omega))

/-- A stored tile of sequence 6, head 2, over any weights and values. -/
theorem mtile6_2 (Pv : FVec Ideal S128x1024 .bf16) (V : Vec Ideal S1x1x1024x128 .f32) (t : Fin 4) (l : Fin 128) :
    (k0_pay460 Pv V : FVec Ideal S4x128 .f32) (ix2 t l)
      = ∑ k : Fin 1024, Pv (ix2 (⟨104 + t.val, by omega⟩ : Fin 128) k) * V (ix4 0 0 k l) := by
  pointwise [k0_pay460, k0_pay457]
  all_goals exact Finset.sum_congr rfl fun k _ => congr (congrArg HMul.hMul (congrArg (fun i => Pv (ix2 i k)) (Fin.ext (by (try dsimp only); omega)))) rfl

/-- What the kernel stores of sequence 6, head 2. -/
theorem M6_2 (t : Fin 4) (l : Fin 128) :
    (k0_pay460 (sl.r_184 c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) : FVec Ideal S4x128 .f32) (ix2 t l) = OM x1 x6 x7 (⟨6, by omega⟩ : Fin 8) t (⟨256 + l.val, by omega⟩ : Fin 512) :=
  (mtile6_2 (sl.r_184 (F := Ideal) c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) t l).trans
    (mem_sum x1 x6 x7 (⟨6, by omega⟩ : Fin 8) t (⟨256 + l.val, by omega⟩ : Fin 512) _ _ (mweights_at c arg2 harg2 arg7 harg7 arg22 x1 x6) (mvload6 arg8 harg8 x7) _ _
      (by (try dsimp only); omega) (by (try dsimp only); omega))

/-- A stored tile of sequence 6, head 1, over any weights and values. -/
theorem mtile6_1 (Pv : FVec Ideal S128x1024 .bf16) (V : Vec Ideal S1x1x1024x128 .f32) (t : Fin 4) (l : Fin 128) :
    (k0_pay459 Pv V : FVec Ideal S4x128 .f32) (ix2 t l)
      = ∑ k : Fin 1024, Pv (ix2 (⟨100 + t.val, by omega⟩ : Fin 128) k) * V (ix4 0 0 k l) := by
  pointwise [k0_pay459, k0_pay457]
  all_goals exact Finset.sum_congr rfl fun k _ => congr (congrArg HMul.hMul (congrArg (fun i => Pv (ix2 i k)) (Fin.ext (by (try dsimp only); omega)))) rfl

/-- What the kernel stores of sequence 6, head 1. -/
theorem M6_1 (t : Fin 4) (l : Fin 128) :
    (k0_pay459 (sl.r_184 c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) : FVec Ideal S4x128 .f32) (ix2 t l) = OM x1 x6 x7 (⟨6, by omega⟩ : Fin 8) t (⟨128 + l.val, by omega⟩ : Fin 512) :=
  (mtile6_1 (sl.r_184 (F := Ideal) c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) t l).trans
    (mem_sum x1 x6 x7 (⟨6, by omega⟩ : Fin 8) t (⟨128 + l.val, by omega⟩ : Fin 512) _ _ (mweights_at c arg2 harg2 arg7 harg7 arg22 x1 x6) (mvload6 arg8 harg8 x7) _ _
      (by (try dsimp only); omega) (by (try dsimp only); omega))

/-- A stored tile of sequence 6, head 0, over any weights and values. -/
theorem mtile6_0 (Pv : FVec Ideal S128x1024 .bf16) (V : Vec Ideal S1x1x1024x128 .f32) (t : Fin 4) (l : Fin 128) :
    (k0_pay458 Pv V : FVec Ideal S4x128 .f32) (ix2 t l)
      = ∑ k : Fin 1024, Pv (ix2 (⟨96 + t.val, by omega⟩ : Fin 128) k) * V (ix4 0 0 k l) := by
  pointwise [k0_pay458, k0_pay457]
  all_goals exact Finset.sum_congr rfl fun k _ => congr (congrArg HMul.hMul (congrArg (fun i => Pv (ix2 i k)) (Fin.ext (by (try dsimp only); omega)))) rfl

/-- What the kernel stores of sequence 6, head 0. -/
theorem M6_0 (t : Fin 4) (l : Fin 128) :
    (k0_pay458 (sl.r_184 c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) : FVec Ideal S4x128 .f32) (ix2 t l) = OM x1 x6 x7 (⟨6, by omega⟩ : Fin 8) t (⟨0 + l.val, by omega⟩ : Fin 512) :=
  (mtile6_0 (sl.r_184 (F := Ideal) c arg2 harg2 arg7 harg7 arg22 x1 x6) (View.readAt (Elt Ideal) arg8.view (Rect.unit (s := S1x8x1024x128) ![0, 6, 0, 0] S1x1x1024x128.size inb_S1x8x1024x128_S1x1x1024x128_0_6_0_0).toLoadRect (harg8.unread x7)) t l).trans
    (mem_sum x1 x6 x7 (⟨6, by omega⟩ : Fin 8) t (⟨0 + l.val, by omega⟩ : Fin 512) _ _ (mweights_at c arg2 harg2 arg7 harg7 arg22 x1 x6) (mvload6 arg8 harg8 x7) _ _
      (by (try dsimp only); omega) (by (try dsimp only); omega))

/-- A stored tile of sequence 5, head 3, over any weights and values. -/
theorem mtile5_3 (Pv : FVec Ideal S128x1024 .bf16) (V : Vec Ideal S1x1x1024x128 .f32) (t : Fin 4) (l : Fin 128) :
    (k0_pay450 (k0_pay445 Pv) V : FVec Ideal S4x128 .f32) (ix2 t l)
      = ∑ k : Fin 1024, Pv (ix2 (⟨92 + t.val, by omega⟩ : Fin 128) k) * V (ix4 0 0 k l) := by
  pointwise [k0_pay450, k0_pay445, k0_pay446]
  all_goals exact Finset.sum_congr rfl fun k _ => congr (congrArg HMul.hMul (congrArg (fun i => Pv (ix2 i k)) (Fin.ext (by (try dsimp only); omega)))) rfl

/-- What the kernel stores of sequence 5, head 3. -/
theorem M5_3 (t : Fin 4) (l : Fin 128) :
    (k0_pay450 (sl.r_198 c arg2 harg2 arg7 harg7 arg22 x1 x6) (sl.r_199 c arg8 harg8 x7) : FVec Ideal S4x128 .f32) (ix2 t l) = OM x1 x6 x7 (⟨5, by omega⟩ : Fin 8) t (⟨384 + l.val, by omega⟩ : Fin 512) :=
  (mtile5_3 (sl.r_184 (F := Ideal) c arg2 harg2 arg7 harg7 arg22 x1 x6) (View.readAt (Elt Ideal) arg8.view (Rect.unit (s := S1x8x1024x128) ![0, 5, 0, 0] S1x1x1024x128.size inb_S1x8x1024x128_S1x1x1024x128_0_5_0_0).toLoadRect (harg8.unread x7)) t l).trans
    (mem_sum x1 x6 x7 (⟨5, by omega⟩ : Fin 8) t (⟨384 + l.val, by omega⟩ : Fin 512) _ _ (mweights_at c arg2 harg2 arg7 harg7 arg22 x1 x6) (mvload5 arg8 harg8 x7) _ _
      (by (try dsimp only); omega) (by (try dsimp only); omega))

/-- A stored tile of sequence 5, head 2, over any weights and values. -/
theorem mtile5_2 (Pv : FVec Ideal S128x1024 .bf16) (V : Vec Ideal S1x1x1024x128 .f32) (t : Fin 4) (l : Fin 128) :
    (k0_pay449 (k0_pay445 Pv) V : FVec Ideal S4x128 .f32) (ix2 t l)
      = ∑ k : Fin 1024, Pv (ix2 (⟨88 + t.val, by omega⟩ : Fin 128) k) * V (ix4 0 0 k l) := by
  pointwise [k0_pay449, k0_pay445, k0_pay446]
  all_goals exact Finset.sum_congr rfl fun k _ => congr (congrArg HMul.hMul (congrArg (fun i => Pv (ix2 i k)) (Fin.ext (by (try dsimp only); omega)))) rfl

/-- What the kernel stores of sequence 5, head 2. -/
theorem M5_2 (t : Fin 4) (l : Fin 128) :
    (k0_pay449 (sl.r_198 c arg2 harg2 arg7 harg7 arg22 x1 x6) (sl.r_199 c arg8 harg8 x7) : FVec Ideal S4x128 .f32) (ix2 t l) = OM x1 x6 x7 (⟨5, by omega⟩ : Fin 8) t (⟨256 + l.val, by omega⟩ : Fin 512) :=
  (mtile5_2 (sl.r_184 (F := Ideal) c arg2 harg2 arg7 harg7 arg22 x1 x6) (View.readAt (Elt Ideal) arg8.view (Rect.unit (s := S1x8x1024x128) ![0, 5, 0, 0] S1x1x1024x128.size inb_S1x8x1024x128_S1x1x1024x128_0_5_0_0).toLoadRect (harg8.unread x7)) t l).trans
    (mem_sum x1 x6 x7 (⟨5, by omega⟩ : Fin 8) t (⟨256 + l.val, by omega⟩ : Fin 512) _ _ (mweights_at c arg2 harg2 arg7 harg7 arg22 x1 x6) (mvload5 arg8 harg8 x7) _ _
      (by (try dsimp only); omega) (by (try dsimp only); omega))

/-- A stored tile of sequence 5, head 1, over any weights and values. -/
theorem mtile5_1 (Pv : FVec Ideal S128x1024 .bf16) (V : Vec Ideal S1x1x1024x128 .f32) (t : Fin 4) (l : Fin 128) :
    (k0_pay448 (k0_pay445 Pv) V : FVec Ideal S4x128 .f32) (ix2 t l)
      = ∑ k : Fin 1024, Pv (ix2 (⟨84 + t.val, by omega⟩ : Fin 128) k) * V (ix4 0 0 k l) := by
  pointwise [k0_pay448, k0_pay445, k0_pay446]
  all_goals exact Finset.sum_congr rfl fun k _ => congr (congrArg HMul.hMul (congrArg (fun i => Pv (ix2 i k)) (Fin.ext (by (try dsimp only); omega)))) rfl

/-- What the kernel stores of sequence 5, head 1. -/
theorem M5_1 (t : Fin 4) (l : Fin 128) :
    (k0_pay448 (sl.r_198 c arg2 harg2 arg7 harg7 arg22 x1 x6) (sl.r_199 c arg8 harg8 x7) : FVec Ideal S4x128 .f32) (ix2 t l) = OM x1 x6 x7 (⟨5, by omega⟩ : Fin 8) t (⟨128 + l.val, by omega⟩ : Fin 512) :=
  (mtile5_1 (sl.r_184 (F := Ideal) c arg2 harg2 arg7 harg7 arg22 x1 x6) (View.readAt (Elt Ideal) arg8.view (Rect.unit (s := S1x8x1024x128) ![0, 5, 0, 0] S1x1x1024x128.size inb_S1x8x1024x128_S1x1x1024x128_0_5_0_0).toLoadRect (harg8.unread x7)) t l).trans
    (mem_sum x1 x6 x7 (⟨5, by omega⟩ : Fin 8) t (⟨128 + l.val, by omega⟩ : Fin 512) _ _ (mweights_at c arg2 harg2 arg7 harg7 arg22 x1 x6) (mvload5 arg8 harg8 x7) _ _
      (by (try dsimp only); omega) (by (try dsimp only); omega))

/-- A stored tile of sequence 5, head 0, over any weights and values. -/
theorem mtile5_0 (Pv : FVec Ideal S128x1024 .bf16) (V : Vec Ideal S1x1x1024x128 .f32) (t : Fin 4) (l : Fin 128) :
    (k0_pay447 (k0_pay445 Pv) V : FVec Ideal S4x128 .f32) (ix2 t l)
      = ∑ k : Fin 1024, Pv (ix2 (⟨80 + t.val, by omega⟩ : Fin 128) k) * V (ix4 0 0 k l) := by
  pointwise [k0_pay447, k0_pay445, k0_pay446]
  all_goals exact Finset.sum_congr rfl fun k _ => congr (congrArg HMul.hMul (congrArg (fun i => Pv (ix2 i k)) (Fin.ext (by (try dsimp only); omega)))) rfl

/-- What the kernel stores of sequence 5, head 0. -/
theorem M5_0 (t : Fin 4) (l : Fin 128) :
    (k0_pay447 (sl.r_198 c arg2 harg2 arg7 harg7 arg22 x1 x6) (sl.r_199 c arg8 harg8 x7) : FVec Ideal S4x128 .f32) (ix2 t l) = OM x1 x6 x7 (⟨5, by omega⟩ : Fin 8) t (⟨0 + l.val, by omega⟩ : Fin 512) :=
  (mtile5_0 (sl.r_184 (F := Ideal) c arg2 harg2 arg7 harg7 arg22 x1 x6) (View.readAt (Elt Ideal) arg8.view (Rect.unit (s := S1x8x1024x128) ![0, 5, 0, 0] S1x1x1024x128.size inb_S1x8x1024x128_S1x1x1024x128_0_5_0_0).toLoadRect (harg8.unread x7)) t l).trans
    (mem_sum x1 x6 x7 (⟨5, by omega⟩ : Fin 8) t (⟨0 + l.val, by omega⟩ : Fin 512) _ _ (mweights_at c arg2 harg2 arg7 harg7 arg22 x1 x6) (mvload5 arg8 harg8 x7) _ _
      (by (try dsimp only); omega) (by (try dsimp only); omega))

/-- A stored tile of sequence 4, head 3, over any weights and values. -/
theorem mtile4_3 (Pv : FVec Ideal S128x1024 .bf16) (V : Vec Ideal S1x1x1024x128 .f32) (t : Fin 4) (l : Fin 128) :
    (k0_pay438 (k0_pay434 Pv V) : FVec Ideal S4x128 .f32) (ix2 t l)
      = ∑ k : Fin 1024, Pv (ix2 (⟨76 + t.val, by omega⟩ : Fin 128) k) * V (ix4 0 0 k l) := by
  pointwise [k0_pay438, k0_pay434]
  all_goals exact Finset.sum_congr rfl fun k _ => congr (congrArg HMul.hMul (congrArg (fun i => Pv (ix2 i k)) (Fin.ext (by (try dsimp only); omega)))) rfl

/-- What the kernel stores of sequence 4, head 3. -/
theorem M4_3 (t : Fin 4) (l : Fin 128) :
    (k0_pay438 (sl.r_197 c arg2 harg2 arg7 harg7 arg8 harg8 arg22 x1 x6 x7) : FVec Ideal S4x128 .f32) (ix2 t l) = OM x1 x6 x7 (⟨4, by omega⟩ : Fin 8) t (⟨384 + l.val, by omega⟩ : Fin 512) :=
  (mtile4_3 (sl.r_184 (F := Ideal) c arg2 harg2 arg7 harg7 arg22 x1 x6) (View.readAt (Elt Ideal) arg8.view (Rect.unit (s := S1x8x1024x128) ![0, 4, 0, 0] S1x1x1024x128.size inb_S1x8x1024x128_S1x1x1024x128_0_4_0_0).toLoadRect (harg8.unread x7)) t l).trans
    (mem_sum x1 x6 x7 (⟨4, by omega⟩ : Fin 8) t (⟨384 + l.val, by omega⟩ : Fin 512) _ _ (mweights_at c arg2 harg2 arg7 harg7 arg22 x1 x6) (mvload4 arg8 harg8 x7) _ _
      (by (try dsimp only); omega) (by (try dsimp only); omega))

/-- A stored tile of sequence 4, head 2, over any weights and values. -/
theorem mtile4_2 (Pv : FVec Ideal S128x1024 .bf16) (V : Vec Ideal S1x1x1024x128 .f32) (t : Fin 4) (l : Fin 128) :
    (k0_pay437 (k0_pay434 Pv V) : FVec Ideal S4x128 .f32) (ix2 t l)
      = ∑ k : Fin 1024, Pv (ix2 (⟨72 + t.val, by omega⟩ : Fin 128) k) * V (ix4 0 0 k l) := by
  pointwise [k0_pay437, k0_pay434]
  all_goals exact Finset.sum_congr rfl fun k _ => congr (congrArg HMul.hMul (congrArg (fun i => Pv (ix2 i k)) (Fin.ext (by (try dsimp only); omega)))) rfl

/-- What the kernel stores of sequence 4, head 2. -/
theorem M4_2 (t : Fin 4) (l : Fin 128) :
    (k0_pay437 (sl.r_197 c arg2 harg2 arg7 harg7 arg8 harg8 arg22 x1 x6 x7) : FVec Ideal S4x128 .f32) (ix2 t l) = OM x1 x6 x7 (⟨4, by omega⟩ : Fin 8) t (⟨256 + l.val, by omega⟩ : Fin 512) :=
  (mtile4_2 (sl.r_184 (F := Ideal) c arg2 harg2 arg7 harg7 arg22 x1 x6) (View.readAt (Elt Ideal) arg8.view (Rect.unit (s := S1x8x1024x128) ![0, 4, 0, 0] S1x1x1024x128.size inb_S1x8x1024x128_S1x1x1024x128_0_4_0_0).toLoadRect (harg8.unread x7)) t l).trans
    (mem_sum x1 x6 x7 (⟨4, by omega⟩ : Fin 8) t (⟨256 + l.val, by omega⟩ : Fin 512) _ _ (mweights_at c arg2 harg2 arg7 harg7 arg22 x1 x6) (mvload4 arg8 harg8 x7) _ _
      (by (try dsimp only); omega) (by (try dsimp only); omega))

/-- A stored tile of sequence 4, head 1, over any weights and values. -/
theorem mtile4_1 (Pv : FVec Ideal S128x1024 .bf16) (V : Vec Ideal S1x1x1024x128 .f32) (t : Fin 4) (l : Fin 128) :
    (k0_pay436 (k0_pay434 Pv V) : FVec Ideal S4x128 .f32) (ix2 t l)
      = ∑ k : Fin 1024, Pv (ix2 (⟨68 + t.val, by omega⟩ : Fin 128) k) * V (ix4 0 0 k l) := by
  pointwise [k0_pay436, k0_pay434]
  all_goals exact Finset.sum_congr rfl fun k _ => congr (congrArg HMul.hMul (congrArg (fun i => Pv (ix2 i k)) (Fin.ext (by (try dsimp only); omega)))) rfl

/-- What the kernel stores of sequence 4, head 1. -/
theorem M4_1 (t : Fin 4) (l : Fin 128) :
    (k0_pay436 (sl.r_197 c arg2 harg2 arg7 harg7 arg8 harg8 arg22 x1 x6 x7) : FVec Ideal S4x128 .f32) (ix2 t l) = OM x1 x6 x7 (⟨4, by omega⟩ : Fin 8) t (⟨128 + l.val, by omega⟩ : Fin 512) :=
  (mtile4_1 (sl.r_184 (F := Ideal) c arg2 harg2 arg7 harg7 arg22 x1 x6) (View.readAt (Elt Ideal) arg8.view (Rect.unit (s := S1x8x1024x128) ![0, 4, 0, 0] S1x1x1024x128.size inb_S1x8x1024x128_S1x1x1024x128_0_4_0_0).toLoadRect (harg8.unread x7)) t l).trans
    (mem_sum x1 x6 x7 (⟨4, by omega⟩ : Fin 8) t (⟨128 + l.val, by omega⟩ : Fin 512) _ _ (mweights_at c arg2 harg2 arg7 harg7 arg22 x1 x6) (mvload4 arg8 harg8 x7) _ _
      (by (try dsimp only); omega) (by (try dsimp only); omega))

/-- A stored tile of sequence 4, head 0, over any weights and values. -/
theorem mtile4_0 (Pv : FVec Ideal S128x1024 .bf16) (V : Vec Ideal S1x1x1024x128 .f32) (t : Fin 4) (l : Fin 128) :
    (k0_pay435 Pv V : FVec Ideal S4x128 .f32) (ix2 t l)
      = ∑ k : Fin 1024, Pv (ix2 (⟨64 + t.val, by omega⟩ : Fin 128) k) * V (ix4 0 0 k l) := by
  pointwise [k0_pay435, k0_pay434]
  all_goals exact Finset.sum_congr rfl fun k _ => congr (congrArg HMul.hMul (congrArg (fun i => Pv (ix2 i k)) (Fin.ext (by (try dsimp only); omega)))) rfl

/-- What the kernel stores of sequence 4, head 0. -/
theorem M4_0 (t : Fin 4) (l : Fin 128) :
    (k0_pay435 (sl.r_184 c arg2 harg2 arg7 harg7 arg22 x1 x6) (View.readAt (Elt Ideal) arg8.view (Rect.unit (s := S1x8x1024x128) ![0, 4, 0, 0] S1x1x1024x128.size inb_S1x8x1024x128_S1x1x1024x128_0_4_0_0).toLoadRect (harg8.unread x7)) : FVec Ideal S4x128 .f32) (ix2 t l) = OM x1 x6 x7 (⟨4, by omega⟩ : Fin 8) t (⟨0 + l.val, by omega⟩ : Fin 512) :=
  (mtile4_0 (sl.r_184 (F := Ideal) c arg2 harg2 arg7 harg7 arg22 x1 x6) (View.readAt (Elt Ideal) arg8.view (Rect.unit (s := S1x8x1024x128) ![0, 4, 0, 0] S1x1x1024x128.size inb_S1x8x1024x128_S1x1x1024x128_0_4_0_0).toLoadRect (harg8.unread x7)) t l).trans
    (mem_sum x1 x6 x7 (⟨4, by omega⟩ : Fin 8) t (⟨0 + l.val, by omega⟩ : Fin 512) _ _ (mweights_at c arg2 harg2 arg7 harg7 arg22 x1 x6) (mvload4 arg8 harg8 x7) _ _
      (by (try dsimp only); omega) (by (try dsimp only); omega))

/-- A stored tile of sequence 3, head 3, over any weights and values. -/
theorem mtile3_3 (Pv : FVec Ideal S128x1024 .bf16) (V : Vec Ideal S1x1x1024x128 .f32) (t : Fin 4) (l : Fin 128) :
    (k0_pay427 (k0_pay423 Pv V) : FVec Ideal S4x128 .f32) (ix2 t l)
      = ∑ k : Fin 1024, Pv (ix2 (⟨60 + t.val, by omega⟩ : Fin 128) k) * V (ix4 0 0 k l) := by
  pointwise [k0_pay427, k0_pay423]
  all_goals exact Finset.sum_congr rfl fun k _ => congr (congrArg HMul.hMul (congrArg (fun i => Pv (ix2 i k)) (Fin.ext (by (try dsimp only); omega)))) rfl

/-- What the kernel stores of sequence 3, head 3. -/
theorem M3_3 (t : Fin 4) (l : Fin 128) :
    (k0_pay427 (sl.r_195 c arg2 harg2 arg7 harg7 arg8 harg8 arg22 x1 x6 x7) : FVec Ideal S4x128 .f32) (ix2 t l) = OM x1 x6 x7 (⟨3, by omega⟩ : Fin 8) t (⟨384 + l.val, by omega⟩ : Fin 512) :=
  (mtile3_3 (sl.r_184 (F := Ideal) c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) t l).trans
    (mem_sum x1 x6 x7 (⟨3, by omega⟩ : Fin 8) t (⟨384 + l.val, by omega⟩ : Fin 512) _ _ (mweights_at c arg2 harg2 arg7 harg7 arg22 x1 x6) (mvload3 arg8 harg8 x7) _ _
      (by (try dsimp only); omega) (by (try dsimp only); omega))

/-- A stored tile of sequence 3, head 2, over any weights and values. -/
theorem mtile3_2 (Pv : FVec Ideal S128x1024 .bf16) (V : Vec Ideal S1x1x1024x128 .f32) (t : Fin 4) (l : Fin 128) :
    (k0_pay426 Pv V : FVec Ideal S4x128 .f32) (ix2 t l)
      = ∑ k : Fin 1024, Pv (ix2 (⟨56 + t.val, by omega⟩ : Fin 128) k) * V (ix4 0 0 k l) := by
  pointwise [k0_pay426, k0_pay423]
  all_goals exact Finset.sum_congr rfl fun k _ => congr (congrArg HMul.hMul (congrArg (fun i => Pv (ix2 i k)) (Fin.ext (by (try dsimp only); omega)))) rfl

/-- What the kernel stores of sequence 3, head 2. -/
theorem M3_2 (t : Fin 4) (l : Fin 128) :
    (sl.r_196 c arg2 harg2 arg7 harg7 arg8 harg8 arg22 x1 x6 x7 : FVec Ideal S4x128 .f32) (ix2 t l) = OM x1 x6 x7 (⟨3, by omega⟩ : Fin 8) t (⟨256 + l.val, by omega⟩ : Fin 512) :=
  (mtile3_2 (sl.r_184 (F := Ideal) c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) t l).trans
    (mem_sum x1 x6 x7 (⟨3, by omega⟩ : Fin 8) t (⟨256 + l.val, by omega⟩ : Fin 512) _ _ (mweights_at c arg2 harg2 arg7 harg7 arg22 x1 x6) (mvload3 arg8 harg8 x7) _ _
      (by (try dsimp only); omega) (by (try dsimp only); omega))

/-- A stored tile of sequence 3, head 1, over any weights and values. -/
theorem mtile3_1 (Pv : FVec Ideal S128x1024 .bf16) (V : Vec Ideal S1x1x1024x128 .f32) (t : Fin 4) (l : Fin 128) :
    (k0_pay425 Pv V : FVec Ideal S4x128 .f32) (ix2 t l)
      = ∑ k : Fin 1024, Pv (ix2 (⟨52 + t.val, by omega⟩ : Fin 128) k) * V (ix4 0 0 k l) := by
  pointwise [k0_pay425, k0_pay423]
  all_goals exact Finset.sum_congr rfl fun k _ => congr (congrArg HMul.hMul (congrArg (fun i => Pv (ix2 i k)) (Fin.ext (by (try dsimp only); omega)))) rfl

/-- What the kernel stores of sequence 3, head 1. -/
theorem M3_1 (t : Fin 4) (l : Fin 128) :
    (k0_pay425 (sl.r_184 c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) : FVec Ideal S4x128 .f32) (ix2 t l) = OM x1 x6 x7 (⟨3, by omega⟩ : Fin 8) t (⟨128 + l.val, by omega⟩ : Fin 512) :=
  (mtile3_1 (sl.r_184 (F := Ideal) c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) t l).trans
    (mem_sum x1 x6 x7 (⟨3, by omega⟩ : Fin 8) t (⟨128 + l.val, by omega⟩ : Fin 512) _ _ (mweights_at c arg2 harg2 arg7 harg7 arg22 x1 x6) (mvload3 arg8 harg8 x7) _ _
      (by (try dsimp only); omega) (by (try dsimp only); omega))

/-- A stored tile of sequence 3, head 0, over any weights and values. -/
theorem mtile3_0 (Pv : FVec Ideal S128x1024 .bf16) (V : Vec Ideal S1x1x1024x128 .f32) (t : Fin 4) (l : Fin 128) :
    (k0_pay424 Pv V : FVec Ideal S4x128 .f32) (ix2 t l)
      = ∑ k : Fin 1024, Pv (ix2 (⟨48 + t.val, by omega⟩ : Fin 128) k) * V (ix4 0 0 k l) := by
  pointwise [k0_pay424, k0_pay423]
  all_goals exact Finset.sum_congr rfl fun k _ => congr (congrArg HMul.hMul (congrArg (fun i => Pv (ix2 i k)) (Fin.ext (by (try dsimp only); omega)))) rfl

/-- What the kernel stores of sequence 3, head 0. -/
theorem M3_0 (t : Fin 4) (l : Fin 128) :
    (k0_pay424 (sl.r_184 c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) : FVec Ideal S4x128 .f32) (ix2 t l) = OM x1 x6 x7 (⟨3, by omega⟩ : Fin 8) t (⟨0 + l.val, by omega⟩ : Fin 512) :=
  (mtile3_0 (sl.r_184 (F := Ideal) c arg2 harg2 arg7 harg7 arg22 x1 x6) (View.readAt (Elt Ideal) arg8.view (Rect.unit (s := S1x8x1024x128) ![0, 3, 0, 0] S1x1x1024x128.size inb_S1x8x1024x128_S1x1x1024x128_0_3_0_0).toLoadRect (harg8.unread x7)) t l).trans
    (mem_sum x1 x6 x7 (⟨3, by omega⟩ : Fin 8) t (⟨0 + l.val, by omega⟩ : Fin 512) _ _ (mweights_at c arg2 harg2 arg7 harg7 arg22 x1 x6) (mvload3 arg8 harg8 x7) _ _
      (by (try dsimp only); omega) (by (try dsimp only); omega))

/-- A stored tile of sequence 2, head 3, over any weights and values. -/
theorem mtile2_3 (Pv : FVec Ideal S128x1024 .bf16) (V : Vec Ideal S1x1x1024x128 .f32) (t : Fin 4) (l : Fin 128) :
    (k0_pay415 Pv V : FVec Ideal S4x128 .f32) (ix2 t l)
      = ∑ k : Fin 1024, Pv (ix2 (⟨44 + t.val, by omega⟩ : Fin 128) k) * V (ix4 0 0 k l) := by
  pointwise [k0_pay415, k0_pay411]
  all_goals exact Finset.sum_congr rfl fun k _ => congr (congrArg HMul.hMul (congrArg (fun i => Pv (ix2 i k)) (Fin.ext (by (try dsimp only); omega)))) rfl

/-- What the kernel stores of sequence 2, head 3. -/
theorem M2_3 (t : Fin 4) (l : Fin 128) :
    (k0_pay415 (sl.r_184 c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) : FVec Ideal S4x128 .f32) (ix2 t l) = OM x1 x6 x7 (⟨2, by omega⟩ : Fin 8) t (⟨384 + l.val, by omega⟩ : Fin 512) :=
  (mtile2_3 (sl.r_184 (F := Ideal) c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) t l).trans
    (mem_sum x1 x6 x7 (⟨2, by omega⟩ : Fin 8) t (⟨384 + l.val, by omega⟩ : Fin 512) _ _ (mweights_at c arg2 harg2 arg7 harg7 arg22 x1 x6) (mvload2 arg8 harg8 x7) _ _
      (by (try dsimp only); omega) (by (try dsimp only); omega))

/-- A stored tile of sequence 2, head 2, over any weights and values. -/
theorem mtile2_2 (Pv : FVec Ideal S128x1024 .bf16) (V : Vec Ideal S1x1x1024x128 .f32) (t : Fin 4) (l : Fin 128) :
    (k0_pay414 Pv V : FVec Ideal S4x128 .f32) (ix2 t l)
      = ∑ k : Fin 1024, Pv (ix2 (⟨40 + t.val, by omega⟩ : Fin 128) k) * V (ix4 0 0 k l) := by
  pointwise [k0_pay414, k0_pay411]
  all_goals exact Finset.sum_congr rfl fun k _ => congr (congrArg HMul.hMul (congrArg (fun i => Pv (ix2 i k)) (Fin.ext (by (try dsimp only); omega)))) rfl

/-- What the kernel stores of sequence 2, head 2. -/
theorem M2_2 (t : Fin 4) (l : Fin 128) :
    (k0_pay414 (sl.r_184 c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) : FVec Ideal S4x128 .f32) (ix2 t l) = OM x1 x6 x7 (⟨2, by omega⟩ : Fin 8) t (⟨256 + l.val, by omega⟩ : Fin 512) :=
  (mtile2_2 (sl.r_184 (F := Ideal) c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) t l).trans
    (mem_sum x1 x6 x7 (⟨2, by omega⟩ : Fin 8) t (⟨256 + l.val, by omega⟩ : Fin 512) _ _ (mweights_at c arg2 harg2 arg7 harg7 arg22 x1 x6) (mvload2 arg8 harg8 x7) _ _
      (by (try dsimp only); omega) (by (try dsimp only); omega))

/-- A stored tile of sequence 2, head 1, over any weights and values. -/
theorem mtile2_1 (Pv : FVec Ideal S128x1024 .bf16) (V : Vec Ideal S1x1x1024x128 .f32) (t : Fin 4) (l : Fin 128) :
    (k0_pay413 Pv V : FVec Ideal S4x128 .f32) (ix2 t l)
      = ∑ k : Fin 1024, Pv (ix2 (⟨36 + t.val, by omega⟩ : Fin 128) k) * V (ix4 0 0 k l) := by
  pointwise [k0_pay413, k0_pay411]
  all_goals exact Finset.sum_congr rfl fun k _ => congr (congrArg HMul.hMul (congrArg (fun i => Pv (ix2 i k)) (Fin.ext (by (try dsimp only); omega)))) rfl

/-- What the kernel stores of sequence 2, head 1. -/
theorem M2_1 (t : Fin 4) (l : Fin 128) :
    (k0_pay413 (sl.r_184 c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) : FVec Ideal S4x128 .f32) (ix2 t l) = OM x1 x6 x7 (⟨2, by omega⟩ : Fin 8) t (⟨128 + l.val, by omega⟩ : Fin 512) :=
  (mtile2_1 (sl.r_184 (F := Ideal) c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) t l).trans
    (mem_sum x1 x6 x7 (⟨2, by omega⟩ : Fin 8) t (⟨128 + l.val, by omega⟩ : Fin 512) _ _ (mweights_at c arg2 harg2 arg7 harg7 arg22 x1 x6) (mvload2 arg8 harg8 x7) _ _
      (by (try dsimp only); omega) (by (try dsimp only); omega))

/-- A stored tile of sequence 2, head 0, over any weights and values. -/
theorem mtile2_0 (Pv : FVec Ideal S128x1024 .bf16) (V : Vec Ideal S1x1x1024x128 .f32) (t : Fin 4) (l : Fin 128) :
    (k0_pay412 Pv V : FVec Ideal S4x128 .f32) (ix2 t l)
      = ∑ k : Fin 1024, Pv (ix2 (⟨32 + t.val, by omega⟩ : Fin 128) k) * V (ix4 0 0 k l) := by
  pointwise [k0_pay412, k0_pay411]
  all_goals exact Finset.sum_congr rfl fun k _ => congr (congrArg HMul.hMul (congrArg (fun i => Pv (ix2 i k)) (Fin.ext (by (try dsimp only); omega)))) rfl

/-- What the kernel stores of sequence 2, head 0. -/
theorem M2_0 (t : Fin 4) (l : Fin 128) :
    (k0_pay412 (sl.r_184 c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) : FVec Ideal S4x128 .f32) (ix2 t l) = OM x1 x6 x7 (⟨2, by omega⟩ : Fin 8) t (⟨0 + l.val, by omega⟩ : Fin 512) :=
  (mtile2_0 (sl.r_184 (F := Ideal) c arg2 harg2 arg7 harg7 arg22 x1 x6) (View.readAt (Elt Ideal) arg8.view (Rect.unit (s := S1x8x1024x128) ![0, 2, 0, 0] S1x1x1024x128.size inb_S1x8x1024x128_S1x1x1024x128_0_2_0_0).toLoadRect (harg8.unread x7)) t l).trans
    (mem_sum x1 x6 x7 (⟨2, by omega⟩ : Fin 8) t (⟨0 + l.val, by omega⟩ : Fin 512) _ _ (mweights_at c arg2 harg2 arg7 harg7 arg22 x1 x6) (mvload2 arg8 harg8 x7) _ _
      (by (try dsimp only); omega) (by (try dsimp only); omega))

/-- A stored tile of sequence 1, head 3, over any weights and values. -/
theorem mtile1_3 (Pv : FVec Ideal S128x1024 .bf16) (V : Vec Ideal S1x1x1024x128 .f32) (t : Fin 4) (l : Fin 128) :
    (k0_pay403 Pv V : FVec Ideal S4x128 .f32) (ix2 t l)
      = ∑ k : Fin 1024, Pv (ix2 (⟨28 + t.val, by omega⟩ : Fin 128) k) * V (ix4 0 0 k l) := by
  pointwise [k0_pay403, k0_pay399]
  all_goals exact Finset.sum_congr rfl fun k _ => congr (congrArg HMul.hMul (congrArg (fun i => Pv (ix2 i k)) (Fin.ext (by (try dsimp only); omega)))) rfl

/-- What the kernel stores of sequence 1, head 3. -/
theorem M1_3 (t : Fin 4) (l : Fin 128) :
    (k0_pay403 (sl.r_184 c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) : FVec Ideal S4x128 .f32) (ix2 t l) = OM x1 x6 x7 (⟨1, by omega⟩ : Fin 8) t (⟨384 + l.val, by omega⟩ : Fin 512) :=
  (mtile1_3 (sl.r_184 (F := Ideal) c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) t l).trans
    (mem_sum x1 x6 x7 (⟨1, by omega⟩ : Fin 8) t (⟨384 + l.val, by omega⟩ : Fin 512) _ _ (mweights_at c arg2 harg2 arg7 harg7 arg22 x1 x6) (mvload1 arg8 harg8 x7) _ _
      (by (try dsimp only); omega) (by (try dsimp only); omega))

/-- A stored tile of sequence 1, head 2, over any weights and values. -/
theorem mtile1_2 (Pv : FVec Ideal S128x1024 .bf16) (V : Vec Ideal S1x1x1024x128 .f32) (t : Fin 4) (l : Fin 128) :
    (k0_pay402 Pv V : FVec Ideal S4x128 .f32) (ix2 t l)
      = ∑ k : Fin 1024, Pv (ix2 (⟨24 + t.val, by omega⟩ : Fin 128) k) * V (ix4 0 0 k l) := by
  pointwise [k0_pay402, k0_pay399]
  all_goals exact Finset.sum_congr rfl fun k _ => congr (congrArg HMul.hMul (congrArg (fun i => Pv (ix2 i k)) (Fin.ext (by (try dsimp only); omega)))) rfl

/-- What the kernel stores of sequence 1, head 2. -/
theorem M1_2 (t : Fin 4) (l : Fin 128) :
    (k0_pay402 (sl.r_184 c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) : FVec Ideal S4x128 .f32) (ix2 t l) = OM x1 x6 x7 (⟨1, by omega⟩ : Fin 8) t (⟨256 + l.val, by omega⟩ : Fin 512) :=
  (mtile1_2 (sl.r_184 (F := Ideal) c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) t l).trans
    (mem_sum x1 x6 x7 (⟨1, by omega⟩ : Fin 8) t (⟨256 + l.val, by omega⟩ : Fin 512) _ _ (mweights_at c arg2 harg2 arg7 harg7 arg22 x1 x6) (mvload1 arg8 harg8 x7) _ _
      (by (try dsimp only); omega) (by (try dsimp only); omega))

/-- A stored tile of sequence 1, head 1, over any weights and values. -/
theorem mtile1_1 (Pv : FVec Ideal S128x1024 .bf16) (V : Vec Ideal S1x1x1024x128 .f32) (t : Fin 4) (l : Fin 128) :
    (k0_pay401 Pv V : FVec Ideal S4x128 .f32) (ix2 t l)
      = ∑ k : Fin 1024, Pv (ix2 (⟨20 + t.val, by omega⟩ : Fin 128) k) * V (ix4 0 0 k l) := by
  pointwise [k0_pay401, k0_pay399]
  all_goals exact Finset.sum_congr rfl fun k _ => congr (congrArg HMul.hMul (congrArg (fun i => Pv (ix2 i k)) (Fin.ext (by (try dsimp only); omega)))) rfl

/-- What the kernel stores of sequence 1, head 1. -/
theorem M1_1 (t : Fin 4) (l : Fin 128) :
    (k0_pay401 (sl.r_184 c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) : FVec Ideal S4x128 .f32) (ix2 t l) = OM x1 x6 x7 (⟨1, by omega⟩ : Fin 8) t (⟨128 + l.val, by omega⟩ : Fin 512) :=
  (mtile1_1 (sl.r_184 (F := Ideal) c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) t l).trans
    (mem_sum x1 x6 x7 (⟨1, by omega⟩ : Fin 8) t (⟨128 + l.val, by omega⟩ : Fin 512) _ _ (mweights_at c arg2 harg2 arg7 harg7 arg22 x1 x6) (mvload1 arg8 harg8 x7) _ _
      (by (try dsimp only); omega) (by (try dsimp only); omega))

/-- A stored tile of sequence 1, head 0, over any weights and values. -/
theorem mtile1_0 (Pv : FVec Ideal S128x1024 .bf16) (V : Vec Ideal S1x1x1024x128 .f32) (t : Fin 4) (l : Fin 128) :
    (k0_pay400 Pv V : FVec Ideal S4x128 .f32) (ix2 t l)
      = ∑ k : Fin 1024, Pv (ix2 (⟨16 + t.val, by omega⟩ : Fin 128) k) * V (ix4 0 0 k l) := by
  pointwise [k0_pay400, k0_pay399]
  all_goals exact Finset.sum_congr rfl fun k _ => congr (congrArg HMul.hMul (congrArg (fun i => Pv (ix2 i k)) (Fin.ext (by (try dsimp only); omega)))) rfl

/-- What the kernel stores of sequence 1, head 0. -/
theorem M1_0 (t : Fin 4) (l : Fin 128) :
    (k0_pay400 (sl.r_184 c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) : FVec Ideal S4x128 .f32) (ix2 t l) = OM x1 x6 x7 (⟨1, by omega⟩ : Fin 8) t (⟨0 + l.val, by omega⟩ : Fin 512) :=
  (mtile1_0 (sl.r_184 (F := Ideal) c arg2 harg2 arg7 harg7 arg22 x1 x6) (View.readAt (Elt Ideal) arg8.view (Rect.unit (s := S1x8x1024x128) ![0, 1, 0, 0] S1x1x1024x128.size inb_S1x8x1024x128_S1x1x1024x128_0_1_0_0).toLoadRect (harg8.unread x7)) t l).trans
    (mem_sum x1 x6 x7 (⟨1, by omega⟩ : Fin 8) t (⟨0 + l.val, by omega⟩ : Fin 512) _ _ (mweights_at c arg2 harg2 arg7 harg7 arg22 x1 x6) (mvload1 arg8 harg8 x7) _ _
      (by (try dsimp only); omega) (by (try dsimp only); omega))

/-- A stored tile of sequence 0, head 3, over any weights and values. -/
theorem mtile0_3 (Pv : FVec Ideal S128x1024 .bf16) (V : Vec Ideal S1x1x1024x128 .f32) (t : Fin 4) (l : Fin 128) :
    (k0_pay392 Pv V : FVec Ideal S4x128 .f32) (ix2 t l)
      = ∑ k : Fin 1024, Pv (ix2 (⟨12 + t.val, by omega⟩ : Fin 128) k) * V (ix4 0 0 k l) := by
  pointwise [k0_pay392, k0_pay388]
  all_goals exact Finset.sum_congr rfl fun k _ => congr (congrArg HMul.hMul (congrArg (fun i => Pv (ix2 i k)) (Fin.ext (by (try dsimp only); omega)))) rfl

/-- What the kernel stores of sequence 0, head 3. -/
theorem M0_3 (t : Fin 4) (l : Fin 128) :
    (k0_pay392 (sl.r_184 c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) : FVec Ideal S4x128 .f32) (ix2 t l) = OM x1 x6 x7 (⟨0, by omega⟩ : Fin 8) t (⟨384 + l.val, by omega⟩ : Fin 512) :=
  (mtile0_3 (sl.r_184 (F := Ideal) c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) t l).trans
    (mem_sum x1 x6 x7 (⟨0, by omega⟩ : Fin 8) t (⟨384 + l.val, by omega⟩ : Fin 512) _ _ (mweights_at c arg2 harg2 arg7 harg7 arg22 x1 x6) (mvload0 arg8 harg8 x7) _ _
      (by (try dsimp only); omega) (by (try dsimp only); omega))

/-- A stored tile of sequence 0, head 2, over any weights and values. -/
theorem mtile0_2 (Pv : FVec Ideal S128x1024 .bf16) (V : Vec Ideal S1x1x1024x128 .f32) (t : Fin 4) (l : Fin 128) :
    (k0_pay391 Pv V : FVec Ideal S4x128 .f32) (ix2 t l)
      = ∑ k : Fin 1024, Pv (ix2 (⟨8 + t.val, by omega⟩ : Fin 128) k) * V (ix4 0 0 k l) := by
  pointwise [k0_pay391, k0_pay388]
  all_goals exact Finset.sum_congr rfl fun k _ => congr (congrArg HMul.hMul (congrArg (fun i => Pv (ix2 i k)) (Fin.ext (by (try dsimp only); omega)))) rfl

/-- What the kernel stores of sequence 0, head 2. -/
theorem M0_2 (t : Fin 4) (l : Fin 128) :
    (k0_pay391 (sl.r_184 c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) : FVec Ideal S4x128 .f32) (ix2 t l) = OM x1 x6 x7 (⟨0, by omega⟩ : Fin 8) t (⟨256 + l.val, by omega⟩ : Fin 512) :=
  (mtile0_2 (sl.r_184 (F := Ideal) c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) t l).trans
    (mem_sum x1 x6 x7 (⟨0, by omega⟩ : Fin 8) t (⟨256 + l.val, by omega⟩ : Fin 512) _ _ (mweights_at c arg2 harg2 arg7 harg7 arg22 x1 x6) (mvload0 arg8 harg8 x7) _ _
      (by (try dsimp only); omega) (by (try dsimp only); omega))

/-- A stored tile of sequence 0, head 1, over any weights and values. -/
theorem mtile0_1 (Pv : FVec Ideal S128x1024 .bf16) (V : Vec Ideal S1x1x1024x128 .f32) (t : Fin 4) (l : Fin 128) :
    (k0_pay390 Pv V : FVec Ideal S4x128 .f32) (ix2 t l)
      = ∑ k : Fin 1024, Pv (ix2 (⟨4 + t.val, by omega⟩ : Fin 128) k) * V (ix4 0 0 k l) := by
  pointwise [k0_pay390, k0_pay388]
  all_goals exact Finset.sum_congr rfl fun k _ => congr (congrArg HMul.hMul (congrArg (fun i => Pv (ix2 i k)) (Fin.ext (by (try dsimp only); omega)))) rfl

/-- What the kernel stores of sequence 0, head 1. -/
theorem M0_1 (t : Fin 4) (l : Fin 128) :
    (k0_pay390 (sl.r_184 c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) : FVec Ideal S4x128 .f32) (ix2 t l) = OM x1 x6 x7 (⟨0, by omega⟩ : Fin 8) t (⟨128 + l.val, by omega⟩ : Fin 512) :=
  (mtile0_1 (sl.r_184 (F := Ideal) c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) t l).trans
    (mem_sum x1 x6 x7 (⟨0, by omega⟩ : Fin 8) t (⟨128 + l.val, by omega⟩ : Fin 512) _ _ (mweights_at c arg2 harg2 arg7 harg7 arg22 x1 x6) (mvload0 arg8 harg8 x7) _ _
      (by (try dsimp only); omega) (by (try dsimp only); omega))

/-- A stored tile of sequence 0, head 0, over any weights and values. -/
theorem mtile0_0 (Pv : FVec Ideal S128x1024 .bf16) (V : Vec Ideal S1x1x1024x128 .f32) (t : Fin 4) (l : Fin 128) :
    (k0_pay389 Pv V : FVec Ideal S4x128 .f32) (ix2 t l)
      = ∑ k : Fin 1024, Pv (ix2 (⟨0 + t.val, by omega⟩ : Fin 128) k) * V (ix4 0 0 k l) := by
  pointwise [k0_pay389, k0_pay388]
  all_goals exact Finset.sum_congr rfl fun k _ => congr (congrArg HMul.hMul (congrArg (fun i => Pv (ix2 i k)) (Fin.ext (by (try dsimp only); omega)))) rfl

/-- What the kernel stores of sequence 0, head 0. -/
theorem M0_0 (t : Fin 4) (l : Fin 128) :
    (k0_pay389 (sl.r_184 c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) : FVec Ideal S4x128 .f32) (ix2 t l) = OM x1 x6 x7 (⟨0, by omega⟩ : Fin 8) t (⟨0 + l.val, by omega⟩ : Fin 512) :=
  (mtile0_0 (sl.r_184 (F := Ideal) c arg2 harg2 arg7 harg7 arg22 x1 x6) (View.readAt (Elt Ideal) arg8.view (Rect.unit (s := S1x8x1024x128) ![0, 0, 0, 0] S1x1x1024x128.size inb_S1x8x1024x128_S1x1x1024x128_0_0_0_0).toLoadRect (harg8.unread x7)) t l).trans
    (mem_sum x1 x6 x7 (⟨0, by omega⟩ : Fin 8) t (⟨0 + l.val, by omega⟩ : Fin 512) _ _ (mweights_at c arg2 harg2 arg7 harg7 arg22 x1 x6) (mvload0 arg8 harg8 x7) _ _
      (by (try dsimp only); omega) (by (try dsimp only); omega))

end Cert.MixerIdeal.Tie

end
-- ==== Proof.MixerOut.lean ====
/-
  The block of the mix that the sample mixers leave, read at an index: the four mixers side by side.
-/
module

public import proofs.«01_k».proof.Proof.MixerPool
public import proofs.«01_k».proof.Proof.MixerConv
public import proofs.«01_k».proof.Proof.MixerSwaOut
public import proofs.«01_k».proof.Proof.MixerMem

@[expose] public section

set_option maxRecDepth 16384

noncomputable section

open Idealize.ShloMosaic Idealize.ShloMosaic.TcCoe Idealize.SL.Sem

namespace Cert.MixerIdeal.Tie

open Cert.MixerIdeal Cert.MixerIdeal.Gen

/-- The block of the mix, as a function of the row and the column. -/
def E11 (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (r : Fin 32) (k : Fin 2048) : EReal :=
  if k.val < 128 then OP0 x1 x2 x8 x9 (⟨r.val / 4, by omega⟩ : Fin 8) (⟨r.val % 4, by omega⟩ : Fin 4) (⟨k.val % 128, by omega⟩ : Fin 128)
  else if k.val < 256 then OP1 x1 x2 x8 x9 (⟨r.val / 4, by omega⟩ : Fin 8) (⟨r.val % 4, by omega⟩ : Fin 4) (⟨k.val % 128, by omega⟩ : Fin 128)
  else if k.val < 384 then OP2 x1 x2 x8 x9 (⟨r.val / 4, by omega⟩ : Fin 8) (⟨r.val % 4, by omega⟩ : Fin 4) (⟨k.val % 128, by omega⟩ : Fin 128)
  else if k.val < 512 then OP3 x1 x2 x8 x9 (⟨r.val / 4, by omega⟩ : Fin 8) (⟨r.val % 4, by omega⟩ : Fin 4) (⟨k.val % 128, by omega⟩ : Fin 128)
  else if k.val < 1024 then OC x1 x3 x10 (⟨r.val / 4, by omega⟩ : Fin 8) (⟨r.val % 4, by omega⟩ : Fin 4) (⟨k.val % 512, by omega⟩ : Fin 512)
  else if k.val < 1536 then OS x0 x1 x4 x5 (⟨r.val / 4, by omega⟩ : Fin 8) (⟨r.val % 4, by omega⟩ : Fin 4) (⟨k.val % 512, by omega⟩ : Fin 512)
  else OM x1 x6 x7 (⟨r.val / 4, by omega⟩ : Fin 8) (⟨r.val % 4, by omega⟩ : Fin 4) (⟨k.val % 512, by omega⟩ : Fin 512)

/-- The columns of the means of group 0. -/
theorem E11_pool0 (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (l : Fin 128) (r : Fin 32) (k : Fin 2048) (hk : k.val = 0 + l.val) :
    E11 x0 x1 x2 x3 x4 x5 x6 x7 x8 x9 x10 r k = OP0 x1 x2 x8 x9 (⟨r.val / 4, by omega⟩ : Fin 8) (⟨r.val % 4, by omega⟩ : Fin 4) l := by
  unfold E11
  rw [if_pos (by omega)]
  exact congrArg _ (Fin.ext (by (try dsimp only); omega))

/-- The columns of the means of group 1. -/
theorem E11_pool1 (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (l : Fin 128) (r : Fin 32) (k : Fin 2048) (hk : k.val = 128 + l.val) :
    E11 x0 x1 x2 x3 x4 x5 x6 x7 x8 x9 x10 r k = OP1 x1 x2 x8 x9 (⟨r.val / 4, by omega⟩ : Fin 8) (⟨r.val % 4, by omega⟩ : Fin 4) l := by
  unfold E11
  rw [if_neg (by omega)]
  rw [if_pos (by omega)]
  exact congrArg _ (Fin.ext (by (try dsimp only); omega))

/-- The columns of the means of group 2. -/
theorem E11_pool2 (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (l : Fin 128) (r : Fin 32) (k : Fin 2048) (hk : k.val = 256 + l.val) :
    E11 x0 x1 x2 x3 x4 x5 x6 x7 x8 x9 x10 r k = OP2 x1 x2 x8 x9 (⟨r.val / 4, by omega⟩ : Fin 8) (⟨r.val % 4, by omega⟩ : Fin 4) l := by
  unfold E11
  rw [if_neg (by omega)]
  rw [if_neg (by omega)]
  rw [if_pos (by omega)]
  exact congrArg _ (Fin.ext (by (try dsimp only); omega))

/-- The columns of the means of group 3. -/
theorem E11_pool3 (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (l : Fin 128) (r : Fin 32) (k : Fin 2048) (hk : k.val = 384 + l.val) :
    E11 x0 x1 x2 x3 x4 x5 x6 x7 x8 x9 x10 r k = OP3 x1 x2 x8 x9 (⟨r.val / 4, by omega⟩ : Fin 8) (⟨r.val % 4, by omega⟩ : Fin 4) l := by
  unfold E11
  rw [if_neg (by omega)]
  rw [if_neg (by omega)]
  rw [if_neg (by omega)]
  rw [if_pos (by omega)]
  exact congrArg _ (Fin.ext (by (try dsimp only); omega))

/-- The columns of the next mixer. -/
theorem E11_conv (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (b : Fin 8) (t : Fin 4) (l : Fin 512) (r : Fin 32) (k : Fin 2048) (hr : r.val = 4 * b.val + t.val) (hk : k.val = 512 + l.val) :
    E11 x0 x1 x2 x3 x4 x5 x6 x7 x8 x9 x10 r k = OC x1 x3 x10 b t l := by
  unfold E11
  rw [if_neg (by omega)]
  rw [if_neg (by omega)]
  rw [if_neg (by omega)]
  rw [if_neg (by omega)]
  rw [if_pos (by omega)]
  exact congr (congr (congrArg _ (Fin.ext (by (try dsimp only); omega))) (Fin.ext (by (try dsimp only); omega))) (Fin.ext (by (try dsimp only); omega))

/-- The columns of the next mixer. -/
theorem E11_swa (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (b : Fin 8) (t : Fin 4) (l : Fin 512) (r : Fin 32) (k : Fin 2048) (hr : r.val = 4 * b.val + t.val) (hk : k.val = 1024 + l.val) :
    E11 x0 x1 x2 x3 x4 x5 x6 x7 x8 x9 x10 r k = OS x0 x1 x4 x5 b t l := by
  unfold E11
  rw [if_neg (by omega)]
  rw [if_neg (by omega)]
  rw [if_neg (by omega)]
  rw [if_neg (by omega)]
  rw [if_neg (by omega)]
  rw [if_pos (by omega)]
  exact congr (congr (congrArg _ (Fin.ext (by (try dsimp only); omega))) (Fin.ext (by (try dsimp only); omega))) (Fin.ext (by (try dsimp only); omega))

/-- The columns of the next mixer. -/
theorem E11_mem (x0 : Vec Ideal S2x8 .f32) (x1 : Vec Ideal S32x3328 .f32) (x2 : Vec Ideal S1x8x15x512 .f32) (x3 : Vec Ideal S1x8x2x512 .f32) (x4 x5 : Vec Ideal S1x8x128x128 .f32) (x6 x7 : Vec Ideal S1x8x1024x128 .f32) (x8 : Vec Ideal S1x4x128x128 .bf16) (x9 : Vec Ideal S1x1x512 .f32) (x10 : Vec Ideal S1x3x512 .f32) (b : Fin 8) (t : Fin 4) (l : Fin 512) (r : Fin 32) (k : Fin 2048) (hr : r.val = 4 * b.val + t.val) (hk : k.val = 1536 + l.val) :
    E11 x0 x1 x2 x3 x4 x5 x6 x7 x8 x9 x10 r k = OM x1 x6 x7 b t l := by
  unfold E11
  rw [if_neg (by omega)]
  rw [if_neg (by omega)]
  rw [if_neg (by omega)]
  rw [if_neg (by omega)]
  rw [if_neg (by omega)]
  rw [if_neg (by omega)]
  exact congr (congr (congrArg _ (Fin.ext (by (try dsimp only); omega))) (Fin.ext (by (try dsimp only); omega))) (Fin.ext (by (try dsimp only); omega))

/-- A store of a tile of the block agrees with `E` when its payload does. -/
theorem out_piece {h w r0 c0 : Nat} (inb : ∀ a, (![r0, c0] : Fin 2 → Nat) a + (![h, w] : Fin 2 → Nat) a ≤ (⟨2, ![32, 2048]⟩ : Shape).size a)
    (pay : Shape.Idx ⟨2, ![h, w]⟩ → Elt Ideal .f32) (E : Fin 32 → Fin 2048 → EReal)
    (hE : ∀ (t : Fin h) (l : Fin w) (hr : r0 + t.val < 32) (hc : c0 + l.val < 2048), pay (ix2 t l) = E ⟨r0 + t.val, hr⟩ ⟨c0 + l.val, hc⟩) :
    ∀ x, (⟨Rect.unit (s := ⟨2, ![32, 2048]⟩) ![r0, c0] ![h, w] inb, pay⟩ : View.Piece (Elt Ideal) ⟨2, ![32, 2048]⟩ .f32).2 x
      = (fun y : Shape.Idx ⟨2, ![32, 2048]⟩ => E (y 0) (y 1)) ((Rect.unit (s := ⟨2, ![32, 2048]⟩) ![r0, c0] ![h, w] inb).emb x) := by
  intro x
  obtain ⟨t, l, rfl⟩ := ix2_cases (a := h) (b := w) x
  have i0 : r0 + h ≤ 32 := inb 0
  have i1 : c0 + w ≤ 2048 := inb 1
  refine (hE t l (by omega) (by omega)).trans ?_
  refine congr (congrArg E (Fin.ext ?_)) (Fin.ext ?_)
  · show r0 + t.val = r0 + 1 * t.val; omega
  · show c0 + l.val = c0 + 1 * l.val; omega

variable (c : Dev nD) (i : grid0.Coords) (arg1 : Memref sig .tc .smem S2x8 .f32) (harg1 : arg1.IsWhole) (arg2 : Memref sig .tc .vmem S32x3328 .f32) (harg2 : arg2.IsWhole) (arg3 : Memref sig .tc .vmem S1x8x15x512 .f32) (harg3 : arg3.IsWhole) (arg4 : Memref sig .tc .vmem S1x8x2x512 .f32) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x1024x128 .f32) (harg7 : arg7.IsWhole) (arg8 : Memref sig .tc .vmem S1x8x1024x128 .f32) (harg8 : arg8.IsWhole) (arg9 : Memref sig .tc .vmem S1x4x128x128 .bf16) (harg9 : arg9.IsWhole) (arg10 : Memref sig .tc .vmem S1x1x512 .f32) (harg10 : arg10.IsWhole) (arg11 : Memref sig .tc .vmem S1x3x512 .f32) (harg11 : arg11.IsWhole) (arg12 : Memref sig .tc .vmem S32x2048 .f32) (harg12 : arg12.IsWhole) (arg13 : Memref sig .tc .vmem S2x8x15x512 .f32) (harg13 : arg13.IsWhole) (arg14 : Memref sig .tc .vmem S2x8x2x512 .f32) (harg14 : arg14.IsWhole) (arg15 : Memref sig .tc .vmem S2x8x128x128 .f32) (harg15 : arg15.IsWhole) (arg16 : Memref sig .tc .vmem S2x8x128x128 .f32) (harg16 : arg16.IsWhole) (arg17 : Memref sig .tc .vmem S8x24x512 .f32) (harg17 : arg17.IsWhole) (arg18 : Memref sig .tc .vmem S8x16x512 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x32x128 .f32) (harg21 : arg21.IsWhole) (arg22 : Memref sig .tc .vmem S8x16x128 .f32) (harg22 : arg22.IsWhole) (x0 : Vec Ideal S2x8 .f32) (x1 : Vec Ideal S32x3328 .f32) (x2 : Vec Ideal S1x8x15x512 .f32) (x3 : Vec Ideal S1x8x2x512 .f32) (x4 : Vec Ideal S1x8x128x128 .f32) (x5 : Vec Ideal S1x8x128x128 .f32) (x6 : Vec Ideal S1x8x1024x128 .f32) (x7 : Vec Ideal S1x8x1024x128 .f32) (x8 : Vec Ideal S1x4x128x128 .bf16) (x9 : Vec Ideal S1x1x512 .f32) (x10 : Vec Ideal S1x3x512 .f32)

set_option maxHeartbeats 4000000 in
/-- Every store of the mix holds the values said, -/
theorem E11_pieces : View.PiecesOf (fun y => E11 x0 x1 x2 x3 x4 x5 x6 x7 x8 x9 x10 (y 0) (y 1)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact out_piece (h := 4) (w := 128) (r0 := 28) (c0 := 1920) _ _ (E11 x0 x1 x2 x3 x4 x5 x6 x7 x8 x9 x10) (fun t l hr hc => (M7_3 c arg2 harg2 arg7 harg7 arg8 harg8 arg22 x1 x6 x7 t l).trans (E11_mem x0 x1 x2 x3 x4 x5 x6 x7 x8 x9 x10 (⟨7, by omega⟩ : Fin 8) t (⟨384 + l.val, by omega⟩ : Fin 512) _ _ (by (try dsimp only) <;> omega) (by (try dsimp only) <;> omega)).symm)
  · exact out_piece (h := 4) (w := 128) (r0 := 28) (c0 := 1792) _ _ (E11 x0 x1 x2 x3 x4 x5 x6 x7 x8 x9 x10) (fun t l hr hc => (M7_2 c arg2 harg2 arg7 harg7 arg8 harg8 arg22 x1 x6 x7 t l).trans (E11_mem x0 x1 x2 x3 x4 x5 x6 x7 x8 x9 x10 (⟨7, by omega⟩ : Fin 8) t (⟨256 + l.val, by omega⟩ : Fin 512) _ _ (by (try dsimp only) <;> omega) (by (try dsimp only) <;> omega)).symm)
  · exact out_piece (h := 4) (w := 128) (r0 := 28) (c0 := 1664) _ _ (E11 x0 x1 x2 x3 x4 x5 x6 x7 x8 x9 x10) (fun t l hr hc => (M7_1 c arg2 harg2 arg7 harg7 arg8 harg8 arg22 x1 x6 x7 t l).trans (E11_mem x0 x1 x2 x3 x4 x5 x6 x7 x8 x9 x10 (⟨7, by omega⟩ : Fin 8) t (⟨128 + l.val, by omega⟩ : Fin 512) _ _ (by (try dsimp only) <;> omega) (by (try dsimp only) <;> omega)).symm)
  · exact out_piece (h := 4) (w := 128) (r0 := 28) (c0 := 1536) _ _ (E11 x0 x1 x2 x3 x4 x5 x6 x7 x8 x9 x10) (fun t l hr hc => (M7_0 c arg2 harg2 arg7 harg7 arg8 harg8 arg22 x1 x6 x7 t l).trans (E11_mem x0 x1 x2 x3 x4 x5 x6 x7 x8 x9 x10 (⟨7, by omega⟩ : Fin 8) t (⟨0 + l.val, by omega⟩ : Fin 512) _ _ (by (try dsimp only) <;> omega) (by (try dsimp only) <;> omega)).symm)
  · exact out_piece (h := 4) (w := 128) (r0 := 28) (c0 := 1408) _ _ (E11 x0 x1 x2 x3 x4 x5 x6 x7 x8 x9 x10) (fun t l hr hc => (S7_3 c arg1 harg1 arg2 harg2 arg5 harg5 arg6 harg6 arg19 arg20 arg21 x0 x1 x4 x5 t l).trans (E11_swa x0 x1 x2 x3 x4 x5 x6 x7 x8 x9 x10 (⟨7, by omega⟩ : Fin 8) t (⟨384 + l.val, by omega⟩ : Fin 512) _ _ (by (try dsimp only) <;> omega) (by (try dsimp only) <;> omega)).symm)
  · exact out_piece (h := 4) (w := 128) (r0 := 28) (c0 := 1280) _ _ (E11 x0 x1 x2 x3 x4 x5 x6 x7 x8 x9 x10) (fun t l hr hc => (S7_2 c arg1 harg1 arg2 harg2 arg5 harg5 arg6 harg6 arg19 arg20 arg21 x0 x1 x4 x5 t l).trans (E11_swa x0 x1 x2 x3 x4 x5 x6 x7 x8 x9 x10 (⟨7, by omega⟩ : Fin 8) t (⟨256 + l.val, by omega⟩ : Fin 512) _ _ (by (try dsimp only) <;> omega) (by (try dsimp only) <;> omega)).symm)
  · exact out_piece (h := 4) (w := 128) (r0 := 28) (c0 := 1152) _ _ (E11 x0 x1 x2 x3 x4 x5 x6 x7 x8 x9 x10) (fun t l hr hc => (S7_1 c arg1 harg1 arg2 harg2 arg5 harg5 arg6 harg6 arg19 arg20 arg21 x0 x1 x4 x5 t l).trans (E11_swa x0 x1 x2 x3 x4 x5 x6 x7 x8 x9 x10 (⟨7, by omega⟩ : Fin 8) t (⟨128 + l.val, by omega⟩ : Fin 512) _ _ (by (try dsimp only) <;> omega) (by (try dsimp only) <;> omega)).symm)
  · exact out_piece (h := 4) (w := 128) (r0 := 28) (c0 := 1024) _ _ (E11 x0 x1 x2 x3 x4 x5 x6 x7 x8 x9 x10) (fun t l hr hc => (S7_0 c arg1 harg1 arg2 harg2 arg5 harg5 arg6 harg6 arg19 arg20 arg21 x0 x1 x4 x5 t l).trans (E11_swa x0 x1 x2 x3 x4 x5 x6 x7 x8 x9 x10 (⟨7, by omega⟩ : Fin 8) t (⟨0 + l.val, by omega⟩ : Fin 512) _ _ (by (try dsimp only) <;> omega) (by (try dsimp only) <;> omega)).symm)
  · exact out_piece (h := 4) (w := 128) (r0 := 24) (c0 := 1920) _ _ (E11 x0 x1 x2 x3 x4 x5 x6 x7 x8 x9 x10) (fun t l hr hc => (M6_3 c arg2 harg2 arg7 harg7 arg8 harg8 arg22 x1 x6 x7 t l).trans (E11_mem x0 x1 x2 x3 x4 x5 x6 x7 x8 x9 x10 (⟨6, by omega⟩ : Fin 8) t (⟨384 + l.val, by omega⟩ : Fin 512) _ _ (by (try dsimp only) <;> omega) (by (try dsimp only) <;> omega)).symm)
  · exact out_piece (h := 4) (w := 128) (r0 := 24) (c0 := 1792) _ _ (E11 x0 x1 x2 x3 x4 x5 x6 x7 x8 x9 x10) (fun t l hr hc => (M6_2 c arg2 harg2 arg7 harg7 arg8 harg8 arg22 x1 x6 x7 t l).trans (E11_mem x0 x1 x2 x3 x4 x5 x6 x7 x8 x9 x10 (⟨6, by omega⟩ : Fin 8) t (⟨256 + l.val, by omega⟩ : Fin 512) _ _ (by (try dsimp only) <;> omega) (by (try dsimp only) <;> omega)).symm)
  · exact out_piece (h := 4) (w := 128) (r0 := 24) (c0 := 1664) _ _ (E11 x0 x1 x2 x3 x4 x5 x6 x7 x8 x9 x10) (fun t l hr hc => (M6_1 c arg2 harg2 arg7 harg7 arg8 harg8 arg22 x1 x6 x7 t l).trans (E11_mem x0 x1 x2 x3 x4 x5 x6 x7 x8 x9 x10 (⟨6, by omega⟩ : Fin 8) t (⟨128 + l.val, by omega⟩ : Fin 512) _ _ (by (try dsimp only) <;> omega) (by (try dsimp only) <;> omega)).symm)
  · exact out_piece (h := 4) (w := 128) (r0 := 24) (c0 := 1536) _ _ (E11 x0 x1 x2 x3 x4 x5 x6 x7 x8 x9 x10) (fun t l hr hc => (M6_0 c arg2 harg2 arg7 harg7 arg8 harg8 arg22 x1 x6 x7 t l).trans (E11_mem x0 x1 x2 x3 x4 x5 x6 x7 x8 x9 x10 (⟨6, by omega⟩ : Fin 8) t (⟨0 + l.val, by omega⟩ : Fin 512) _ _ (by (try dsimp only) <;> omega) (by (try dsimp only) <;> omega)).symm)
  · exact out_piece (h := 4) (w := 128) (r0 := 24) (c0 := 1408) _ _ (E11 x0 x1 x2 x3 x4 x5 x6 x7 x8 x9 x10) (fun t l hr hc => (S6_3 c arg1 harg1 arg2 harg2 arg5 harg5 arg6 harg6 arg19 arg20 arg21 x0 x1 x4 x5 t l).trans (E11_swa x0 x1 x2 x3 x4 x5 x6 x7 x8 x9 x10 (⟨6, by omega⟩ : Fin 8) t (⟨384 + l.val, by omega⟩ : Fin 512) _ _ (by (try dsimp only) <;> omega) (by (try dsimp only) <;> omega)).symm)
  · exact out_piece (h := 4) (w := 128) (r0 := 24) (c0 := 1280) _ _ (E11 x0 x1 x2 x3 x4 x5 x6 x7 x8 x9 x10) (fun t l hr hc => (S6_2 c arg1 harg1 arg2 harg2 arg5 harg5 arg6 harg6 arg19 arg20 arg21 x0 x1 x4 x5 t l).trans (E11_swa x0 x1 x2 x3 x4 x5 x6 x7 x8 x9 x10 (⟨6, by omega⟩ : Fin 8) t (⟨256 + l.val, by omega⟩ : Fin 512) _ _ (by (try dsimp only) <;> omega) (by (try dsimp only) <;> omega)).symm)
  · exact out_piece (h := 4) (w := 128) (r0 := 24) (c0 := 1152) _ _ (E11 x0 x1 x2 x3 x4 x5 x6 x7 x8 x9 x10) (fun t l hr hc => (S6_1 c arg1 harg1 arg2 harg2 arg5 harg5 arg6 harg6 arg19 arg20 arg21 x0 x1 x4 x5 t l).trans (E11_swa x0 x1 x2 x3 x4 x5 x6 x7 x8 x9 x10 (⟨6, by omega⟩ : Fin 8) t (⟨128 + l.val, by omega⟩ : Fin 512) _ _ (by (try dsimp only) <;> omega) (by (try dsimp only) <;> omega)).symm)
  · exact out_piece (h := 4) (w := 128) (r0 := 24) (c0 := 1024) _ _ (E11 x0 x1 x2 x3 x4 x5 x6 x7 x8 x9 x10) (fun t l hr hc => (S6_0 c arg1 harg1 arg2 harg2 arg5 harg5 arg6 harg6 arg19 arg20 arg21 x0 x1 x4 x5 t l).trans (E11_swa x0 x1 x2 x3 x4 x5 x6 x7 x8 x9 x10 (⟨6, by omega⟩ : Fin 8) t (⟨0 + l.val, by omega⟩ : Fin 512) _ _ (by (try dsimp only) <;> omega) (by (try dsimp only) <;> omega)).symm)
  · exact out_piece (h := 4) (w := 128) (r0 := 20) (c0 := 1920) _ _ (E11 x0 x1 x2 x3 x4 x5 x6 x7 x8 x9 x10) (fun t l hr hc => (M5_3 c arg2 harg2 arg7 harg7 arg8 harg8 arg22 x1 x6 x7 t l).trans (E11_mem x0 x1 x2 x3 x4 x5 x6 x7 x8 x9 x10 (⟨5, by omega⟩ : Fin 8) t (⟨384 + l.val, by omega⟩ : Fin 512) _ _ (by (try dsimp only) <;> omega) (by (try dsimp only) <;> omega)).symm)
  · exact out_piece (h := 4) (w := 128) (r0 := 20) (c0 := 1792) _ _ (E11 x0 x1 x2 x3 x4 x5 x6 x7 x8 x9 x10) (fun t l hr hc => (M5_2 c arg2 harg2 arg7 harg7 arg8 harg8 arg22 x1 x6 x7 t l).trans (E11_mem x0 x1 x2 x3 x4 x5 x6 x7 x8 x9 x10 (⟨5, by omega⟩ : Fin 8) t (⟨256 + l.val, by omega⟩ : Fin 512) _ _ (by (try dsimp only) <;> omega) (by (try dsimp only) <;> omega)).symm)
  · exact out_piece (h := 4) (w := 128) (r0 := 20) (c0 := 1664) _ _ (E11 x0 x1 x2 x3 x4 x5 x6 x7 x8 x9 x10) (fun t l hr hc => (M5_1 c arg2 harg2 arg7 harg7 arg8 harg8 arg22 x1 x6 x7 t l).trans (E11_mem x0 x1 x2 x3 x4 x5 x6 x7 x8 x9 x10 (⟨5, by omega⟩ : Fin 8) t (⟨128 + l.val, by omega⟩ : Fin 512) _ _ (by (try dsimp only) <;> omega) (by (try dsimp only) <;> omega)).symm)
  · exact out_piece (h := 4) (w := 128) (r0 := 20) (c0 := 1536) _ _ (E11 x0 x1 x2 x3 x4 x5 x6 x7 x8 x9 x10) (fun t l hr hc => (M5_0 c arg2 harg2 arg7 harg7 arg8 harg8 arg22 x1 x6 x7 t l).trans (E11_mem x0 x1 x2 x3 x4 x5 x6 x7 x8 x9 x10 (⟨5, by omega⟩ : Fin 8) t (⟨0 + l.val, by omega⟩ : Fin 512) _ _ (by (try dsimp only) <;> omega) (by (try dsimp only) <;> omega)).symm)
  · exact out_piece (h := 4) (w := 128) (r0 := 20) (c0 := 1408) _ _ (E11 x0 x1 x2 x3 x4 x5 x6 x7 x8 x9 x10) (fun t l hr hc => (S5_3 c arg1 harg1 arg2 harg2 arg5 harg5 arg6 harg6 arg19 arg20 arg21 x0 x1 x4 x5 t l).trans (E11_swa x0 x1 x2 x3 x4 x5 x6 x7 x8 x9 x10 (⟨5, by omega⟩ : Fin 8) t (⟨384 + l.val, by omega⟩ : Fin 512) _ _ (by (try dsimp only) <;> omega) (by (try dsimp only) <;> omega)).symm)
  · exact out_piece (h := 4) (w := 128) (r0 := 20) (c0 := 1280) _ _ (E11 x0 x1 x2 x3 x4 x5 x6 x7 x8 x9 x10) (fun t l hr hc => (S5_2 c arg1 harg1 arg2 harg2 arg5 harg5 arg6 harg6 arg19 arg20 arg21 x0 x1 x4 x5 t l).trans (E11_swa x0 x1 x2 x3 x4 x5 x6 x7 x8 x9 x10 (⟨5, by omega⟩ : Fin 8) t (⟨256 + l.val, by omega⟩ : Fin 512) _ _ (by (try dsimp only) <;> omega) (by (try dsimp only) <;> omega)).symm)
  · exact out_piece (h := 4) (w := 128) (r0 := 20) (c0 := 1152) _ _ (E11 x0 x1 x2 x3 x4 x5 x6 x7 x8 x9 x10) (fun t l hr hc => (S5_1 c arg1 harg1 arg2 harg2 arg5 harg5 arg6 harg6 arg19 arg20 arg21 x0 x1 x4 x5 t l).trans (E11_swa x0 x1 x2 x3 x4 x5 x6 x7 x8 x9 x10 (⟨5, by omega⟩ : Fin 8) t (⟨128 + l.val, by omega⟩ : Fin 512) _ _ (by (try dsimp only) <;> omega) (by (try dsimp only) <;> omega)).symm)
  · exact out_piece (h := 4) (w := 128) (r0 := 20) (c0 := 1024) _ _ (E11 x0 x1 x2 x3 x4 x5 x6 x7 x8 x9 x10) (fun t l hr hc => (S5_0 c arg1 harg1 arg2 harg2 arg5 harg5 arg6 harg6 arg19 arg20 arg21 x0 x1 x4 x5 t l).trans (E11_swa x0 x1 x2 x3 x4 x5 x6 x7 x8 x9 x10 (⟨5, by omega⟩ : Fin 8) t (⟨0 + l.val, by omega⟩ : Fin 512) _ _ (by (try dsimp only) <;> omega) (by (try dsimp only) <;> omega)).symm)
  · exact out_piece (h := 4) (w := 128) (r0 := 16) (c0 := 1920) _ _ (E11 x0 x1 x2 x3 x4 x5 x6 x7 x8 x9 x10) (fun t l hr hc => (M4_3 c arg2 harg2 arg7 harg7 arg8 harg8 arg22 x1 x6 x7 t l).trans (E11_mem x0 x1 x2 x3 x4 x5 x6 x7 x8 x9 x10 (⟨4, by omega⟩ : Fin 8) t (⟨384 + l.val, by omega⟩ : Fin 512) _ _ (by (try dsimp only) <;> omega) (by (try dsimp only) <;> omega)).symm)
  · exact out_piece (h := 4) (w := 128) (r0 := 16) (c0 := 1792) _ _ (E11 x0 x1 x2 x3 x4 x5 x6 x7 x8 x9 x10) (fun t l hr hc => (M4_2 c arg2 harg2 arg7 harg7 arg8 harg8 arg22 x1 x6 x7 t l).trans (E11_mem x0 x1 x2 x3 x4 x5 x6 x7 x8 x9 x10 (⟨4, by omega⟩ : Fin 8) t (⟨256 + l.val, by omega⟩ : Fin 512) _ _ (by (try dsimp only) <;> omega) (by (try dsimp only) <;> omega)).symm)
  · exact out_piece (h := 4) (w := 128) (r0 := 16) (c0 := 1664) _ _ (E11 x0 x1 x2 x3 x4 x5 x6 x7 x8 x9 x10) (fun t l hr hc => (M4_1 c arg2 harg2 arg7 harg7 arg8 harg8 arg22 x1 x6 x7 t l).trans (E11_mem x0 x1 x2 x3 x4 x5 x6 x7 x8 x9 x10 (⟨4, by omega⟩ : Fin 8) t (⟨128 + l.val, by omega⟩ : Fin 512) _ _ (by (try dsimp only) <;> omega) (by (try dsimp only) <;> omega)).symm)
  · exact out_piece (h := 4) (w := 128) (r0 := 16) (c0 := 1536) _ _ (E11 x0 x1 x2 x3 x4 x5 x6 x7 x8 x9 x10) (fun t l hr hc => (M4_0 c arg2 harg2 arg7 harg7 arg8 harg8 arg22 x1 x6 x7 t l).trans (E11_mem x0 x1 x2 x3 x4 x5 x6 x7 x8 x9 x10 (⟨4, by omega⟩ : Fin 8) t (⟨0 + l.val, by omega⟩ : Fin 512) _ _ (by (try dsimp only) <;> omega) (by (try dsimp only) <;> omega)).symm)
  · exact out_piece (h := 4) (w := 128) (r0 := 16) (c0 := 1408) _ _ (E11 x0 x1 x2 x3 x4 x5 x6 x7 x8 x9 x10) (fun t l hr hc => (S4_3 c arg1 harg1 arg2 harg2 arg5 harg5 arg6 harg6 arg19 arg20 arg21 x0 x1 x4 x5 t l).trans (E11_swa x0 x1 x2 x3 x4 x5 x6 x7 x8 x9 x10 (⟨4, by omega⟩ : Fin 8) t (⟨384 + l.val, by omega⟩ : Fin 512) _ _ (by (try dsimp only) <;> omega) (by (try dsimp only) <;> omega)).symm)
  · exact out_piece (h := 4) (w := 128) (r0 := 16) (c0 := 1280) _ _ (E11 x0 x1 x2 x3 x4 x5 x6 x7 x8 x9 x10) (fun t l hr hc => (S4_2 c arg1 harg1 arg2 harg2 arg5 harg5 arg6 harg6 arg19 arg20 arg21 x0 x1 x4 x5 t l).trans (E11_swa x0 x1 x2 x3 x4 x5 x6 x7 x8 x9 x10 (⟨4, by omega⟩ : Fin 8) t (⟨256 + l.val, by omega⟩ : Fin 512) _ _ (by (try dsimp only) <;> omega) (by (try dsimp only) <;> omega)).symm)
  · exact out_piece (h := 4) (w := 128) (r0 := 16) (c0 := 1152) _ _ (E11 x0 x1 x2 x3 x4 x5 x6 x7 x8 x9 x10) (fun t l hr hc => (S4_1 c arg1 harg1 arg2 harg2 arg5 harg5 arg6 harg6 arg19 arg20 arg21 x0 x1 x4 x5 t l).trans (E11_swa x0 x1 x2 x3 x4 x5 x6 x7 x8 x9 x10 (⟨4, by omega⟩ : Fin 8) t (⟨128 + l.val, by omega⟩ : Fin 512) _ _ (by (try dsimp only) <;> omega) (by (try dsimp only) <;> omega)).symm)
  · exact out_piece (h := 4) (w := 128) (r0 := 16) (c0 := 1024) _ _ (E11 x0 x1 x2 x3 x4 x5 x6 x7 x8 x9 x10) (fun t l hr hc => (S4_0 c arg1 harg1 arg2 harg2 arg5 harg5 arg6 harg6 arg19 arg20 arg21 x0 x1 x4 x5 t l).trans (E11_swa x0 x1 x2 x3 x4 x5 x6 x7 x8 x9 x10 (⟨4, by omega⟩ : Fin 8) t (⟨0 + l.val, by omega⟩ : Fin 512) _ _ (by (try dsimp only) <;> omega) (by (try dsimp only) <;> omega)).symm)
  · exact out_piece (h := 4) (w := 128) (r0 := 12) (c0 := 1920) _ _ (E11 x0 x1 x2 x3 x4 x5 x6 x7 x8 x9 x10) (fun t l hr hc => (M3_3 c arg2 harg2 arg7 harg7 arg8 harg8 arg22 x1 x6 x7 t l).trans (E11_mem x0 x1 x2 x3 x4 x5 x6 x7 x8 x9 x10 (⟨3, by omega⟩ : Fin 8) t (⟨384 + l.val, by omega⟩ : Fin 512) _ _ (by (try dsimp only) <;> omega) (by (try dsimp only) <;> omega)).symm)
  · exact out_piece (h := 4) (w := 128) (r0 := 12) (c0 := 1792) _ _ (E11 x0 x1 x2 x3 x4 x5 x6 x7 x8 x9 x10) (fun t l hr hc => (M3_2 c arg2 harg2 arg7 harg7 arg8 harg8 arg22 x1 x6 x7 t l).trans (E11_mem x0 x1 x2 x3 x4 x5 x6 x7 x8 x9 x10 (⟨3, by omega⟩ : Fin 8) t (⟨256 + l.val, by omega⟩ : Fin 512) _ _ (by (try dsimp only) <;> omega) (by (try dsimp only) <;> omega)).symm)
  · exact out_piece (h := 4) (w := 128) (r0 := 12) (c0 := 1664) _ _ (E11 x0 x1 x2 x3 x4 x5 x6 x7 x8 x9 x10) (fun t l hr hc => (M3_1 c arg2 harg2 arg7 harg7 arg8 harg8 arg22 x1 x6 x7 t l).trans (E11_mem x0 x1 x2 x3 x4 x5 x6 x7 x8 x9 x10 (⟨3, by omega⟩ : Fin 8) t (⟨128 + l.val, by omega⟩ : Fin 512) _ _ (by (try dsimp only) <;> omega) (by (try dsimp only) <;> omega)).symm)
  · exact out_piece (h := 4) (w := 128) (r0 := 12) (c0 := 1536) _ _ (E11 x0 x1 x2 x3 x4 x5 x6 x7 x8 x9 x10) (fun t l hr hc => (M3_0 c arg2 harg2 arg7 harg7 arg8 harg8 arg22 x1 x6 x7 t l).trans (E11_mem x0 x1 x2 x3 x4 x5 x6 x7 x8 x9 x10 (⟨3, by omega⟩ : Fin 8) t (⟨0 + l.val, by omega⟩ : Fin 512) _ _ (by (try dsimp only) <;> omega) (by (try dsimp only) <;> omega)).symm)
  · exact out_piece (h := 4) (w := 128) (r0 := 12) (c0 := 1408) _ _ (E11 x0 x1 x2 x3 x4 x5 x6 x7 x8 x9 x10) (fun t l hr hc => (S3_3 c arg1 harg1 arg2 harg2 arg5 harg5 arg6 harg6 arg19 arg20 arg21 x0 x1 x4 x5 t l).trans (E11_swa x0 x1 x2 x3 x4 x5 x6 x7 x8 x9 x10 (⟨3, by omega⟩ : Fin 8) t (⟨384 + l.val, by omega⟩ : Fin 512) _ _ (by (try dsimp only) <;> omega) (by (try dsimp only) <;> omega)).symm)
  · exact out_piece (h := 4) (w := 128) (r0 := 12) (c0 := 1280) _ _ (E11 x0 x1 x2 x3 x4 x5 x6 x7 x8 x9 x10) (fun t l hr hc => (S3_2 c arg1 harg1 arg2 harg2 arg5 harg5 arg6 harg6 arg19 arg20 arg21 x0 x1 x4 x5 t l).trans (E11_swa x0 x1 x2 x3 x4 x5 x6 x7 x8 x9 x10 (⟨3, by omega⟩ : Fin 8) t (⟨256 + l.val, by omega⟩ : Fin 512) _ _ (by (try dsimp only) <;> omega) (by (try dsimp only) <;> omega)).symm)
  · exact out_piece (h := 4) (w := 128) (r0 := 12) (c0 := 1152) _ _ (E11 x0 x1 x2 x3 x4 x5 x6 x7 x8 x9 x10) (fun t l hr hc => (S3_1 c arg1 harg1 arg2 harg2 arg5 harg5 arg6 harg6 arg19 arg20 arg21 x0 x1 x4 x5 t l).trans (E11_swa x0 x1 x2 x3 x4 x5 x6 x7 x8 x9 x10 (⟨3, by omega⟩ : Fin 8) t (⟨128 + l.val, by omega⟩ : Fin 512) _ _ (by (try dsimp only) <;> omega) (by (try dsimp only) <;> omega)).symm)
  · exact out_piece (h := 4) (w := 128) (r0 := 12) (c0 := 1024) _ _ (E11 x0 x1 x2 x3 x4 x5 x6 x7 x8 x9 x10) (fun t l hr hc => (S3_0 c arg1 harg1 arg2 harg2 arg5 harg5 arg6 harg6 arg19 arg20 arg21 x0 x1 x4 x5 t l).trans (E11_swa x0 x1 x2 x3 x4 x5 x6 x7 x8 x9 x10 (⟨3, by omega⟩ : Fin 8) t (⟨0 + l.val, by omega⟩ : Fin 512) _ _ (by (try dsimp only) <;> omega) (by (try dsimp only) <;> omega)).symm)
  · exact out_piece (h := 4) (w := 128) (r0 := 8) (c0 := 1920) _ _ (E11 x0 x1 x2 x3 x4 x5 x6 x7 x8 x9 x10) (fun t l hr hc => (M2_3 c arg2 harg2 arg7 harg7 arg8 harg8 arg22 x1 x6 x7 t l).trans (E11_mem x0 x1 x2 x3 x4 x5 x6 x7 x8 x9 x10 (⟨2, by omega⟩ : Fin 8) t (⟨384 + l.val, by omega⟩ : Fin 512) _ _ (by (try dsimp only) <;> omega) (by (try dsimp only) <;> omega)).symm)
  · exact out_piece (h := 4) (w := 128) (r0 := 8) (c0 := 1792) _ _ (E11 x0 x1 x2 x3 x4 x5 x6 x7 x8 x9 x10) (fun t l hr hc => (M2_2 c arg2 harg2 arg7 harg7 arg8 harg8 arg22 x1 x6 x7 t l).trans (E11_mem x0 x1 x2 x3 x4 x5 x6 x7 x8 x9 x10 (⟨2, by omega⟩ : Fin 8) t (⟨256 + l.val, by omega⟩ : Fin 512) _ _ (by (try dsimp only) <;> omega) (by (try dsimp only) <;> omega)).symm)
  · exact out_piece (h := 4) (w := 128) (r0 := 8) (c0 := 1664) _ _ (E11 x0 x1 x2 x3 x4 x5 x6 x7 x8 x9 x10) (fun t l hr hc => (M2_1 c arg2 harg2 arg7 harg7 arg8 harg8 arg22 x1 x6 x7 t l).trans (E11_mem x0 x1 x2 x3 x4 x5 x6 x7 x8 x9 x10 (⟨2, by omega⟩ : Fin 8) t (⟨128 + l.val, by omega⟩ : Fin 512) _ _ (by (try dsimp only) <;> omega) (by (try dsimp only) <;> omega)).symm)
  · exact out_piece (h := 4) (w := 128) (r0 := 8) (c0 := 1536) _ _ (E11 x0 x1 x2 x3 x4 x5 x6 x7 x8 x9 x10) (fun t l hr hc => (M2_0 c arg2 harg2 arg7 harg7 arg8 harg8 arg22 x1 x6 x7 t l).trans (E11_mem x0 x1 x2 x3 x4 x5 x6 x7 x8 x9 x10 (⟨2, by omega⟩ : Fin 8) t (⟨0 + l.val, by omega⟩ : Fin 512) _ _ (by (try dsimp only) <;> omega) (by (try dsimp only) <;> omega)).symm)
  · exact out_piece (h := 4) (w := 128) (r0 := 8) (c0 := 1408) _ _ (E11 x0 x1 x2 x3 x4 x5 x6 x7 x8 x9 x10) (fun t l hr hc => (S2_3 c arg1 harg1 arg2 harg2 arg5 harg5 arg6 harg6 arg19 arg20 arg21 x0 x1 x4 x5 t l).trans (E11_swa x0 x1 x2 x3 x4 x5 x6 x7 x8 x9 x10 (⟨2, by omega⟩ : Fin 8) t (⟨384 + l.val, by omega⟩ : Fin 512) _ _ (by (try dsimp only) <;> omega) (by (try dsimp only) <;> omega)).symm)
  · exact out_piece (h := 4) (w := 128) (r0 := 8) (c0 := 1280) _ _ (E11 x0 x1 x2 x3 x4 x5 x6 x7 x8 x9 x10) (fun t l hr hc => (S2_2 c arg1 harg1 arg2 harg2 arg5 harg5 arg6 harg6 arg19 arg20 arg21 x0 x1 x4 x5 t l).trans (E11_swa x0 x1 x2 x3 x4 x5 x6 x7 x8 x9 x10 (⟨2, by omega⟩ : Fin 8) t (⟨256 + l.val, by omega⟩ : Fin 512) _ _ (by (try dsimp only) <;> omega) (by (try dsimp only) <;> omega)).symm)
  · exact out_piece (h := 4) (w := 128) (r0 := 8) (c0 := 1152) _ _ (E11 x0 x1 x2 x3 x4 x5 x6 x7 x8 x9 x10) (fun t l hr hc => (S2_1 c arg1 harg1 arg2 harg2 arg5 harg5 arg6 harg6 arg19 arg20 arg21 x0 x1 x4 x5 t l).trans (E11_swa x0 x1 x2 x3 x4 x5 x6 x7 x8 x9 x10 (⟨2, by omega⟩ : Fin 8) t (⟨128 + l.val, by omega⟩ : Fin 512) _ _ (by (try dsimp only) <;> omega) (by (try dsimp only) <;> omega)).symm)
  · exact out_piece (h := 4) (w := 128) (r0 := 8) (c0 := 1024) _ _ (E11 x0 x1 x2 x3 x4 x5 x6 x7 x8 x9 x10) (fun t l hr hc => (S2_0 c arg1 harg1 arg2 harg2 arg5 harg5 arg6 harg6 arg19 arg20 arg21 x0 x1 x4 x5 t l).trans (E11_swa x0 x1 x2 x3 x4 x5 x6 x7 x8 x9 x10 (⟨2, by omega⟩ : Fin 8) t (⟨0 + l.val, by omega⟩ : Fin 512) _ _ (by (try dsimp only) <;> omega) (by (try dsimp only) <;> omega)).symm)
  · exact out_piece (h := 4) (w := 128) (r0 := 4) (c0 := 1920) _ _ (E11 x0 x1 x2 x3 x4 x5 x6 x7 x8 x9 x10) (fun t l hr hc => (M1_3 c arg2 harg2 arg7 harg7 arg8 harg8 arg22 x1 x6 x7 t l).trans (E11_mem x0 x1 x2 x3 x4 x5 x6 x7 x8 x9 x10 (⟨1, by omega⟩ : Fin 8) t (⟨384 + l.val, by omega⟩ : Fin 512) _ _ (by (try dsimp only) <;> omega) (by (try dsimp only) <;> omega)).symm)
  · exact out_piece (h := 4) (w := 128) (r0 := 4) (c0 := 1792) _ _ (E11 x0 x1 x2 x3 x4 x5 x6 x7 x8 x9 x10) (fun t l hr hc => (M1_2 c arg2 harg2 arg7 harg7 arg8 harg8 arg22 x1 x6 x7 t l).trans (E11_mem x0 x1 x2 x3 x4 x5 x6 x7 x8 x9 x10 (⟨1, by omega⟩ : Fin 8) t (⟨256 + l.val, by omega⟩ : Fin 512) _ _ (by (try dsimp only) <;> omega) (by (try dsimp only) <;> omega)).symm)
  · exact out_piece (h := 4) (w := 128) (r0 := 4) (c0 := 1664) _ _ (E11 x0 x1 x2 x3 x4 x5 x6 x7 x8 x9 x10) (fun t l hr hc => (M1_1 c arg2 harg2 arg7 harg7 arg8 harg8 arg22 x1 x6 x7 t l).trans (E11_mem x0 x1 x2 x3 x4 x5 x6 x7 x8 x9 x10 (⟨1, by omega⟩ : Fin 8) t (⟨128 + l.val, by omega⟩ : Fin 512) _ _ (by (try dsimp only) <;> omega) (by (try dsimp only) <;> omega)).symm)
  · exact out_piece (h := 4) (w := 128) (r0 := 4) (c0 := 1536) _ _ (E11 x0 x1 x2 x3 x4 x5 x6 x7 x8 x9 x10) (fun t l hr hc => (M1_0 c arg2 harg2 arg7 harg7 arg8 harg8 arg22 x1 x6 x7 t l).trans (E11_mem x0 x1 x2 x3 x4 x5 x6 x7 x8 x9 x10 (⟨1, by omega⟩ : Fin 8) t (⟨0 + l.val, by omega⟩ : Fin 512) _ _ (by (try dsimp only) <;> omega) (by (try dsimp only) <;> omega)).symm)
  · exact out_piece (h := 4) (w := 128) (r0 := 4) (c0 := 1408) _ _ (E11 x0 x1 x2 x3 x4 x5 x6 x7 x8 x9 x10) (fun t l hr hc => (S1_3 c arg1 harg1 arg2 harg2 arg5 harg5 arg6 harg6 arg19 arg20 arg21 x0 x1 x4 x5 t l).trans (E11_swa x0 x1 x2 x3 x4 x5 x6 x7 x8 x9 x10 (⟨1, by omega⟩ : Fin 8) t (⟨384 + l.val, by omega⟩ : Fin 512) _ _ (by (try dsimp only) <;> omega) (by (try dsimp only) <;> omega)).symm)
  · exact out_piece (h := 4) (w := 128) (r0 := 4) (c0 := 1280) _ _ (E11 x0 x1 x2 x3 x4 x5 x6 x7 x8 x9 x10) (fun t l hr hc => (S1_2 c arg1 harg1 arg2 harg2 arg5 harg5 arg6 harg6 arg19 arg20 arg21 x0 x1 x4 x5 t l).trans (E11_swa x0 x1 x2 x3 x4 x5 x6 x7 x8 x9 x10 (⟨1, by omega⟩ : Fin 8) t (⟨256 + l.val, by omega⟩ : Fin 512) _ _ (by (try dsimp only) <;> omega) (by (try dsimp only) <;> omega)).symm)
  · exact out_piece (h := 4) (w := 128) (r0 := 4) (c0 := 1152) _ _ (E11 x0 x1 x2 x3 x4 x5 x6 x7 x8 x9 x10) (fun t l hr hc => (S1_1 c arg1 harg1 arg2 harg2 arg5 harg5 arg6 harg6 arg19 arg20 arg21 x0 x1 x4 x5 t l).trans (E11_swa x0 x1 x2 x3 x4 x5 x6 x7 x8 x9 x10 (⟨1, by omega⟩ : Fin 8) t (⟨128 + l.val, by omega⟩ : Fin 512) _ _ (by (try dsimp only) <;> omega) (by (try dsimp only) <;> omega)).symm)
  · exact out_piece (h := 4) (w := 128) (r0 := 4) (c0 := 1024) _ _ (E11 x0 x1 x2 x3 x4 x5 x6 x7 x8 x9 x10) (fun t l hr hc => (S1_0 c arg1 harg1 arg2 harg2 arg5 harg5 arg6 harg6 arg19 arg20 arg21 x0 x1 x4 x5 t l).trans (E11_swa x0 x1 x2 x3 x4 x5 x6 x7 x8 x9 x10 (⟨1, by omega⟩ : Fin 8) t (⟨0 + l.val, by omega⟩ : Fin 512) _ _ (by (try dsimp only) <;> omega) (by (try dsimp only) <;> omega)).symm)
  · exact out_piece (h := 4) (w := 128) (r0 := 0) (c0 := 1920) _ _ (E11 x0 x1 x2 x3 x4 x5 x6 x7 x8 x9 x10) (fun t l hr hc => (M0_3 c arg2 harg2 arg7 harg7 arg8 harg8 arg22 x1 x6 x7 t l).trans (E11_mem x0 x1 x2 x3 x4 x5 x6 x7 x8 x9 x10 (⟨0, by omega⟩ : Fin 8) t (⟨384 + l.val, by omega⟩ : Fin 512) _ _ (by (try dsimp only) <;> omega) (by (try dsimp only) <;> omega)).symm)
  · exact out_piece (h := 4) (w := 128) (r0 := 0) (c0 := 1792) _ _ (E11 x0 x1 x2 x3 x4 x5 x6 x7 x8 x9 x10) (fun t l hr hc => (M0_2 c arg2 harg2 arg7 harg7 arg8 harg8 arg22 x1 x6 x7 t l).trans (E11_mem x0 x1 x2 x3 x4 x5 x6 x7 x8 x9 x10 (⟨0, by omega⟩ : Fin 8) t (⟨256 + l.val, by omega⟩ : Fin 512) _ _ (by (try dsimp only) <;> omega) (by (try dsimp only) <;> omega)).symm)
  · exact out_piece (h := 4) (w := 128) (r0 := 0) (c0 := 1664) _ _ (E11 x0 x1 x2 x3 x4 x5 x6 x7 x8 x9 x10) (fun t l hr hc => (M0_1 c arg2 harg2 arg7 harg7 arg8 harg8 arg22 x1 x6 x7 t l).trans (E11_mem x0 x1 x2 x3 x4 x5 x6 x7 x8 x9 x10 (⟨0, by omega⟩ : Fin 8) t (⟨128 + l.val, by omega⟩ : Fin 512) _ _ (by (try dsimp only) <;> omega) (by (try dsimp only) <;> omega)).symm)
  · exact out_piece (h := 4) (w := 128) (r0 := 0) (c0 := 1536) _ _ (E11 x0 x1 x2 x3 x4 x5 x6 x7 x8 x9 x10) (fun t l hr hc => (M0_0 c arg2 harg2 arg7 harg7 arg8 harg8 arg22 x1 x6 x7 t l).trans (E11_mem x0 x1 x2 x3 x4 x5 x6 x7 x8 x9 x10 (⟨0, by omega⟩ : Fin 8) t (⟨0 + l.val, by omega⟩ : Fin 512) _ _ (by (try dsimp only) <;> omega) (by (try dsimp only) <;> omega)).symm)
  · exact out_piece (h := 4) (w := 128) (r0 := 0) (c0 := 1408) _ _ (E11 x0 x1 x2 x3 x4 x5 x6 x7 x8 x9 x10) (fun t l hr hc => (S0_3 c arg1 harg1 arg2 harg2 arg5 harg5 arg6 harg6 arg19 arg20 arg21 x0 x1 x4 x5 t l).trans (E11_swa x0 x1 x2 x3 x4 x5 x6 x7 x8 x9 x10 (⟨0, by omega⟩ : Fin 8) t (⟨384 + l.val, by omega⟩ : Fin 512) _ _ (by (try dsimp only) <;> omega) (by (try dsimp only) <;> omega)).symm)
  · exact out_piece (h := 4) (w := 128) (r0 := 0) (c0 := 1280) _ _ (E11 x0 x1 x2 x3 x4 x5 x6 x7 x8 x9 x10) (fun t l hr hc => (S0_2 c arg1 harg1 arg2 harg2 arg5 harg5 arg6 harg6 arg19 arg20 arg21 x0 x1 x4 x5 t l).trans (E11_swa x0 x1 x2 x3 x4 x5 x6 x7 x8 x9 x10 (⟨0, by omega⟩ : Fin 8) t (⟨256 + l.val, by omega⟩ : Fin 512) _ _ (by (try dsimp only) <;> omega) (by (try dsimp only) <;> omega)).symm)
  · exact out_piece (h := 4) (w := 128) (r0 := 0) (c0 := 1152) _ _ (E11 x0 x1 x2 x3 x4 x5 x6 x7 x8 x9 x10) (fun t l hr hc => (S0_1 c arg1 harg1 arg2 harg2 arg5 harg5 arg6 harg6 arg19 arg20 arg21 x0 x1 x4 x5 t l).trans (E11_swa x0 x1 x2 x3 x4 x5 x6 x7 x8 x9 x10 (⟨0, by omega⟩ : Fin 8) t (⟨128 + l.val, by omega⟩ : Fin 512) _ _ (by (try dsimp only) <;> omega) (by (try dsimp only) <;> omega)).symm)
  · exact out_piece (h := 4) (w := 128) (r0 := 0) (c0 := 1024) _ _ (E11 x0 x1 x2 x3 x4 x5 x6 x7 x8 x9 x10) (fun t l hr hc => (S0_0 c arg1 harg1 arg2 harg2 arg5 harg5 arg6 harg6 arg19 arg20 arg21 x0 x1 x4 x5 t l).trans (E11_swa x0 x1 x2 x3 x4 x5 x6 x7 x8 x9 x10 (⟨0, by omega⟩ : Fin 8) t (⟨0 + l.val, by omega⟩ : Fin 512) _ _ (by (try dsimp only) <;> omega) (by (try dsimp only) <;> omega)).symm)
  · exact out_piece (h := 32) (w := 128) (r0 := 0) (c0 := 384) _ _ (E11 x0 x1 x2 x3 x4 x5 x6 x7 x8 x9 x10) (fun t l hr hc => ((O3 c arg2 harg2 arg3 harg3 arg9 harg9 arg10 harg10 arg17 x1 x2 x8 x9 t l).trans (congrArg (fun s : Fin 32 => OP3 x1 x2 x8 x9 (⟨s.val / 4, by omega⟩ : Fin 8) (⟨s.val % 4, by omega⟩ : Fin 4) l) (Fin.ext (by (try dsimp only); omega) : t = (⟨0 + t.val, hr⟩ : Fin 32)))).trans (E11_pool3 x0 x1 x2 x3 x4 x5 x6 x7 x8 x9 x10 l (⟨0 + t.val, hr⟩ : Fin 32) (⟨384 + l.val, hc⟩ : Fin 2048) rfl).symm)
  · exact out_piece (h := 32) (w := 128) (r0 := 0) (c0 := 256) _ _ (E11 x0 x1 x2 x3 x4 x5 x6 x7 x8 x9 x10) (fun t l hr hc => ((O2 c arg2 harg2 arg3 harg3 arg9 harg9 arg10 harg10 arg17 x1 x2 x8 x9 t l).trans (congrArg (fun s : Fin 32 => OP2 x1 x2 x8 x9 (⟨s.val / 4, by omega⟩ : Fin 8) (⟨s.val % 4, by omega⟩ : Fin 4) l) (Fin.ext (by (try dsimp only); omega) : t = (⟨0 + t.val, hr⟩ : Fin 32)))).trans (E11_pool2 x0 x1 x2 x3 x4 x5 x6 x7 x8 x9 x10 l (⟨0 + t.val, hr⟩ : Fin 32) (⟨256 + l.val, hc⟩ : Fin 2048) rfl).symm)
  · exact out_piece (h := 32) (w := 128) (r0 := 0) (c0 := 128) _ _ (E11 x0 x1 x2 x3 x4 x5 x6 x7 x8 x9 x10) (fun t l hr hc => ((O1 c arg2 harg2 arg3 harg3 arg9 harg9 arg10 harg10 arg17 x1 x2 x8 x9 t l).trans (congrArg (fun s : Fin 32 => OP1 x1 x2 x8 x9 (⟨s.val / 4, by omega⟩ : Fin 8) (⟨s.val % 4, by omega⟩ : Fin 4) l) (Fin.ext (by (try dsimp only); omega) : t = (⟨0 + t.val, hr⟩ : Fin 32)))).trans (E11_pool1 x0 x1 x2 x3 x4 x5 x6 x7 x8 x9 x10 l (⟨0 + t.val, hr⟩ : Fin 32) (⟨128 + l.val, hc⟩ : Fin 2048) rfl).symm)
  · exact out_piece (h := 32) (w := 128) (r0 := 0) (c0 := 0) _ _ (E11 x0 x1 x2 x3 x4 x5 x6 x7 x8 x9 x10) (fun t l hr hc => ((O0 c arg2 harg2 arg3 harg3 arg9 harg9 arg10 harg10 arg17 x1 x2 x8 x9 t l).trans (congrArg (fun s : Fin 32 => OP0 x1 x2 x8 x9 (⟨s.val / 4, by omega⟩ : Fin 8) (⟨s.val % 4, by omega⟩ : Fin 4) l) (Fin.ext (by (try dsimp only); omega) : t = (⟨0 + t.val, hr⟩ : Fin 32)))).trans (E11_pool0 x0 x1 x2 x3 x4 x5 x6 x7 x8 x9 x10 l (⟨0 + t.val, hr⟩ : Fin 32) (⟨0 + l.val, hc⟩ : Fin 2048) rfl).symm)
  · exact out_piece (h := 4) (w := 512) (r0 := 28) (c0 := 512) _ _ (E11 x0 x1 x2 x3 x4 x5 x6 x7 x8 x9 x10) (fun t l hr hc => (C7 c arg2 harg2 arg4 harg4 arg11 harg11 arg18 x1 x3 x10 t l).trans (E11_conv x0 x1 x2 x3 x4 x5 x6 x7 x8 x9 x10 (⟨7, by omega⟩ : Fin 8) t l _ _ (by (try dsimp only) <;> omega) rfl).symm)
  · exact out_piece (h := 4) (w := 512) (r0 := 24) (c0 := 512) _ _ (E11 x0 x1 x2 x3 x4 x5 x6 x7 x8 x9 x10) (fun t l hr hc => (C6 c arg2 harg2 arg4 harg4 arg11 harg11 arg18 x1 x3 x10 t l).trans (E11_conv x0 x1 x2 x3 x4 x5 x6 x7 x8 x9 x10 (⟨6, by omega⟩ : Fin 8) t l _ _ (by (try dsimp only) <;> omega) rfl).symm)
  · exact out_piece (h := 4) (w := 512) (r0 := 20) (c0 := 512) _ _ (E11 x0 x1 x2 x3 x4 x5 x6 x7 x8 x9 x10) (fun t l hr hc => (C5 c arg2 harg2 arg4 harg4 arg11 harg11 arg18 x1 x3 x10 t l).trans (E11_conv x0 x1 x2 x3 x4 x5 x6 x7 x8 x9 x10 (⟨5, by omega⟩ : Fin 8) t l _ _ (by (try dsimp only) <;> omega) rfl).symm)
  · exact out_piece (h := 4) (w := 512) (r0 := 16) (c0 := 512) _ _ (E11 x0 x1 x2 x3 x4 x5 x6 x7 x8 x9 x10) (fun t l hr hc => (C4 c arg2 harg2 arg4 harg4 arg11 harg11 arg18 x1 x3 x10 t l).trans (E11_conv x0 x1 x2 x3 x4 x5 x6 x7 x8 x9 x10 (⟨4, by omega⟩ : Fin 8) t l _ _ (by (try dsimp only) <;> omega) rfl).symm)
  · exact out_piece (h := 4) (w := 512) (r0 := 12) (c0 := 512) _ _ (E11 x0 x1 x2 x3 x4 x5 x6 x7 x8 x9 x10) (fun t l hr hc => (C3 c arg2 harg2 arg4 harg4 arg11 harg11 arg18 x1 x3 x10 t l).trans (E11_conv x0 x1 x2 x3 x4 x5 x6 x7 x8 x9 x10 (⟨3, by omega⟩ : Fin 8) t l _ _ (by (try dsimp only) <;> omega) rfl).symm)
  · exact out_piece (h := 4) (w := 512) (r0 := 8) (c0 := 512) _ _ (E11 x0 x1 x2 x3 x4 x5 x6 x7 x8 x9 x10) (fun t l hr hc => (C2 c arg2 harg2 arg4 harg4 arg11 harg11 arg18 x1 x3 x10 t l).trans (E11_conv x0 x1 x2 x3 x4 x5 x6 x7 x8 x9 x10 (⟨2, by omega⟩ : Fin 8) t l _ _ (by (try dsimp only) <;> omega) rfl).symm)
  · exact out_piece (h := 4) (w := 512) (r0 := 4) (c0 := 512) _ _ (E11 x0 x1 x2 x3 x4 x5 x6 x7 x8 x9 x10) (fun t l hr hc => (C1 c arg2 harg2 arg4 harg4 arg11 harg11 arg18 x1 x3 x10 t l).trans (E11_conv x0 x1 x2 x3 x4 x5 x6 x7 x8 x9 x10 (⟨1, by omega⟩ : Fin 8) t l _ _ (by (try dsimp only) <;> omega) rfl).symm)
  · exact out_piece (h := 4) (w := 512) (r0 := 0) (c0 := 512) _ _ (E11 x0 x1 x2 x3 x4 x5 x6 x7 x8 x9 x10) (fun t l hr hc => (C0 c arg2 harg2 arg4 harg4 arg11 harg11 arg18 x1 x3 x10 t l).trans (E11_conv x0 x1 x2 x3 x4 x5 x6 x7 x8 x9 x10 (⟨0, by omega⟩ : Fin 8) t l _ _ (by (try dsimp only) <;> omega) rfl).symm)

/-- so the block of the mix is those values. -/
theorem E11_at (y : S32x2048.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y = E11 x0 x1 x2 x3 x4 x5 x6 x7 x8 x9 x10 (y 0) (y 1) :=
  (View.read_writes_junk_apply_eq_canon _ y _).trans
    (View.canon_apply_of_pieces (fun y => E11 x0 x1 x2 x3 x4 x5 x6 x7 x8 x9 x10 (y 0) (y 1)) _ (E11_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).mem y
      (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y))

end Cert.MixerIdeal.Tie

end
-- ==== Proof.MixerState.lean ====
/-
  The kept states the sample mixers leave, read at an index: the last rows of the pooled and convolved values, and the
  newest 128 keys and values; zeros for the other layer.
-/
module

public import proofs.«01_k».proof.Proof.MixerBuf

@[expose] public section

set_option maxRecDepth 16384

noncomputable section

open Idealize.ShloMosaic Idealize.ShloMosaic.TcCoe Idealize.SL.Sem

namespace Cert.MixerIdeal.Tie

open Cert.MixerIdeal Cert.MixerIdeal.Gen Cert.MixerIdeal.Gen.kernelRun0_A

variable (c : Dev nD) (i : grid0.Coords) (arg1 : Memref sig .tc .smem S2x8 .f32) (harg1 : arg1.IsWhole) (arg2 : Memref sig .tc .vmem S32x3328 .f32) (harg2 : arg2.IsWhole) (arg3 : Memref sig .tc .vmem S1x8x15x512 .f32) (harg3 : arg3.IsWhole) (arg4 : Memref sig .tc .vmem S1x8x2x512 .f32) (harg4 : arg4.IsWhole) (arg5 : Memref sig .tc .vmem S1x8x128x128 .f32) (harg5 : arg5.IsWhole) (arg6 : Memref sig .tc .vmem S1x8x128x128 .f32) (harg6 : arg6.IsWhole) (arg7 : Memref sig .tc .vmem S1x8x1024x128 .f32) (harg7 : arg7.IsWhole) (arg8 : Memref sig .tc .vmem S1x8x1024x128 .f32) (harg8 : arg8.IsWhole) (arg9 : Memref sig .tc .vmem S1x4x128x128 .bf16) (harg9 : arg9.IsWhole) (arg10 : Memref sig .tc .vmem S1x1x512 .f32) (harg10 : arg10.IsWhole) (arg11 : Memref sig .tc .vmem S1x3x512 .f32) (harg11 : arg11.IsWhole) (arg12 : Memref sig .tc .vmem S32x2048 .f32) (harg12 : arg12.IsWhole) (arg13 : Memref sig .tc .vmem S2x8x15x512 .f32) (harg13 : arg13.IsWhole) (arg14 : Memref sig .tc .vmem S2x8x2x512 .f32) (harg14 : arg14.IsWhole) (arg15 : Memref sig .tc .vmem S2x8x128x128 .f32) (harg15 : arg15.IsWhole) (arg16 : Memref sig .tc .vmem S2x8x128x128 .f32) (harg16 : arg16.IsWhole) (arg17 : Memref sig .tc .vmem S8x24x512 .f32) (harg17 : arg17.IsWhole) (arg18 : Memref sig .tc .vmem S8x16x512 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x32x128 .f32) (harg21 : arg21.IsWhole) (arg22 : Memref sig .tc .vmem S8x16x128 .f32) (harg22 : arg22.IsWhole) (x0 : Vec Ideal S2x8 .f32) (x1 : Vec Ideal S32x3328 .f32) (x2 : Vec Ideal S1x8x15x512 .f32) (x3 : Vec Ideal S1x8x2x512 .f32) (x4 : Vec Ideal S1x8x128x128 .f32) (x5 : Vec Ideal S1x8x128x128 .f32) (x6 : Vec Ideal S1x8x1024x128 .f32) (x7 : Vec Ideal S1x8x1024x128 .f32) (x8 : Vec Ideal S1x4x128x128 .bf16) (x9 : Vec Ideal S1x1x512 .f32) (x10 : Vec Ideal S1x3x512 .f32)
/-- The block of the pooled rows kept for the next call, as a function of the index. -/
def E12 (x1 : Vec Ideal S32x3328 .f32) (x2 : Vec Ideal S1x8x15x512 .f32) (y0 : Fin 2) (y1 : Fin 8) (y2 : Fin 15) (y3 : Fin 512) : EReal :=
  if y0.val = 0 then UE x1 x2 y1 (⟨5 + y2.val, by omega⟩ : Fin 24) y3 else 0

/-- Every store of the pooled rows holds the values said, -/
theorem E12_pieces : View.PiecesOf (fun y => E12 x1 x2 (y 0) (y 1) (y 2) (y 3)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1 := by
  refine ⟨?_, ?_, ?_, ?_, ?_, ?_, ?_, ?_, fun x => ?_, trivial⟩
  · refine state_piece (A := 8) (R := 15) (C := 512) (b := 7) _ _ _ _ _ _ _ (E12 x1 x2) (fun t l hb => ?_)
    pointwise [k0_pay321, sl.v2586]
    refine (load_page (B := 8) (R := 24) (C := 512) (b := 7) (r0 := 5) (c0 := 0) (h := 15) (w := 512) _ _ _ _ _ _ _ _ _ _).trans ?_
    refine (UE7 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 6) _ _ _ _ _ _ _ (E12 x1 x2) (fun t l hb => ?_)
    pointwise [k0_pay276, sl.r_127, sl.v2246]
    refine (load_page (B := 8) (R := 24) (C := 512) (b := 6) (r0 := 5) (c0 := 0) (h := 15) (w := 512) _ _ _ _ _ _ _ _ _ _).trans ?_
    refine (UE6 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 5) _ _ _ _ _ _ _ (E12 x1 x2) (fun t l hb => ?_)
    pointwise [k0_pay233, sl.v1906]
    refine (load_page (B := 8) (R := 24) (C := 512) (b := 5) (r0 := 5) (c0 := 0) (h := 15) (w := 512) _ _ _ _ _ _ _ _ _ _).trans ?_
    refine (UE5 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 4) _ _ _ _ _ _ _ (E12 x1 x2) (fun t l hb => ?_)
    pointwise [k0_pay190, sl.v1566]
    refine (load_page (B := 8) (R := 24) (C := 512) (b := 4) (r0 := 5) (c0 := 0) (h := 15) (w := 512) _ _ _ _ _ _ _ _ _ _).trans ?_
    refine (UE4 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 3) _ _ _ _ _ _ _ (E12 x1 x2) (fun t l hb => ?_)
    pointwise [k0_pay152, sl.v1226]
    refine (load_page (B := 8) (R := 24) (C := 512) (b := 3) (r0 := 5) (c0 := 0) (h := 15) (w := 512) _ _ _ _ _ _ _ _ _ _).trans ?_
    refine (UE3 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 2) _ _ _ _ _ _ _ (E12 x1 x2) (fun t l hb => ?_)
    pointwise [k0_pay110, sl.r_51, sl.v886]
    refine (load_page (B := 8) (R := 24) (C := 512) (b := 2) (r0 := 5) (c0 := 0) (h := 15) (w := 512) _ _ _ _ _ _ _ _ _ _).trans ?_
    refine (UE2 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 1) _ _ _ _ _ _ _ (E12 x1 x2) (fun t l hb => ?_)
    pointwise [k0_pay68, sl.v546]
    refine (load_page (B := 8) (R := 24) (C := 512) (b := 1) (r0 := 5) (c0 := 0) (h := 15) (w := 512) _ _ _ _ _ _ _ _ _ _).trans ?_
    refine (UE1 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · refine state_piece (A := 8) (R := 15) (C := 512) (b := 0) _ _ _ _ _ _ _ (E12 x1 x2) (fun t l hb => ?_)
    pointwise [k0_pay29, sl.v206]
    refine (load_page (B := 8) (R := 24) (C := 512) (b := 0) (r0 := 5) (c0 := 0) (h := 15) (w := 512) _ _ _ _ _ _ _ _ _ _).trans ?_
    refine (UE0 c harg2 harg3 x1 x2 _ _ (by (try dsimp only); omega) (by (try dsimp only); omega)).trans ?_
    unfold E12
    refine Eq.trans ?_ (if_pos rfl).symm
    exact congr (congrArg (UE x1 x2 _) (Fin.ext (by (try dsimp only) <;> omega))) (Fin.ext (by (try dsimp only) <;> omega))
  · obtain ⟨i, j, t, l, rfl⟩ := ix4_cases (a := 1) (b := 8) (d := 15) (e := 512) x
    show _ = E12 x1 x2 (⟨1 + 1 * i.val, by omega⟩ : Fin 2) (⟨0 + 1 * j.val, by omega⟩ : Fin 8) (⟨0 + 1 * t.val, by omega⟩ : Fin 15) (⟨0 + 1 * l.val, by omega⟩ : Fin 512)
    pointwise [k0_pay7]
    unfold E12
    rw [if_neg (by (try dsimp only); omega)]

/-- so the block does. -/
theorem E12_at (y : S2x8x15x512.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y = E12 x1 x2 (y 0) (y 1) (y 2) (y 3) :=
  (View.read_writes_junk_apply_eq_canon _ y _).trans
    (View.canon_apply_of_pieces (fun y => E12 x1 x2 (y 0) (y 1) (y 2) (y 3)) _ (E12_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).mem y
      (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y))

/-- The block of the convolution rows kept for the next call, as a function of the index. -/
def E13 (x1 : Vec Ideal S32x3328 .f32) (x3 : Vec Ideal S1x8x2x512 .f32) (y0 : Fin 2) (y1 : Fin 8) (y2 : Fin 2) (y3 : Fin 512) : EReal :=
  if y0.val = 0 then CE x1 x3 y1 (⟨10 + y2.val, by omega⟩ : Fin 16) y3 else 0

/-- Every store of the convolution rows holds the values said, -/
theorem E13_pieces : View.PiecesOf (fun y => E13 x1 x3 (y 0) (y 1) (y 2) (y 3)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.1 := by
  refine ⟨?_, ?_, ?_, ?_, ?_, ?_, ?_, ?_, fun x => ?_, trivial⟩
  · refine state_piece (A := 8) (R := 2) (C := 512) (b := 7) _ _ _ _ _ _ _ (E13 x1 x3) (fun t l hb => ?_)
    pointwise [sl.v2640, sl.v2635]
    refine (load_page (B := 8) (R := 16) (C := 512) (b := 7) (r0 := 10) (c0 := 0) (h := 2) (w := 512) _ _ _ _ _ _ _ _ _ _).trans ?_
    refine (CE7 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 6) _ _ _ _ _ _ _ (E13 x1 x3) (fun t l hb => ?_)
    pointwise [sl.v2300, sl.r_130, sl.v2295]
    refine (load_page (B := 8) (R := 16) (C := 512) (b := 6) (r0 := 10) (c0 := 0) (h := 2) (w := 512) _ _ _ _ _ _ _ _ _ _).trans ?_
    refine (CE6 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 5) _ _ _ _ _ _ _ (E13 x1 x3) (fun t l hb => ?_)
    pointwise [k0_pay239, sl.v1955]
    refine (load_page (B := 8) (R := 16) (C := 512) (b := 5) (r0 := 10) (c0 := 0) (h := 2) (w := 512) _ _ _ _ _ _ _ _ _ _).trans ?_
    refine (CE5 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 4) _ _ _ _ _ _ _ (E13 x1 x3) (fun t l hb => ?_)
    pointwise [k0_pay196, sl.v1615]
    refine (load_page (B := 8) (R := 16) (C := 512) (b := 4) (r0 := 10) (c0 := 0) (h := 2) (w := 512) _ _ _ _ _ _ _ _ _ _).trans ?_
    refine (CE4 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 3) _ _ _ _ _ _ _ (E13 x1 x3) (fun t l hb => ?_)
    pointwise [sl.v1280, sl.r_73, sl.v]
    refine (load_page (B := 8) (R := 16) (C := 512) (b := 3) (r0 := 10) (c0 := 0) (h := 2) (w := 512) _ _ _ _ _ _ _ _ _ _).trans ?_
    refine (CE3 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 2) _ _ _ _ _ _ _ (E13 x1 x3) (fun t l hb => ?_)
    pointwise [k0_pay115, sl.v935]
    refine (load_page (B := 8) (R := 16) (C := 512) (b := 2) (r0 := 10) (c0 := 0) (h := 2) (w := 512) _ _ _ _ _ _ _ _ _ _).trans ?_
    refine (CE2 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 1) _ _ _ _ _ _ _ (E13 x1 x3) (fun t l hb => ?_)
    pointwise [k0_pay74, sl.v595]
    refine (load_page (B := 8) (R := 16) (C := 512) (b := 1) (r0 := 10) (c0 := 0) (h := 2) (w := 512) _ _ _ _ _ _ _ _ _ _).trans ?_
    refine (CE1 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · refine state_piece (A := 8) (R := 2) (C := 512) (b := 0) _ _ _ _ _ _ _ (E13 x1 x3) (fun t l hb => ?_)
    pointwise [sl.v260, sl.v255]
    refine (load_page (B := 8) (R := 16) (C := 512) (b := 0) (r0 := 10) (c0 := 0) (h := 2) (w := 512) _ _ _ _ _ _ _ _ _ _).trans ?_
    refine (CE0 c harg2 harg4 x1 x3 _ _ (by (try dsimp only); omega) (by (try dsimp only); omega)).trans ?_
    unfold E13
    refine Eq.trans ?_ (if_pos rfl).symm
    exact congr (congrArg (CE x1 x3 _) (Fin.ext (by (try dsimp only) <;> omega))) (Fin.ext (by (try dsimp only) <;> omega))
  · obtain ⟨i, j, t, l, rfl⟩ := ix4_cases (a := 1) (b := 8) (d := 2) (e := 512) x
    show _ = E13 x1 x3 (⟨1 + 1 * i.val, by omega⟩ : Fin 2) (⟨0 + 1 * j.val, by omega⟩ : Fin 8) (⟨0 + 1 * t.val, by omega⟩ : Fin 2) (⟨0 + 1 * l.val, by omega⟩ : Fin 512)
    pointwise [k0_pay8]
    unfold E13
    rw [if_neg (by (try dsimp only); omega)]

/-- so the block does. -/
theorem E13_at (y : S2x8x2x512.Idx) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y = E13 x1 x3 (y 0) (y 1) (y 2) (y 3) :=
  (View.read_writes_junk_apply_eq_canon _ y _).trans
    (View.canon_apply_of_pieces (fun y => E13 x1 x3 (y 0) (y 1) (y 2) (y 3)) _ (E13_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).mem y
      (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y))

/-- The block of the keys kept for the next call, as a function of the index. -/
def E14 (x1 : Vec Ideal S32x3328 .f32) (x4 : Vec Ideal S1x8x128x128 .f32) (y0 : Fin 2) (y1 : Fin 8) (y2 : Fin 128) (y3 : Fin 128) : EReal :=
  if y0.val = 0 then KE x1 x4 y1 (⟨4 + y2.val, by omega⟩ : Fin 256) y3 else 0

/-- Every store of the keys holds the values said, -/
theorem E14_pieces : View.PiecesOf (fun y => E14 x1 x4 (y 0) (y 1) (y 2) (y 3)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.1 := by
  refine ⟨?_, ?_, ?_, ?_, ?_, ?_, ?_, ?_, fun x => ?_, trivial⟩
  · refine state_piece (A := 8) (R := 128) (C := 128) (b := 7) _ _ _ _ _ _ _ (E14 x1 x4) (fun t l hb => ?_)
    pointwise [sl.v2674, sl.v2669]
    refine (load_page (B := 8) (R := 256) (C := 128) (b := 7) (r0 := 4) (c0 := 0) (h := 128) (w := 128) _ _ _ _ _ _ _ _ _ _).trans ?_
    refine (KE7 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 6) _ _ _ _ _ _ _ (E14 x1 x4) (fun t l hb => ?_)
    pointwise [k0_pay286, sl.v2329]
    refine (load_page (B := 8) (R := 256) (C := 128) (b := 6) (r0 := 4) (c0 := 0) (h := 128) (w := 128) _ _ _ _ _ _ _ _ _ _).trans ?_
    refine (KE6 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 5) _ _ _ _ _ _ _ (E14 x1 x4) (fun t l hb => ?_)
    pointwise [k0_pay245, sl.r_113, sl.v1989]
    refine (load_page (B := 8) (R := 256) (C := 128) (b := 5) (r0 := 4) (c0 := 0) (h := 128) (w := 128) _ _ _ _ _ _ _ _ _ _).trans ?_
    refine (KE5 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 4) _ _ _ _ _ _ _ (E14 x1 x4) (fun t l hb => ?_)
    pointwise [sl.v1654, sl.v1649]
    refine (load_page (B := 8) (R := 256) (C := 128) (b := 4) (r0 := 4) (c0 := 0) (h := 128) (w := 128) _ _ _ _ _ _ _ _ _ _).trans ?_
    refine (KE4 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 3) _ _ _ _ _ _ _ (E14 x1 x4) (fun t l hb => ?_)
    pointwise [sl.v1314, sl.v1309]
    refine (load_page (B := 8) (R := 256) (C := 128) (b := 3) (r0 := 4) (c0 := 0) (h := 128) (w := 128) _ _ _ _ _ _ _ _ _ _).trans ?_
    refine (KE3 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 2) _ _ _ _ _ _ _ (E14 x1 x4) (fun t l hb => ?_)
    pointwise [k0_pay120, sl.v969]
    refine (load_page (B := 8) (R := 256) (C := 128) (b := 2) (r0 := 4) (c0 := 0) (h := 128) (w := 128) _ _ _ _ _ _ _ _ _ _).trans ?_
    refine (KE2 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 1) _ _ _ _ _ _ _ (E14 x1 x4) (fun t l hb => ?_)
    pointwise [k0_pay79, sl.r_34, sl.v629]
    refine (load_page (B := 8) (R := 256) (C := 128) (b := 1) (r0 := 4) (c0 := 0) (h := 128) (w := 128) _ _ _ _ _ _ _ _ _ _).trans ?_
    refine (KE1 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · refine state_piece (A := 8) (R := 128) (C := 128) (b := 0) _ _ _ _ _ _ _ (E14 x1 x4) (fun t l hb => ?_)
    pointwise [sl.v294, sl.v289]
    refine (load_page (B := 8) (R := 256) (C := 128) (b := 0) (r0 := 4) (c0 := 0) (h := 128) (w := 128) _ _ _ _ _ _ _ _ _ _).trans ?_
    refine (KE0 c harg2 harg5 x1 x4 _ _ (by (try dsimp only); omega) (by (try dsimp only); omega)).trans ?_
    unfold E14
    refine Eq.trans ?_ (if_pos rfl).symm
    exact congr (congrArg (KE x1 x4 _) (Fin.ext (by (try dsimp only) <;> omega))) (Fin.ext (by (try dsimp only) <;> omega))
  · obtain ⟨i, j, t, l, rfl⟩ := ix4_cases (a := 1) (b := 8) (d := 128) (e := 128) x
    show _ = E14 x1 x4 (⟨1 + 1 * i.val, by omega⟩ : Fin 2) (⟨0 + 1 * j.val, by omega⟩ : Fin 8) (⟨0 + 1 * t.val, by omega⟩ : Fin 128) (⟨0 + 1 * l.val, by omega⟩ : Fin 128)
    pointwise [k0_pay9]
    unfold E14
    rw [if_neg (by (try dsimp only); omega)]

/-- so the block does. -/
theorem E14_at (y : S2x8x128x128.Idx) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y = E14 x1 x4 (y 0) (y 1) (y 2) (y 3) :=
  (View.read_writes_junk_apply_eq_canon _ y _).trans
    (View.canon_apply_of_pieces (fun y => E14 x1 x4 (y 0) (y 1) (y 2) (y 3)) _ (E14_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).mem y
      (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y))

/-- The block of the values kept for the next call, as a function of the index. -/
def E15 (x1 : Vec Ideal S32x3328 .f32) (x5 : Vec Ideal S1x8x128x128 .f32) (y0 : Fin 2) (y1 : Fin 8) (y2 : Fin 128) (y3 : Fin 128) : EReal :=
  if y0.val = 0 then VE x1 x5 y1 (⟨4 + y2.val, by omega⟩ : Fin 256) y3 else 0

/-- Every store of the values holds the values said, -/
theorem E15_pieces : View.PiecesOf (fun y => E15 x1 x5 (y 0) (y 1) (y 2) (y 3)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.2.2.2.1 := by
  refine ⟨?_, ?_, ?_, ?_, ?_, ?_, ?_, ?_, fun x => ?_, trivial⟩
  · refine state_piece (A := 8) (R := 128) (C := 128) (b := 7) _ _ _ _ _ _ _ (E15 x1 x5) (fun t l hb => ?_)
    pointwise [k0_pay332, sl.r_152, sl.v2677]
    refine (load_page (B := 8) (R := 256) (C := 128) (b := 7) (r0 := 4) (c0 := 0) (h := 128) (w := 128) _ _ _ _ _ _ _ _ _ _).trans ?_
    refine (VE7 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 6) _ _ _ _ _ _ _ (E15 x1 x5) (fun t l hb => ?_)
    pointwise [k0_pay287, sl.v2337]
    refine (load_page (B := 8) (R := 256) (C := 128) (b := 6) (r0 := 4) (c0 := 0) (h := 128) (w := 128) _ _ _ _ _ _ _ _ _ _).trans ?_
    refine (VE6 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 5) _ _ _ _ _ _ _ (E15 x1 x5) (fun t l hb => ?_)
    pointwise [k0_pay246, sl.v1997]
    refine (load_page (B := 8) (R := 256) (C := 128) (b := 5) (r0 := 4) (c0 := 0) (h := 128) (w := 128) _ _ _ _ _ _ _ _ _ _).trans ?_
    refine (VE5 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 4) _ _ _ _ _ _ _ (E15 x1 x5) (fun t l hb => ?_)
    pointwise [k0_pay203, sl.v1657]
    refine (load_page (B := 8) (R := 256) (C := 128) (b := 4) (r0 := 4) (c0 := 0) (h := 128) (w := 128) _ _ _ _ _ _ _ _ _ _).trans ?_
    refine (VE4 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 3) _ _ _ _ _ _ _ (E15 x1 x5) (fun t l hb => ?_)
    pointwise [sl.v1322, sl.v1317]
    refine (load_page (B := 8) (R := 256) (C := 128) (b := 3) (r0 := 4) (c0 := 0) (h := 128) (w := 128) _ _ _ _ _ _ _ _ _ _).trans ?_
    refine (VE3 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 2) _ _ _ _ _ _ _ (E15 x1 x5) (fun t l hb => ?_)
    pointwise [k0_pay121, sl.v977]
    refine (load_page (B := 8) (R := 256) (C := 128) (b := 2) (r0 := 4) (c0 := 0) (h := 128) (w := 128) _ _ _ _ _ _ _ _ _ _).trans ?_
    refine (VE2 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 1) _ _ _ _ _ _ _ (E15 x1 x5) (fun t l hb => ?_)
    pointwise [k0_pay80, sl.v637]
    refine (load_page (B := 8) (R := 256) (C := 128) (b := 1) (r0 := 4) (c0 := 0) (h := 128) (w := 128) _ _ _ _ _ _ _ _ _ _).trans ?_
    refine (VE1 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · refine state_piece (A := 8) (R := 128) (C := 128) (b := 0) _ _ _ _ _ _ _ (E15 x1 x5) (fun t l hb => ?_)
    pointwise [k0_pay40, sl.r_17, sl.v297]
    refine (load_page (B := 8) (R := 256) (C := 128) (b := 0) (r0 := 4) (c0 := 0) (h := 128) (w := 128) _ _ _ _ _ _ _ _ _ _).trans ?_
    refine (VE0 c harg2 harg6 x1 x5 _ _ (by (try dsimp only); omega) (by (try dsimp only); omega)).trans ?_
    unfold E15
    refine Eq.trans ?_ (if_pos rfl).symm
    exact congr (congrArg (VE x1 x5 _) (Fin.ext (by (try dsimp only) <;> omega))) (Fin.ext (by (try dsimp only) <;> omega))
  · obtain ⟨i, j, t, l, rfl⟩ := ix4_cases (a := 1) (b := 8) (d := 128) (e := 128) x
    show _ = E15 x1 x5 (⟨1 + 1 * i.val, by omega⟩ : Fin 2) (⟨0 + 1 * j.val, by omega⟩ : Fin 8) (⟨0 + 1 * t.val, by omega⟩ : Fin 128) (⟨0 + 1 * l.val, by omega⟩ : Fin 128)
    pointwise [k0_pay10]
    unfold E15
    rw [if_neg (by (try dsimp only); omega)]

/-- so the block does. -/
theorem E15_at (y : S2x8x128x128.Idx) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y = E15 x1 x5 (y 0) (y 1) (y 2) (y 3) :=
  (View.read_writes_junk_apply_eq_canon _ y _).trans
    (View.canon_apply_of_pieces (fun y => E15 x1 x5 (y 0) (y 1) (y 2) (y 3)) _ (E15_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).mem y
      (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 y))

end Cert.MixerIdeal.Tie

end
-- ==== Proof.MixerRef.lean ====
/-
  The reference of the sample mixers, stage by stage, and each stage read at an index.
-/
module

public import proofs.«01_k».proof.Proof.Gen.MixerRefIdeal.Run
public import Idealize.ShloMosaic.Lib.Pipeline.ValueKit

@[expose] public section

set_option maxRecDepth 16384

noncomputable section

open Idealize.ShloMosaic Idealize.ShloMosaic.TcCoe Idealize.SL.Sem

namespace Cert.MixerRefIdeal.Tie

open Cert.MixerRefIdeal Cert.MixerRefIdeal.Gen

/-- The projection, batch by batch. -/
def proj (a1 : FVec Ideal S512x3328 .f32) : FVec Ideal S128x4x3328 .f32 :=
  shapeCast _ a1 shapeCasts_S512x3328_S128x4x3328

/-- The input of the pooled means. -/
def inp (a1 : FVec Ideal S512x3328 .f32) : FVec Ideal S128x4x512 .f32 :=
  extractStridedSlice S128x4x512 ![0, 0, 0] (proj a1) slices_S128x4x3328_S128x4x512_0_0_0

/-- The kept and the new rows of the pooled means. -/
def pooled (a1 : FVec Ideal S512x3328 .f32) (a2 : FVec Ideal S2x128x15x512 .f32) : FVec Ideal S128x19x512 .f32 :=
  concatenate S128x19x512 1 [⟨S128x15x512, (shapeCast _ (extractStridedSlice S1x128x15x512 ![0, 0, 0, 0] a2 slices_S2x128x15x512_S1x128x15x512_0_0_0_0) shapeCasts_S1x128x15x512_S128x15x512)⟩, ⟨S128x4x512, (inp a1)⟩] concatenates_S128x15x512_S128x4x512_S128x19x512_d1

/-- The positions of the new tokens. -/
def place : IVec S4 32 :=
  addi (broadcastInDim S4 ![] bcast_S_S4 (constantI S_ 32 8192#32)) (iotaInDim S4 32 0)

/-- The means. -/
def means (a1 : FVec Ideal S512x3328 .f32) (a2 : FVec Ideal S2x128x15x512 .f32) : FVec Ideal S128x4x512 .f32 :=
  (concatenate S128x4x512 2 [⟨S128x4x128, ((Host.divf (addf (addf (broadcastInDim S128x4x128 ![] bcast_S_S128x4x128 (constant S_ .f32 0x00000000#32)) (extractStridedSlice S128x4x128 ![0, 15, 0] (pooled a1 a2) slices_S128x19x512_S128x4x128_0_15_0)) (extractStridedSlice S128x4x128 ![0, 14, 0] (pooled a1 a2) slices_S128x19x512_S128x4x128_0_14_0)) (broadcastInDim S128x4x128 ![0, 1, 2] bcast_S1x4x1_S128x4x128_0_1_2 (broadcastInDim S1x4x1 ![1] bcast_S4_S1x4x1_1 (sitofp .f32 (minsi (addi (place) (broadcastInDim S4 ![] bcast_S_S4 (constantI S_ 32 1#32))) (broadcastInDim S4 ![] bcast_S_S4 (constantI S_ 32 2#32))))))) : FVec Ideal S128x4x128 .f32)⟩, ⟨S128x4x128, ((Host.divf (addf (addf (addf (addf (broadcastInDim S128x4x128 ![] bcast_S_S128x4x128 (constant S_ .f32 0x00000000#32)) (extractStridedSlice S128x4x128 ![0, 15, 128] (pooled a1 a2) slices_S128x19x512_S128x4x128_0_15_128)) (extractStridedSlice S128x4x128 ![0, 14, 128] (pooled a1 a2) slices_S128x19x512_S128x4x128_0_14_128)) (extractStridedSlice S128x4x128 ![0, 13, 128] (pooled a1 a2) slices_S128x19x512_S128x4x128_0_13_128)) (extractStridedSlice S128x4x128 ![0, 12, 128] (pooled a1 a2) slices_S128x19x512_S128x4x128_0_12_128)) (broadcastInDim S128x4x128 ![0, 1, 2] bcast_S1x4x1_S128x4x128_0_1_2 (broadcastInDim S1x4x1 ![1] bcast_S4_S1x4x1_1 (sitofp .f32 (minsi (addi (place) (broadcastInDim S4 ![] bcast_S_S4 (constantI S_ 32 1#32))) (broadcastInDim S4 ![] bcast_S_S4 (constantI S_ 32 4#32))))))) : FVec Ideal S128x4x128 .f32)⟩, ⟨S128x4x128, ((Host.divf (addf (addf (addf (addf (addf (addf (addf (addf (broadcastInDim S128x4x128 ![] bcast_S_S128x4x128 (constant S_ .f32 0x00000000#32)) (extractStridedSlice S128x4x128 ![0, 15, 256] (pooled a1 a2) slices_S128x19x512_S128x4x128_0_15_256)) (extractStridedSlice S128x4x128 ![0, 14, 256] (pooled a1 a2) slices_S128x19x512_S128x4x128_0_14_256)) (extractStridedSlice S128x4x128 ![0, 13, 256] (pooled a1 a2) slices_S128x19x512_S128x4x128_0_13_256)) (extractStridedSlice S128x4x128 ![0, 12, 256] (pooled a1 a2) slices_S128x19x512_S128x4x128_0_12_256)) (extractStridedSlice S128x4x128 ![0, 11, 256] (pooled a1 a2) slices_S128x19x512_S128x4x128_0_11_256)) (extractStridedSlice S128x4x128 ![0, 10, 256] (pooled a1 a2) slices_S128x19x512_S128x4x128_0_10_256)) (extractStridedSlice S128x4x128 ![0, 9, 256] (pooled a1 a2) slices_S128x19x512_S128x4x128_0_9_256)) (extractStridedSlice S128x4x128 ![0, 8, 256] (pooled a1 a2) slices_S128x19x512_S128x4x128_0_8_256)) (broadcastInDim S128x4x128 ![0, 1, 2] bcast_S1x4x1_S128x4x128_0_1_2 (broadcastInDim S1x4x1 ![1] bcast_S4_S1x4x1_1 (sitofp .f32 (minsi (addi (place) (broadcastInDim S4 ![] bcast_S_S4 (constantI S_ 32 1#32))) (broadcastInDim S4 ![] bcast_S_S4 (constantI S_ 32 8#32))))))) : FVec Ideal S128x4x128 .f32)⟩, ⟨S128x4x128, ((Host.divf (addf (addf (addf (addf (addf (addf (addf (addf (addf (addf (addf (addf (addf (addf (addf (addf (broadcastInDim S128x4x128 ![] bcast_S_S128x4x128 (constant S_ .f32 0x00000000#32)) (extractStridedSlice S128x4x128 ![0, 15, 384] (pooled a1 a2) slices_S128x19x512_S128x4x128_0_15_384)) (extractStridedSlice S128x4x128 ![0, 14, 384] (pooled a1 a2) slices_S128x19x512_S128x4x128_0_14_384)) (extractStridedSlice S128x4x128 ![0, 13, 384] (pooled a1 a2) slices_S128x19x512_S128x4x128_0_13_384)) (extractStridedSlice S128x4x128 ![0, 12, 384] (pooled a1 a2) slices_S128x19x512_S128x4x128_0_12_384)) (extractStridedSlice S128x4x128 ![0, 11, 384] (pooled a1 a2) slices_S128x19x512_S128x4x128_0_11_384)) (extractStridedSlice S128x4x128 ![0, 10, 384] (pooled a1 a2) slices_S128x19x512_S128x4x128_0_10_384)) (extractStridedSlice S128x4x128 ![0, 9, 384] (pooled a1 a2) slices_S128x19x512_S128x4x128_0_9_384)) (extractStridedSlice S128x4x128 ![0, 8, 384] (pooled a1 a2) slices_S128x19x512_S128x4x128_0_8_384)) (extractStridedSlice S128x4x128 ![0, 7, 384] (pooled a1 a2) slices_S128x19x512_S128x4x128_0_7_384)) (extractStridedSlice S128x4x128 ![0, 6, 384] (pooled a1 a2) slices_S128x19x512_S128x4x128_0_6_384)) (extractStridedSlice S128x4x128 ![0, 5, 384] (pooled a1 a2) slices_S128x19x512_S128x4x128_0_5_384)) (extractStridedSlice S128x4x128 ![0, 4, 384] (pooled a1 a2) slices_S128x19x512_S128x4x128_0_4_384)) (extractStridedSlice S128x4x128 ![0, 3, 384] (pooled a1 a2) slices_S128x19x512_S128x4x128_0_3_384)) (extractStridedSlice S128x4x128 ![0, 2, 384] (pooled a1 a2) slices_S128x19x512_S128x4x128_0_2_384)) (extractStridedSlice S128x4x128 ![0, 1, 384] (pooled a1 a2) slices_S128x19x512_S128x4x128_0_1_384)) (extractStridedSlice S128x4x128 ![0, 0, 384] (pooled a1 a2) slices_S128x19x512_S128x4x128_0_0_384)) (broadcastInDim S128x4x128 ![0, 1, 2] bcast_S1x4x1_S128x4x128_0_1_2 (broadcastInDim S1x4x1 ![1] bcast_S4_S1x4x1_1 (sitofp .f32 (minsi (addi (place) (broadcastInDim S4 ![] bcast_S_S4 (constantI S_ 32 1#32))) (broadcastInDim S4 ![] bcast_S_S4 (constantI S_ 32 16#32))))))) : FVec Ideal S128x4x128 .f32)⟩] concatenates_S128x4x128_S128x4x128_S128x4x128_S128x4x128_S128x4x512_d2 : FVec Ideal S128x4x512 .f32)

/-- The kept and the new gated rows. -/
def gated (a1 : FVec Ideal S512x3328 .f32) (a3 : FVec Ideal S2x128x2x512 .f32) : FVec Ideal S128x6x512 .f32 :=
  concatenate S128x6x512 1 [⟨S128x2x512, (shapeCast _ (extractStridedSlice S1x128x2x512 ![0, 0, 0, 0] a3 slices_S2x128x2x512_S1x128x2x512_0_0_0_0) shapeCasts_S1x128x2x512_S128x2x512)⟩, ⟨S128x4x512, (mulf (extractStridedSlice S128x4x512 ![0, 0, 1536] (proj a1) slices_S128x4x3328_S128x4x512_0_0_1536) (extractStridedSlice S128x4x512 ![0, 0, 512] (proj a1) slices_S128x4x3328_S128x4x512_0_0_512))⟩] concatenates_S128x2x512_S128x4x512_S128x6x512_d1

/-- The kept and the new keys. -/
def keys (a1 : FVec Ideal S512x3328 .f32) (a4 : FVec Ideal S2x128x128x2x64 .f32) : FVec Ideal S128x132x2x64 .f32 :=
  concatenate S128x132x2x64 1 [⟨S128x128x2x64, (shapeCast _ (extractStridedSlice S1x128x128x2x64 ![0, 0, 0, 0, 0] a4 slices_S2x128x128x2x64_S1x128x128x2x64_0_0_0_0_0) shapeCasts_S1x128x128x2x64_S128x128x2x64)⟩, ⟨S128x4x2x64, (shapeCast _ (extractStridedSlice S128x4x128 ![0, 0, 2560] (proj a1) slices_S128x4x3328_S128x4x128_0_0_2560) shapeCasts_S128x4x128_S128x4x2x64)⟩] concatenates_S128x128x2x64_S128x4x2x64_S128x132x2x64_d1

/-- The kept and the new values. -/
def vals (a1 : FVec Ideal S512x3328 .f32) (a5 : FVec Ideal S2x128x128x2x64 .f32) : FVec Ideal S128x132x2x64 .f32 :=
  concatenate S128x132x2x64 1 [⟨S128x128x2x64, (shapeCast _ (extractStridedSlice S1x128x128x2x64 ![0, 0, 0, 0, 0] a5 slices_S2x128x128x2x64_S1x128x128x2x64_0_0_0_0_0) shapeCasts_S1x128x128x2x64_S128x128x2x64)⟩, ⟨S128x4x2x64, (shapeCast _ (extractStridedSlice S128x4x128 ![0, 0, 2688] (proj a1) slices_S128x4x3328_S128x4x128_0_0_2688) shapeCasts_S128x4x128_S128x4x2x64)⟩] concatenates_S128x128x2x64_S128x4x2x64_S128x132x2x64_d1

/-- The distance from a query to a key. -/
def dist : IVec S4x132 32 :=
  subi (broadcastInDim S4x132 ![0, 1] bcast_S4x1_S4x132_0_1 (addi (broadcastInDim S4x1 ![0] bcast_S4_S4x1_0 (iotaInDim S4 32 0)) (broadcastInDim S4x1 ![] bcast_S_S4x1 (constantI S_ 32 128#32)))) (broadcastInDim S4x132 ![0, 1] bcast_S1x132_S4x132_0_1 (broadcastInDim S1x132 ![1] bcast_S132_S1x132_1 (iotaInDim S132 32 0)))

/-- The sinks. -/
def sink (a0 : FVec Ideal S2x8 .f32) : FVec Ideal S1x2x4x1x1 .f32 :=
  broadcastInDim S1x2x4x1x1 ![1, 2] bcast_S2x4_S1x2x4x1x1_1_2 (shapeCast _ (shapeCast _ (extractStridedSlice S1x8 ![0, 0] a0 slices_S2x8_S1x8_0_0) shapeCasts_S1x8_S8) shapeCasts_S8_S2x4)

/-- The masked scores. -/
def score (a1 : FVec Ideal S512x3328 .f32) (a4 : FVec Ideal S2x128x128x2x64 .f32) : FVec Ideal S128x2x4x4x132 .f32 :=
  select (broadcastInDim S128x2x4x4x132 ![0, 1, 2, 3, 4] bcast_S1x1x1x4x132_S128x2x4x4x132_0_1_2_3_4 (broadcastInDim S1x1x1x4x132 ![3, 4] bcast_S4x132_S1x1x1x4x132_3_4 (andi (cmpi .sge (dist) (broadcastInDim S4x132 ![] bcast_S_S4x132 (constantI S_ 32 0#32))) (cmpi .slt (dist) (broadcastInDim S4x132 ![] bcast_S_S4x132 (constantI S_ 32 128#32)))))) (mulf (transpose S128x2x4x4x132 [0, 1, 4, 3, 2] (Host.dotGeneral dot_S128x132x2x64_S128x4x2x4x64_S128x2x132x4x4_3_4_1_13_02_02 none (keys a1 a4) (shapeCast _ (extractStridedSlice S128x4x512 ![0, 0, 2048] (proj a1) slices_S128x4x3328_S128x4x512_0_0_2048) shapeCasts_S128x4x512_S128x4x2x4x64)) transposes_S128x2x132x4x4_S128x2x4x4x132_0_1_4_3_2) (broadcastInDim S128x2x4x4x132 ![] bcast_S_S128x2x4x4x132 (constant S_ .f32 0x3E000000#32))) (broadcastInDim S128x2x4x4x132 ![] bcast_S_S128x2x4x4x132 (id (constant S_ .f32 0xFF800000#32)))

/-- The greatest of the scores and the sink. -/
def top (a0 : FVec Ideal S2x8 .f32) (a1 : FVec Ideal S512x3328 .f32) (a4 : FVec Ideal S2x128x128x2x64 .f32) : FVec Ideal S128x2x4x4x1 .f32 :=
  maximumf (broadcastInDim S128x2x4x4x1 ![0, 1, 2, 3] bcast_S128x2x4x4_S128x2x4x4x1_0_1_2_3 (Host.reduce FloatOps.maximumf (score a1 a4) (constant S_ .f32 0xFF800000#32) reducesTo_S128x2x4x4x132_S128x2x4x4_d4 h_S_)) (broadcastInDim S128x2x4x4x1 ![0, 1, 2, 3, 4] bcast_S1x2x4x1x1_S128x2x4x4x1_0_1_2_3_4 (sink a0))

/-- The exponentials of the scores. -/
def expo (a0 : FVec Ideal S2x8 .f32) (a1 : FVec Ideal S512x3328 .f32) (a4 : FVec Ideal S2x128x128x2x64 .f32) : FVec Ideal S128x2x4x4x132 .f32 :=
  Host.exp (subf (score a1 a4) (broadcastInDim S128x2x4x4x132 ![0, 1, 2, 3, 4] bcast_S128x2x4x4x1_S128x2x4x4x132_0_1_2_3_4 (top a0 a1 a4)))

/-- The scores of the memory. -/
def mscore (a1 : FVec Ideal S512x3328 .f32) (a6 : FVec Ideal S2x128x256x4x128 .f32) : FVec Ideal S128x4x4x256 .f32 :=
  mulf (Host.dotGeneral dot_S128x4x4x128_S128x256x4x128_S128x4x4x256_3_3_1_1_02_02 none (shapeCast _ (extractStridedSlice S128x4x512 ![0, 0, 2816] (proj a1) slices_S128x4x3328_S128x4x512_0_0_2816) shapeCasts_S128x4x512_S128x4x4x128) (shapeCast _ (extractStridedSlice S1x128x256x4x128 ![0, 0, 0, 0, 0] a6 slices_S2x128x256x4x128_S1x128x256x4x128_0_0_0_0_0) shapeCasts_S1x128x256x4x128_S128x256x4x128)) (broadcastInDim S128x4x4x256 ![] bcast_S_S128x4x4x256 (constant S_ .f32 0x3DB504F3#32))

/-- The exponentials of the scores of the memory. -/
def mexpo (a1 : FVec Ideal S512x3328 .f32) (a6 : FVec Ideal S2x128x256x4x128 .f32) : FVec Ideal S128x4x4x256 .f32 :=
  Host.exp (subf (mscore a1 a6) (broadcastInDim S128x4x4x256 ![0, 1, 2, 3] bcast_S128x4x4x1_S128x4x4x256_0_1_2_3 (broadcastInDim S128x4x4x1 ![0, 1, 2] bcast_S128x4x4_S128x4x4x1_0_1_2 (maximumf (broadcastInDim S128x4x4 ![] bcast_S_S128x4x4 (constant S_ .f32 0xFF800000#32)) (Host.reduce FloatOps.maximumf (mscore a1 a6) (constant S_ .f32 0xFF800000#32) reducesTo_S128x4x4x256_S128x4x4_d3 h_S_)))))

/-- The projected means. -/
def poolOut (a1 : FVec Ideal S512x3328 .f32) (a2 : FVec Ideal S2x128x15x512 .f32) (a8 : FVec Ideal S2x4x128x128 .f32) (a9 : FVec Ideal S2x512 .f32) : FVec Ideal S128x4x512 .f32 :=
  (mulf (shapeCast _ (transpose S128x4x4x128 [2, 3, 0, 1] (Host.dotGeneral dot_S4x128x128_S128x4x4x128_S4x128x128x4_1_3_2_01_0_2 none (shapeCast _ (extractStridedSlice S1x4x128x128 ![0, 0, 0, 0] a8 slices_S2x4x128x128_S1x4x128x128_0_0_0_0) shapeCasts_S1x4x128x128_S4x128x128) (shapeCast _ (subf (means a1 a2) (inp a1)) shapeCasts_S128x4x512_S128x4x4x128)) transposes_S4x128x128x4_S128x4x4x128_2_3_0_1) shapeCasts_S128x4x4x128_S128x4x512) (broadcastInDim S128x4x512 ![0, 1, 2] bcast_S1x1x512_S128x4x512_0_1_2 (broadcastInDim S1x1x512 ![2] bcast_S512_S1x1x512_2 (shapeCast _ (extractStridedSlice S1x512 ![0, 0] a9 slices_S2x512_S1x512_0_0) shapeCasts_S1x512_S512))))

/-- The gated convolution. -/
def convOut (a1 : FVec Ideal S512x3328 .f32) (a3 : FVec Ideal S2x128x2x512 .f32) (a10 : FVec Ideal S2x3x512 .f32) : FVec Ideal S128x4x512 .f32 :=
  (mulf (extractStridedSlice S128x4x512 ![0, 0, 1024] (proj a1) slices_S128x4x3328_S128x4x512_0_0_1024) (addf (addf (mulf (broadcastInDim S128x4x512 ![0, 1, 2] bcast_S1x1x512_S128x4x512_0_1_2 (broadcastInDim S1x1x512 ![2] bcast_S512_S1x1x512_2 (shapeCast _ (extractStridedSlice S1x1x512 ![0, 0, 0] a10 slices_S2x3x512_S1x1x512_0_0_0) shapeCasts_S1x1x512_S512))) (extractStridedSlice S128x4x512 ![0, 0, 0] (gated a1 a3) slices_S128x6x512_S128x4x512_0_0_0)) (mulf (broadcastInDim S128x4x512 ![0, 1, 2] bcast_S1x1x512_S128x4x512_0_1_2 (broadcastInDim S1x1x512 ![2] bcast_S512_S1x1x512_2 (shapeCast _ (extractStridedSlice S1x1x512 ![0, 1, 0] a10 slices_S2x3x512_S1x1x512_0_1_0) shapeCasts_S1x1x512_S512))) (extractStridedSlice S128x4x512 ![0, 1, 0] (gated a1 a3) slices_S128x6x512_S128x4x512_0_1_0))) (mulf (broadcastInDim S128x4x512 ![0, 1, 2] bcast_S1x1x512_S128x4x512_0_1_2 (broadcastInDim S1x1x512 ![2] bcast_S512_S1x1x512_2 (shapeCast _ (extractStridedSlice S1x1x512 ![0, 2, 0] a10 slices_S2x3x512_S1x1x512_0_2_0) shapeCasts_S1x1x512_S512))) (extractStridedSlice S128x4x512 ![0, 2, 0] (gated a1 a3) slices_S128x6x512_S128x4x512_0_2_0))))

/-- The window attention. -/
def swaOut (a0 : FVec Ideal S2x8 .f32) (a1 : FVec Ideal S512x3328 .f32) (a4 : FVec Ideal S2x128x128x2x64 .f32) (a5 : FVec Ideal S2x128x128x2x64 .f32) : FVec Ideal S128x4x512 .f32 :=
  (shapeCast _ (transpose S128x4x2x4x64 [0, 4, 1, 3, 2] (Host.dotGeneral dot_S128x132x2x64_S128x2x4x4x132_S128x2x64x4x4_1_4_3_23_02_01 none (vals a1 a5) (Host.divf (expo a0 a1 a4) (broadcastInDim S128x2x4x4x132 ![0, 1, 2, 3, 4] bcast_S128x2x4x4x1_S128x2x4x4x132_0_1_2_3_4 (addf (broadcastInDim S128x2x4x4x1 ![0, 1, 2, 3] bcast_S128x2x4x4_S128x2x4x4x1_0_1_2_3 (Host.reduceAdd (expo a0 a1 a4) (constant S_ .f32 0x00000000#32) reducesTo_S128x2x4x4x132_S128x2x4x4_d4 h_S_)) (Host.exp (subf (broadcastInDim S128x2x4x4x1 ![0, 1, 2, 3, 4] bcast_S1x2x4x1x1_S128x2x4x4x1_0_1_2_3_4 (sink a0)) (top a0 a1 a4))))))) transposes_S128x2x64x4x4_S128x4x2x4x64_0_4_1_3_2) shapeCasts_S128x4x2x4x64_S128x4x512)

/-- The memory attention. -/
def memOut (a1 : FVec Ideal S512x3328 .f32) (a6 : FVec Ideal S2x128x256x4x128 .f32) (a7 : FVec Ideal S2x128x256x4x128 .f32) : FVec Ideal S128x4x512 .f32 :=
  (shapeCast _ (transpose S128x4x4x128 [0, 3, 1, 2] (Host.dotGeneral dot_S128x256x4x128_S128x4x4x256_S128x4x128x4_1_3_3_2_02_01 none (shapeCast _ (extractStridedSlice S1x128x256x4x128 ![0, 0, 0, 0, 0] a7 slices_S2x128x256x4x128_S1x128x256x4x128_0_0_0_0_0) shapeCasts_S1x128x256x4x128_S128x256x4x128) (Host.divf (mexpo a1 a6) (broadcastInDim S128x4x4x256 ![0, 1, 2, 3] bcast_S128x4x4x1_S128x4x4x256_0_1_2_3 (broadcastInDim S128x4x4x1 ![0, 1, 2] bcast_S128x4x4_S128x4x4x1_0_1_2 (Host.reduceAdd (mexpo a1 a6) (constant S_ .f32 0x00000000#32) reducesTo_S128x4x4x256_S128x4x4_d3 h_S_))))) transposes_S128x4x128x4_S128x4x4x128_0_3_1_2) shapeCasts_S128x4x4x128_S128x4x512)

/-- The mix. -/
def mixOut (a0 : FVec Ideal S2x8 .f32) (a1 : FVec Ideal S512x3328 .f32) (a2 : FVec Ideal S2x128x15x512 .f32) (a3 : FVec Ideal S2x128x2x512 .f32) (a4 : FVec Ideal S2x128x128x2x64 .f32) (a5 : FVec Ideal S2x128x128x2x64 .f32) (a6 : FVec Ideal S2x128x256x4x128 .f32) (a7 : FVec Ideal S2x128x256x4x128 .f32) (a8 : FVec Ideal S2x4x128x128 .f32) (a9 : FVec Ideal S2x512 .f32) (a10 : FVec Ideal S2x3x512 .f32) : FVec Ideal S512x2048 .f32 :=
  shapeCast _ ((concatenate S128x4x2048 2 [⟨S128x4x512, (poolOut a1 a2 a8 a9)⟩, ⟨S128x4x512, (convOut a1 a3 a10)⟩, ⟨S128x4x512, (swaOut a0 a1 a4 a5)⟩, ⟨S128x4x512, (memOut a1 a6 a7)⟩] concatenates_S128x4x512_S128x4x512_S128x4x512_S128x4x512_S128x4x2048_d2 : FVec Ideal S128x4x2048 .f32)) shapeCasts_S128x4x2048_S512x2048

/-- The rows kept for the means. -/
def poolState (a1 : FVec Ideal S512x3328 .f32) (a2 : FVec Ideal S2x128x15x512 .f32) : FVec Ideal S2x128x15x512 .f32 :=
  concatenate S2x128x15x512 0 [⟨S1x128x15x512, (broadcastInDim S1x128x15x512 ![1, 2, 3] bcast_S128x15x512_S1x128x15x512_1_2_3 (extractStridedSlice S128x15x512 ![0, 4, 0] (pooled a1 a2) slices_S128x19x512_S128x15x512_0_4_0))⟩, ⟨S1x128x15x512, (broadcastInDim S1x128x15x512 ![1, 2, 3] bcast_S128x15x512_S1x128x15x512_1_2_3 (broadcastInDim S128x15x512 ![] bcast_S_S128x15x512 (constant S_ .f32 0x00000000#32)))⟩] concatenates_S1x128x15x512_S1x128x15x512_S2x128x15x512_d0

/-- The rows kept for the convolution. -/
def convState (a1 : FVec Ideal S512x3328 .f32) (a3 : FVec Ideal S2x128x2x512 .f32) : FVec Ideal S2x128x2x512 .f32 :=
  concatenate S2x128x2x512 0 [⟨S1x128x2x512, (broadcastInDim S1x128x2x512 ![1, 2, 3] bcast_S128x2x512_S1x128x2x512_1_2_3 (extractStridedSlice S128x2x512 ![0, 4, 0] (gated a1 a3) slices_S128x6x512_S128x2x512_0_4_0))⟩, ⟨S1x128x2x512, (broadcastInDim S1x128x2x512 ![1, 2, 3] bcast_S128x2x512_S1x128x2x512_1_2_3 (broadcastInDim S128x2x512 ![] bcast_S_S128x2x512 (constant S_ .f32 0x00000000#32)))⟩] concatenates_S1x128x2x512_S1x128x2x512_S2x128x2x512_d0

/-- The keys kept. -/
def keyState (a1 : FVec Ideal S512x3328 .f32) (a4 : FVec Ideal S2x128x128x2x64 .f32) : FVec Ideal S2x128x128x128 .f32 :=
  concatenate S2x128x128x128 0 [⟨S1x128x128x128, (broadcastInDim S1x128x128x128 ![1, 2, 3] bcast_S128x128x128_S1x128x128x128_1_2_3 (shapeCast _ (extractStridedSlice S128x128x2x64 ![0, 4, 0, 0] (keys a1 a4) slices_S128x132x2x64_S128x128x2x64_0_4_0_0) shapeCasts_S128x128x2x64_S128x128x128))⟩, ⟨S1x128x128x128, (broadcastInDim S1x128x128x128 ![1, 2, 3] bcast_S128x128x128_S1x128x128x128_1_2_3 (broadcastInDim S128x128x128 ![] bcast_S_S128x128x128 (constant S_ .f32 0x00000000#32)))⟩] concatenates_S1x128x128x128_S1x128x128x128_S2x128x128x128_d0

/-- The values kept. -/
def valState (a1 : FVec Ideal S512x3328 .f32) (a5 : FVec Ideal S2x128x128x2x64 .f32) : FVec Ideal S2x128x128x128 .f32 :=
  concatenate S2x128x128x128 0 [⟨S1x128x128x128, (broadcastInDim S1x128x128x128 ![1, 2, 3] bcast_S128x128x128_S1x128x128x128_1_2_3 (shapeCast _ (extractStridedSlice S128x128x2x64 ![0, 4, 0, 0] (vals a1 a5) slices_S128x132x2x64_S128x128x2x64_0_4_0_0) shapeCasts_S128x128x2x64_S128x128x128))⟩, ⟨S1x128x128x128, (broadcastInDim S1x128x128x128 ![1, 2, 3] bcast_S128x128x128_S1x128x128x128_1_2_3 (broadcastInDim S128x128x128 ![] bcast_S_S128x128x128 (constant S_ .f32 0x00000000#32)))⟩] concatenates_S1x128x128x128_S1x128x128x128_S2x128x128x128_d0

/-- The input at an index. -/
theorem inp_at (a1 : FVec Ideal S512x3328 .f32) (b : Fin 128) (t : Fin 4) (k : Fin 512) :
    inp a1 (ix3 b t k) = a1 (ix2 (⟨b.val * 4 + t.val, by omega⟩ : Fin 512) (⟨k.val, by omega⟩ : Fin 3328)) := by
  pointwise [inp, proj]

/-- The rows of the means at an index: kept, then new. -/
theorem pooled_at (a1 : FVec Ideal S512x3328 .f32) (a2 : FVec Ideal S2x128x15x512 .f32) (b : Fin 128) (r : Fin 19) (k : Fin 512) :
    pooled a1 a2 (ix3 b r k) = if h : r.val < 15 then a2 (ix4 0 b (⟨r.val, h⟩ : Fin 15) k)
      else a1 (ix2 (⟨b.val * 4 + (r.val - 15), by omega⟩ : Fin 512) (⟨k.val, by omega⟩ : Fin 3328)) := by
  pointwise [pooled, inp, proj]

/-- The gated rows at an index: kept, then new. -/
theorem gated_at (a1 : FVec Ideal S512x3328 .f32) (a3 : FVec Ideal S2x128x2x512 .f32) (b : Fin 128) (r : Fin 6) (k : Fin 512) :
    gated a1 a3 (ix3 b r k) = if h : r.val < 2 then a3 (ix4 0 b (⟨r.val, h⟩ : Fin 2) k)
      else a1 (ix2 (⟨b.val * 4 + (r.val - 2), by omega⟩ : Fin 512) (⟨1536 + k.val, by omega⟩ : Fin 3328))
        * a1 (ix2 (⟨b.val * 4 + (r.val - 2), by omega⟩ : Fin 512) (⟨512 + k.val, by omega⟩ : Fin 3328)) := by
  pointwise [gated, proj]

/-- The keys at an index: cached, then new. -/
theorem keys_at (a1 : FVec Ideal S512x3328 .f32) (a4 : FVec Ideal S2x128x128x2x64 .f32) (b : Fin 128) (r : Fin 132) (h : Fin 2) (k : Fin 64) :
    keys a1 a4 (ix4 b r h k) = if hr : r.val < 128 then a4 (ix5 0 b (⟨r.val, hr⟩ : Fin 128) h k)
      else a1 (ix2 (⟨b.val * 4 + (r.val - 128), by omega⟩ : Fin 512) (⟨2560 + (h.val * 64 + k.val), by omega⟩ : Fin 3328)) := by
  pointwise [keys, proj]

/-- The values at an index: cached, then new. -/
theorem vals_at (a1 : FVec Ideal S512x3328 .f32) (a5 : FVec Ideal S2x128x128x2x64 .f32) (b : Fin 128) (r : Fin 132) (h : Fin 2) (k : Fin 64) :
    vals a1 a5 (ix4 b r h k) = if hr : r.val < 128 then a5 (ix5 0 b (⟨r.val, hr⟩ : Fin 128) h k)
      else a1 (ix2 (⟨b.val * 4 + (r.val - 128), by omega⟩ : Fin 512) (⟨2688 + (h.val * 64 + k.val), by omega⟩ : Fin 3328)) := by
  pointwise [vals, proj]

/-- The number of rows in a window that is always full. -/
theorem count2 : ∀ t : Fin 4, IntOp.minsi (IntOp.addi (IntOp.addi (8192#32) (BitVec.ofNat 32 t.val)) 1#32) 2#32 = 2#32 := by decide +kernel
/-- The number of rows in a window that is always full. -/
theorem count4 : ∀ t : Fin 4, IntOp.minsi (IntOp.addi (IntOp.addi (8192#32) (BitVec.ofNat 32 t.val)) 1#32) 4#32 = 4#32 := by decide +kernel
/-- The number of rows in a window that is always full. -/
theorem count8 : ∀ t : Fin 4, IntOp.minsi (IntOp.addi (IntOp.addi (8192#32) (BitVec.ofNat 32 t.val)) 1#32) 8#32 = 8#32 := by decide +kernel
/-- The number of rows in a window that is always full. -/
theorem count16 : ∀ t : Fin 4, IntOp.minsi (IntOp.addi (IntOp.addi (8192#32) (BitVec.ofNat 32 t.val)) 1#32) 16#32 = 16#32 := by decide +kernel

/-- The means of group 0: the last 2 rows. -/
theorem means0 (a1 : FVec Ideal S512x3328 .f32) (a2 : FVec Ideal S2x128x15x512 .f32) (b : Fin 128) (t : Fin 4) (k : Fin 128) :
    means a1 a2 (ix3 b t (⟨0 + k.val, by omega⟩ : Fin 512)) = Ideal.div (pooled a1 a2 (ix3 b (⟨15 + t.val, by omega⟩ : Fin 19) (⟨0 + k.val, by omega⟩ : Fin 512)) + pooled a1 a2 (ix3 b (⟨14 + t.val, by omega⟩ : Fin 19) (⟨0 + k.val, by omega⟩ : Fin 512))) (FloatOps.sitofp (F := Ideal) .f32 (2#32)) := by
  pointwise [means, place]
  simp only [count2, count4, count8, count16]
  all_goals rw [dif_pos (by (try dsimp only); omega)]

/-- The means of group 1: the last 4 rows. -/
theorem means1 (a1 : FVec Ideal S512x3328 .f32) (a2 : FVec Ideal S2x128x15x512 .f32) (b : Fin 128) (t : Fin 4) (k : Fin 128) :
    means a1 a2 (ix3 b t (⟨128 + k.val, by omega⟩ : Fin 512)) = Ideal.div (pooled a1 a2 (ix3 b (⟨15 + t.val, by omega⟩ : Fin 19) (⟨128 + k.val, by omega⟩ : Fin 512)) + pooled a1 a2 (ix3 b (⟨14 + t.val, by omega⟩ : Fin 19) (⟨128 + k.val, by omega⟩ : Fin 512)) + pooled a1 a2 (ix3 b (⟨13 + t.val, by omega⟩ : Fin 19) (⟨128 + k.val, by omega⟩ : Fin 512)) + pooled a1 a2 (ix3 b (⟨12 + t.val, by omega⟩ : Fin 19) (⟨128 + k.val, by omega⟩ : Fin 512))) (FloatOps.sitofp (F := Ideal) .f32 (4#32)) := by
  pointwise [means, place]
  simp only [count2, count4, count8, count16]
  all_goals rw [dif_neg (by (try dsimp only); omega)]; all_goals rw [dif_pos (by (try dsimp only); omega)]

/-- The means of group 2: the last 8 rows. -/
theorem means2 (a1 : FVec Ideal S512x3328 .f32) (a2 : FVec Ideal S2x128x15x512 .f32) (b : Fin 128) (t : Fin 4) (k : Fin 128) :
    means a1 a2 (ix3 b t (⟨256 + k.val, by omega⟩ : Fin 512)) = Ideal.div (pooled a1 a2 (ix3 b (⟨15 + t.val, by omega⟩ : Fin 19) (⟨256 + k.val, by omega⟩ : Fin 512)) + pooled a1 a2 (ix3 b (⟨14 + t.val, by omega⟩ : Fin 19) (⟨256 + k.val, by omega⟩ : Fin 512)) + pooled a1 a2 (ix3 b (⟨13 + t.val, by omega⟩ : Fin 19) (⟨256 + k.val, by omega⟩ : Fin 512)) + pooled a1 a2 (ix3 b (⟨12 + t.val, by omega⟩ : Fin 19) (⟨256 + k.val, by omega⟩ : Fin 512)) + pooled a1 a2 (ix3 b (⟨11 + t.val, by omega⟩ : Fin 19) (⟨256 + k.val, by omega⟩ : Fin 512)) + pooled a1 a2 (ix3 b (⟨10 + t.val, by omega⟩ : Fin 19) (⟨256 + k.val, by omega⟩ : Fin 512)) + pooled a1 a2 (ix3 b (⟨9 + t.val, by omega⟩ : Fin 19) (⟨256 + k.val, by omega⟩ : Fin 512)) + pooled a1 a2 (ix3 b (⟨8 + t.val, by omega⟩ : Fin 19) (⟨256 + k.val, by omega⟩ : Fin 512))) (FloatOps.sitofp (F := Ideal) .f32 (8#32)) := by
  pointwise [means, place]
  simp only [count2, count4, count8, count16]
  rw [dif_neg (by (try dsimp only); omega)]; rw [dif_neg (by (try dsimp only); omega)]; rw [dif_pos (by (try dsimp only); omega)]
  simp only [show 256 + k.val - 128 - 128 = k.val from by omega]

/-- The means of group 3: the last 16 rows. -/
theorem means3 (a1 : FVec Ideal S512x3328 .f32) (a2 : FVec Ideal S2x128x15x512 .f32) (b : Fin 128) (t : Fin 4) (k : Fin 128) :
    means a1 a2 (ix3 b t (⟨384 + k.val, by omega⟩ : Fin 512)) = Ideal.div (pooled a1 a2 (ix3 b (⟨15 + t.val, by omega⟩ : Fin 19) (⟨384 + k.val, by omega⟩ : Fin 512)) + pooled a1 a2 (ix3 b (⟨14 + t.val, by omega⟩ : Fin 19) (⟨384 + k.val, by omega⟩ : Fin 512)) + pooled a1 a2 (ix3 b (⟨13 + t.val, by omega⟩ : Fin 19) (⟨384 + k.val, by omega⟩ : Fin 512)) + pooled a1 a2 (ix3 b (⟨12 + t.val, by omega⟩ : Fin 19) (⟨384 + k.val, by omega⟩ : Fin 512)) + pooled a1 a2 (ix3 b (⟨11 + t.val, by omega⟩ : Fin 19) (⟨384 + k.val, by omega⟩ : Fin 512)) + pooled a1 a2 (ix3 b (⟨10 + t.val, by omega⟩ : Fin 19) (⟨384 + k.val, by omega⟩ : Fin 512)) + pooled a1 a2 (ix3 b (⟨9 + t.val, by omega⟩ : Fin 19) (⟨384 + k.val, by omega⟩ : Fin 512)) + pooled a1 a2 (ix3 b (⟨8 + t.val, by omega⟩ : Fin 19) (⟨384 + k.val, by omega⟩ : Fin 512)) + pooled a1 a2 (ix3 b (⟨7 + t.val, by omega⟩ : Fin 19) (⟨384 + k.val, by omega⟩ : Fin 512)) + pooled a1 a2 (ix3 b (⟨6 + t.val, by omega⟩ : Fin 19) (⟨384 + k.val, by omega⟩ : Fin 512)) + pooled a1 a2 (ix3 b (⟨5 + t.val, by omega⟩ : Fin 19) (⟨384 + k.val, by omega⟩ : Fin 512)) + pooled a1 a2 (ix3 b (⟨4 + t.val, by omega⟩ : Fin 19) (⟨384 + k.val, by omega⟩ : Fin 512)) + pooled a1 a2 (ix3 b (⟨3 + t.val, by omega⟩ : Fin 19) (⟨384 + k.val, by omega⟩ : Fin 512)) + pooled a1 a2 (ix3 b (⟨2 + t.val, by omega⟩ : Fin 19) (⟨384 + k.val, by omega⟩ : Fin 512)) + pooled a1 a2 (ix3 b (⟨1 + t.val, by omega⟩ : Fin 19) (⟨384 + k.val, by omega⟩ : Fin 512)) + pooled a1 a2 (ix3 b (⟨0 + t.val, by omega⟩ : Fin 19) (⟨384 + k.val, by omega⟩ : Fin 512))) (FloatOps.sitofp (F := Ideal) .f32 (16#32)) := by
  pointwise [means, place]
  simp only [count2, count4, count8, count16]
  rw [dif_neg (by (try dsimp only); omega)]; rw [dif_neg (by (try dsimp only); omega)]; rw [dif_neg (by (try dsimp only); omega)];
  simp only [show 384 + k.val - 128 - 128 - 128 = k.val from by omega]

/-- The scale of the window attention. -/
def kscale : EReal := Ideal.ofBits FTy.f32 1040187392#32

/-- The window mask of the reference. -/
theorem near : ∀ (t : Fin 4) (k : Fin 132), IntOp.andi
        (IntOp.cmpi CmpIPredicate.sge (IntOp.subi (IntOp.addi (BitVec.ofNat 32 t.val) 128#32) (BitVec.ofNat 32 k.val)) 0#32)
        (IntOp.cmpi CmpIPredicate.slt (IntOp.subi (IntOp.addi (BitVec.ofNat 32 t.val) 128#32) (BitVec.ofNat 32 k.val)) 128#32)
      = if t.val < k.val ∧ k.val ≤ t.val + 128 then 1#1 else 0#1 := by decide +kernel

/-- The scores at an index: the scaled product inside the window, the bottom outside. -/
theorem score_at (a1 : FVec Ideal S512x3328 .f32) (a4 : FVec Ideal S2x128x128x2x64 .f32) (b : Fin 128) (h : Fin 2) (g : Fin 4) (t : Fin 4) (k : Fin 132) :
    score a1 a4 (ix5 b h g t k) = if t.val < k.val ∧ k.val ≤ t.val + 128 then
      (∑ x : Fin 64, keys a1 a4 (ix4 b k h x) * a1 (ix2 (⟨b.val * 4 + t.val, by omega⟩ : Fin 512) (⟨2048 + (h.val * 256 + g.val * 64 + x.val), by omega⟩ : Fin 3328))) * kscale
      else ⊥ := by
  pointwise [score, proj, dist]
  rw [near]
  by_cases c : t.val < k.val ∧ k.val ≤ t.val + 128
  · rw [if_pos c, if_pos c]; rfl
  · rw [if_neg c, if_neg c]
    exact (by decide +kernel : Ideal.ofBits FTy.f32 4286578688#32 = ⊥)

/-- The projected means at an index. -/
theorem poolOut_at (a1 : FVec Ideal S512x3328 .f32) (a2 : FVec Ideal S2x128x15x512 .f32) (a8 : FVec Ideal S2x4x128x128 .f32) (a9 : FVec Ideal S2x512 .f32) (b : Fin 128) (t : Fin 4) (k : Fin 512) :
    poolOut a1 a2 a8 a9 (ix3 b t k) = (∑ x : Fin 128,
        a8 (ix4 0 (⟨k.val / 128, by omega⟩ : Fin 4) x (⟨k.val % 128, by omega⟩ : Fin 128)) *
          (means a1 a2 (ix3 b t (⟨k.val / 128 * 128 + x.val, by omega⟩ : Fin 512)) - inp a1 (ix3 b t (⟨k.val / 128 * 128 + x.val, by omega⟩ : Fin 512)))) *
      a9 (ix2 0 k) := by
  pointwise [poolOut]

/-- The gated convolution at an index. -/
theorem convOut_at (a1 : FVec Ideal S512x3328 .f32) (a3 : FVec Ideal S2x128x2x512 .f32) (a10 : FVec Ideal S2x3x512 .f32) (b : Fin 128) (t : Fin 4) (k : Fin 512) :
    convOut a1 a3 a10 (ix3 b t k) = a1 (ix2 (⟨b.val * 4 + t.val, by omega⟩ : Fin 512) (⟨1024 + k.val, by omega⟩ : Fin 3328)) *
      (a10 (ix3 0 0 k) * gated a1 a3 (ix3 b (⟨t.val, by omega⟩ : Fin 6) k) + a10 (ix3 0 1 k) * gated a1 a3 (ix3 b (⟨1 + t.val, by omega⟩ : Fin 6) k) +
        a10 (ix3 0 2 k) * gated a1 a3 (ix3 b (⟨2 + t.val, by omega⟩ : Fin 6) k)) := by
  pointwise [convOut, proj]

/-- The greatest of a row's scores and its sink. -/
def rtop (a0 : FVec Ideal S2x8 .f32) (a1 : FVec Ideal S512x3328 .f32) (a4 : FVec Ideal S2x128x128x2x64 .f32) (b : Fin 128) (h : Fin 2) (g : Fin 4) (t : Fin 4) : EReal :=
  max (Finset.fold max (Ideal.ofBits FTy.f32 4286578688#32) (fun j : Fin 132 => score a1 a4 (ix5 b h g t j)) Finset.univ) (a0 (ix2 0 (⟨h.val * 4 + g.val, by omega⟩ : Fin 8)))

/-- The window attention at an index. -/
theorem swaOut_at (a0 : FVec Ideal S2x8 .f32) (a1 : FVec Ideal S512x3328 .f32) (a4 : FVec Ideal S2x128x128x2x64 .f32) (a5 : FVec Ideal S2x128x128x2x64 .f32) (b : Fin 128) (t : Fin 4) (k : Fin 512) :
    swaOut a0 a1 a4 a5 (ix3 b t k) = ∑ x : Fin 132,
      vals a1 a5 (ix4 b x (⟨k.val / 256, by omega⟩ : Fin 2) (⟨k.val % 64, by omega⟩ : Fin 64)) *
        Ideal.div
          (Ideal.exp (score a1 a4 (ix5 b (⟨k.val / 256, by omega⟩ : Fin 2) (⟨k.val / 64 % 4, by omega⟩ : Fin 4) t x) - rtop a0 a1 a4 b (⟨k.val / 256, by omega⟩ : Fin 2) (⟨k.val / 64 % 4, by omega⟩ : Fin 4) t))
          ((∑ j : Fin 132, Ideal.exp (score a1 a4 (ix5 b (⟨k.val / 256, by omega⟩ : Fin 2) (⟨k.val / 64 % 4, by omega⟩ : Fin 4) t j) - rtop a0 a1 a4 b (⟨k.val / 256, by omega⟩ : Fin 2) (⟨k.val / 64 % 4, by omega⟩ : Fin 4) t)) +
            Ideal.exp (a0 (ix2 0 (⟨k.val / 256 * 4 + k.val / 64 % 4, by omega⟩ : Fin 8)) - rtop a0 a1 a4 b (⟨k.val / 256, by omega⟩ : Fin 2) (⟨k.val / 64 % 4, by omega⟩ : Fin 4) t)) := by
  pointwise [swaOut, expo, top, sink]
  all_goals rfl

/-- The greatest score of a row of the memory attention. -/
def mtop (a1 : FVec Ideal S512x3328 .f32) (a6 : FVec Ideal S2x128x256x4x128 .f32) (b : Fin 128) (h : Fin 4) (t : Fin 4) : EReal :=
  max (Ideal.ofBits FTy.f32 4286578688#32) (Finset.fold max (Ideal.ofBits FTy.f32 4286578688#32) (fun j : Fin 256 => mscore a1 a6 (ix4 b h t j)) Finset.univ)

/-- The memory attention at an index. -/
theorem memOut_at (a1 : FVec Ideal S512x3328 .f32) (a6 : FVec Ideal S2x128x256x4x128 .f32) (a7 : FVec Ideal S2x128x256x4x128 .f32) (b : Fin 128) (t : Fin 4) (k : Fin 512) :
    memOut a1 a6 a7 (ix3 b t k) = ∑ x : Fin 256,
      a7 (ix5 0 b x (⟨k.val / 128, by omega⟩ : Fin 4) (⟨k.val % 128, by omega⟩ : Fin 128)) *
        Ideal.div
          (Ideal.exp (mscore a1 a6 (ix4 b (⟨k.val / 128, by omega⟩ : Fin 4) t x) - mtop a1 a6 b (⟨k.val / 128, by omega⟩ : Fin 4) t))
          (∑ j : Fin 256, Ideal.exp (mscore a1 a6 (ix4 b (⟨k.val / 128, by omega⟩ : Fin 4) t j) - mtop a1 a6 b (⟨k.val / 128, by omega⟩ : Fin 4) t)) := by
  pointwise [memOut, mexpo]
  all_goals rfl

/-- The scores of the memory at an index. -/
theorem mscore_at (a1 : FVec Ideal S512x3328 .f32) (a6 : FVec Ideal S2x128x256x4x128 .f32) (b : Fin 128) (h : Fin 4) (t : Fin 4) (k : Fin 256) :
    mscore a1 a6 (ix4 b h t k) = (∑ x : Fin 128, a1 (ix2 (⟨b.val * 4 + t.val, by omega⟩ : Fin 512) (⟨2816 + (h.val * 128 + x.val), by omega⟩ : Fin 3328)) * a6 (ix5 0 b k h x)) *
      Ideal.ofBits FTy.f32 1035273459#32 := by
  pointwise [mscore, proj]

/-- The mix at an index: four mixers side by side, rows numbered through the batches. -/
theorem mixOut_at (a0 : FVec Ideal S2x8 .f32) (a1 : FVec Ideal S512x3328 .f32) (a2 : FVec Ideal S2x128x15x512 .f32) (a3 : FVec Ideal S2x128x2x512 .f32) (a4 : FVec Ideal S2x128x128x2x64 .f32) (a5 : FVec Ideal S2x128x128x2x64 .f32) (a6 : FVec Ideal S2x128x256x4x128 .f32) (a7 : FVec Ideal S2x128x256x4x128 .f32) (a8 : FVec Ideal S2x4x128x128 .f32) (a9 : FVec Ideal S2x512 .f32) (a10 : FVec Ideal S2x3x512 .f32) (r : Fin 512) (k : Fin 2048) :
    mixOut a0 a1 a2 a3 a4 a5 a6 a7 a8 a9 a10 (ix2 r k) = if h : k.val < 512 then poolOut a1 a2 a8 a9 (ix3 (⟨r.val / 4, by omega⟩ : Fin 128) (⟨r.val % 4, by omega⟩ : Fin 4) (⟨k.val, by omega⟩ : Fin 512))
      else if h : k.val < 1024 then convOut a1 a3 a10 (ix3 (⟨r.val / 4, by omega⟩ : Fin 128) (⟨r.val % 4, by omega⟩ : Fin 4) (⟨k.val - 512, by omega⟩ : Fin 512))
      else if h : k.val < 1536 then swaOut a0 a1 a4 a5 (ix3 (⟨r.val / 4, by omega⟩ : Fin 128) (⟨r.val % 4, by omega⟩ : Fin 4) (⟨k.val - 1024, by omega⟩ : Fin 512))
      else memOut a1 a6 a7 (ix3 (⟨r.val / 4, by omega⟩ : Fin 128) (⟨r.val % 4, by omega⟩ : Fin 4) (⟨k.val - 1536, by omega⟩ : Fin 512)) := by
  pointwise [mixOut]
  by_cases h1 : k.val < 512
  · rw [dif_pos h1, dif_pos h1]
  rw [dif_neg h1, dif_neg h1]
  by_cases h2 : k.val < 1024
  · rw [dif_pos (show k.val - 512 < 512 by omega), dif_pos h2]
  rw [dif_neg (show ¬ k.val - 512 < 512 by omega), dif_neg h2]
  by_cases h3 : k.val < 1536
  · rw [dif_pos (show k.val - 512 - 512 < 512 by omega), dif_pos h3]
    exact congrArg (fun i => swaOut a0 a1 a4 a5 (ix3 (⟨r.val / 4, by omega⟩ : Fin 128) (⟨r.val % 4, by omega⟩ : Fin 4) i)) (Fin.ext (by (try dsimp only); omega))
  rw [dif_neg (show ¬ k.val - 512 - 512 < 512 by omega), dif_neg h3]
  exact congrArg (fun i => memOut a1 a6 a7 (ix3 (⟨r.val / 4, by omega⟩ : Fin 128) (⟨r.val % 4, by omega⟩ : Fin 4) i)) (Fin.ext (by (try dsimp only); omega))

/-- The kept rows at an index: the last ones, and nothing on the next layer's page. -/
theorem poolState_at (a1 : FVec Ideal S512x3328 .f32) (a2 : FVec Ideal S2x128x15x512 .f32) (p : Fin 2) (b : Fin 128) (r : Fin 15) (k : Fin 512) :
    poolState a1 a2 (ix4 p b r k) = if p.val = 0 then pooled a1 a2 (ix3 b (⟨4 + r.val, by omega⟩ : Fin 19) k) else 0 := by
  pointwise [poolState]
  by_cases c : p.val = 0
  · rw [if_pos c]
    first | rw [dif_pos (by omega)] | rw [if_pos (by omega)]
  · rw [if_neg c]
    first | rw [dif_neg (by omega)] | rw [if_neg (by omega)]

/-- The kept rows at an index: the last ones, and nothing on the next layer's page. -/
theorem convState_at (a1 : FVec Ideal S512x3328 .f32) (a3 : FVec Ideal S2x128x2x512 .f32) (p : Fin 2) (b : Fin 128) (r : Fin 2) (k : Fin 512) :
    convState a1 a3 (ix4 p b r k) = if p.val = 0 then gated a1 a3 (ix3 b (⟨4 + r.val, by omega⟩ : Fin 6) k) else 0 := by
  pointwise [convState]
  by_cases c : p.val = 0
  · rw [if_pos c]
    first | rw [dif_pos (by omega)] | rw [if_pos (by omega)]
  · rw [if_neg c]
    first | rw [dif_neg (by omega)] | rw [if_neg (by omega)]

/-- The kept rows at an index: the last ones, and nothing on the next layer's page. -/
theorem keyState_at (a1 : FVec Ideal S512x3328 .f32) (a4 : FVec Ideal S2x128x128x2x64 .f32) (p : Fin 2) (b : Fin 128) (r : Fin 128) (k : Fin 128) :
    keyState a1 a4 (ix4 p b r k) = if p.val = 0 then keys a1 a4 (ix4 b (⟨4 + r.val, by omega⟩ : Fin 132) (⟨k.val / 64, by omega⟩ : Fin 2) (⟨k.val % 64, by omega⟩ : Fin 64)) else 0 := by
  pointwise [keyState]
  by_cases c : p.val = 0
  · rw [if_pos c]
    first | rw [dif_pos (by omega)] | rw [if_pos (by omega)]
  · rw [if_neg c]
    first | rw [dif_neg (by omega)] | rw [if_neg (by omega)]

/-- The kept rows at an index: the last ones, and nothing on the next layer's page. -/
theorem valState_at (a1 : FVec Ideal S512x3328 .f32) (a5 : FVec Ideal S2x128x128x2x64 .f32) (p : Fin 2) (b : Fin 128) (r : Fin 128) (k : Fin 128) :
    valState a1 a5 (ix4 p b r k) = if p.val = 0 then vals a1 a5 (ix4 b (⟨4 + r.val, by omega⟩ : Fin 132) (⟨k.val / 64, by omega⟩ : Fin 2) (⟨k.val % 64, by omega⟩ : Fin 64)) else 0 := by
  pointwise [valState]
  by_cases c : p.val = 0
  · rw [if_pos c]
    first | rw [dif_pos (by omega)] | rw [if_pos (by omega)]
  · rw [if_neg c]
    first | rw [dif_neg (by omega)] | rw [if_neg (by omega)]

end Cert.MixerRefIdeal.Tie

end
-- ==== Proof.MixerReal.lean ====
/-
  Facts on the extended reals that the mixers' algebra uses: sums and maxima over part of a range, a common factor of a
  sum, and the denominators of the softmaxes.
-/
module

public import proofs.«01_k».proof.Proof.MixerRef

@[expose] public section

noncomputable section

open Idealize.ShloMosaic

namespace Cert.MixerReal

/-- A value that is a real number. -/
def IsR (x : EReal) : Prop := ∃ r : ℝ, x = (r : EReal)

theorem isR_of {x : EReal} (h1 : x ≠ ⊥) (h2 : x ≠ ⊤) : IsR x := ⟨x.toReal, (EReal.coe_toReal h2 h1).symm⟩

theorem IsR.ne_top {x : EReal} (h : IsR x) : x ≠ ⊤ := by
  obtain ⟨r, rfl⟩ := h; exact EReal.coe_ne_top r

theorem IsR.ne_bot {x : EReal} (h : IsR x) : x ≠ ⊥ := by
  obtain ⟨r, rfl⟩ := h; exact EReal.coe_ne_bot r

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- The exponential is never negative, -/
theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.mpr (Real.exp_pos r).le

/-- and positive at a real number. -/
theorem exp_pos {x : EReal} (h : IsR x) : 0 < Ideal.exp x := by
  obtain ⟨r, rfl⟩ := h
  rw [Ideal.exp_coe]; exact EReal.coe_pos.mpr (Real.exp_pos r)

/-- A common factor of a sum. -/
theorem sum_scale {ι : Type} (s : Finset ι) (f : ι → EReal) (c : EReal) (h0 : 0 ≤ c) (h1 : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 h1]

/-- A sum whose terms vanish off the image of `e`. -/
theorem sum_inj {α β : Type} [Fintype α] [Fintype β] (e : α → β) (he : Function.Injective e) (g : β → EReal)
    (hz : ∀ b, b ∉ Set.range e → g b = 0) : ∑ b, g b = ∑ a, g (e a) :=
  (Fintype.sum_of_injective e he (fun a => g (e a)) g hz (fun _ => rfl)).symm

/-- A maximum whose terms are the bottom off the image of `e`. -/
theorem fold_inj {α β : Type} [Fintype α] [Fintype β] (e : α → β) (g : β → EReal)
    (hz : ∀ b, b ∉ Set.range e → g b = ⊥) :
    Finset.fold max ⊥ g Finset.univ = Finset.fold max ⊥ (fun a => g (e a)) Finset.univ := by
  apply le_antisymm
  · rw [Finset.fold_max_le]
    refine ⟨bot_le, fun b _ => ?_⟩
    by_cases h : b ∈ Set.range e
    · obtain ⟨a, rfl⟩ := h
      rw [Finset.le_fold_max]
      exact Or.inr ⟨a, Finset.mem_univ a, le_rfl⟩
    · rw [hz b h]; exact bot_le
  · rw [Finset.fold_max_le]
    refine ⟨bot_le, fun a _ => ?_⟩
    rw [Finset.le_fold_max]
    exact Or.inr ⟨e a, Finset.mem_univ _, le_rfl⟩

/-- A maximum of values below the top is below the top. -/
theorem fold_ne_top {α : Type} [Fintype α] (g : α → EReal) (h : ∀ a, g a ≠ ⊤) : Finset.fold max ⊥ g Finset.univ ≠ ⊤ := by
  refine ne_of_lt ?_
  rw [Finset.fold_max_lt]
  exact ⟨bot_lt_top, fun a _ => lt_top_iff_ne_top.mpr (h a)⟩

/-- A reciprocal as a factor is a division when the denominator isn't zero. -/
theorem soft (e D : EReal) (h : D ≠ 0) : e * Ideal.div 1 D = Ideal.div e D := by
  unfold Ideal.div; rw [if_neg h, if_neg h, one_mul]

/-- The exponential of the bottom less anything. -/
theorem exp_bot_sub (m : EReal) : Ideal.exp (⊥ - m) = 0 := by
  rw [EReal.bot_sub]; exact Ideal.exp_bot

/-- The window softmax against the values: 256 places of which those past 132 are masked, with a reciprocal, against 132
    places with a division. -/
theorem swa_core (M : Fin 256 → EReal) (S : Fin 132 → EReal) (sink sink' : EReal) (V W : Fin 132 → EReal)
    (hM : ∀ (k : Fin 132), M (⟨k.val, by omega⟩ : Fin 256) = S k) (hz : ∀ k : Fin 256, 132 ≤ k.val → M k = ⊥)
    (hV : ∀ k, V k = W k) (he : sink = sink') (hs : IsR sink) (hS : ∀ k, S k ≠ ⊤) :
    (∑ k : Fin 132, (Ideal.exp (M (⟨k.val, by omega⟩ : Fin 256) - max (Finset.fold max ⊥ (fun j : Fin 256 => M j) Finset.univ) sink)
      * Ideal.div 1 ((∑ j : Fin 256, Ideal.exp (M j - max (Finset.fold max ⊥ (fun j : Fin 256 => M j) Finset.univ) sink))
        + Ideal.exp (sink - max (Finset.fold max ⊥ (fun j : Fin 256 => M j) Finset.univ) sink))) * V k)
    = ∑ x : Fin 132, W x * Ideal.div (Ideal.exp (S x - max (Finset.fold max ⊥ (fun j : Fin 132 => S j) Finset.univ) sink'))
        ((∑ j : Fin 132, Ideal.exp (S j - max (Finset.fold max ⊥ (fun j : Fin 132 => S j) Finset.univ) sink'))
          + Ideal.exp (sink' - max (Finset.fold max ⊥ (fun j : Fin 132 => S j) Finset.univ) sink')) := by
  subst he
  have hoff : ∀ b : Fin 256, b ∉ Set.range (fun a : Fin 132 => (⟨a.val, by omega⟩ : Fin 256)) → 132 ≤ b.val := by
    intro b hb
    by_contra hc
    exact hb ⟨⟨b.val, by omega⟩, rfl⟩
  have hinj : Function.Injective (fun a : Fin 132 => (⟨a.val, by omega⟩ : Fin 256)) := by
    intro a b h
    exact Fin.ext (Fin.mk.inj h)
  have hf : Finset.fold max ⊥ (fun j : Fin 256 => M j) Finset.univ = Finset.fold max ⊥ (fun j : Fin 132 => S j) Finset.univ := by
    rw [fold_inj (fun a : Fin 132 => (⟨a.val, by omega⟩ : Fin 256)) (fun j : Fin 256 => M j) (fun b hb => hz b (hoff b hb))]
    simp only [hM]
  rw [hf]
  generalize hm : max (Finset.fold max ⊥ (fun j : Fin 132 => S j) Finset.univ) sink = m
  have hmr : IsR m := by
    refine isR_of ?_ ?_
    · rw [← hm]
      exact ne_of_gt (lt_of_lt_of_le (bot_lt_iff_ne_bot.mpr hs.ne_bot) (le_max_right _ _))
    · rw [← hm]
      exact ne_of_lt (max_lt (lt_top_iff_ne_top.mpr (fold_ne_top _ hS)) (lt_top_iff_ne_top.mpr hs.ne_top))
  have hsum : (∑ j : Fin 256, Ideal.exp (M j - m)) = ∑ j : Fin 132, Ideal.exp (S j - m) := by
    rw [sum_inj (fun a : Fin 132 => (⟨a.val, by omega⟩ : Fin 256)) hinj (fun j : Fin 256 => Ideal.exp (M j - m))
      (fun b hb => by rw [hz b (hoff b hb)]; exact exp_bot_sub m)]
    simp only [hM]
  rw [hsum]
  have hD : (∑ j : Fin 132, Ideal.exp (S j - m)) + Ideal.exp (sink - m) ≠ 0 :=
    ne_of_gt (lt_of_lt_of_le (exp_pos (hs.sub hmr)) (le_add_of_nonneg_left (Finset.sum_nonneg fun j _ => exp_nonneg _)))
  refine Finset.sum_congr rfl fun k _ => ?_
  rw [soft _ _ hD, hM, hV, mul_comm]

/-- The memory softmax against the values: 1024 places of which the row's head has every fourth, with a reciprocal, against
    the head's 256 places with a division. -/
theorem mem_core (h : Fin 4) (X : Fin 1024 → EReal) (S : Fin 256 → EReal) (V : Fin 1024 → EReal) (W : Fin 256 → EReal)
    (hX : ∀ k : Fin 256, X (⟨4 * k.val + h.val, by omega⟩ : Fin 1024) = S k) (hz : ∀ n : Fin 1024, n.val % 4 ≠ h.val → X n = ⊥)
    (hV : ∀ k : Fin 256, V (⟨4 * k.val + h.val, by omega⟩ : Fin 1024) = W k) (hS : ∀ k, IsR (S k)) :
    (∑ n : Fin 1024, (Ideal.exp (X n - Finset.fold max ⊥ (fun j : Fin 1024 => X j) Finset.univ)
      * Ideal.div 1 (∑ j : Fin 1024, Ideal.exp (X j - Finset.fold max ⊥ (fun j : Fin 1024 => X j) Finset.univ))) * V n)
    = ∑ x : Fin 256, W x * Ideal.div (Ideal.exp (S x - max ⊥ (Finset.fold max ⊥ (fun j : Fin 256 => S j) Finset.univ)))
        (∑ j : Fin 256, Ideal.exp (S j - max ⊥ (Finset.fold max ⊥ (fun j : Fin 256 => S j) Finset.univ))) := by
  have hoff : ∀ b : Fin 1024, b ∉ Set.range (fun a : Fin 256 => (⟨4 * a.val + h.val, by omega⟩ : Fin 1024)) → b.val % 4 ≠ h.val := by
    intro b hb hc
    exact hb ⟨⟨b.val / 4, by omega⟩, Fin.ext (by (try dsimp only) <;> omega)⟩
  have hinj : Function.Injective (fun a : Fin 256 => (⟨4 * a.val + h.val, by omega⟩ : Fin 1024)) := by
    intro a b e
    have := Fin.mk.inj e
    exact Fin.ext (by omega)
  have hf : Finset.fold max ⊥ (fun j : Fin 1024 => X j) Finset.univ = Finset.fold max ⊥ (fun j : Fin 256 => S j) Finset.univ := by
    rw [fold_inj (fun a : Fin 256 => (⟨4 * a.val + h.val, by omega⟩ : Fin 1024)) (fun j : Fin 1024 => X j) (fun b hb => hz b (hoff b hb))]
    simp only [hX]
  rw [hf, max_eq_right (bot_le : (⊥ : EReal) ≤ Finset.fold max ⊥ (fun j : Fin 256 => S j) Finset.univ)]
  generalize hm : Finset.fold max ⊥ (fun j : Fin 256 => S j) Finset.univ = m
  have hmr : IsR m := by
    refine isR_of ?_ ?_
    · rw [← hm]
      refine ne_of_gt (lt_of_lt_of_le (bot_lt_iff_ne_bot.mpr (hS 0).ne_bot) ?_)
      rw [Finset.le_fold_max]
      exact Or.inr ⟨0, Finset.mem_univ _, le_rfl⟩
    · rw [← hm]
      exact fold_ne_top _ fun k => (hS k).ne_top
  have hsum : (∑ j : Fin 1024, Ideal.exp (X j - m)) = ∑ j : Fin 256, Ideal.exp (S j - m) := by
    rw [sum_inj (fun a : Fin 256 => (⟨4 * a.val + h.val, by omega⟩ : Fin 1024)) hinj (fun j : Fin 1024 => Ideal.exp (X j - m))
      (fun b hb => by rw [hz b (hoff b hb)]; exact exp_bot_sub m)]
    simp only [hX]
  rw [hsum]
  have hD : (∑ j : Fin 256, Ideal.exp (S j - m)) ≠ 0 :=
    ne_of_gt (lt_of_lt_of_le (exp_pos ((hS 0).sub hmr)) (Finset.single_le_sum (f := fun j => Ideal.exp (S j - m)) (fun j _ => exp_nonneg _) (Finset.mem_univ (0 : Fin 256))))
  rw [sum_inj (fun a : Fin 256 => (⟨4 * a.val + h.val, by omega⟩ : Fin 1024)) hinj _
    (fun b hb => by rw [hz b (hoff b hb), exp_bot_sub, zero_mul, zero_mul])]
  refine Finset.sum_congr rfl fun k _ => ?_
  rw [soft _ _ hD, hX, hV, mul_comm]

/-- The scale of the window attention is a positive real number. -/
theorem scale_real : ∃ r : ℝ, 0 ≤ r ∧ Ideal.ofBits FTy.f32 1040187392#32 = (r : EReal) := by
  refine ⟨1 / 8, by norm_num, ?_⟩
  simp [Ideal.ofBits, Ideal.ieee, -EReal.coe_mul]; norm_num

/-- The scale of the memory attention is a real number. -/
theorem mscale_real : IsR (Ideal.ofBits FTy.f32 1035273459#32) := by
  refine isR_of ?_ ?_ <;> simp [Ideal.ofBits, Ideal.ieee, -EReal.coe_mul]

end Cert.MixerReal

end
-- ==== Proof.MixerEq.lean ====
/-
  The blocks that the sample mixers leave are those of the reference, for a block of eight sequences: from what the
  kernel's blocks of the arguments hold, the kept states and the four mixers are the reference's.
-/
module

public import proofs.«01_k».proof.Proof.MixerOut
public import proofs.«01_k».proof.Proof.MixerState
public import proofs.«01_k».proof.Proof.MixerReal

@[expose] public section

set_option maxRecDepth 16384

noncomputable section

open Idealize.ShloMosaic Idealize.ShloMosaic.TcCoe Idealize.SL.Sem

namespace Cert.MixerIdeal.Tie

open Cert.MixerReal

open Cert.MixerIdeal Cert.MixerIdeal.Gen

variable (s : Nat) (hs : s < 16)
  (x0 : Vec Ideal S2x8 .f32) (x1 : Vec Ideal S32x3328 .f32) (x2 : Vec Ideal S1x8x15x512 .f32) (x3 : Vec Ideal S1x8x2x512 .f32)
  (x4 x5 : Vec Ideal S1x8x128x128 .f32) (x6 x7 : Vec Ideal S1x8x1024x128 .f32) (x8 : Vec Ideal S1x4x128x128 .bf16)
  (x9 : Vec Ideal S1x1x512 .f32) (x10 : Vec Ideal S1x3x512 .f32)
  (a0 : FVec Ideal Cert.MixerRefIdeal.S2x8 .f32) (a1 : FVec Ideal Cert.MixerRefIdeal.S512x3328 .f32)
  (a2 : FVec Ideal Cert.MixerRefIdeal.S2x128x15x512 .f32) (a3 : FVec Ideal Cert.MixerRefIdeal.S2x128x2x512 .f32)
  (a4 a5 : FVec Ideal Cert.MixerRefIdeal.S2x128x128x2x64 .f32) (a6 a7 : FVec Ideal Cert.MixerRefIdeal.S2x128x256x4x128 .f32)
  (a8 : FVec Ideal Cert.MixerRefIdeal.S2x4x128x128 .f32) (a9 : FVec Ideal Cert.MixerRefIdeal.S2x512 .f32) (a10 : FVec Ideal Cert.MixerRefIdeal.S2x3x512 .f32)
  (h0 : ∀ (j j' : Fin 8), j'.val = j.val → x0 (ix2 0 j) = a0 (ix2 0 j'))
  (h1 : ∀ (r : Fin 32) (k : Fin 3328) (q : Fin 512) (l : Fin 3328), q.val = 32 * s + r.val → l.val = k.val → x1 (ix2 r k) = a1 (ix2 q l))
  (h2 : ∀ (b : Fin 8) (r : Fin 15) (k : Fin 512) (B : Fin 128) (r' : Fin 15) (k' : Fin 512), B.val = 8 * s + b.val → r'.val = r.val → k'.val = k.val → x2 (ix4 0 b r k) = a2 (ix4 0 B r' k'))
  (h3 : ∀ (b : Fin 8) (r : Fin 2) (k : Fin 512) (B : Fin 128) (r' : Fin 2) (k' : Fin 512), B.val = 8 * s + b.val → r'.val = r.val → k'.val = k.val → x3 (ix4 0 b r k) = a3 (ix4 0 B r' k'))
  (h4 : ∀ (b : Fin 8) (r : Fin 128) (k : Fin 128) (B : Fin 128) (r' : Fin 128) (h : Fin 2) (d : Fin 64), B.val = 8 * s + b.val → r'.val = r.val → k.val = 64 * h.val + d.val → x4 (ix4 0 b r k) = a4 (ix5 0 B r' h d))
  (h5 : ∀ (b : Fin 8) (r : Fin 128) (k : Fin 128) (B : Fin 128) (r' : Fin 128) (h : Fin 2) (d : Fin 64), B.val = 8 * s + b.val → r'.val = r.val → k.val = 64 * h.val + d.val → x5 (ix4 0 b r k) = a5 (ix5 0 B r' h d))
  (h6 : ∀ (b : Fin 8) (n : Fin 1024) (l : Fin 128) (B : Fin 128) (k : Fin 256) (h : Fin 4) (d : Fin 128), B.val = 8 * s + b.val → n.val = 4 * k.val + h.val → d.val = l.val → x6 (ix4 0 b n l) = a6 (ix5 0 B k h d))
  (h7 : ∀ (b : Fin 8) (n : Fin 1024) (l : Fin 128) (B : Fin 128) (k : Fin 256) (h : Fin 4) (d : Fin 128), B.val = 8 * s + b.val → n.val = 4 * k.val + h.val → d.val = l.val → x7 (ix4 0 b n l) = a7 (ix5 0 B k h d))
  (h8 : ∀ (g : Fin 4) (k l : Fin 128) (g' : Fin 4) (k' l' : Fin 128), g'.val = g.val → k'.val = k.val → l'.val = l.val → x8 (ix4 0 g k l) = a8 (ix4 0 g' k' l'))
  (h9 : ∀ (k k' : Fin 512), k'.val = k.val → x9 (ix3 0 0 k) = a9 (ix2 0 k'))
  (h10 : ∀ (j : Fin 3) (k : Fin 512) (j' : Fin 3) (k' : Fin 512), j'.val = j.val → k'.val = k.val → x10 (ix3 0 j k) = a10 (ix3 0 j' k'))

include hs h1 h2 in
/-- The pooled rows of a sequence. -/
theorem UE_eq (b : Fin 8) (B : Fin 128) (hB : B.val = 8 * s + b.val) (q : Fin 24) (r : Fin 19) (k k' : Fin 512) (hr : q.val = r.val + 1) (hk : k'.val = k.val) :
    UE x1 x2 b q k = Cert.MixerRefIdeal.Tie.pooled a1 a2 (ix3 B r k') := by
  unfold UE
  rw [Cert.MixerRefIdeal.Tie.pooled_at]
  by_cases c : r.val < 15
  · rw [if_neg (by (try dsimp only) <;> omega), dif_pos c]
    exact h2 _ _ _ _ _ _ (by (try dsimp only) <;> omega) (by (try dsimp only) <;> omega) (by (try dsimp only) <;> omega)
  · rw [if_pos (by (try dsimp only) <;> omega), dif_neg c]
    exact h1 _ _ _ _ (by (try dsimp only) <;> omega) (by (try dsimp only) <;> omega)

include hs h1 h3 in
/-- The gated rows of a sequence. -/
theorem CE_eq (b : Fin 8) (B : Fin 128) (hB : B.val = 8 * s + b.val) (q : Fin 16) (r : Fin 6) (k k' : Fin 512) (hr : q.val = r.val + 6) (hk : k'.val = k.val) :
    CE x1 x3 b q k = Cert.MixerRefIdeal.Tie.gated a1 a3 (ix3 B r k') := by
  unfold CE
  rw [Cert.MixerRefIdeal.Tie.gated_at]
  by_cases c : r.val < 2
  · rw [if_neg (by (try dsimp only) <;> omega), dif_pos c]
    exact h3 _ _ _ _ _ _ (by (try dsimp only) <;> omega) (by (try dsimp only) <;> omega) (by (try dsimp only) <;> omega)
  · rw [if_pos (by (try dsimp only) <;> omega), dif_neg c]
    exact congr (congrArg HMul.hMul (h1 _ _ _ _ (by (try dsimp only) <;> omega) (by (try dsimp only) <;> omega))) (h1 _ _ _ _ (by (try dsimp only) <;> omega) (by (try dsimp only) <;> omega))

include hs h1 h4 in
/-- The keys of a sequence. -/
theorem KE_eq (b : Fin 8) (B : Fin 128) (hB : B.val = 8 * s + b.val) (q : Fin 256) (r : Fin 132) (k : Fin 128) (h : Fin 2) (d : Fin 64) (hr : q.val = r.val) (hk : k.val = 64 * h.val + d.val) :
    KE x1 x4 b q k = Cert.MixerRefIdeal.Tie.keys a1 a4 (ix4 B r h d) := by
  unfold KE
  rw [Cert.MixerRefIdeal.Tie.keys_at]
  by_cases c : r.val < 128
  · rw [dif_pos (show q.val < 128 by omega), dif_pos c]
    exact h4 _ _ _ _ _ _ _ (by (try dsimp only) <;> omega) (by (try dsimp only) <;> omega) (by (try dsimp only) <;> omega)
  · rw [dif_neg (show ¬ q.val < 128 by omega), dif_neg c]
    exact h1 _ _ _ _ (by (try dsimp only) <;> omega) (by (try dsimp only) <;> omega)

include hs h1 h5 in
/-- The values of a sequence. -/
theorem VE_eq (b : Fin 8) (B : Fin 128) (hB : B.val = 8 * s + b.val) (q : Fin 256) (r : Fin 132) (k : Fin 128) (h : Fin 2) (d : Fin 64) (hr : q.val = r.val) (hk : k.val = 64 * h.val + d.val) :
    VE x1 x5 b q k = Cert.MixerRefIdeal.Tie.vals a1 a5 (ix4 B r h d) := by
  unfold VE
  rw [Cert.MixerRefIdeal.Tie.vals_at]
  by_cases c : r.val < 128
  · rw [dif_pos (show q.val < 128 by omega), dif_pos c]
    exact h5 _ _ _ _ _ _ _ (by (try dsimp only) <;> omega) (by (try dsimp only) <;> omega) (by (try dsimp only) <;> omega)
  · rw [dif_neg (show ¬ q.val < 128 by omega), dif_neg c]
    exact h1 _ _ _ _ (by (try dsimp only) <;> omega) (by (try dsimp only) <;> omega)

include hs h1 h2 in
/-- The pooled rows kept for the next call. -/
theorem E12_eq (p : Fin 2) (b : Fin 8) (B : Fin 128) (hB : B.val = 8 * s + b.val) (r : Fin 15) (k : Fin 512) :
    E12 x1 x2 p b r k = Cert.MixerRefIdeal.Tie.poolState a1 a2 (ix4 p B r k) := by
  unfold E12
  rw [Cert.MixerRefIdeal.Tie.poolState_at]
  by_cases c : p.val = 0
  · rw [if_pos c, if_pos c]
    exact UE_eq s hs x1 x2 a1 a2 h1 h2 b B hB _ _ _ _ (by (try dsimp only) <;> omega) rfl
  · rw [if_neg c, if_neg c]

include hs h1 h3 in
/-- The gated rows kept for the next call. -/
theorem E13_eq (p : Fin 2) (b : Fin 8) (B : Fin 128) (hB : B.val = 8 * s + b.val) (r : Fin 2) (k : Fin 512) :
    E13 x1 x3 p b r k = Cert.MixerRefIdeal.Tie.convState a1 a3 (ix4 p B r k) := by
  unfold E13
  rw [Cert.MixerRefIdeal.Tie.convState_at]
  by_cases c : p.val = 0
  · rw [if_pos c, if_pos c]
    exact CE_eq s hs x1 x3 a1 a3 h1 h3 b B hB _ _ _ _ (by (try dsimp only) <;> omega) rfl
  · rw [if_neg c, if_neg c]

include hs h1 h4 in
/-- The keys kept for the next call. -/
theorem E14_eq (p : Fin 2) (b : Fin 8) (B : Fin 128) (hB : B.val = 8 * s + b.val) (r : Fin 128) (k : Fin 128) :
    E14 x1 x4 p b r k = Cert.MixerRefIdeal.Tie.keyState a1 a4 (ix4 p B r k) := by
  unfold E14
  rw [Cert.MixerRefIdeal.Tie.keyState_at]
  by_cases c : p.val = 0
  · rw [if_pos c, if_pos c]
    exact KE_eq s hs x1 x4 a1 a4 h1 h4 b B hB _ _ _ _ _ (by (try dsimp only) <;> omega) (by (try dsimp only) <;> omega)
  · rw [if_neg c, if_neg c]

include hs h1 h5 in
/-- The values kept for the next call. -/
theorem E15_eq (p : Fin 2) (b : Fin 8) (B : Fin 128) (hB : B.val = 8 * s + b.val) (r : Fin 128) (k : Fin 128) :
    E15 x1 x5 p b r k = Cert.MixerRefIdeal.Tie.valState a1 a5 (ix4 p B r k) := by
  unfold E15
  rw [Cert.MixerRefIdeal.Tie.valState_at]
  by_cases c : p.val = 0
  · rw [if_pos c, if_pos c]
    exact VE_eq s hs x1 x5 a1 a5 h1 h5 b B hB _ _ _ _ _ (by (try dsimp only) <;> omega) (by (try dsimp only) <;> omega)
  · rw [if_neg c, if_neg c]

include hs h1 h2 h8 h9 in
/-- The projected means of group 0. -/
theorem OP0_eq (b : Fin 8) (B : Fin 128) (hB : B.val = 8 * s + b.val) (t : Fin 4) (l : Fin 128) (k : Fin 512) (hk : k.val = 0 + l.val) :
    OP0 x1 x2 x8 x9 b t l = Cert.MixerRefIdeal.Tie.poolOut a1 a2 a8 a9 (ix3 B t k) := by
  have ue := UE_eq s hs x1 x2 a1 a2 h1 h2 b B hB
  unfold OP0
  rw [Cert.MixerRefIdeal.Tie.poolOut_at]
  refine congr (congrArg HMul.hMul (Finset.sum_congr rfl fun x _ => ?_)) (h9 _ _ (by (try dsimp only) <;> omega))
  refine (mul_comm _ _).trans (congr (congrArg HMul.hMul (h8 _ _ _ _ _ _ (by (try dsimp only) <;> omega) (by (try dsimp only) <;> omega) (by (try dsimp only) <;> omega))) ?_)
  unfold PD0
  refine congr (congrArg HSub.hSub ?_) ?_
  · refine Eq.trans ?_ ((congrArg (fun i => Cert.MixerRefIdeal.Tie.means a1 a2 (ix3 B t i)) (Fin.ext (by (try dsimp only) <;> omega) : _ = (⟨0 + x.val, by omega⟩ : Fin 512))).trans (Cert.MixerRefIdeal.Tie.means0 a1 a2 B t x)).symm
    refine congrArg (fun z => Ideal.div z _) ?_
    exact (congr (congrArg HAdd.hAdd (ue _ _ _ _ (by (try dsimp only) <;> omega) (by (try dsimp only) <;> omega))) (ue _ _ _ _ (by (try dsimp only) <;> omega) (by (try dsimp only) <;> omega)))
  · rw [Cert.MixerRefIdeal.Tie.inp_at]
    unfold UE
    rw [if_pos (by (try dsimp only) <;> omega)]
    exact h1 _ _ _ _ (by (try dsimp only) <;> omega) (by (try dsimp only) <;> omega)

include hs h1 h2 h8 h9 in
/-- The projected means of group 1. -/
theorem OP1_eq (b : Fin 8) (B : Fin 128) (hB : B.val = 8 * s + b.val) (t : Fin 4) (l : Fin 128) (k : Fin 512) (hk : k.val = 128 + l.val) :
    OP1 x1 x2 x8 x9 b t l = Cert.MixerRefIdeal.Tie.poolOut a1 a2 a8 a9 (ix3 B t k) := by
  have ue := UE_eq s hs x1 x2 a1 a2 h1 h2 b B hB
  unfold OP1
  rw [Cert.MixerRefIdeal.Tie.poolOut_at]
  refine congr (congrArg HMul.hMul (Finset.sum_congr rfl fun x _ => ?_)) (h9 _ _ (by (try dsimp only) <;> omega))
  refine (mul_comm _ _).trans (congr (congrArg HMul.hMul (h8 _ _ _ _ _ _ (by (try dsimp only) <;> omega) (by (try dsimp only) <;> omega) (by (try dsimp only) <;> omega))) ?_)
  unfold PD1
  refine congr (congrArg HSub.hSub ?_) ?_
  · refine Eq.trans ?_ ((congrArg (fun i => Cert.MixerRefIdeal.Tie.means a1 a2 (ix3 B t i)) (Fin.ext (by (try dsimp only) <;> omega) : _ = (⟨128 + x.val, by omega⟩ : Fin 512))).trans (Cert.MixerRefIdeal.Tie.means1 a1 a2 B t x)).symm
    refine congrArg (fun z => Ideal.div z _) ?_
    exact (congr (congrArg HAdd.hAdd (congr (congrArg HAdd.hAdd (congr (congrArg HAdd.hAdd (ue _ _ _ _ (by (try dsimp only) <;> omega) (by (try dsimp only) <;> omega))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))
  · rw [Cert.MixerRefIdeal.Tie.inp_at]
    unfold UE
    rw [if_pos (by (try dsimp only) <;> omega)]
    exact h1 _ _ _ _ (by (try dsimp only) <;> omega) (by (try dsimp only) <;> omega)

include hs h1 h2 h8 h9 in
/-- The projected means of group 2. -/
theorem OP2_eq (b : Fin 8) (B : Fin 128) (hB : B.val = 8 * s + b.val) (t : Fin 4) (l : Fin 128) (k : Fin 512) (hk : k.val = 256 + l.val) :
    OP2 x1 x2 x8 x9 b t l = Cert.MixerRefIdeal.Tie.poolOut a1 a2 a8 a9 (ix3 B t k) := by
  have ue := UE_eq s hs x1 x2 a1 a2 h1 h2 b B hB
  unfold OP2
  rw [Cert.MixerRefIdeal.Tie.poolOut_at]
  refine congr (congrArg HMul.hMul (Finset.sum_congr rfl fun x _ => ?_)) (h9 _ _ (by (try dsimp only) <;> omega))
  refine (mul_comm _ _).trans (congr (congrArg HMul.hMul (h8 _ _ _ _ _ _ (by (try dsimp only) <;> omega) (by (try dsimp only) <;> omega) (by (try dsimp only) <;> omega))) ?_)
  unfold PD2
  refine congr (congrArg HSub.hSub ?_) ?_
  · refine Eq.trans ?_ ((congrArg (fun i => Cert.MixerRefIdeal.Tie.means a1 a2 (ix3 B t i)) (Fin.ext (by (try dsimp only) <;> omega) : _ = (⟨256 + x.val, by omega⟩ : Fin 512))).trans (Cert.MixerRefIdeal.Tie.means2 a1 a2 B t x)).symm
    refine congrArg (fun z => Ideal.div z _) ?_
    exact (congr (congrArg HAdd.hAdd (congr (congrArg HAdd.hAdd (congr (congrArg HAdd.hAdd (congr (congrArg HAdd.hAdd (congr (congrArg HAdd.hAdd (congr (congrArg HAdd.hAdd (congr (congrArg HAdd.hAdd (ue _ _ _ _ (by (try dsimp only) <;> omega) (by (try dsimp only) <;> omega))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))
  · rw [Cert.MixerRefIdeal.Tie.inp_at]
    unfold UE
    rw [if_pos (by (try dsimp only) <;> omega)]
    exact h1 _ _ _ _ (by (try dsimp only) <;> omega) (by (try dsimp only) <;> omega)

include hs h1 h2 h8 h9 in
/-- The projected means of group 3. -/
theorem OP3_eq (b : Fin 8) (B : Fin 128) (hB : B.val = 8 * s + b.val) (t : Fin 4) (l : Fin 128) (k : Fin 512) (hk : k.val = 384 + l.val) :
    OP3 x1 x2 x8 x9 b t l = Cert.MixerRefIdeal.Tie.poolOut a1 a2 a8 a9 (ix3 B t k) := by
  have ue := UE_eq s hs x1 x2 a1 a2 h1 h2 b B hB
  unfold OP3
  rw [Cert.MixerRefIdeal.Tie.poolOut_at]
  refine congr (congrArg HMul.hMul (Finset.sum_congr rfl fun x _ => ?_)) (h9 _ _ (by (try dsimp only) <;> omega))
  refine (mul_comm _ _).trans (congr (congrArg HMul.hMul (h8 _ _ _ _ _ _ (by (try dsimp only) <;> omega) (by (try dsimp only) <;> omega) (by (try dsimp only) <;> omega))) ?_)
  unfold PD3
  refine congr (congrArg HSub.hSub ?_) ?_
  · refine Eq.trans ?_ ((congrArg (fun i => Cert.MixerRefIdeal.Tie.means a1 a2 (ix3 B t i)) (Fin.ext (by (try dsimp only) <;> omega) : _ = (⟨384 + x.val, by omega⟩ : Fin 512))).trans (Cert.MixerRefIdeal.Tie.means3 a1 a2 B t x)).symm
    refine congrArg (fun z => Ideal.div z _) ?_
    exact (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (ue _ _ _ _ (by (try dsimp only) <;> omega) (by (try dsimp only) <;> omega))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))) (ue _ _ _ _ (by (try dsimp only) <;> omega) (by (try dsimp only) <;> omega)))
  · rw [Cert.MixerRefIdeal.Tie.inp_at]
    unfold UE
    rw [if_pos (by (try dsimp only) <;> omega)]
    exact h1 _ _ _ _ (by (try dsimp only) <;> omega) (by (try dsimp only) <;> omega)

include hs h1 h3 h10 in
/-- The gated convolution. -/
theorem OC_eq (b : Fin 8) (B : Fin 128) (hB : B.val = 8 * s + b.val) (t : Fin 4) (l k : Fin 512) (hk : k.val = l.val) :
    OC x1 x3 x10 b t l = Cert.MixerRefIdeal.Tie.convOut a1 a3 a10 (ix3 B t k) := by
  have ce := CE_eq s hs x1 x3 a1 a3 h1 h3 b B hB
  unfold OC
  rw [Cert.MixerRefIdeal.Tie.convOut_at]
  refine congr (congrArg HMul.hMul (h1 _ _ _ _ (by (try dsimp only) <;> omega) (by (try dsimp only) <;> omega))) ?_
  exact congr (congrArg HAdd.hAdd (congr (congrArg HAdd.hAdd (congr (congrArg HMul.hMul (h10 _ _ _ _ rfl hk)) (ce _ _ _ _ (by (try dsimp only) <;> omega) hk)))
    (congr (congrArg HMul.hMul (h10 _ _ _ _ rfl hk)) (ce _ _ _ _ (by (try dsimp only) <;> omega) hk)))) (congr (congrArg HMul.hMul (h10 _ _ _ _ rfl hk)) (ce _ _ _ _ (by (try dsimp only) <;> omega) hk))

include hs h1 h4 in
/-- The window scores: the head's 64 lanes, scaled. -/
theorem MS_eq (b : Fin 8) (B : Fin 128) (hB : B.val = 8 * s + b.val) (r : Fin 32) (h : Fin 2) (g t : Fin 4) (hr : r.val = 16 * h.val + 4 * g.val + t.val)
    (k : Fin 256) (j : Fin 132) (hk : k.val = j.val) :
    MS x1 x4 b r k = Cert.MixerRefIdeal.Tie.score a1 a4 (ix5 B h g t j) := by
  unfold MS
  rw [Cert.MixerRefIdeal.Tie.score_at]
  by_cases c : t.val < j.val ∧ j.val ≤ t.val + 128
  · rw [if_pos (by omega), if_pos c]
    unfold SS
    rw [sum_inj (fun x : Fin 64 => (⟨64 * h.val + x.val, by omega⟩ : Fin 128)) (fun x y e => Fin.ext (by have := Fin.mk.inj e; omega)) _ ?_]
    · obtain ⟨q, q0, q1⟩ := scale_real
      rw [← sum_scale _ _ Cert.MixerRefIdeal.Tie.kscale (by rw [show Cert.MixerRefIdeal.Tie.kscale = (q : EReal) from q1]; exact EReal.coe_nonneg.mpr q0) (by rw [show Cert.MixerRefIdeal.Tie.kscale = (q : EReal) from q1]; exact EReal.coe_ne_top q)]
      refine Finset.sum_congr rfl fun x _ => ?_
      unfold QS
      rw [if_pos (by (try dsimp only) <;> omega)]
      refine Eq.trans (mul_right_comm _ _ _) (congr (congrArg HMul.hMul ((mul_comm _ _).trans (congr (congrArg HMul.hMul (KE_eq s hs x1 x4 a1 a4 h1 h4 b B hB _ _ _ _ _ hk (by (try dsimp only) <;> omega))) (h1 _ _ _ _ (by (try dsimp only) <;> omega) (by (try dsimp only) <;> omega))))) rfl)
    · intro l hl
      unfold QS
      rw [if_neg (fun e => hl ⟨⟨l.val % 64, by omega⟩, Fin.ext (by (try dsimp only) <;> omega)⟩), zero_mul]
  · rw [if_neg (by omega), if_neg c]

/-- Past the keys the scores are masked. -/
theorem MS_off (b : Fin 8) (r : Fin 32) (k : Fin 256) (hk : 132 ≤ k.val) : MS x1 x4 b r k = ⊥ := by
  unfold MS
  rw [if_neg (by omega)]

variable (f0 : ∀ j : Fin 8, IsR (a0 (ix2 0 j)))
  (f1 : ∀ (q : Fin 512) (l : Fin 3328), (2048 ≤ l.val ∧ l.val < 2688) ∨ 2816 ≤ l.val → IsR (a1 (ix2 q l)))
  (f4 : ∀ (B r : Fin 128) (h : Fin 2) (d : Fin 64), IsR (a4 (ix5 0 B r h d)))
  (f6 : ∀ (B : Fin 128) (k : Fin 256) (h : Fin 4) (d : Fin 128), IsR (a6 (ix5 0 B k h d)))

include f1 f4 in
/-- The reference's window scores aren't the top. -/
theorem score_ne (B : Fin 128) (h : Fin 2) (g t : Fin 4) (j : Fin 132) : Cert.MixerRefIdeal.Tie.score a1 a4 (ix5 B h g t j) ≠ ⊤ := by
  rw [Cert.MixerRefIdeal.Tie.score_at]
  by_cases c : t.val < j.val ∧ j.val ≤ t.val + 128
  · rw [if_pos c]
    obtain ⟨q, q0, q1⟩ := scale_real
    refine IsR.ne_top (IsR.mul (IsR.sum _ _ fun x => IsR.mul ?_ (f1 _ _ (Or.inl ⟨(by (try dsimp only) <;> omega), (by (try dsimp only) <;> omega)⟩))) ⟨q, q1⟩)
    rw [Cert.MixerRefIdeal.Tie.keys_at]
    by_cases e : j.val < 128
    · rw [dif_pos e]; exact f4 _ _ _ _
    · rw [dif_neg e]; exact f1 _ _ (Or.inl ⟨(by (try dsimp only) <;> omega), (by (try dsimp only) <;> omega)⟩)
  · rw [if_neg c]; exact bot_ne_top

include hs h0 h1 h4 h5 f0 f1 f4 in
/-- The window attention. -/
theorem OS_eq (b : Fin 8) (B : Fin 128) (hB : B.val = 8 * s + b.val) (t : Fin 4) (l k : Fin 512) (hk : k.val = l.val) :
    OS x0 x1 x4 x5 b t l = Cert.MixerRefIdeal.Tie.swaOut a0 a1 a4 a5 (ix3 B t k) := by
  obtain rfl : k = l := Fin.ext hk
  rw [Cert.MixerRefIdeal.Tie.swaOut_at]
  unfold Cert.MixerRefIdeal.Tie.rtop
  rw [bits_bot]
  refine Eq.trans ?_ (swa_core (fun j => MS x1 x4 b (⟨4 * (k.val / 64) + t.val, by omega⟩ : Fin 32) j) (fun j => Cert.MixerRefIdeal.Tie.score a1 a4 (ix5 B (⟨k.val / 256, by omega⟩ : Fin 2) (⟨k.val / 64 % 4, by omega⟩ : Fin 4) t j))
    (x0 (ix2 0 (⟨(4 * (k.val / 64) + t.val) / 4, by omega⟩ : Fin 8))) (a0 (ix2 0 (⟨k.val / 256 * 4 + k.val / 64 % 4, by omega⟩ : Fin 8)))
    (fun j => VE x1 x5 b (⟨j.val, by omega⟩ : Fin 256) (⟨64 * (k.val / 256) + k.val % 64, by omega⟩ : Fin 128))
    (fun j => Cert.MixerRefIdeal.Tie.vals a1 a5 (ix4 B j (⟨k.val / 256, by omega⟩ : Fin 2) (⟨k.val % 64, by omega⟩ : Fin 64)))
    (fun j => MS_eq s hs x1 x4 a1 a4 h1 h4 b B hB _ _ _ _ (by (try dsimp only) <;> omega) _ _ rfl)
    (fun j hj => MS_off x1 x4 b _ j hj)
    (fun j => VE_eq s hs x1 x5 a1 a5 h1 h5 b B hB _ _ _ _ _ rfl rfl)
    (h0 _ _ (by (try dsimp only) <;> omega)) (by rw [h0 _ (⟨(4 * (k.val / 64) + t.val) / 4, by omega⟩ : Fin 8) rfl]; exact f0 _)
    (fun j => score_ne a1 a4 f1 f4 B _ _ _ j))
  rfl

include hs h1 h6 in
/-- The memory scores of a row at its head's keys. -/
theorem XM_eq (b : Fin 8) (B : Fin 128) (hB : B.val = 8 * s + b.val) (r : Fin 16) (h t : Fin 4) (hr : r.val = 4 * h.val + t.val)
    (n : Fin 1024) (k : Fin 256) (hn : n.val = 4 * k.val + h.val) :
    XM x1 x6 b r n = Cert.MixerRefIdeal.Tie.mscore a1 a6 (ix4 B h t k) := by
  unfold XM
  rw [Cert.MixerRefIdeal.Tie.mscore_at, if_pos (by omega)]
  refine congr (congrArg HMul.hMul ?_) rfl
  unfold SM QM
  exact Finset.sum_congr rfl fun x _ => congr (congrArg HMul.hMul (h1 _ _ _ _ (by (try dsimp only) <;> omega) (by (try dsimp only) <;> omega))) (h6 _ _ _ _ _ _ _ hB hn rfl)

include f1 f6 in
/-- The reference's memory scores are real numbers. -/
theorem mscore_real (B : Fin 128) (h t : Fin 4) (k : Fin 256) : IsR (Cert.MixerRefIdeal.Tie.mscore a1 a6 (ix4 B h t k)) := by
  rw [Cert.MixerRefIdeal.Tie.mscore_at]
  exact IsR.mul (IsR.sum _ _ fun x => IsR.mul (f1 _ _ (Or.inr (by (try dsimp only) <;> omega))) (f6 _ _ _ _)) mscale_real

include hs h1 h6 h7 f1 f6 in
/-- The memory attention. -/
theorem OM_eq (b : Fin 8) (B : Fin 128) (hB : B.val = 8 * s + b.val) (t : Fin 4) (l k : Fin 512) (hk : k.val = l.val) :
    OM x1 x6 x7 b t l = Cert.MixerRefIdeal.Tie.memOut a1 a6 a7 (ix3 B t k) := by
  obtain rfl : k = l := Fin.ext hk
  rw [Cert.MixerRefIdeal.Tie.memOut_at]
  unfold Cert.MixerRefIdeal.Tie.mtop
  rw [bits_bot]
  refine Eq.trans ?_ (mem_core (⟨k.val / 128, by omega⟩ : Fin 4) (fun n => XM x1 x6 b (⟨4 * (k.val / 128) + t.val, by omega⟩ : Fin 16) n)
    (fun j => Cert.MixerRefIdeal.Tie.mscore a1 a6 (ix4 B (⟨k.val / 128, by omega⟩ : Fin 4) t j))
    (fun n => x7 (ix4 0 b n (⟨k.val % 128, by omega⟩ : Fin 128)))
    (fun j => a7 (ix5 0 B j (⟨k.val / 128, by omega⟩ : Fin 4) (⟨k.val % 128, by omega⟩ : Fin 128)))
    (fun j => XM_eq s hs x1 x6 a1 a6 h1 h6 b B hB _ _ _ rfl _ _ rfl)
    (fun n hn => by unfold XM; exact if_neg (fun e => hn (by (try dsimp only at e ⊢) <;> omega)))
    (fun j => h7 _ _ _ _ _ _ _ hB rfl rfl)
    (fun j => mscore_real a1 a6 f1 f6 B _ _ j))
  rfl

include hs h0 h1 h2 h3 h4 h5 h6 h7 h8 h9 h10 f0 f1 f4 f6 in
/-- The block of the mix. -/
theorem E11_eq (r : Fin 32) (k : Fin 2048) (q : Fin 512) (hq : q.val = 32 * s + r.val) :
    E11 x0 x1 x2 x3 x4 x5 x6 x7 x8 x9 x10 r k = Cert.MixerRefIdeal.Tie.mixOut a0 a1 a2 a3 a4 a5 a6 a7 a8 a9 a10 (ix2 q k) := by
  have hB : (⟨q.val / 4, by omega⟩ : Fin 128).val = 8 * s + (⟨r.val / 4, by omega⟩ : Fin 8).val := by (try dsimp only) <;> omega
  have ht : (⟨q.val % 4, by omega⟩ : Fin 4) = (⟨r.val % 4, by omega⟩ : Fin 4) := Fin.ext (by (try dsimp only) <;> omega)
  rw [Cert.MixerRefIdeal.Tie.mixOut_at, ht]
  unfold E11
  by_cases c0 : k.val < 128
  · rw [if_pos c0, dif_pos (show k.val < 512 by omega)]
    exact OP0_eq s hs x1 x2 x8 x9 a1 a2 a8 a9 h1 h2 h8 h9 _ _ hB _ _ _ (by (try dsimp only) <;> omega)
  rw [if_neg c0]
  by_cases c1 : k.val < 256
  · rw [if_pos c1, dif_pos (show k.val < 512 by omega)]
    exact OP1_eq s hs x1 x2 x8 x9 a1 a2 a8 a9 h1 h2 h8 h9 _ _ hB _ _ _ (by (try dsimp only) <;> omega)
  rw [if_neg c1]
  by_cases c2 : k.val < 384
  · rw [if_pos c2, dif_pos (show k.val < 512 by omega)]
    exact OP2_eq s hs x1 x2 x8 x9 a1 a2 a8 a9 h1 h2 h8 h9 _ _ hB _ _ _ (by (try dsimp only) <;> omega)
  rw [if_neg c2]
  by_cases c3 : k.val < 512
  · rw [if_pos c3, dif_pos (show k.val < 512 by omega)]
    exact OP3_eq s hs x1 x2 x8 x9 a1 a2 a8 a9 h1 h2 h8 h9 _ _ hB _ _ _ (by (try dsimp only) <;> omega)
  rw [if_neg c3]
  by_cases c4 : k.val < 1024
  · rw [if_pos c4, dif_neg (show ¬ k.val < 512 by omega), dif_pos c4]
    exact OC_eq s hs x1 x3 x10 a1 a3 a10 h1 h3 h10 _ _ hB _ _ _ (by (try dsimp only) <;> omega)
  rw [if_neg c4]
  by_cases c5 : k.val < 1536
  · rw [if_pos c5, dif_neg (show ¬ k.val < 512 by omega), dif_neg c4, dif_pos c5]
    exact OS_eq s hs x0 x1 x4 x5 a0 a1 a4 a5 h0 h1 h4 h5 f0 f1 f4 _ _ hB _ _ _ (by (try dsimp only) <;> omega)
  rw [if_neg c5, dif_neg (show ¬ k.val < 512 by omega), dif_neg c4, dif_neg c5]
  exact OM_eq s hs x1 x6 x7 a1 a6 a7 h1 h6 h7 f1 f6 _ _ hB _ _ _ (by (try dsimp only) <;> omega)

end Cert.MixerIdeal.Tie

end
-- ==== Proof.MixerTie.lean ====
/-
  The sample mixers' call against the reference: the blocks of the arguments at a grid point, and the five arrays after the
  run.
-/
module

public import proofs.«01_k».proof.Proof.MixerEq
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixerIdeal.Tie

open Cert.MixerIdeal Cert.MixerIdeal.Gen Cert.MixerReal

variable (m : (ℓ : Loc nD τ sig) → Buf (Elt Ideal) ℓ)

/-- Indices with the same coordinates are the same. -/
theorem same2 {na : Nat} {nb : Nat} {a a' : Fin na} {b b' : Fin nb} (ha : a.val = a'.val) (hb : b.val = b'.val) : ix2 a b = ix2 a' b' := by
  rw [Fin.ext ha, Fin.ext hb]

/-- Indices with the same coordinates are the same. -/
theorem same3 {na : Nat} {nb : Nat} {nc : Nat} {a a' : Fin na} {b b' : Fin nb} {c c' : Fin nc} (ha : a.val = a'.val) (hb : b.val = b'.val) (hc : c.val = c'.val) : ix3 a b c = ix3 a' b' c' := by
  rw [Fin.ext ha, Fin.ext hb, Fin.ext hc]

/-- Indices with the same coordinates are the same. -/
theorem same4 {na : Nat} {nb : Nat} {nc : Nat} {nd : Nat} {a a' : Fin na} {b b' : Fin nb} {c c' : Fin nc} {d d' : Fin nd} (ha : a.val = a'.val) (hb : b.val = b'.val) (hc : c.val = c'.val) (hd : d.val = d'.val) : ix4 a b c d = ix4 a' b' c' d' := by
  rw [Fin.ext ha, Fin.ext hb, Fin.ext hc, Fin.ext hd]

/-- Indices with the same coordinates are the same. -/
theorem same5 {na : Nat} {nb : Nat} {nc : Nat} {nd : Nat} {ne : Nat} {a a' : Fin na} {b b' : Fin nb} {c c' : Fin nc} {d d' : Fin nd} {e e' : Fin ne} (ha : a.val = a'.val) (hb : b.val = b'.val) (hc : c.val = c'.val) (hd : d.val = d'.val) (he : e.val = e'.val) : ix5 a b c d e = ix5 a' b' c' d' e' := by
  rw [Fin.ext ha, Fin.ext hb, Fin.ext hc, Fin.ext hd, Fin.ext he]

/-- The block that each window has at grid point `t`. -/
theorem idx : ∀ t : Fin cfg0.N, win0_0.index t = ![0, 0] ∧ win0_1.index t = ![t.val, 0] ∧ win0_2.index t = ![0, t.val, 0, 0] ∧ win0_3.index t = ![0, t.val, 0, 0] ∧ win0_4.index t = ![0, t.val, 0, 0] ∧ win0_5.index t = ![0, t.val, 0, 0] ∧ win0_6.index t = ![0, t.val, 0, 0] ∧ win0_7.index t = ![0, t.val, 0, 0] ∧ win0_8.index t = ![0, 0, 0, 0] ∧ win0_9.index t = ![0, 0, 0] ∧ win0_10.index t = ![0, 0, 0] ∧ win0_11.index t = ![t.val, 0] ∧ win0_12.index t = ![0, t.val, 0, 0] ∧ win0_13.index t = ![0, t.val, 0, 0] ∧ win0_14.index t = ![0, t.val, 0, 0] ∧ win0_15.index t = ![0, t.val, 0, 0] :=
  (by decide +kernel : ∀ t : Fin grid0.N, _)

/-- The sinks of a point are the first row. -/
theorem read0 (c : Dev nD) (t : Fin cfg0.N) (ht : t.val < 16) (j : Fin 8) :
    (show Vec Ideal S2x8 .f32 from iblk m c 0 t) (ix2 0 j)
      = (show FVec Ideal S2x8 .f32 from m ((c : Thread nD τ).loc main_arg0)) (ix2 0 j) := by
  blk_ext! [iblk, V, idx t]

/-- The projected rows of a point. -/
theorem read1 (c : Dev nD) (t : Fin cfg0.N) (ht : t.val < 16) (r : Fin 32) (k : Fin 3328) :
    (show Vec Ideal S32x3328 .f32 from iblk m c 1 t) (ix2 r k)
      = (show FVec Ideal S512x3328 .f32 from m ((c : Thread nD τ).loc main_arg1)) (ix2 (⟨t.val * 32 + r.val, by omega⟩ : Fin 512) k) := by
  blk_ext! [iblk, V, idx t]

/-- The kept pooled rows of a point. -/
theorem read2 (c : Dev nD) (t : Fin cfg0.N) (ht : t.val < 16) (b : Fin 8) (r : Fin 15) (k : Fin 512) :
    (show Vec Ideal S1x8x15x512 .f32 from iblk m c 2 t) (ix4 0 b r k)
      = (show FVec Ideal S2x128x15x512 .f32 from m ((c : Thread nD τ).loc main_arg2)) (ix4 0 (⟨t.val * 8 + b.val, by omega⟩ : Fin 128) r k) := by
  blk_ext! [iblk, V, idx t]

/-- The kept gated rows of a point. -/
theorem read3 (c : Dev nD) (t : Fin cfg0.N) (ht : t.val < 16) (b : Fin 8) (r : Fin 2) (k : Fin 512) :
    (show Vec Ideal S1x8x2x512 .f32 from iblk m c 3 t) (ix4 0 b r k)
      = (show FVec Ideal S2x128x2x512 .f32 from m ((c : Thread nD τ).loc main_arg3)) (ix4 0 (⟨t.val * 8 + b.val, by omega⟩ : Fin 128) r k) := by
  blk_ext! [iblk, V, idx t]

/-- The cached keys of a point. -/
theorem read4 (c : Dev nD) (t : Fin cfg0.N) (ht : t.val < 16) (b : Fin 8) (r : Fin 128) (k : Fin 128) :
    (show Vec Ideal S1x8x128x128 .f32 from iblk m c 4 t) (ix4 0 b r k)
      = (show FVec Ideal S2x128x128x2x64 .f32 from m ((c : Thread nD τ).loc main_arg4)) (ix5 0 (⟨t.val * 8 + b.val, by omega⟩ : Fin 128) r (⟨k.val / 64, by omega⟩ : Fin 2) (⟨k.val % 64, by omega⟩ : Fin 64)) := by
  blk_ext! [iblk, V, idx t]

/-- The cached values of a point. -/
theorem read5 (c : Dev nD) (t : Fin cfg0.N) (ht : t.val < 16) (b : Fin 8) (r : Fin 128) (k : Fin 128) :
    (show Vec Ideal S1x8x128x128 .f32 from iblk m c 5 t) (ix4 0 b r k)
      = (show FVec Ideal S2x128x128x2x64 .f32 from m ((c : Thread nD τ).loc main_arg5)) (ix5 0 (⟨t.val * 8 + b.val, by omega⟩ : Fin 128) r (⟨k.val / 64, by omega⟩ : Fin 2) (⟨k.val % 64, by omega⟩ : Fin 64)) := by
  blk_ext! [iblk, V, idx t]

/-- The memory keys of a point. -/
theorem read6 (c : Dev nD) (t : Fin cfg0.N) (ht : t.val < 16) (b : Fin 8) (n : Fin 1024) (l : Fin 128) :
    (show Vec Ideal S1x8x1024x128 .f32 from iblk m c 6 t) (ix4 0 b n l)
      = (show FVec Ideal S2x128x256x4x128 .f32 from m ((c : Thread nD τ).loc main_arg6)) (ix5 0 (⟨t.val * 8 + b.val, by omega⟩ : Fin 128) (⟨n.val / 4, by omega⟩ : Fin 256) (⟨n.val % 4, by omega⟩ : Fin 4) l) := by
  blk_ext! [iblk, V, idx t]

/-- The memory values of a point. -/
theorem read7 (c : Dev nD) (t : Fin cfg0.N) (ht : t.val < 16) (b : Fin 8) (n : Fin 1024) (l : Fin 128) :
    (show Vec Ideal S1x8x1024x128 .f32 from iblk m c 7 t) (ix4 0 b n l)
      = (show FVec Ideal S2x128x256x4x128 .f32 from m ((c : Thread nD τ).loc main_arg7)) (ix5 0 (⟨t.val * 8 + b.val, by omega⟩ : Fin 128) (⟨n.val / 4, by omega⟩ : Fin 256) (⟨n.val % 4, by omega⟩ : Fin 4) l) := by
  blk_ext! [iblk, V, idx t]

/-- The projections of the means are the first layer's. -/
theorem read8 (c : Dev nD) (t : Fin cfg0.N) (ht : t.val < 16) (g : Fin 4) (k l : Fin 128) :
    (show Vec Ideal S1x4x128x128 .bf16 from iblk m c 8 t) (ix4 0 g k l)
      = (show FVec Ideal S2x4x128x128 .f32 from m ((c : Thread nD τ).loc main_arg8)) (ix4 0 g k l) := by
  blk_ext! [iblk, V, idx t]

/-- The gains of the means are the first layer's. -/
theorem read9 (c : Dev nD) (t : Fin cfg0.N) (ht : t.val < 16) (k : Fin 512) :
    (show Vec Ideal S1x1x512 .f32 from iblk m c 9 t) (ix3 0 0 k)
      = (show FVec Ideal S2x512 .f32 from m ((c : Thread nD τ).loc main_arg9)) (ix2 0 k) := by
  blk_ext! [iblk, V, idx t]

/-- The taps of the convolution are the first layer's. -/
theorem read10 (c : Dev nD) (t : Fin cfg0.N) (ht : t.val < 16) (j : Fin 3) (k : Fin 512) :
    (show Vec Ideal S1x3x512 .f32 from iblk m c 10 t) (ix3 0 j k)
      = (show FVec Ideal S2x3x512 .f32 from m ((c : Thread nD τ).loc main_arg10)) (ix3 0 j k) := by
  blk_ext! [iblk, V, idx t]

/-- The array of the pooled rows after the run is the reference's. -/
theorem final12 (c : Dev nD) : (dats m 0 c).arrAt 12 cfg0.N = Cert.MixerRefIdeal.Tie.poolState (m ((c : Thread nD τ).loc main_arg1)) (m ((c : Thread nD τ).loc main_arg2)) := by
  refine (dats m 0 c).arrAt_eq_of_covers 12 _ (by decide +kernel) fun t _ y => ?_
  have ht : t.val < 16 := lt_of_lt_of_eq t.isLt N_0
  have h0 : (y 0).val < 2 := (y 0).isLt
  have h1 : (y 1).val < 8 := (y 1).isLt
  have h2 : (y 2).val < 15 := (y 2).isLt
  have h3 : (y 3).val < 512 := (y 3).isLt
  blk_simp
  rw [after0_12]
  refine Eq.trans (b := out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 ⟨(y 0).val, h0⟩ ⟨(y 1).val, h1⟩ ⟨(y 2).val, h2⟩ ⟨(y 3).val, h3⟩)) ?_ ?_
  · simp only [outsAt0]
    refine congrArg _ ?_
    blk_ext
  refine Eq.trans (b := Cert.MixerRefIdeal.Tie.poolState (m ((c : Thread nD τ).loc main_arg1)) (m ((c : Thread nD τ).loc main_arg2)) (ix4 ⟨(y 0).val, h0⟩ ⟨t.val * 8 + (y 1).val, by omega⟩ ⟨(y 2).val, h2⟩ ⟨(y 3).val, h3⟩)) ?_ ?_
  · refine (E12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
    exact E12_eq t.val ht (iblk m c 1 t) (iblk m c 2 t) _ _
      (fun r k q l e e1 => (read1 m c t ht r k).trans (congrArg (show FVec Ideal S512x3328 .f32 from m ((c : Thread nD τ).loc main_arg1)) (same2 (show t.val * 32 + r.val = q.val by omega) e1.symm)))
      (fun b r k B r' k' e e1 e2 => (read2 m c t ht b r k).trans (congrArg (show FVec Ideal S2x128x15x512 .f32 from m ((c : Thread nD τ).loc main_arg2)) (same4 rfl (show t.val * 8 + b.val = B.val by omega) e1.symm e2.symm)))
      _ _ _ (show t.val * 8 + (y 1).val = 8 * t.val + (y 1).val by omega) _ _
  · refine congrArg _ ?_
    blk_ext [idx t]

/-- The array of the gated rows after the run is the reference's. -/
theorem final13 (c : Dev nD) : (dats m 0 c).arrAt 13 cfg0.N = Cert.MixerRefIdeal.Tie.convState (m ((c : Thread nD τ).loc main_arg1)) (m ((c : Thread nD τ).loc main_arg3)) := by
  refine (dats m 0 c).arrAt_eq_of_covers 13 _ (by decide +kernel) fun t _ y => ?_
  have ht : t.val < 16 := lt_of_lt_of_eq t.isLt N_0
  have h0 : (y 0).val < 2 := (y 0).isLt
  have h1 : (y 1).val < 8 := (y 1).isLt
  have h2 : (y 2).val < 2 := (y 2).isLt
  have h3 : (y 3).val < 512 := (y 3).isLt
  blk_simp
  rw [after0_13]
  refine Eq.trans (b := out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 ⟨(y 0).val, h0⟩ ⟨(y 1).val, h1⟩ ⟨(y 2).val, h2⟩ ⟨(y 3).val, h3⟩)) ?_ ?_
  · simp only [outsAt0]
    refine congrArg _ ?_
    blk_ext
  refine Eq.trans (b := Cert.MixerRefIdeal.Tie.convState (m ((c : Thread nD τ).loc main_arg1)) (m ((c : Thread nD τ).loc main_arg3)) (ix4 ⟨(y 0).val, h0⟩ ⟨t.val * 8 + (y 1).val, by omega⟩ ⟨(y 2).val, h2⟩ ⟨(y 3).val, h3⟩)) ?_ ?_
  · refine (E13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
    exact E13_eq t.val ht (iblk m c 1 t) (iblk m c 3 t) _ _
      (fun r k q l e e1 => (read1 m c t ht r k).trans (congrArg (show FVec Ideal S512x3328 .f32 from m ((c : Thread nD τ).loc main_arg1)) (same2 (show t.val * 32 + r.val = q.val by omega) e1.symm)))
      (fun b r k B r' k' e e1 e2 => (read3 m c t ht b r k).trans (congrArg (show FVec Ideal S2x128x2x512 .f32 from m ((c : Thread nD τ).loc main_arg3)) (same4 rfl (show t.val * 8 + b.val = B.val by omega) e1.symm e2.symm)))
      _ _ _ (show t.val * 8 + (y 1).val = 8 * t.val + (y 1).val by omega) _ _
  · refine congrArg _ ?_
    blk_ext [idx t]

/-- The array of the keys after the run is the reference's. -/
theorem final14 (c : Dev nD) : (dats m 0 c).arrAt 14 cfg0.N = Cert.MixerRefIdeal.Tie.keyState (m ((c : Thread nD τ).loc main_arg1)) (m ((c : Thread nD τ).loc main_arg4)) := by
  refine (dats m 0 c).arrAt_eq_of_covers 14 _ (by decide +kernel) fun t _ y => ?_
  have ht : t.val < 16 := lt_of_lt_of_eq t.isLt N_0
  have h0 : (y 0).val < 2 := (y 0).isLt
  have h1 : (y 1).val < 8 := (y 1).isLt
  have h2 : (y 2).val < 128 := (y 2).isLt
  have h3 : (y 3).val < 128 := (y 3).isLt
  blk_simp
  rw [after0_14]
  refine Eq.trans (b := out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 ⟨(y 0).val, h0⟩ ⟨(y 1).val, h1⟩ ⟨(y 2).val, h2⟩ ⟨(y 3).val, h3⟩)) ?_ ?_
  · simp only [outsAt0]
    refine congrArg _ ?_
    blk_ext
  refine Eq.trans (b := Cert.MixerRefIdeal.Tie.keyState (m ((c : Thread nD τ).loc main_arg1)) (m ((c : Thread nD τ).loc main_arg4)) (ix4 ⟨(y 0).val, h0⟩ ⟨t.val * 8 + (y 1).val, by omega⟩ ⟨(y 2).val, h2⟩ ⟨(y 3).val, h3⟩)) ?_ ?_
  · refine (E14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
    exact E14_eq t.val ht (iblk m c 1 t) (iblk m c 4 t) _ _
      (fun r k q l e e1 => (read1 m c t ht r k).trans (congrArg (show FVec Ideal S512x3328 .f32 from m ((c : Thread nD τ).loc main_arg1)) (same2 (show t.val * 32 + r.val = q.val by omega) e1.symm)))
      (fun b r k B r' h d e e1 e2 => (read4 m c t ht b r k).trans (congrArg (show FVec Ideal S2x128x128x2x64 .f32 from m ((c : Thread nD τ).loc main_arg4)) (same5 rfl (show t.val * 8 + b.val = B.val by omega) e1.symm (show k.val / 64 = h.val by omega) (show k.val % 64 = d.val by omega))))
      _ _ _ (show t.val * 8 + (y 1).val = 8 * t.val + (y 1).val by omega) _ _
  · refine congrArg _ ?_
    blk_ext [idx t]

/-- The array of the values after the run is the reference's. -/
theorem final15 (c : Dev nD) : (dats m 0 c).arrAt 15 cfg0.N = Cert.MixerRefIdeal.Tie.valState (m ((c : Thread nD τ).loc main_arg1)) (m ((c : Thread nD τ).loc main_arg5)) := by
  refine (dats m 0 c).arrAt_eq_of_covers 15 _ (by decide +kernel) fun t _ y => ?_
  have ht : t.val < 16 := lt_of_lt_of_eq t.isLt N_0
  have h0 : (y 0).val < 2 := (y 0).isLt
  have h1 : (y 1).val < 8 := (y 1).isLt
  have h2 : (y 2).val < 128 := (y 2).isLt
  have h3 : (y 3).val < 128 := (y 3).isLt
  blk_simp
  rw [after0_15]
  refine Eq.trans (b := out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 ⟨(y 0).val, h0⟩ ⟨(y 1).val, h1⟩ ⟨(y 2).val, h2⟩ ⟨(y 3).val, h3⟩)) ?_ ?_
  · simp only [outsAt0]
    refine congrArg _ ?_
    blk_ext
  refine Eq.trans (b := Cert.MixerRefIdeal.Tie.valState (m ((c : Thread nD τ).loc main_arg1)) (m ((c : Thread nD τ).loc main_arg5)) (ix4 ⟨(y 0).val, h0⟩ ⟨t.val * 8 + (y 1).val, by omega⟩ ⟨(y 2).val, h2⟩ ⟨(y 3).val, h3⟩)) ?_ ?_
  · refine (E15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
    exact E15_eq t.val ht (iblk m c 1 t) (iblk m c 5 t) _ _
      (fun r k q l e e1 => (read1 m c t ht r k).trans (congrArg (show FVec Ideal S512x3328 .f32 from m ((c : Thread nD τ).loc main_arg1)) (same2 (show t.val * 32 + r.val = q.val by omega) e1.symm)))
      (fun b r k B r' h d e e1 e2 => (read5 m c t ht b r k).trans (congrArg (show FVec Ideal S2x128x128x2x64 .f32 from m ((c : Thread nD τ).loc main_arg5)) (same5 rfl (show t.val * 8 + b.val = B.val by omega) e1.symm (show k.val / 64 = h.val by omega) (show k.val % 64 = d.val by omega))))
      _ _ _ (show t.val * 8 + (y 1).val = 8 * t.val + (y 1).val by omega) _ _
  · refine congrArg _ ?_
    blk_ext [idx t]

/-- The array of the mix after the run is the reference's, when the scores' operands are real numbers. -/
theorem final11 (c : Dev nD)
    (f0 : ∀ j : Fin 8, IsR ((show FVec Ideal S2x8 .f32 from m ((c : Thread nD τ).loc main_arg0)) (ix2 0 j)))
    (f1 : ∀ (q : Fin 512) (l : Fin 3328), (2048 ≤ l.val ∧ l.val < 2688) ∨ 2816 ≤ l.val → IsR ((show FVec Ideal S512x3328 .f32 from m ((c : Thread nD τ).loc main_arg1)) (ix2 q l)))
    (f4 : ∀ (B r : Fin 128) (h : Fin 2) (d : Fin 64), IsR ((show FVec Ideal S2x128x128x2x64 .f32 from m ((c : Thread nD τ).loc main_arg4)) (ix5 0 B r h d)))
    (f6 : ∀ (B : Fin 128) (k : Fin 256) (h : Fin 4) (d : Fin 128), IsR ((show FVec Ideal S2x128x256x4x128 .f32 from m ((c : Thread nD τ).loc main_arg6)) (ix5 0 B k h d))) :
    (dats m 0 c).arrAt 11 cfg0.N = Cert.MixerRefIdeal.Tie.mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  have ht : t.val < 16 := lt_of_lt_of_eq t.isLt N_0
  have h0 : (y 0).val < 32 := (y 0).isLt
  have h1 : (y 1).val < 2048 := (y 1).isLt
  blk_simp
  rw [after0_11]
  refine Eq.trans (b := out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨(y 0).val, h0⟩ ⟨(y 1).val, h1⟩)) ?_ ?_
  · simp only [outsAt0]
    refine congrArg _ ?_
    blk_ext
  refine Eq.trans (b := Cert.MixerRefIdeal.Tie.mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 ⟨t.val * 32 + (y 0).val, by omega⟩ ⟨(y 1).val, h1⟩)) ?_ ?_
  · refine (E11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
    exact E11_eq t.val ht (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _
      (fun j j' e => (read0 m c t ht j).trans (congrArg (show FVec Ideal S2x8 .f32 from m ((c : Thread nD τ).loc main_arg0)) (same2 rfl e.symm)))
      (fun r k q l e e1 => (read1 m c t ht r k).trans (congrArg (show FVec Ideal S512x3328 .f32 from m ((c : Thread nD τ).loc main_arg1)) (same2 (show t.val * 32 + r.val = q.val by omega) e1.symm)))
      (fun b r k B r' k' e e1 e2 => (read2 m c t ht b r k).trans (congrArg (show FVec Ideal S2x128x15x512 .f32 from m ((c : Thread nD τ).loc main_arg2)) (same4 rfl (show t.val * 8 + b.val = B.val by omega) e1.symm e2.symm)))
      (fun b r k B r' k' e e1 e2 => (read3 m c t ht b r k).trans (congrArg (show FVec Ideal S2x128x2x512 .f32 from m ((c : Thread nD τ).loc main_arg3)) (same4 rfl (show t.val * 8 + b.val = B.val by omega) e1.symm e2.symm)))
      (fun b r k B r' h d e e1 e2 => (read4 m c t ht b r k).trans (congrArg (show FVec Ideal S2x128x128x2x64 .f32 from m ((c : Thread nD τ).loc main_arg4)) (same5 rfl (show t.val * 8 + b.val = B.val by omega) e1.symm (show k.val / 64 = h.val by omega) (show k.val % 64 = d.val by omega))))
      (fun b r k B r' h d e e1 e2 => (read5 m c t ht b r k).trans (congrArg (show FVec Ideal S2x128x128x2x64 .f32 from m ((c : Thread nD τ).loc main_arg5)) (same5 rfl (show t.val * 8 + b.val = B.val by omega) e1.symm (show k.val / 64 = h.val by omega) (show k.val % 64 = d.val by omega))))
      (fun b n l B k h d e e1 e2 => (read6 m c t ht b n l).trans (congrArg (show FVec Ideal S2x128x256x4x128 .f32 from m ((c : Thread nD τ).loc main_arg6)) (same5 rfl (show t.val * 8 + b.val = B.val by omega) (show n.val / 4 = k.val by omega) (show n.val % 4 = h.val by omega) e2.symm)))
      (fun b n l B k h d e e1 e2 => (read7 m c t ht b n l).trans (congrArg (show FVec Ideal S2x128x256x4x128 .f32 from m ((c : Thread nD τ).loc main_arg7)) (same5 rfl (show t.val * 8 + b.val = B.val by omega) (show n.val / 4 = k.val by omega) (show n.val % 4 = h.val by omega) e2.symm)))
      (fun g k l g' k' l' e e1 e2 => (read8 m c t ht g k l).trans (congrArg (show FVec Ideal S2x4x128x128 .f32 from m ((c : Thread nD τ).loc main_arg8)) (same4 rfl e.symm e1.symm e2.symm)))
      (fun k k' e => (read9 m c t ht k).trans (congrArg (show FVec Ideal S2x512 .f32 from m ((c : Thread nD τ).loc main_arg9)) (same2 rfl e.symm)))
      (fun j k j' k' e e1 => (read10 m c t ht j k).trans (congrArg (show FVec Ideal S2x3x512 .f32 from m ((c : Thread nD τ).loc main_arg10)) (same3 rfl e.symm e1.symm)))
      f0 f1 f4 f6 _ _ _ (show t.val * 32 + (y 0).val = 32 * t.val + (y 0).val by omega)
  · refine congrArg _ ?_
    blk_ext [idx t]

end Cert.MixerIdeal.Tie

end
-- ==== Proof.MixerPre.lean ====
/-
  What the precondition says: the operands of the scores (the first layer's sinks, the queries and new keys of the
  projection, the cached keys and the memory's keys) are real numbers.
-/
module

public import proofs.«01_k».proof.Pre_finite
public import proofs.«01_k».proof.Proof.MixerReal
public import Idealize.ShloMosaic.Lib.Pipeline.ValueKit

@[expose] public section

set_option maxRecDepth 16384

noncomputable section

open Idealize.ShloMosaic

namespace Cert.MixerPre

open Cert.Pre_finite Cert.MixerReal

/-- The shape relations of the precondition's operations hold. -/
instance facts : Cert.Pre_finite.Facts where
  slices_S2x8_S1x8_0_0 := by decide
  shapeCasts_S1x8_S8 := by decide
  bcast_S_S8 := by decide
  slices_S512x3328_S512x640_0_2048 := by decide
  bcast_S_S512x640 := by decide
  slices_S512x3328_S512x512_0_2816 := by decide
  bcast_S_S512x512 := by decide
  slices_S2x128x128x2x64_S1x128x128x2x64_0_0_0_0_0 := by decide
  shapeCasts_S1x128x128x2x64_S128x128x2x64 := by decide
  bcast_S_S128x128x2x64 := by decide
  slices_S2x128x256x4x128_S1x128x256x4x128_0_0_0_0_0 := by decide
  shapeCasts_S1x128x256x4x128_S128x256x4x128 := by decide
  bcast_S_S128x256x4x128 := by decide

/-- A value whose magnitude compares below infinity is a real number. -/
theorem isR_of_lt (x : Ideal .f32) (h : BitVec.ofBool (decide (FloatOps.absf x < Ideal.ofBits FTy.f32 2139095040#32)) = 1#1) : IsR x := by
  have ht : Ideal.ofBits FTy.f32 2139095040#32 = (⊤ : EReal) := by simp [Ideal.ofBits, Ideal.ieee]
  rw [ht] at h
  by_cases c : FloatOps.absf x < (⊤ : EReal)
  · replace c : max (x : EReal) (-x) < ⊤ := c
    have c1 := (max_lt_iff.mp c).1
    have c2 := (max_lt_iff.mp c).2
    refine isR_of (fun e => ?_) (ne_of_lt c1)
    subst e
    exact absurd c2 (by rw [EReal.neg_bot]; exact lt_irrefl _)
  · rw [decide_eq_false c] at h
    exact absurd h (by decide)

variable (a0 : FVec Ideal S2x8 .f32) (a1 : FVec Ideal S512x3328 .f32) (a2 : FVec Ideal S2x128x15x512 .f32) (a3 : FVec Ideal S2x128x2x512 .f32)
  (a4 a5 : FVec Ideal S2x128x128x2x64 .f32) (a6 a7 : FVec Ideal S2x128x256x4x128 .f32) (a8 : FVec Ideal S2x4x128x128 .f32) (a9 : FVec Ideal S2x512 .f32) (a10 : FVec Ideal S2x3x512 .f32)

/-- The precondition on the sinks, at an index. -/
theorem sinks_at (j : Fin 8) : (fn (F := Ideal) a0 a1 a2 a3 a4 a5 a6 a7 a8 a9 a10).1 (ix1 j)
    = BitVec.ofBool (decide (FloatOps.absf (a0 (ix2 0 j)) < Ideal.ofBits FTy.f32 2139095040#32)) := by
  pointwise [fn, fn_part1]

/-- The sinks are real numbers. -/
theorem sinks_real (h : (fn (F := Ideal) a0 a1 a2 a3 a4 a5 a6 a7 a8 a9 a10).1 = (fun _ => 1#1)) (j : Fin 8) : IsR (a0 (ix2 0 j)) :=
  isR_of_lt _ ((sinks_at a0 a1 a2 a3 a4 a5 a6 a7 a8 a9 a10 j).symm.trans (congrFun h _))

/-- The precondition on the window's queries and new keys, at an index. -/
theorem queries_at (q : Fin 512) (l : Fin 640) : (fn (F := Ideal) a0 a1 a2 a3 a4 a5 a6 a7 a8 a9 a10).2.1 (ix2 q l)
    = BitVec.ofBool (decide (FloatOps.absf (a1 (ix2 q (⟨2048 + l.val, by omega⟩ : Fin 3328))) < Ideal.ofBits FTy.f32 2139095040#32)) := by
  pointwise [fn, fn_part1]

/-- The window's queries and new keys are real numbers. -/
theorem queries_real (h : (fn (F := Ideal) a0 a1 a2 a3 a4 a5 a6 a7 a8 a9 a10).2.1 = (fun _ => 1#1)) (q : Fin 512) (l : Fin 640) : IsR (a1 (ix2 q (⟨2048 + l.val, by omega⟩ : Fin 3328))) :=
  isR_of_lt _ ((queries_at a0 a1 a2 a3 a4 a5 a6 a7 a8 a9 a10 q l).symm.trans (congrFun h _))

/-- The precondition on the memory's queries, at an index. -/
theorem mqueries_at (q : Fin 512) (l : Fin 512) : (fn (F := Ideal) a0 a1 a2 a3 a4 a5 a6 a7 a8 a9 a10).2.2.1 (ix2 q l)
    = BitVec.ofBool (decide (FloatOps.absf (a1 (ix2 q (⟨2816 + l.val, by omega⟩ : Fin 3328))) < Ideal.ofBits FTy.f32 2139095040#32)) := by
  pointwise [fn, fn_part1]

/-- The memory's queries are real numbers. -/
theorem mqueries_real (h : (fn (F := Ideal) a0 a1 a2 a3 a4 a5 a6 a7 a8 a9 a10).2.2.1 = (fun _ => 1#1)) (q : Fin 512) (l : Fin 512) : IsR (a1 (ix2 q (⟨2816 + l.val, by omega⟩ : Fin 3328))) :=
  isR_of_lt _ ((mqueries_at a0 a1 a2 a3 a4 a5 a6 a7 a8 a9 a10 q l).symm.trans (congrFun h _))

/-- The precondition on the cached keys, at an index. -/
theorem cached_at (B r : Fin 128) (h : Fin 2) (d : Fin 64) : (fn (F := Ideal) a0 a1 a2 a3 a4 a5 a6 a7 a8 a9 a10).2.2.2.1 (ix4 B r h d)
    = BitVec.ofBool (decide (FloatOps.absf (a4 (ix5 0 B r h d)) < Ideal.ofBits FTy.f32 2139095040#32)) := by
  pointwise [fn, fn_part1]

/-- The cached keys are real numbers. -/
theorem cached_real (h : (fn (F := Ideal) a0 a1 a2 a3 a4 a5 a6 a7 a8 a9 a10).2.2.2.1 = (fun _ => 1#1)) (B r : Fin 128) (g : Fin 2) (d : Fin 64) : IsR (a4 (ix5 0 B r g d)) :=
  isR_of_lt _ ((cached_at a0 a1 a2 a3 a4 a5 a6 a7 a8 a9 a10 B r g d).symm.trans (congrFun h _))

/-- The precondition on the memory's keys, at an index. -/
theorem memory_at (B : Fin 128) (k : Fin 256) (h : Fin 4) (d : Fin 128) : (fn (F := Ideal) a0 a1 a2 a3 a4 a5 a6 a7 a8 a9 a10).2.2.2.2 (ix4 B k h d)
    = BitVec.ofBool (decide (FloatOps.absf (a6 (ix5 0 B k h d)) < Ideal.ofBits FTy.f32 2139095040#32)) := by
  pointwise [fn, fn_part1]

/-- The memory's keys are real numbers. -/
theorem memory_real (h : (fn (F := Ideal) a0 a1 a2 a3 a4 a5 a6 a7 a8 a9 a10).2.2.2.2 = (fun _ => 1#1)) (B : Fin 128) (k : Fin 256) (g : Fin 4) (d : Fin 128) : IsR (a6 (ix5 0 B k g d)) :=
  isR_of_lt _ ((memory_at a0 a1 a2 a3 a4 a5 a6 a7 a8 a9 a10 B k g d).symm.trans (congrFun h _))

end Cert.MixerPre

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MixerIdeal.Value
public import proofs.«01_k».proof.Proof.Gen.MlpIdeal.Value
public import proofs.«01_k».proof.Proof.Gen.MemKvIdeal.Value
public import proofs.«01_k».proof.Proof.Gen.MixerRefIdeal.Run
public import proofs.«01_k».proof.Proof.Gen.MlpRefIdeal.Run
public import proofs.«01_k».proof.Proof.Gen.MemKvRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import Idealize.ShloMosaic.Adequacy
public import Idealize.ShloMosaic.Init
public import Idealize.ShloMosaic.Lib.Quiescent
public import proofs.«01_k».proof.Proof.InProjTie
public import proofs.«01_k».proof.Proof.OutProjTie
public import proofs.«01_k».proof.Proof.MemKvTie
public import proofs.«01_k».proof.Proof.MlpTie
public import proofs.«01_k».proof.Proof.MixerTie
public import proofs.«01_k».proof.Proof.MixerPre

@[expose] public section

noncomputable section

namespace Cert.Proof

open Idealize.ShloMosaic Idealize.ShloMosaic.TcCoe Idealize.SL.Sem

/-- The reference program `MixerRefIdeal` runs to the end with its arguments unchanged; it has no semaphore. -/
theorem frame_MixerRef : @Cert.quiescent_MixerRefIdeal Cert.MixerRefIdeal.Gen.facts := fun m g _ =>
  (θ_run _ _ _).mono (fun r h => ⟨fun c => (h c).2.2.2.2.2, sem_eq_zero_of_no_sems (by decide) _⟩)
    (Cert.MixerRefIdeal.Value.run m g)

/-- The reference program `MlpRefIdeal` runs to the end with its arguments unchanged; it has no semaphore. -/
theorem frame_MlpRef : @Cert.quiescent_MlpRefIdeal Cert.MlpRefIdeal.Gen.facts := fun m g _ =>
  (θ_run _ _ _).mono (fun r h => ⟨fun c => (h c).2, sem_eq_zero_of_no_sems (by decide) _⟩)
    (Cert.MlpRefIdeal.Value.run m g)

/-- The reference program `MemKvRefIdeal` runs to the end with its arguments unchanged; it has no semaphore. -/
theorem frame_MemKvRef : @Cert.quiescent_MemKvRefIdeal Cert.MemKvRefIdeal.Gen.facts := fun m g _ =>
  (θ_run _ _ _).mono (fun r h => ⟨fun c => (h c).2.2, sem_eq_zero_of_no_sems (by decide) _⟩)
    (Cert.MemKvRefIdeal.Value.run m g)

/-- The reference program `InProjRefIdeal` runs to the end with its arguments unchanged; it has no semaphore. -/
theorem frame_InProjRef : @Cert.quiescent_InProjRefIdeal Cert.InProjRefIdeal.Gen.facts := fun m g _ =>
  (θ_run _ _ _).mono (fun r h => ⟨fun c => (h c).2.2, sem_eq_zero_of_no_sems (by decide) _⟩)
    (Cert.InProjRefIdeal.Value.run m g)

/-- The reference program `OutProjRefIdeal` runs to the end with its arguments unchanged; it has no semaphore. -/
theorem frame_OutProjRef : @Cert.quiescent_OutProjRefIdeal Cert.OutProjRefIdeal.Gen.facts := fun m g _ =>
  (θ_run _ _ _).mono (fun r h => ⟨fun c => (h c).2.2, sem_eq_zero_of_no_sems (by decide) _⟩)
    (Cert.OutProjRefIdeal.Value.run m g)

/-- The sample's projection: the kernel's product and its cast of the weights are the reference's. -/
theorem algebraic_InProj : @Cert.algebraic_InProjIdeal_InProjRefIdeal Cert.InProjIdeal.Gen.facts Cert.InProjRefIdeal.Gen.facts :=
  fun m g m' g' _ hag =>
    ⟨fun c => (Cert.InProjIdeal.Gen.dats m 0 c).arrAt 3 Cert.InProjIdeal.cfg0.N,
      fun c => (Cert.InProjIdeal.Gen.dats m 0 c).arrAt 4 Cert.InProjIdeal.cfg0.N,
      Cert.InProjIdeal.Value.run_blocks m g,
      (θ_run _ _ _).mono (fun r h c => by
        obtain ⟨h1, h2, h3⟩ := h c
        obtain ⟨e0, e1, e2⟩ := hag c
        refine ⟨h1.trans ?_, h2.trans ?_, h3⟩
        · refine Eq.trans (b := Cert.InProjRefIdeal.Tie.proj (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
          rw [e0, e1, e2]
          exact (Cert.InProjIdeal.Tie.proj_final m c).symm
        · refine Eq.trans (b := Cert.InProjRefIdeal.Tie.wcast (m' ((c.tc : Thread Cert.InProjRefIdeal.nD Cert.InProjRefIdeal.τ).loc Cert.InProjRefIdeal.main_arg2))) rfl ?_
          rw [e2]
          exact (Cert.InProjIdeal.Tie.wcast_final m c).symm)
        (Cert.InProjRefIdeal.Value.run m' g')⟩

/-- The sample's out-projection: the kernel's rows and its cast of the weights are the reference's. -/
theorem algebraic_OutProj : @Cert.algebraic_OutProjIdeal_OutProjRefIdeal Cert.OutProjIdeal.Gen.facts Cert.OutProjRefIdeal.Gen.facts :=
  fun m g m' g' _ hag =>
    ⟨fun c => (Cert.OutProjIdeal.Gen.dats m 0 c).arrAt 4 Cert.OutProjIdeal.cfg0.N,
      fun c => (Cert.OutProjIdeal.Gen.dats m 0 c).arrAt 5 Cert.OutProjIdeal.cfg0.N,
      Cert.OutProjIdeal.Value.run_blocks m g,
      (θ_run _ _ _).mono (fun r h c => by
        obtain ⟨h1, h2, h3⟩ := h c
        obtain ⟨e0, e1, e2, e3⟩ := hag c
        refine ⟨h1.trans ?_, h2.trans ?_, h3⟩
        · refine Eq.trans (b := Cert.OutProjRefIdeal.Tie.out (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3))) rfl ?_
          rw [e0, e1, e2, e3]
          exact (Cert.OutProjIdeal.Tie.final m c).symm
        · refine Eq.trans (b := Cert.OutProjRefIdeal.Tie.wcast (m' ((c.tc : Thread Cert.OutProjRefIdeal.nD Cert.OutProjRefIdeal.τ).loc Cert.OutProjRefIdeal.main_arg1))) rfl ?_
          rw [e1]
          exact (Cert.OutProjIdeal.Tie.wcast_final m c).symm)
        (Cert.OutProjRefIdeal.Value.run m' g')⟩

/-- The memory's keys and values: the kernel's two results are the reference's. -/
theorem algebraic_MemKv : @Cert.algebraic_MemKvIdeal_MemKvRefIdeal Cert.MemKvIdeal.Gen.facts Cert.MemKvRefIdeal.Gen.facts :=
  fun m g m' g' _ hag =>
    ⟨fun c => (Cert.MemKvIdeal.Gen.dats m 0 c).arrAt 3 Cert.MemKvIdeal.cfg0.N,
      fun c => (Cert.MemKvIdeal.Gen.dats m 0 c).arrAt 4 Cert.MemKvIdeal.cfg0.N,
      Cert.MemKvIdeal.Value.run_blocks m g,
      (θ_run _ _ _).mono (fun r h c => by
        obtain ⟨h1, h2, h3⟩ := h c
        obtain ⟨e0, e1, e2⟩ := hag c
        refine ⟨h1.trans ?_, h2.trans ?_, h3⟩
        · rw [e0, e1, e2]
          exact (Cert.MemKvIdeal.Tie.keys_final m c).symm
        · rw [e0, e1, e2]
          exact (Cert.MemKvIdeal.Tie.vals_final m c).symm)
        (Cert.MemKvRefIdeal.Value.run m' g')⟩

/-- The prompt's feed-forward network: the kernel's result is the reference's. -/
theorem algebraic_Mlp : @Cert.algebraic_MlpIdeal_MlpRefIdeal Cert.MlpIdeal.Gen.facts Cert.MlpRefIdeal.Gen.facts :=
  fun m g m' g' _ hag =>
    ⟨fun c => (Cert.MlpIdeal.Gen.dats m 0 c).arrAt 5 Cert.MlpIdeal.cfg0.N,
      Cert.MlpIdeal.Value.run_blocks m g,
      (θ_run _ _ _).mono (fun r h c => by
        obtain ⟨h1, h3⟩ := h c
        obtain ⟨e0, e1, e2, e3, e4⟩ := hag c
        refine ⟨h1.trans ?_, h3⟩
        refine Eq.trans (b := Cert.MlpRefIdeal.Tie.out (m' ((c.tc : Thread Cert.MlpRefIdeal.nD Cert.MlpRefIdeal.τ).loc Cert.MlpRefIdeal.main_arg0))
          (m' ((c.tc : Thread Cert.MlpRefIdeal.nD Cert.MlpRefIdeal.τ).loc Cert.MlpRefIdeal.main_arg1))
          (m' ((c.tc : Thread Cert.MlpRefIdeal.nD Cert.MlpRefIdeal.τ).loc Cert.MlpRefIdeal.main_arg2))
          (m' ((c.tc : Thread Cert.MlpRefIdeal.nD Cert.MlpRefIdeal.τ).loc Cert.MlpRefIdeal.main_arg3))
          (m' ((c.tc : Thread Cert.MlpRefIdeal.nD Cert.MlpRefIdeal.τ).loc Cert.MlpRefIdeal.main_arg4))) rfl ?_
        rw [e0, e1, e2, e3, e4]
        exact (Cert.MlpIdeal.Tie.final m c).symm)
        (Cert.MlpRefIdeal.Value.run m' g')⟩

/-- The sample mixers: the kernel's mix and its four kept states are the reference's, where the scores' operands are
    finite. -/
theorem algebraic_Mixer : @Cert.algebraic_MixerIdeal_MixerRefIdeal_pre_finite Cert.MixerIdeal.Gen.facts Cert.MixerRefIdeal.Gen.facts Cert.MixerPre.facts :=
  fun m g m' g' hpre hag =>
    ⟨fun c => (Cert.MixerIdeal.Gen.dats m 0 c).arrAt 11 Cert.MixerIdeal.cfg0.N,
      fun c => (Cert.MixerIdeal.Gen.dats m 0 c).arrAt 12 Cert.MixerIdeal.cfg0.N,
      fun c => (Cert.MixerIdeal.Gen.dats m 0 c).arrAt 13 Cert.MixerIdeal.cfg0.N,
      fun c => (Cert.MixerIdeal.Gen.dats m 0 c).arrAt 14 Cert.MixerIdeal.cfg0.N,
      fun c => (Cert.MixerIdeal.Gen.dats m 0 c).arrAt 15 Cert.MixerIdeal.cfg0.N,
      Cert.MixerIdeal.Value.run_blocks m g,
      (θ_run _ _ _).mono (fun r h c => by
        obtain ⟨h1, h2, h3, h4, h5, h6⟩ := h c
        obtain ⟨e0, e1, e2, e3, e4, e5, e6, e7, e8, e9, e10⟩ := hag c
        obtain ⟨p0, p1, p2, p4, p6⟩ := hpre c
        refine ⟨h1.trans ?_, h2.trans ?_, h3.trans ?_, h4.trans ?_, h5.trans ?_, h6⟩
        · refine Eq.trans (b := Cert.MixerRefIdeal.Tie.mixOut (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg3)) (m' ((c.tc : Thread Cert.MixerRefIdeal.nD Cert.MixerRefIdeal.τ).loc Cert.MixerRefIdeal.main_arg4)) (m' ((c.tc : Thread Cert.MixerRefIdeal.nD Cert.MixerRefIdeal.τ).loc Cert.MixerRefIdeal.main_arg5)) (m' ((c.tc : Thread Cert.MixerRefIdeal.nD Cert.MixerRefIdeal.τ).loc Cert.MixerRefIdeal.main_arg6)) (m' ((c.tc : Thread Cert.MixerRefIdeal.nD Cert.MixerRefIdeal.τ).loc Cert.MixerRefIdeal.main_arg7)) (m' ((c.tc : Thread Cert.MixerRefIdeal.nD Cert.MixerRefIdeal.τ).loc Cert.MixerRefIdeal.main_arg8)) (m' ((c.tc : Thread Cert.MixerRefIdeal.nD Cert.MixerRefIdeal.τ).loc Cert.MixerRefIdeal.main_arg9)) (m' ((c.tc : Thread Cert.MixerRefIdeal.nD Cert.MixerRefIdeal.τ).loc Cert.MixerRefIdeal.main_arg10))) rfl ?_
          rw [e0, e1, e2, e3, e4, e5, e6, e7, e8, e9, e10]
          refine (Cert.MixerIdeal.Tie.final11 m c (fun j => Cert.MixerPre.sinks_real _ _ _ _ _ _ _ _ _ _ _ p0 j) ?_
            (fun B r h d => Cert.MixerPre.cached_real _ _ _ _ _ _ _ _ _ _ _ p4 B r h d) (fun B k h d => Cert.MixerPre.memory_real _ _ _ _ _ _ _ _ _ _ _ p6 B k h d)).symm
          intro q l hl
          rcases hl with ⟨l0, l1⟩ | l0
          · have e : l = (⟨2048 + (l.val - 2048), by omega⟩ : Fin 3328) := Fin.ext (show l.val = 2048 + (l.val - 2048) by omega)
            rw [e]
            exact Cert.MixerPre.queries_real _ _ _ _ _ _ _ _ _ _ _ p1 q ⟨l.val - 2048, by omega⟩
          · have e : l = (⟨2816 + (l.val - 2816), by omega⟩ : Fin 3328) := Fin.ext (show l.val = 2816 + (l.val - 2816) by omega)
            rw [e]
            exact Cert.MixerPre.mqueries_real _ _ _ _ _ _ _ _ _ _ _ p2 q ⟨l.val - 2816, by omega⟩
        · refine Eq.trans (b := Cert.MixerRefIdeal.Tie.poolState (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2))) rfl ?_
          rw [e1, e2]
          exact (Cert.MixerIdeal.Tie.final12 m c).symm
        · refine Eq.trans (b := Cert.MixerRefIdeal.Tie.convState (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg3))) rfl ?_
          rw [e1, e3]
          exact (Cert.MixerIdeal.Tie.final13 m c).symm
        · refine Eq.trans (b := Cert.MixerRefIdeal.Tie.keyState (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg4))) rfl ?_
          rw [e1, e4]
          exact (Cert.MixerIdeal.Tie.final14 m c).symm
        · refine Eq.trans (b := Cert.MixerRefIdeal.Tie.valState (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg5))) rfl ?_
          rw [e1, e5]
          exact (Cert.MixerIdeal.Tie.final15 m c).symm)
        (Cert.MixerRefIdeal.Value.run m' g')⟩

theorem claim : Cert.Claim :=
  ⟨Cert.Mixer.Gen.facts, Cert.MixerIdeal.Gen.facts, Cert.MixerRefIdeal.Gen.facts, Cert.Mlp.Gen.facts, Cert.MlpIdeal.Gen.facts, Cert.MlpRefIdeal.Gen.facts, Cert.MemKv.Gen.facts, Cert.MemKvIdeal.Gen.facts, Cert.MemKvRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.MixerPre.facts,
    fun m g _ => Cert.Mixer.Gen.frame m g,
    fun m g _ => Cert.MixerIdeal.Gen.frame m g,
    fun m g _ => Cert.MixerIdeal.Gen.frame m g,
    frame_MixerRef,
    fun m g _ => frame_MixerRef m g trivial,
    fun m g _ => Cert.Mlp.Gen.frame m g,
    fun m g _ => Cert.MlpIdeal.Gen.frame m g,
    frame_MlpRef,
    fun m g _ => Cert.MemKv.Gen.frame m g,
    fun m g _ => Cert.MemKvIdeal.Gen.frame m g,
    frame_MemKvRef,
    fun m g _ => Cert.InProj.Gen.frame m g,
    fun m g _ => Cert.InProjIdeal.Gen.frame m g,
    frame_InProjRef,
    fun m g _ => Cert.OutProj.Gen.frame m g,
    fun m g _ => Cert.OutProjIdeal.Gen.frame m g,
    frame_OutProjRef,
    trivial,
    algebraic_Mixer,
    trivial,
    algebraic_Mlp,
    trivial,
    algebraic_MemKv,
    trivial,
    algebraic_InProj,
    trivial,
    algebraic_OutProj⟩

end Cert.Proof

end
